-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gates [hPre_finite_gates : Cert.Pre_finite_gates.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gates [hPre_finite_gates : Cert.Pre_finite_gates.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_gates [hKernel2Ideal : Cert.Kernel2Ideal.Facts] [hPre_finite_gates : Cert.Pre_finite_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gates m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_gates [hReference2Ideal : Cert.Reference2Ideal.Facts] [hPre_finite_gates : Cert.Pre_finite_gates.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gates m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)
  ∧ IdealRules.named_const.Statement Cert.KernelIdeal.κ "exp_underflow" .f32 0x42DC0000#32 ⊤

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_gates [hKernel2Ideal : Cert.Kernel2Ideal.Facts] [hReference2Ideal : Cert.Reference2Ideal.Facts] [hPre_finite_gates : Cert.Pre_finite_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gates m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)) (v2 : (c : Dev Cert.Kernel3Ideal.nD) → Buf (Elt Ideal) ((c.tc : Thread Cert.Kernel3Ideal.nD Cert.Kernel3Ideal.τ).loc Cert.Kernel3Ideal.main_v27_2)) (v3 : (c : Dev Cert.Kernel3Ideal.nD) → Buf (Elt Ideal) ((c.tc : Thread Cert.Kernel3Ideal.nD Cert.Kernel3Ideal.τ).loc Cert.Kernel3Ideal.main_v27_3)) (v4 : (c : Dev Cert.Kernel3Ideal.nD) → Buf (Elt Ideal) ((c.tc : Thread Cert.Kernel3Ideal.nD Cert.Kernel3Ideal.τ).loc Cert.Kernel3Ideal.main_v27_4)) (v5 : (c : Dev Cert.Kernel3Ideal.nD) → Buf (Elt Ideal) ((c.tc : Thread Cert.Kernel3Ideal.nD Cert.Kernel3Ideal.τ).loc Cert.Kernel3Ideal.main_v27_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_v27_2) = v2 c
          ∧ r.2.mem ((c.tc : Thread Cert.Kernel3Ideal.nD Cert.Kernel3Ideal.τ).loc Cert.Kernel3Ideal.main_v27_3) = v3 c
          ∧ r.2.mem ((c.tc : Thread Cert.Kernel3Ideal.nD Cert.Kernel3Ideal.τ).loc Cert.Kernel3Ideal.main_v27_4) = v4 c
          ∧ r.2.mem ((c.tc : Thread Cert.Kernel3Ideal.nD Cert.Kernel3Ideal.τ).loc Cert.Kernel3Ideal.main_v27_6) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v50) = v2 c
          ∧ r.2.mem ((c.tc : Thread Cert.Reference3Ideal.nD Cert.Reference3Ideal.τ).loc Cert.Reference3Ideal.main_v16) = v3 c
          ∧ r.2.mem ((c.tc : Thread Cert.Reference3Ideal.nD Cert.Reference3Ideal.τ).loc Cert.Reference3Ideal.main_v63) = v4 c
          ∧ r.2.mem ((c.tc : Thread Cert.Reference3Ideal.nD Cert.Reference3Ideal.τ).loc Cert.Reference3Ideal.main_v64) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_and_keys : Cert.Pre_finite_queries_and_keys.Facts) (hPre_finite_gates : Cert.Pre_finite_gates.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Kernel2Ideal_pre_finite_gates (hKernel2Ideal := hKernel2Ideal) (hPre_finite_gates := hPre_finite_gates)
    ∧ quiescent_Reference2Ideal (hReference2Ideal := hReference2Ideal)
    ∧ quiescent_Reference2Ideal_pre_finite_gates (hReference2Ideal := hReference2Ideal) (hPre_finite_gates := hPre_finite_gates)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal_pre_finite_gates (hKernel2Ideal := hKernel2Ideal) (hReference2Ideal := hReference2Ideal) (hPre_finite_gates := hPre_finite_gates)
    ∧ preserves_Kernel3_Kernel3Ideal
    ∧ algebraic_Kernel3Ideal_Reference3Ideal (hKernel3Ideal := hKernel3Ideal) (hReference3Ideal := hReference3Ideal)
-- ==== Pre_finite_gates.lean ====
abbrev S16x4096x1024 : Shape := ⟨3, ![16, 4096, 1024]⟩
abbrev S16x4096x512 : Shape := ⟨3, ![16, 4096, 512]⟩
abbrev S16x2x5632 : Shape := ⟨3, ![16, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x2x2816 : Shape := ⟨3, ![16, 2, 2816]⟩
abbrev S1024x2816 : Shape := ⟨2, ![1024, 2816]⟩
abbrev S3x2816 : Shape := ⟨2, ![3, 2816]⟩
abbrev S2816 : Shape := ⟨1, ![2816]⟩

class Facts : Prop where
  bcast_S_S1024 : S_.BroadcastsInDim S1024 (![] : Fin 0 → Fin S1024.rank)
  reducesTo_S1024_S_d0 : S1024.ReducesTo [0] S_
  h_S_ : 0 < S_.numel
  slices_S16x2x5632_S16x2x2816_0_0_2816 : S16x2x5632.Slices ![0, 0, 2816] S16x2x2816
  bcast_S_S16x2x2816 : S_.BroadcastsInDim S16x2x2816 (![] : Fin 0 → Fin S16x2x2816.rank)
  reducesTo_S16x2x2816_S_d0_1_2 : S16x2x2816.ReducesTo [0, 1, 2] S_
  slices_S1024x5632_S1024x2816_0_2816 : S1024x5632.Slices ![0, 2816] S1024x2816
  bcast_S_S1024x2816 : S_.BroadcastsInDim S1024x2816 (![] : Fin 0 → Fin S1024x2816.rank)
  reducesTo_S1024x2816_S_d0_1 : S1024x2816.ReducesTo [0, 1] S_
  slices_S3x5632_S3x2816_0_2816 : S3x5632.Slices ![0, 2816] S3x2816
  bcast_S_S3x2816 : S_.BroadcastsInDim S3x2816 (![] : Fin 0 → Fin S3x2816.rank)
  reducesTo_S3x2816_S_d0_1 : S3x2816.ReducesTo [0, 1] S_
  slices_S5632_S2816_2816 : S5632.Slices ![2816] S2816
  bcast_S_S2816 : S_.BroadcastsInDim S2816 (![] : Fin 0 → Fin S2816.rank)
  reducesTo_S2816_S_d0 : S2816.ReducesTo [0] S_

variable [Facts]

def fn_part1 {F : FTy → Type} [FloatOps F] (main_arg8 : FVec F S5632 .f32) (main_v15 : IVec S_ 1) (main_v17 : FVec F S3x2816 .f32) : IVec S_ 1 :=
  let main_cst_4 : FVec F S_ .f32 := constant S_ .f32 0x7F800000#32
  let main_v18 : FVec F S3x2816 .f32 := broadcastInDim S3x2816 ![] bcast_S_S3x2816 main_cst_4
  let main_v19 : IVec S3x2816 1 := cmpf .olt main_v17 main_v18
  let main_c_5 : IVec S_ 1 := constantI S_ 1 1#1
  let main_v20 : IVec S_ 1 := (fun x v => Host.reduce IntOp.andi x v reducesTo_S3x2816_S_d0_1 h_S_) main_v19 main_c_5
  let main_v21 : IVec S_ 1 := andi main_v15 main_v20
  let main_v22 : FVec F S2816 .f32 := (extractStridedSlice S2816 ![2816] · slices_S5632_S2816_2816) main_arg8
  let main_v23 : FVec F S2816 .f32 := Host.absf main_v22
  let main_cst_6 : FVec F S_ .f32 := constant S_ .f32 0x7F800000#32
  let main_v24 : FVec F S2816 .f32 := broadcastInDim S2816 ![] bcast_S_S2816 main_cst_6
  let main_v25 : IVec S2816 1 := cmpf .olt main_v23 main_v24
  let main_c_7 : IVec S_ 1 := constantI S_ 1 1#1
  let main_v26 : IVec S_ 1 := (fun x v => Host.reduce IntOp.andi x v reducesTo_S2816_S_d0 h_S_) main_v25 main_c_7
  let main_v27 : IVec S_ 1 := andi main_v21 main_v26
  main_v27

def fn {F : FTy → Type} [FloatOps F] (main_arg0 : FVec F S16x4096x1024 .f32) (main_arg1 : FVec F S16x4096x512 .f32) (main_arg2 : FVec F S16x4096x512 .f32) (main_arg3 : FVec F S16x2x5632 .f32) (main_arg4 : FVec F S1024x1024 .f32) (main_arg5 : FVec F S1024 .f32) (main_arg6 : FVec F S1024x5632 .f32) (main_arg7 : FVec F S3x5632 .f32) (main_arg8 : FVec F S5632 .f32) (main_arg9 : FVec F S2816x1024 .f32) : IVec S_ 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S16x2x2816 .f32 := (extractStridedSlice S16x2x2816 ![0, 0, 2816] · slices_S16x2x5632_S16x2x2816_0_0_2816) main_arg3
  let main_v5 : FVec F S16x2x2816 .f32 := Host.absf main_v4
  let main_cst_0 : FVec F S_ .f32 := constant S_ .f32 0x7F800000#32
  let main_v6 : FVec F S16x2x2816 .f32 := broadcastInDim S16x2x2816 ![] bcast_S_S16x2x2816 main_cst_0
  let main_v7 : IVec S16x2x2816 1 := cmpf .olt main_v5 main_v6
  let main_c_1 : IVec S_ 1 := constantI S_ 1 1#1
  let main_v8 : IVec S_ 1 := (fun x v => Host.reduce IntOp.andi x v reducesTo_S16x2x2816_S_d0_1_2 h_S_) main_v7 main_c_1
  let main_v9 : IVec S_ 1 := andi main_v3 main_v8
  let main_v10 : FVec F S1024x2816 .f32 := (extractStridedSlice S1024x2816 ![0, 2816] · slices_S1024x5632_S1024x2816_0_2816) main_arg6
  let main_v11 : FVec F S1024x2816 .f32 := Host.absf main_v10
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_c_3 : IVec S_ 1 := constantI S_ 1 1#1
  let main_v14 : IVec S_ 1 := (fun x v => Host.reduce IntOp.andi x v reducesTo_S1024x2816_S_d0_1 h_S_) main_v13 main_c_3
  let main_v15 : IVec S_ 1 := andi main_v9 main_v14
  let main_v16 : FVec F S3x2816 .f32 := (extractStridedSlice S3x2816 ![0, 2816] · slices_S3x5632_S3x2816_0_2816) main_arg7
  let main_v17 : FVec F S3x2816 .f32 := Host.absf main_v16
  fn_part1 (F := F) main_arg8 main_v15 main_v17
-- ==== Pre_finite_queries_and_keys.lean ====
abbrev S16x4096x8x64 : Shape := ⟨4, ![16, 4096, 8, 64]⟩
abbrev S1x64 : Shape := ⟨2, ![1, 64]⟩
abbrev S_ : Shape := ⟨0, ![]⟩

class Facts : Prop where
  bcast_S_S16x4096x8x64 : S_.BroadcastsInDim S16x4096x8x64 (![] : Fin 0 → Fin S16x4096x8x64.rank)
  reducesTo_S16x4096x8x64_S_d0_1_2_3 : S16x4096x8x64.ReducesTo [0, 1, 2, 3] S_
  h_S_ : 0 < S_.numel

variable [Facts]

def fn {F : FTy → Type} [FloatOps F] (main_arg0 : FVec F S16x4096x8x64 .f32) (main_arg1 : FVec F S16x4096x8x64 .f32) (main_arg2 : FVec F S16x4096x8x64 .f32) (main_arg3 : FVec F S1x64 .f32) (main_arg4 : FVec F S1x64 .f32) : IVec S_ 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_c : IVec S_ 1 := constantI S_ 1 1#1
  let main_v3 : IVec S_ 1 := (fun x v => Host.reduce IntOp.andi x v reducesTo_S16x4096x8x64_S_d0_1_2_3 h_S_) main_v2 main_c
  let main_v4 : FVec F S16x4096x8x64 .f32 := Host.absf main_arg1
  let main_cst_0 : FVec F S_ .f32 := constant S_ .f32 0x7F800000#32
  let main_v5 : FVec F S16x4096x8x64 .f32 := broadcastInDim S16x4096x8x64 ![] bcast_S_S16x4096x8x64 main_cst_0
  let main_v6 : IVec S16x4096x8x64 1 := cmpf .olt main_v4 main_v5
  let main_c_1 : IVec S_ 1 := constantI S_ 1 1#1
  let main_v7 : IVec S_ 1 := (fun x v => Host.reduce IntOp.andi x v reducesTo_S16x4096x8x64_S_d0_1_2_3 h_S_) main_v6 main_c_1
  let main_v8 : IVec S_ 1 := andi main_v3 main_v7
  main_v8
-- ==== Kernel.lean ====
abbrev S16x4096x8x64 : Shape := ⟨4, ![16, 4096, 8, 64]⟩
abbrev S1x64 : Shape := ⟨2, ![1, 64]⟩
abbrev S64 : Shape := ⟨1, ![64]⟩
abbrev S_ : Shape := ⟨0, ![]⟩
abbrev S16x4096x512 : Shape := ⟨3, ![16, 4096, 512]⟩
abbrev S16x16x256x512 : Shape := ⟨4, ![16, 16, 256, 512]⟩
abbrev S16x16x512x256 : Shape := ⟨4, ![16, 16, 512, 256]⟩
abbrev S1 : Shape := ⟨1, ![1]⟩
abbrev S1x512x512 : Shape := ⟨3, ![1, 512, 512]⟩
abbrev S1x4096x512 : Shape := ⟨3, ![1, 4096, 512]⟩
abbrev S1x16x512x256 : Shape := ⟨4, ![1, 16, 512, 256]⟩
abbrev S8x256x128 : Shape := ⟨3, ![8, 256, 128]⟩
abbrev S512x256 : Shape := ⟨2, ![512, 256]⟩
abbrev S8x256 : Shape := ⟨2, ![8, 256]⟩
abbrev S1x256x128 : Shape := ⟨3, ![1, 256, 128]⟩
abbrev S256x128 : Shape := ⟨2, ![256, 128]⟩
abbrev S256x256 : Shape := ⟨2, ![256, 256]⟩
abbrev S1x256 : Shape := ⟨2, ![1, 256]⟩
abbrev S1x1x256 : Shape := ⟨3, ![1, 1, 256]⟩
abbrev S1x1x1 : Shape := ⟨3, ![1, 1, 1]⟩
abbrev S64x256 : Shape := ⟨2, ![64, 256]⟩
abbrev S1x1x64x256 : Shape := ⟨4, ![1, 1, 64, 256]⟩
abbrev S256x512 : Shape := ⟨2, ![256, 512]⟩
abbrev S1x256x512 : Shape := ⟨3, ![1, 256, 512]⟩

abbrev nBuf : Space → Nat
  | .hbm => 30
  | .vmem => 11
  | .smem => 1
  | _ => 0

abbrev bufTy : (tb : Table) → Fin (tcTables nBuf tb) → BufTy
  | .hbm, ⟨0, _⟩ => ⟨S16x4096x8x64, .f32⟩
  | .hbm, ⟨1, _⟩ => ⟨S16x4096x8x64, .f32⟩
  | .hbm, ⟨2, _⟩ => ⟨S16x4096x8x64, .f32⟩
  | .hbm, ⟨3, _⟩ => ⟨S1x64, .f32⟩
  | .hbm, ⟨4, _⟩ => ⟨S1x64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x4096x8x64, .f32⟩
  | .hbm, ⟨17, _⟩ => ⟨S16x4096x8x64, .f32⟩
  | .hbm, ⟨18, _⟩ => ⟨S16x4096x512, .f32⟩
  | .hbm, ⟨19, _⟩ => ⟨S16x4096x512, .bf16⟩
  | .hbm, ⟨20, _⟩ => ⟨S16x4096x512, .f32⟩
  | .hbm, ⟨21, _⟩ => ⟨S16x4096x512, .bf16⟩
  | .hbm, ⟨22, _⟩ => ⟨S16x16x256x512, .f32⟩
  | .hbm, ⟨23, _⟩ => ⟨S16x16x512x256, .f32⟩
  | .hbm, ⟨24, _⟩ => ⟨S16x16x512x256, .bf16⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S16x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x16x512x256, .bf16⟩
  | .local _ .vmem, ⟨5, _⟩ => ⟨S1x16x512x256, .bf16⟩
  | .local _ .vmem, ⟨6, _⟩ => ⟨S1x512x512, .bf16⟩
  | .local _ .vmem, ⟨7, _⟩ => ⟨S1x512x512, .bf16⟩
  | .local _ .vmem, ⟨8, _⟩ => ⟨S8x256x128, .bf16⟩
  | .local _ .vmem, ⟨9, _⟩ => ⟨S512x256, .f32⟩
  | .local _ .vmem, ⟨10, _⟩ => ⟨S8x256, .f32⟩
  | .local _ .smem, ⟨0, _⟩ => ⟨S1, .f32⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 1, 8], ![false, false, false]⟩

def k0_mult1 (i : grid0.Coords) : BitVec 32 :=
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c256_i32_120 : BitVec 32 := 256#32
  let v307 : BitVec 32 := Scalar.muli v20 c256_i32_120
  v307
def k0_off1 (i : grid0.Coords) (c0_i32 : BitVec 32) : Fin 3 → Nat :=
  let c0_122 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c256_i32_120 : BitVec 32 := 256#32
  let v307 : BitVec 32 := Scalar.muli v20 c256_i32_120
  let v308 : BitVec 32 := v307
  let v317 : Index := Scalar.indexCast v308
  let c0_123 : Index := 0#32
  ![0, v317.toNat, 0]
def k0_off2 (i : grid0.Coords) (c0_i32 : BitVec 32) : Fin 3 → Nat :=
  let c0_134 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c256_i32_120 : BitVec 32 := 256#32
  let v307 : BitVec 32 := Scalar.muli v20 c256_i32_120
  let v308 : BitVec 32 := v307
  let v329 : Index := Scalar.indexCast v308
  let c128_135 : Index := 128#32
  ![0, v329.toNat, 128]
def k0_off3 (i : grid0.Coords) (c0_i32 : BitVec 32) : Fin 3 → Nat :=
  let c0_146 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c256_i32_120 : BitVec 32 := 256#32
  let v307 : BitVec 32 := Scalar.muli v20 c256_i32_120
  let v308 : BitVec 32 := v307
  let v341 : Index := Scalar.indexCast v308
  let c256_147 : Index := 256#32
  ![0, v341.toNat, 256]
def k0_off4 (i : grid0.Coords) (c0_i32 : BitVec 32) : Fin 3 → Nat :=
  let c0_158 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c256_i32_120 : BitVec 32 := 256#32
  let v307 : BitVec 32 := Scalar.muli v20 c256_i32_120
  let v308 : BitVec 32 := v307
  let v353 : Index := Scalar.indexCast v308
  let c384_159 : Index := 384#32
  ![0, v353.toNat, 384]
def k0_off5 (i : grid0.Coords) (c0_i32 : BitVec 32) : Fin 4 → Nat :=
  let c0_232 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let v522 : Index := Scalar.indexCast v20
  let c0_233 : Index := 0#32
  let c0_234 : Index := 0#32
  ![0, v522.toNat, 0, 0]
def k0_off6 (i : grid0.Coords) (c0_i32 : BitVec 32) : Fin 4 → Nat :=
  let c0_242 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let v541 : Index := Scalar.indexCast v20
  let c64_243 : Index := 64#32
  let c0_244 : Index := 0#32
  ![0, v541.toNat, 64, 0]
def k0_off7 (i : grid0.Coords) (c0_i32 : BitVec 32) : Fin 4 → Nat :=
  let c0_253 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let v560 : Index := Scalar.indexCast v20
  let c128_254 : Index := 128#32
  let c0_255 : Index := 0#32
  ![0, v560.toNat, 128, 0]
def k0_off8 (i : grid0.Coords) (c0_i32 : BitVec 32) : Fin 4 → Nat :=
  let c0_263 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let v579 : Index := Scalar.indexCast v20
  let c192_264 : Index := 192#32
  let c0_265 : Index := 0#32
  ![0, v579.toNat, 192, 0]
def k0_off9 (i : grid0.Coords) (c0_i32 : BitVec 32) : Fin 4 → Nat :=
  let c0_274 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let v598 : Index := Scalar.indexCast v20
  let c256_275 : Index := 256#32
  let c0_276 : Index := 0#32
  ![0, v598.toNat, 256, 0]
def k0_off10 (i : grid0.Coords) (c0_i32 : BitVec 32) : Fin 4 → Nat :=
  let c0_284 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let v617 : Index := Scalar.indexCast v20
  let c320_285 : Index := 320#32
  let c0_286 : Index := 0#32
  ![0, v617.toNat, 320, 0]
def k0_off11 (i : grid0.Coords) (c0_i32 : BitVec 32) : Fin 4 → Nat :=
  let c0_295 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let v636 : Index := Scalar.indexCast v20
  let c384_296 : Index := 384#32
  let c0_297 : Index := 0#32
  ![0, v636.toNat, 384, 0]
def k0_off12 (i : grid0.Coords) (c0_i32 : BitVec 32) : Fin 4 → Nat :=
  let c0_305 : Index := 0#32
  let c0_i32_0 : BitVec 32 := 0#32
  let arg2 : BitVec 32 := BitVec.ofNat 32 (i 2).val
  let c2_i32 : BitVec 32 := 2#32
  let v0 : BitVec 32 := Scalar.muli arg2 c2_i32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let v655 : Index := Scalar.indexCast v20
  let c448_306 : Index := 448#32
  let c0_307 : Index := 0#32
  ![0, v655.toNat, 448, 0]
def k0_mult2 (i : grid0.Coords) (arg11 : BitVec 32) : BitVec 32 :=
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let c256_i32_661 : BitVec 32 := 256#32
  let v1351 : BitVec 32 := Scalar.muli v1350 c256_i32_661
  v1351

def k0_off13 (i : grid0.Coords) (arg11 : BitVec 32) : Fin 3 → Nat :=
  let c0_662 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let c256_i32_661 : BitVec 32 := 256#32
  let v1351 : BitVec 32 := Scalar.muli v1350 c256_i32_661
  let v1352 : BitVec 32 := v1351
  let v1353 : Index := Scalar.indexCast v1352
  let c0_663 : Index := 0#32
  ![0, v1353.toNat, 0]
def k0_off14 (i : grid0.Coords) (arg11 : BitVec 32) : Fin 3 → Nat :=
  let c0_674 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let c256_i32_661 : BitVec 32 := 256#32
  let v1351 : BitVec 32 := Scalar.muli v1350 c256_i32_661
  let v1352 : BitVec 32 := v1351
  let v1365 : Index := Scalar.indexCast v1352
  let c128_675 : Index := 128#32
  ![0, v1365.toNat, 128]
def k0_off15 (i : grid0.Coords) (arg11 : BitVec 32) : Fin 3 → Nat :=
  let c0_686 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let c256_i32_661 : BitVec 32 := 256#32
  let v1351 : BitVec 32 := Scalar.muli v1350 c256_i32_661
  let v1352 : BitVec 32 := v1351
  let v1377 : Index := Scalar.indexCast v1352
  let c256_687 : Index := 256#32
  ![0, v1377.toNat, 256]
def k0_off16 (i : grid0.Coords) (arg11 : BitVec 32) : Fin 3 → Nat :=
  let c0_698 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let c256_i32_661 : BitVec 32 := 256#32
  let v1351 : BitVec 32 := Scalar.muli v1350 c256_i32_661
  let v1352 : BitVec 32 := v1351
  let v1389 : Index := Scalar.indexCast v1352
  let c384_699 : Index := 384#32
  ![0, v1389.toNat, 384]
def k0_off17 (i : grid0.Coords) (arg11 : BitVec 32) : Fin 4 → Nat :=
  let c0_763 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let v1540 : Index := Scalar.indexCast v1350
  let c0_764 : Index := 0#32
  let c0_765 : Index := 0#32
  ![0, v1540.toNat, 0, 0]
def k0_off18 (i : grid0.Coords) (arg11 : BitVec 32) : Fin 4 → Nat :=
  let c0_773 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let v1557 : Index := Scalar.indexCast v1350
  let c64_774 : Index := 64#32
  let c0_775 : Index := 0#32
  ![0, v1557.toNat, 64, 0]
def k0_off19 (i : grid0.Coords) (arg11 : BitVec 32) : Fin 4 → Nat :=
  let c0_783 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let v1574 : Index := Scalar.indexCast v1350
  let c128_784 : Index := 128#32
  let c0_785 : Index := 0#32
  ![0, v1574.toNat, 128, 0]
def k0_off20 (i : grid0.Coords) (arg11 : BitVec 32) : Fin 4 → Nat :=
  let c0_793 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let v1591 : Index := Scalar.indexCast v1350
  let c192_794 : Index := 192#32
  let c0_795 : Index := 0#32
  ![0, v1591.toNat, 192, 0]
def k0_off21 (i : grid0.Coords) (arg11 : BitVec 32) : Fin 4 → Nat :=
  let c0_803 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let v1608 : Index := Scalar.indexCast v1350
  let c256_804 : Index := 256#32
  let c0_805 : Index := 0#32
  ![0, v1608.toNat, 256, 0]
def k0_off22 (i : grid0.Coords) (arg11 : BitVec 32) : Fin 4 → Nat :=
  let c0_813 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let v1625 : Index := Scalar.indexCast v1350
  let c320_814 : Index := 320#32
  let c0_815 : Index := 0#32
  ![0, v1625.toNat, 320, 0]
def k0_off23 (i : grid0.Coords) (arg11 : BitVec 32) : Fin 4 → Nat :=
  let c0_823 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let v1642 : Index := Scalar.indexCast v1350
  let c384_824 : Index := 384#32
  let c0_825 : Index := 0#32
  ![0, v1642.toNat, 384, 0]
def k0_off24 (i : grid0.Coords) (arg11 : BitVec 32) : Fin 4 → Nat :=
  let c0_833 : Index := 0#32
  let c0_i32_0 : BitVec 32 := 0#32
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c256_i32 : BitVec 32 := 256#32
  let v2 : BitVec 32 := Scalar.muli v1 c256_i32
  let v3 : BitVec 32 := Scalar.addi c0_i32_0 v2
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_1 : BitVec 32 := 256#32
  let c0_i32_4 : BitVec 32 := 0#32
  let v10 : BitVec 1 := Scalar.cmpi .sgt c256_i32_1 c0_i32_4
  let v11 : BitVec 32 := Scalar.extui v10
  let c0_i32_5 : BitVec 32 := 0#32
  let v12 : BitVec 1 := Scalar.cmpi .slt c256_i32_1 c0_i32_5
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_6 : BitVec 32 := 0#32
  let v17 : BitVec 1 := Scalar.cmpi .ne v16 c0_i32_6
  let v18 : BitVec 1 := Scalar.andi v15 v17
  let v4 : BitVec 32 := Scalar.divsi v3 c256_i32_1
  let c1_i32 : BitVec 32 := 1#32
  let v19 : BitVec 32 := Scalar.subi v4 c1_i32
  let v20 : BitVec 32 := Scalar.select v18 v19 v4
  let c1_i32_660 : BitVec 32 := 1#32
  let v1349 : BitVec 32 := Scalar.subi v20 c1_i32_660
  let v1350 : BitVec 32 := Scalar.subi v1349 arg11
  let v1659 : Index := Scalar.indexCast v1350
  let c448_834 : Index := 448#32
  let c0_835 : Index := 0#32
  ![0, v1659.toNat, 448, 0]

def k0_chk1 (i : grid0.Coords) (arg11 : BitVec 32) : Prop :=
  (256 ∣ (k0_mult2 i arg11).toNat) ∧
  (∀ a, (k0_off13 i arg11) a + S1x256x128.size a ≤ S1x4096x512.size a) ∧
  (∀ a, (k0_off14 i arg11) a + S1x256x128.size a ≤ S1x4096x512.size a) ∧
  (∀ a, (k0_off15 i arg11) a + S1x256x128.size a ≤ S1x4096x512.size a) ∧
  (∀ a, (k0_off16 i arg11) a + S1x256x128.size a ≤ S1x4096x512.size a) ∧
  (∀ a, (k0_off17 i arg11) a + S1x1x64x256.size a ≤ S1x16x512x256.size a) ∧
  (∀ a, (k0_off18 i arg11) a + S1x1x64x256.size a ≤ S1x16x512x256.size a) ∧
  (∀ a, (k0_off19 i arg11) a + S1x1x64x256.size a ≤ S1x16x512x256.size a) ∧
  (∀ a, (k0_off20 i arg11) a + S1x1x64x256.size a ≤ S1x16x512x256.size a) ∧
  (∀ a, (k0_off21 i arg11) a + S1x1x64x256.size a ≤ S1x16x512x256.size a) ∧
  (∀ a, (k0_off22 i arg11) a + S1x1x64x256.size a ≤ S1x16x512x256.size a) ∧
  (∀ a, (k0_off23 i arg11) a + S1x1x64x256.size a ≤ S1x16x512x256.size a) ∧
  (∀ a, (k0_off24 i arg11) a + S1x1x64x256.size a ≤ S1x16x512x256.size a)
theorem k0_mult2_dvd : ∀ (i : grid0.Coords) (arg11 : BitVec 32) (k0_hw1 : k0_chk1 i arg11), 256 ∣ (k0_mult2 i arg11).toNat := fun i arg11 k0_hw1 => k0_hw1.1
theorem k0_off13_inb : ∀ (i : grid0.Coords) (arg11 : BitVec 32) (k0_hw1 : k0_chk1 i arg11), ∀ a, (k0_off13 i arg11) a + S1x256x128.size a ≤ S1x4096x512.size a := fun i arg11 k0_hw1 => k0_hw1.2.1
theorem k0_off14_inb : ∀ (i : grid0.Coords) (arg11 : BitVec 32) (k0_hw1 : k0_chk1 i arg11), ∀ a, (k0_off14 i arg11) a + S1x256x128.size a ≤ S1x4096x512.size a := fun i arg11 k0_hw1 => k0_hw1.2.2.1
theorem k0_off15_inb : ∀ (i : grid0.Coords) (arg11 : BitVec 32) (k0_hw1 : k0_chk1 i arg11), ∀ a, (k0_off15 i arg11) a + S1x256x128.size a ≤ S1x4096x512.size a := fun i arg11 k0_hw1 => k0_hw1.2.2.2.1
theorem k0_off16_inb : ∀ (i : grid0.Coords) (arg11 : BitVec 32) (k0_hw1 : k0_chk1 i arg11), ∀ a, (k0_off16 i arg11) a + S1x256x128.size a ≤ S1x4096x512.size a := fun i arg11 k0_hw1 => k0_hw1.2.2.2.2.1
theorem k0_off17_inb : ∀ (i : grid0.Coords) (arg11 : BitVec 32) (k0_hw1 : k0_chk1 i arg11), ∀ a, (k0_off17 i arg11) a + S1x1x64x256.size a ≤ S1x16x512x256.size a := fun i arg11 k0_hw1 => k0_hw1.2.2.2.2.2.1
theorem k0_off18_inb : ∀ (i : grid0.Coords) (arg11 : BitVec 32) (k0_hw1 : k0_chk1 i arg11), ∀ a, (k0_off18 i arg11) a + S1x1x64x256.size a ≤ S1x16x512x256.size a := fun i arg11 k0_hw1 => k0_hw1.2.2.2.2.2.2.1
theorem k0_off19_inb : ∀ (i : grid0.Coords) (arg11 : BitVec 32) (k0_hw1 : k0_chk1 i arg11), ∀ a, (k0_off19 i arg11) a + S1x1x64x256.size a ≤ S1x16x512x256.size a := fun i arg11 k0_hw1 => k0_hw1.2.2.2.2.2.2.2.1
theorem k0_off20_inb : ∀ (i : grid0.Coords) (arg11 : BitVec 32) (k0_hw1 : k0_chk1 i arg11), ∀ a, (k0_off20 i arg11) a + S1x1x64x256.size a ≤ S1x16x512x256.size a := fun i arg11 k0_hw1 => k0_hw1.2.2.2.2.2.2.2.2.1
theorem k0_off21_inb : ∀ (i : grid0.Coords) (arg11 : BitVec 32) (k0_hw1 : k0_chk1 i arg11), ∀ a, (k0_off21 i arg11) a + S1x1x64x256.size a ≤ S1x16x512x256.size a := fun i arg11 k0_hw1 => k0_hw1.2.2.2.2.2.2.2.2.2.1
theorem k0_off22_inb : ∀ (i : grid0.Coords) (arg11 : BitVec 32) (k0_hw1 : k0_chk1 i arg11), ∀ a, (k0_off22 i arg11) a + S1x1x64x256.size a ≤ S1x16x512x256.size a := fun i arg11 k0_hw1 => k0_hw1.2.2.2.2.2.2.2.2.2.2.1
theorem k0_off23_inb : ∀ (i : grid0.Coords) (arg11 : BitVec 32) (k0_hw1 : k0_chk1 i arg11), ∀ a, (k0_off23 i arg11) a + S1x1x64x256.size a ≤ S1x16x512x256.size a := fun i arg11 k0_hw1 => k0_hw1.2.2.2.2.2.2.2.2.2.2.2.1
theorem k0_off24_inb : ∀ (i : grid0.Coords) (arg11 : BitVec 32) (k0_hw1 : k0_chk1 i arg11), ∀ a, (k0_off24 i arg11) a + S1x1x64x256.size a ≤ S1x16x512x256.size a := fun i arg11 k0_hw1 => k0_hw1.2.2.2.2.2.2.2.2.2.2.2.2

def k0_mult3 (i : grid0.Coords) : BitVec 32 :=
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c256_i32_456 : BitVec 32 := 256#32
  let v981 : BitVec 32 := Scalar.muli v694 c256_i32_456
  v981
def k0_mult4 (i : grid0.Coords) (arg11 : BitVec 32) : BitVec 32 :=
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let c256_i32_661 : BitVec 32 := 256#32
  let v1351 : BitVec 32 := Scalar.muli v1350 c256_i32_661
  v1351

def k0_off25 (i : grid0.Coords) (arg11 : BitVec 32) : Fin 3 → Nat :=
  let c0_662 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let c256_i32_661 : BitVec 32 := 256#32
  let v1351 : BitVec 32 := Scalar.muli v1350 c256_i32_661
  let v1352 : BitVec 32 := v1351
  let v1353 : Index := Scalar.indexCast v1352
  let c0_663 : Index := 0#32
  ![0, v1353.toNat, 0]
def k0_off26 (i : grid0.Coords) (arg11 : BitVec 32) : Fin 3 → Nat :=
  let c0_674 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let c256_i32_661 : BitVec 32 := 256#32
  let v1351 : BitVec 32 := Scalar.muli v1350 c256_i32_661
  let v1352 : BitVec 32 := v1351
  let v1365 : Index := Scalar.indexCast v1352
  let c128_675 : Index := 128#32
  ![0, v1365.toNat, 128]
def k0_off27 (i : grid0.Coords) (arg11 : BitVec 32) : Fin 3 → Nat :=
  let c0_686 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let c256_i32_661 : BitVec 32 := 256#32
  let v1351 : BitVec 32 := Scalar.muli v1350 c256_i32_661
  let v1352 : BitVec 32 := v1351
  let v1377 : Index := Scalar.indexCast v1352
  let c256_687 : Index := 256#32
  ![0, v1377.toNat, 256]
def k0_off28 (i : grid0.Coords) (arg11 : BitVec 32) : Fin 3 → Nat :=
  let c0_698 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let c256_i32_661 : BitVec 32 := 256#32
  let v1351 : BitVec 32 := Scalar.muli v1350 c256_i32_661
  let v1352 : BitVec 32 := v1351
  let v1389 : Index := Scalar.indexCast v1352
  let c384_699 : Index := 384#32
  ![0, v1389.toNat, 384]
def k0_off29 (i : grid0.Coords) (arg11 : BitVec 32) : Fin 4 → Nat :=
  let c0_763 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let v1540 : Index := Scalar.indexCast v1350
  let c0_764 : Index := 0#32
  let c0_765 : Index := 0#32
  ![0, v1540.toNat, 0, 0]
def k0_off30 (i : grid0.Coords) (arg11 : BitVec 32) : Fin 4 → Nat :=
  let c0_773 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let v1557 : Index := Scalar.indexCast v1350
  let c64_774 : Index := 64#32
  let c0_775 : Index := 0#32
  ![0, v1557.toNat, 64, 0]
def k0_off31 (i : grid0.Coords) (arg11 : BitVec 32) : Fin 4 → Nat :=
  let c0_783 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let v1574 : Index := Scalar.indexCast v1350
  let c128_784 : Index := 128#32
  let c0_785 : Index := 0#32
  ![0, v1574.toNat, 128, 0]
def k0_off32 (i : grid0.Coords) (arg11 : BitVec 32) : Fin 4 → Nat :=
  let c0_793 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let v1591 : Index := Scalar.indexCast v1350
  let c192_794 : Index := 192#32
  let c0_795 : Index := 0#32
  ![0, v1591.toNat, 192, 0]
def k0_off33 (i : grid0.Coords) (arg11 : BitVec 32) : Fin 4 → Nat :=
  let c0_803 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let v1608 : Index := Scalar.indexCast v1350
  let c256_804 : Index := 256#32
  let c0_805 : Index := 0#32
  ![0, v1608.toNat, 256, 0]
def k0_off34 (i : grid0.Coords) (arg11 : BitVec 32) : Fin 4 → Nat :=
  let c0_813 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let v1625 : Index := Scalar.indexCast v1350
  let c320_814 : Index := 320#32
  let c0_815 : Index := 0#32
  ![0, v1625.toNat, 320, 0]
def k0_off35 (i : grid0.Coords) (arg11 : BitVec 32) : Fin 4 → Nat :=
  let c0_823 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let v1642 : Index := Scalar.indexCast v1350
  let c384_824 : Index := 384#32
  let c0_825 : Index := 0#32
  ![0, v1642.toNat, 384, 0]
def k0_off36 (i : grid0.Coords) (arg11 : BitVec 32) : Fin 4 → Nat :=
  let c0_833 : Index := 0#32
  let c0_i32_322 : BitVec 32 := 0#32
  let arg2 : BitVec 32 := BitVec.ofNat 32 (i 2).val
  let c2_i32_319 : BitVec 32 := 2#32
  let v674 : BitVec 32 := Scalar.muli arg2 c2_i32_319
  let c1_i32_320 : BitVec 32 := 1#32
  let v675 : BitVec 32 := Scalar.addi v674 c1_i32_320
  let c256_i32_321 : BitVec 32 := 256#32
  let v676 : BitVec 32 := Scalar.muli v675 c256_i32_321
  let v677 : BitVec 32 := Scalar.addi c0_i32_322 v676
  let c0_i32_324 : BitVec 32 := 0#32
  let v679 : BitVec 1 := Scalar.cmpi .sgt v677 c0_i32_324
  let v680 : BitVec 32 := Scalar.extui v679
  let c0_i32_325 : BitVec 32 := 0#32
  let v681 : BitVec 1 := Scalar.cmpi .slt v677 c0_i32_325
  let v682 : BitVec 32 := Scalar.extui v681
  let v683 : BitVec 32 := Scalar.subi v680 v682
  let c256_i32_323 : BitVec 32 := 256#32
  let c0_i32_326 : BitVec 32 := 0#32
  let v684 : BitVec 1 := Scalar.cmpi .sgt c256_i32_323 c0_i32_326
  let v685 : BitVec 32 := Scalar.extui v684
  let c0_i32_327 : BitVec 32 := 0#32
  let v686 : BitVec 1 := Scalar.cmpi .slt c256_i32_323 c0_i32_327
  let v687 : BitVec 32 := Scalar.extui v686
  let v688 : BitVec 32 := Scalar.subi v685 v687
  let v689 : BitVec 1 := Scalar.cmpi .ne v683 v688
  let v690 : BitVec 32 := Scalar.remsi v677 c256_i32_323
  let c0_i32_328 : BitVec 32 := 0#32
  let v691 : BitVec 1 := Scalar.cmpi .ne v690 c0_i32_328
  let v692 : BitVec 1 := Scalar.andi v689 v691
  let v678 : BitVec 32 := Scalar.divsi v677 c256_i32_323
  let c1_i32_329 : BitVec 32 := 1#32
  let v693 : BitVec 32 := Scalar.subi v678 c1_i32_329
  let v694 : BitVec 32 := Scalar.select v692 v693 v678
  let c1_i32_660 : BitVec 32 := 1#32
  let v1349 : BitVec 32 := Scalar.subi v694 c1_i32_660
  let v1350 : BitVec 32 := Scalar.subi v1349 arg11
  let v1659 : Index := Scalar.indexCast v1350
  let c448_834 : Index := 448#32
  let c0_835 : Index := 0#32
  ![0, v1659.toNat, 448, 0]

def k0_chk2 (i : grid0.Coords) (arg11 : BitVec 32) : Prop :=
  (256 ∣ (k0_mult4 i arg11).toNat) ∧
  (∀ a, (k0_off25 i arg11) a + S1x256x128.size a ≤ S1x4096x512.size a) ∧
  (∀ a, (k0_off26 i arg11) a + S1x256x128.size a ≤ S1x4096x512.size a) ∧
  (∀ a, (k0_off27 i arg11) a + S1x256x128.size a ≤ S1x4096x512.size a) ∧
  (∀ a, (k0_off28 i arg11) a + S1x256x128.size a ≤ S1x4096x512.size a) ∧
  (∀ a, (k0_off29 i arg11) a + S1x1x64x256.size a ≤ S1x16x512x256.size a) ∧
  (∀ a, (k0_off30 i arg11) a + S1x1x64x256.size a ≤ S1x16x512x256.size a) ∧
  (∀ a, (k0_off31 i arg11) a + S1x1x64x256.size a ≤ S1x16x512x256.size a) ∧
  (∀ a, (k0_off32 i arg11) a + S1x1x64x256.size a ≤ S1x16x512x256.size a) ∧
  (∀ a, (k0_off33 i arg11) a + S1x1x64x256.size a ≤ S1x16x512x256.size a) ∧
  (∀ a, (k0_off34 i arg11) a + S1x1x64x256.size a ≤ S1x16x512x256.size a) ∧
  (∀ a, (k0_off35 i arg11) a + S1x1x64x256.size a ≤ S1x16x512x256.size a) ∧
  (∀ a, (k0_off36 i arg11) a + S1x1x64x256.size a ≤ S1x16x512x256.size a)
theorem k0_mult4_dvd : ∀ (i : grid0.Coords) (arg11 : BitVec 32) (k0_hw2 : k0_chk2 i arg11), 256 ∣ (k0_mult4 i arg11).toNat := fun i arg11 k0_hw2 => k0_hw2.1
theorem k0_off25_inb : ∀ (i : grid0.Coords) (arg11 : BitVec 32) (k0_hw2 : k0_chk2 i arg11), ∀ a, (k0_off25 i arg11) a + S1x256x128.size a ≤ S1x4096x512.size a := fun i arg11 k0_hw2 => k0_hw2.2.1
theorem k0_off26_inb : ∀ (i : grid0.Coords) (arg11 : BitVec 32) (k0_hw2 : k0_chk2 i arg11), ∀ a, (k0_off26 i arg11) a + S1x256x128.size a ≤ S1x4096x512.size a := fun i arg11 k0_hw2 => k0_hw2.2.2.1
theorem k0_off27_inb : ∀ (i : grid0.Coords) (arg11 : BitVec 32) (k0_hw2 : k0_chk2 i arg11), ∀ a, (k0_off27 i arg11) a + S1x256x128.size a ≤ S1x4096x512.size a := fun i arg11 k0_hw2 => k0_hw2.2.2.2.1
theorem k0_off28_inb : ∀ (i : grid0.Coords) (arg11 : BitVec 32) (k0_hw2 : k0_chk2 i arg11), ∀ a, (k0_off28 i arg11) a + S1x256x128.size a ≤ S1x4096x512.size a := fun i arg11 k0_hw2 => k0_hw2.2.2.2.2.1
theorem k0_off29_inb : ∀ (i : grid0.Coords) (arg11 : BitVec 32) (k0_hw2 : k0_chk2 i arg11), ∀ a, (k0_off29 i arg11) a + S1x1x64x256.size a ≤ S1x16x512x256.size a := fun i arg11 k0_hw2 => k0_hw2.2.2.2.2.2.1
theorem k0_off30_inb : ∀ (i : grid0.Coords) (arg11 : BitVec 32) (k0_hw2 : k0_chk2 i arg11), ∀ a, (k0_off30 i arg11) a + S1x1x64x256.size a ≤ S1x16x512x256.size a := fun i arg11 k0_hw2 => k0_hw2.2.2.2.2.2.2.1
theorem k0_off31_inb : ∀ (i : grid0.Coords) (arg11 : BitVec 32) (k0_hw2 : k0_chk2 i arg11), ∀ a, (k0_off31 i arg11) a + S1x1x64x256.size a ≤ S1x16x512x256.size a := fun i arg11 k0_hw2 => k0_hw2.2.2.2.2.2.2.2.1
theorem k0_off32_inb : ∀ (i : grid0.Coords) (arg11 : BitVec 32) (k0_hw2 : k0_chk2 i arg11), ∀ a, (k0_off32 i arg11) a + S1x1x64x256.size a ≤ S1x16x512x256.size a := fun i arg11 k0_hw2 => k0_hw2.2.2.2.2.2.2.2.2.1
theorem k0_off33_inb : ∀ (i : grid0.Coords) (arg11 : BitVec 32) (k0_hw2 : k0_chk2 i arg11), ∀ a, (k0_off33 i arg11) a + S1x1x64x256.size a ≤ S1x16x512x256.size a := fun i arg11 k0_hw2 => k0_hw2.2.2.2.2.2.2.2.2.2.1
theorem k0_off34_inb : ∀ (i : grid0.Coords) (arg11 : BitVec 32) (k0_hw2 : k0_chk2 i arg11), ∀ a, (k0_off34 i arg11) a + S1x1x64x256.size a ≤ S1x16x512x256.size a := fun i arg11 k0_hw2 => k0_hw2.2.2.2.2.2.2.2.2.2.2.1
theorem k0_off35_inb : ∀ (i : grid0.Coords) (arg11 : BitVec 32) (k0_hw2 : k0_chk2 i arg11), ∀ a, (k0_off35 i arg11) a + S1x1x64x256.size a ≤ S1x16x512x256.size a := fun i arg11 k0_hw2 => k0_hw2.2.2.2.2.2.2.2.2.2.2.2.1
theorem k0_off36_inb : ∀ (i : grid0.Coords) (arg11 : BitVec 32) (k0_hw2 : k0_chk2 i arg11), ∀ a, (k0_off36 i arg11) a + S1x1x64x256.size a ≤ S1x16x512x256.size a := fun i arg11 k0_hw2 => k0_hw2.2.2.2.2.2.2.2.2.2.2.2.2

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "exp_underflow" => some ⊤
  | "neg_log2_e" => some ((-((Real.log 2)⁻¹) : ℝ) : EReal)
  | _ => none
-- ==== ReferenceIdeal.lean ====
abbrev S16x4096x8x64 : Shape := ⟨4, ![16, 4096, 8, 64]⟩
abbrev S1x64 : Shape := ⟨2, ![1, 64]⟩
abbrev S16x8x4096x4096 : Shape := ⟨4, ![16, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x8x64x4096 : Shape := ⟨4, ![16, 8, 64, 4096]⟩
abbrev S16x4096x512 : Shape := ⟨3, ![16, 4096, 512]⟩

abbrev nBuf : Space → Nat
  | .hbm => 66
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x64, .f32⟩
  | .hbm, ⟨2, _⟩ => ⟨S16x4096x8x64, .f32⟩
  | .hbm, ⟨3, _⟩ => ⟨S1x64, .f32⟩
  | .hbm, ⟨4, _⟩ => ⟨S1x64, .f32⟩
  | .hbm, ⟨5, _⟩ => ⟨S16x8x4096x4096, .f32⟩
  | .hbm, ⟨6, _⟩ => ⟨S_, .f32⟩
  | .hbm, ⟨7, _⟩ => ⟨S16x8x4096x4096, .f32⟩
  | .hbm, ⟨8, _⟩ => ⟨S16x8x4096x4096, .f32⟩
  | .hbm, ⟨9, _⟩ => ⟨S4096, .i32⟩
  | .hbm, ⟨10, _⟩ => ⟨S1x4096, .i32⟩
  | .hbm, ⟨11, _⟩ => ⟨S4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S16x8x4096x4096, .f32⟩
  | .hbm, ⟨18, _⟩ => ⟨S16x8x4096x4096, .f32⟩
  | .hbm, ⟨19, _⟩ => ⟨S16x8x4096x4096, .f32⟩
  | .hbm, ⟨20, _⟩ => ⟨S16x8x4096x4096, .f32⟩
  | .hbm, ⟨21, _⟩ => ⟨S16x8x4096x4096, .i1⟩
  | .hbm, ⟨22, _⟩ => ⟨S16x8x4096x4096, .f32⟩
  | .hbm, ⟨23, _⟩ => ⟨S16x8x4096x4096, .f32⟩
  | .hbm, ⟨24, _⟩ => ⟨S16x8x4096x4096, .f32⟩
  | .hbm, ⟨25, _⟩ => ⟨S16x8x4096x4096, .f32⟩
  | .hbm, ⟨26, _⟩ => ⟨S16x8x4096x4096, .f32⟩
  | .hbm, ⟨27, _⟩ => ⟨S16x8x4096x4096, .f32⟩
  | .hbm, ⟨28, _⟩ => ⟨S16x8x4096x4096, .f32⟩
  | .hbm, ⟨29, _⟩ => ⟨S16x8x4096x4096, .f32⟩
  | .hbm, ⟨30, _⟩ => ⟨S_, .f32⟩
  | .hbm, ⟨31, _⟩ => ⟨S_, .f32⟩
  | .hbm, ⟨32, _⟩ => ⟨S16x8x4096x4096, .i1⟩
  | .hbm, ⟨33, _⟩ => ⟨S16x8x4096x4096, .f32⟩
  | .hbm, ⟨34, _⟩ => ⟨S16x8x4096x4096, .f32⟩
  | .hbm, ⟨35, _⟩ => ⟨S_, .f32⟩
  | .hbm, ⟨36, _⟩ => ⟨S_, .f32⟩
  | .hbm, ⟨37, _⟩ => ⟨S16x8x4096x4096, .f32⟩
  | .hbm, ⟨38, _⟩ => ⟨S16x8x4096x4096, .f32⟩
  | .hbm, ⟨39, _⟩ => ⟨S_, .f32⟩
  | .hbm, ⟨40, _⟩ => ⟨S16x8x4096x4096, .f32⟩
  | .hbm, ⟨41, _⟩ => ⟨S16x8x4096x4096, .f32⟩
  | .hbm, ⟨42, _⟩ => ⟨S16x8x4096x4096, .f32⟩
  | .hbm, ⟨43, _⟩ => ⟨S16x8x4096x4096, .f32⟩
  | .hbm, ⟨44, _⟩ => ⟨S16x8x4096x4096, .i1⟩
  | .hbm, ⟨45, _⟩ => ⟨S16x8x4096x4096, .f32⟩
  | .hbm, ⟨46, _⟩ => ⟨S16x8x4096x4096, .f32⟩
  | .hbm, ⟨47, _⟩ => ⟨S16x8x4096x4096, .f32⟩
  | .hbm, ⟨48, _⟩ => ⟨S16x8x4096x4096, .f32⟩
  | .hbm, ⟨49, _⟩ => ⟨S16x8x4096x4096, .f32⟩
  | .hbm, ⟨50, _⟩ => ⟨S16x8x4096x4096, .f32⟩
  | .hbm, ⟨51, _⟩ => ⟨S16x8x4096x4096, .f32⟩
  | .hbm, ⟨52, _⟩ => ⟨S16x8x4096x4096, .f32⟩
  | .hbm, ⟨53, _⟩ => ⟨S16x8x4096x4096, .f32⟩
  | .hbm, ⟨54, _⟩ => ⟨S16x8x4096x4096, .f32⟩
  | .hbm, ⟨55, _⟩ => ⟨S16x8x4096x4096, .f32⟩
  | .hbm, ⟨56, _⟩ => ⟨S16x8x4096x4096, .f32⟩
  | .hbm, ⟨57, _⟩ => ⟨S_, .f32⟩
  | .hbm, ⟨58, _⟩ => ⟨S_, .f32⟩
  | .hbm, ⟨59, _⟩ => ⟨S16x8x4096x4096, .i1⟩
  | .hbm, ⟨60, _⟩ => ⟨S16x8x4096x4096, .f32⟩
  | .hbm, ⟨61, _⟩ => ⟨S16x8x4096x4096, .f32⟩
  | .hbm, ⟨62, _⟩ => ⟨S16x8x64x4096, .f32⟩
  | .hbm, ⟨63, _⟩ => ⟨S16x4096x8x64, .f32⟩
  | .hbm, ⟨64, _⟩ => ⟨S16x4096x512, .f32⟩
  | .hbm, ⟨65, _⟩ => ⟨S16x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_call3_v0 : Ref sig .tc := ⟨.hbm, 38, rfl⟩
abbrev main_call3_call0_cst : Ref sig .tc := ⟨.hbm, 39, rfl⟩
abbrev main_call3_call0_v0 : Ref sig .tc := ⟨.hbm, 40, rfl⟩
abbrev main_call3_call0_v1 : Ref sig .tc := ⟨.hbm, 41, rfl⟩
abbrev main_call3_call0_v2 : Ref sig .tc := ⟨.hbm, 42, rfl⟩
abbrev main_call3_call0_v3 : Ref sig .tc := ⟨.hbm, 43, rfl⟩
abbrev main_call3_call0_v4 : Ref sig .tc := ⟨.hbm, 44, rfl⟩
abbrev main_call3_call0_v5 : Ref sig .tc := ⟨.hbm, 45, rfl⟩
abbrev main_call3_call0_v6 : Ref sig .tc := ⟨.hbm, 46, rfl⟩
abbrev main_call3_call0_v7 : Ref sig .tc := ⟨.hbm, 47, rfl⟩
abbrev main_call3_call0_v8 : Ref sig .tc := ⟨.hbm, 48, rfl⟩
abbrev main_call3_call0_v9 : Ref sig .tc := ⟨.hbm, 49, rfl⟩
abbrev main_call3_call0_v10 : Ref sig .tc := ⟨.hbm, 50, rfl⟩
abbrev main_call3_call0_v11 : Ref sig .tc := ⟨.hbm, 51, rfl⟩
abbrev main_call3_v1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S16x2x5632 : Shape := ⟨3, ![16, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S_ : Shape := ⟨0, ![]⟩
abbrev S16x8x5632 : Shape := ⟨3, ![16, 8, 5632]⟩
abbrev S1x512x1024 : Shape := ⟨3, ![1, 512, 1024]⟩
abbrev S1x512x512 : Shape := ⟨3, ![1, 512, 512]⟩
abbrev S1x8x5632 : Shape := ⟨3, ![1, 8, 5632]⟩
abbrev S520x5632 : Shape := ⟨2, ![520, 5632]⟩
abbrev S512x2816 : Shape := ⟨2, ![512, 2816]⟩
abbrev S8x5632 : Shape := ⟨2, ![8, 5632]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x5632 : Shape := ⟨2, ![512, 5632]⟩
abbrev S520x256 : Shape := ⟨2, ![520, 256]⟩
abbrev S1x256 : Shape := ⟨2, ![1, 256]⟩
abbrev S512x256 : Shape := ⟨2, ![512, 256]⟩

abbrev nBuf : Space → Nat
  | .hbm => 22
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024x1024, .bf16⟩
  | .hbm, ⟨11, _⟩ => ⟨S1x1024, .f32⟩
  | .hbm, ⟨12, _⟩ => ⟨S1024x5632, .bf16⟩
  | .hbm, ⟨13, _⟩ => ⟨S1x5632, .f32⟩
  | .hbm, ⟨14, _⟩ => ⟨S2816x1024, .bf16⟩
  | .hbm, ⟨15, _⟩ => ⟨S16x4096x512, .bf16⟩
  | .hbm, ⟨16, _⟩ => ⟨S16x4096x512, .bf16⟩
  | .hbm, ⟨17, _⟩ => ⟨S_, .i32⟩
  | .hbm, ⟨18, _⟩ => ⟨S_, .f32⟩
  | .hbm, ⟨19, _⟩ => ⟨S16x8x5632, .f32⟩
  | .hbm, ⟨20, _⟩ => ⟨S16x4096x1024, .f32⟩
  | .hbm, ⟨21, _⟩ => ⟨S16x8x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x8x5632, .f32⟩
  | .local _ .vmem, ⟨13, _⟩ => ⟨S1x8x5632, .f32⟩
  | .local _ .vmem, ⟨14, _⟩ => ⟨S1x512x1024, .f32⟩
  | .local _ .vmem, ⟨15, _⟩ => ⟨S1x512x1024, .f32⟩
  | .local _ .vmem, ⟨16, _⟩ => ⟨S1x8x5632, .f32⟩
  | .local _ .vmem, ⟨17, _⟩ => ⟨S1x8x5632, .f32⟩
  | .local _ .vmem, ⟨18, _⟩ => ⟨S520x5632, .f32⟩
  | .local _ .vmem, ⟨19, _⟩ => ⟨S512x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S16x4096x1024 : Shape := ⟨3, ![16, 4096, 1024]⟩
abbrev S16x4096x512 : Shape := ⟨3, ![16, 4096, 512]⟩
abbrev S16x2x5632 : Shape := ⟨3, ![16, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4098x5632 : Shape := ⟨3, ![16, 4098, 5632]⟩
abbrev S1x5632 : Shape := ⟨2, ![1, 5632]⟩
abbrev S1x1x5632 : Shape := ⟨3, ![1, 1, 5632]⟩
abbrev S16x8x5632 : Shape := ⟨3, ![16, 8, 5632]⟩
abbrev S16x4096x2816 : Shape := ⟨3, ![16, 4096, 2816]⟩

abbrev nBuf : Space → Nat
  | .hbm => 69
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S16x4096x1024, .f32⟩
  | .hbm, ⟨14, _⟩ => ⟨S_, .f32⟩
  | .hbm, ⟨15, _⟩ => ⟨S16x4096, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S16x4096x1, .f32⟩
  | .hbm, ⟨24, _⟩ => ⟨S16x4096x1024, .f32⟩
  | .hbm, ⟨25, _⟩ => ⟨S16x4096x1024, .f32⟩
  | .hbm, ⟨26, _⟩ => ⟨S1x1x1024, .f32⟩
  | .hbm, ⟨27, _⟩ => ⟨S16x4096x1024, .f32⟩
  | .hbm, ⟨28, _⟩ => ⟨S16x4096x1024, .f32⟩
  | .hbm, ⟨29, _⟩ => ⟨S16x4096x5632, .f32⟩
  | .hbm, ⟨30, _⟩ => ⟨S16x4098x5632, .f32⟩
  | .hbm, ⟨31, _⟩ => ⟨S16x4096x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S16x4096x5632, .f32⟩
  | .hbm, ⟨36, _⟩ => ⟨S16x4096x5632, .f32⟩
  | .hbm, ⟨37, _⟩ => ⟨S16x4096x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S16x4096x5632, .f32⟩
  | .hbm, ⟨42, _⟩ => ⟨S16x4096x5632, .f32⟩
  | .hbm, ⟨43, _⟩ => ⟨S16x4096x5632, .f32⟩
  | .hbm, ⟨44, _⟩ => ⟨S16x4096x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S16x4096x5632, .f32⟩
  | .hbm, ⟨49, _⟩ => ⟨S16x4096x5632, .f32⟩
  | .hbm, ⟨50, _⟩ => ⟨S16x4096x5632, .f32⟩
  | .hbm, ⟨51, _⟩ => ⟨S1x1x5632, .f32⟩
  | .hbm, ⟨52, _⟩ => ⟨S16x4096x5632, .f32⟩
  | .hbm, ⟨53, _⟩ => ⟨S16x4096x5632, .f32⟩
  | .hbm, ⟨54, _⟩ => ⟨S16x8x5632, .f32⟩
  | .hbm, ⟨55, _⟩ => ⟨S16x4096x2816, .f32⟩
  | .hbm, ⟨56, _⟩ => ⟨S16x4096x2816, .f32⟩
  | .hbm, ⟨57, _⟩ => ⟨S16x4096x2816, .f32⟩
  | .hbm, ⟨58, _⟩ => ⟨S16x4096x2816, .f32⟩
  | .hbm, ⟨59, _⟩ => ⟨S_, .f32⟩
  | .hbm, ⟨60, _⟩ => ⟨S16x4096x2816, .f32⟩
  | .hbm, ⟨61, _⟩ => ⟨S16x4096x2816, .f32⟩
  | .hbm, ⟨62, _⟩ => ⟨S_, .f32⟩
  | .hbm, ⟨63, _⟩ => ⟨S16x4096x2816, .f32⟩
  | .hbm, ⟨64, _⟩ => ⟨S16x4096x2816, .f32⟩
  | .hbm, ⟨65, _⟩ => ⟨S16x4096x2816, .f32⟩
  | .hbm, ⟨66, _⟩ => ⟨S16x4096x2816, .f32⟩
  | .hbm, ⟨67, _⟩ => ⟨S16x4096x1024, .f32⟩
  | .hbm, ⟨68, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x30x512 : Shape := ⟨3, ![16, 30, 512]⟩
abbrev S1024 : Shape := ⟨1, ![1024]⟩
abbrev S1024x2560 : Shape := ⟨2, ![1024, 2560]⟩
abbrev S64 : Shape := ⟨1, ![64]⟩
abbrev S31x512 : Shape := ⟨2, ![31, 512]⟩
abbrev S512 : Shape := ⟨1, ![512]⟩
abbrev S_ : Shape := ⟨0, ![]⟩
abbrev S1x1024 : Shape := ⟨2, ![1, 1024]⟩
abbrev S1x64 : Shape := ⟨2, ![1, 64]⟩
abbrev S8x64 : Shape := ⟨2, ![8, 64]⟩
abbrev S1x512 : Shape := ⟨2, ![1, 512]⟩
abbrev S512x1 : Shape := ⟨2, ![512, 1]⟩
abbrev S512x512 : Shape := ⟨2, ![512, 512]⟩
abbrev S16x32x512 : Shape := ⟨3, ![16, 32, 512]⟩
abbrev S16x4096x512 : Shape := ⟨3, ![16, 4096, 512]⟩
abbrev S16x16x512x256 : Shape := ⟨4, ![16, 16, 512, 256]⟩
abbrev S1x512x1024 : Shape := ⟨3, ![1, 512, 1024]⟩
abbrev S1x32x512 : Shape := ⟨3, ![1, 32, 512]⟩
abbrev S1x512x512 : Shape := ⟨3, ![1, 512, 512]⟩
abbrev S1x2x512x256 : Shape := ⟨4, ![1, 2, 512, 256]⟩
abbrev S544x512 : Shape := ⟨2, ![544, 512]⟩
abbrev S32x512 : Shape := ⟨2, ![32, 512]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S128x2560 : Shape := ⟨2, ![128, 2560]⟩
abbrev S128x512 : Shape := ⟨2, ![128, 512]⟩
abbrev S1x128x512 : Shape := ⟨3, ![1, 128, 512]⟩
abbrev S512x128 : Shape := ⟨2, ![512, 128]⟩
abbrev S1x1x512x128 : Shape := ⟨4, ![1, 1, 512, 128]⟩
abbrev S96x128 : Shape := ⟨2, ![96, 128]⟩
abbrev S1x128 : Shape := ⟨2, ![1, 128]⟩
abbrev S64x128 : Shape := ⟨2, ![64, 128]⟩

abbrev nBuf : Space → Nat
  | .hbm => 65
  | .vmem => 29
  | .smem => 0
  | _ => 0

abbrev bufTy : (tb : Table) → Fin (tcTables nBuf tb) → BufTy
  | .hbm, ⟨0, _⟩ => ⟨S16x4096x1024, .f32⟩
  | .hbm, ⟨1, _⟩ => ⟨S16x30x512, .f32⟩
  | .hbm, ⟨2, _⟩ => ⟨S1024, .f32⟩
  | .hbm, ⟨3, _⟩ => ⟨S1024x2560, .f32⟩
  | .hbm, ⟨4, _⟩ => ⟨S64, .f32⟩
  | .hbm, ⟨5, _⟩ => ⟨S64, .f32⟩
  | .hbm, ⟨6, _⟩ => ⟨S31x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S1x1024, .f32⟩
  | .hbm, ⟨30, _⟩ => ⟨S1024x2560, .bf16⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S_, .f32⟩
  | .hbm, ⟨36, _⟩ => ⟨S1x512, .f32⟩
  | .hbm, ⟨37, _⟩ => ⟨S1x512, .f32⟩
  | .hbm, ⟨38, _⟩ => ⟨S1x64, .f32⟩
  | .hbm, ⟨39, _⟩ => ⟨S8x64, .f32⟩
  | .hbm, ⟨40, _⟩ => ⟨S512, .f32⟩
  | .hbm, ⟨41, _⟩ => ⟨S1x512, .f32⟩
  | .hbm, ⟨42, _⟩ => ⟨S512x1, .i32⟩
  | .hbm, ⟨43, _⟩ => ⟨S1x512, .i32⟩
  | .hbm, ⟨44, _⟩ => ⟨S512x512, .i32⟩
  | .hbm, ⟨45, _⟩ => ⟨S512x512, .i32⟩
  | .hbm, ⟨46, _⟩ => ⟨S512x512, .i1⟩
  | .hbm, ⟨47, _⟩ => ⟨S512x512, .f32⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S512x512, .bf16⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S_, .i32⟩
  | .hbm, ⟨56, _⟩ => ⟨S_, .f32⟩
  | .hbm, ⟨57, _⟩ => ⟨S16x32x512, .f32⟩
  | .hbm, ⟨58, _⟩ => ⟨S16x4096x512, .bf16⟩
  | .hbm, ⟨59, _⟩ => ⟨S16x4096x512, .bf16⟩
  | .hbm, ⟨60, _⟩ => ⟨S16x4096x512, .f32⟩
  | .hbm, ⟨61, _⟩ => ⟨S16x4096x512, .f32⟩
  | .hbm, ⟨62, _⟩ => ⟨S16x16x512x256, .bf16⟩
  | .hbm, ⟨63, _⟩ => ⟨S16x4096x512, .bf16⟩
  | .hbm, ⟨64, _⟩ => ⟨S16x32x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S31x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x32x512, .f32⟩
  | .local _ .vmem, ⟨12, _⟩ => ⟨S1x32x512, .f32⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x2x512x256, .bf16⟩
  | .local _ .vmem, ⟨22, _⟩ => ⟨S1x2x512x256, .bf16⟩
  | .local _ .vmem, ⟨23, _⟩ => ⟨S1x512x512, .bf16⟩
  | .local _ .vmem, ⟨24, _⟩ => ⟨S1x512x512, .bf16⟩
  | .local _ .vmem, ⟨25, _⟩ => ⟨S1x32x512, .f32⟩
  | .local _ .vmem, ⟨26, _⟩ => ⟨S1x32x512, .f32⟩
  | .local _ .vmem, ⟨27, _⟩ => ⟨S544x512, .f32⟩
  | .local _ .vmem, ⟨28, _⟩ => ⟨S512x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_0 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_1 : Ref sig .tc := ⟨.hbm, 55, rfl⟩
abbrev main_call1_v0 : Ref sig .tc := ⟨.hbm, 56, rfl⟩
abbrev main_v26 : Ref sig .tc := ⟨.hbm, 57, rfl⟩
abbrev main_v27_0 : Ref sig .tc := ⟨.hbm, 58, rfl⟩
abbrev main_v27_1 : Ref sig .tc := ⟨.hbm, 59, rfl⟩
abbrev main_v27_2 : Ref sig .tc := ⟨.hbm, 60, rfl⟩
abbrev main_v27_3 : Ref sig .tc := ⟨.hbm, 61, rfl⟩
abbrev main_v27_4 : Ref sig .tc := ⟨.hbm, 62, rfl⟩
abbrev main_v27_5 : Ref sig .tc := ⟨.hbm, 63, rfl⟩
abbrev main_v27_6 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference3Ideal.lean ====
abbrev S16x4096x1024 : Shape := ⟨3, ![16, 4096, 1024]⟩
abbrev S16x30x512 : Shape := ⟨3, ![16, 30, 512]⟩
abbrev S1024 : Shape := ⟨1, ![1024]⟩
abbrev S1024x2560 : Shape := ⟨2, ![1024, 2560]⟩
abbrev S64 : Shape := ⟨1, ![64]⟩
abbrev S31x512 : Shape := ⟨2, ![31, 512]⟩
abbrev S512 : Shape := ⟨1, ![512]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2560 : Shape := ⟨3, ![16, 4096, 2560]⟩
abbrev S16x4096x512 : Shape := ⟨3, ![16, 4096, 512]⟩
abbrev S16x4096x8x64 : Shape := ⟨4, ![16, 4096, 8, 64]⟩
abbrev S16x4096x8 : Shape := ⟨3, ![16, 4096, 8]⟩
abbrev S16x4096x8x1 : Shape := ⟨4, ![16, 4096, 8, 1]⟩
abbrev S1x1x1x64 : Shape := ⟨4, ![1, 1, 1, 64]⟩
abbrev S16x4126x512 : Shape := ⟨3, ![16, 4126, 512]⟩
abbrev S16x16x256x512 : Shape := ⟨4, ![16, 16, 256, 512]⟩
abbrev S16x16x512x256 : Shape := ⟨4, ![16, 16, 512, 256]⟩
abbrev S16x32x512 : Shape := ⟨3, ![16, 32, 512]⟩

abbrev nBuf : Space → Nat
  | .hbm => 87
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x30x512, .f32⟩
  | .hbm, ⟨2, _⟩ => ⟨S1024, .f32⟩
  | .hbm, ⟨3, _⟩ => ⟨S1024x2560, .f32⟩
  | .hbm, ⟨4, _⟩ => ⟨S64, .f32⟩
  | .hbm, ⟨5, _⟩ => ⟨S64, .f32⟩
  | .hbm, ⟨6, _⟩ => ⟨S31x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S16x4096x1024, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1, .f32⟩
  | .hbm, ⟨21, _⟩ => ⟨S16x4096x1024, .f32⟩
  | .hbm, ⟨22, _⟩ => ⟨S16x4096x1024, .f32⟩
  | .hbm, ⟨23, _⟩ => ⟨S1x1x1024, .f32⟩
  | .hbm, ⟨24, _⟩ => ⟨S16x4096x1024, .f32⟩
  | .hbm, ⟨25, _⟩ => ⟨S16x4096x1024, .f32⟩
  | .hbm, ⟨26, _⟩ => ⟨S16x4096x2560, .f32⟩
  | .hbm, ⟨27, _⟩ => ⟨S16x4096x512, .f32⟩
  | .hbm, ⟨28, _⟩ => ⟨S16x4096x512, .f32⟩
  | .hbm, ⟨29, _⟩ => ⟨S16x4096x512, .f32⟩
  | .hbm, ⟨30, _⟩ => ⟨S16x4096x512, .f32⟩
  | .hbm, ⟨31, _⟩ => ⟨S16x4096x512, .f32⟩
  | .hbm, ⟨32, _⟩ => ⟨S16x4096x8x64, .f32⟩
  | .hbm, ⟨33, _⟩ => ⟨S16x4096x8x64, .f32⟩
  | .hbm, ⟨34, _⟩ => ⟨S_, .f32⟩
  | .hbm, ⟨35, _⟩ => ⟨S16x4096x8, .f32⟩
  | .hbm, ⟨36, _⟩ => ⟨S16x4096x8x1, .f32⟩
  | .hbm, ⟨37, _⟩ => ⟨S_, .f32⟩
  | .hbm, ⟨38, _⟩ => ⟨S16x4096x8x1, .f32⟩
  | .hbm, ⟨39, _⟩ => ⟨S16x4096x8x1, .f32⟩
  | .hbm, ⟨40, _⟩ => ⟨S_, .f32⟩
  | .hbm, ⟨41, _⟩ => ⟨S16x4096x8x1, .f32⟩
  | .hbm, ⟨42, _⟩ => ⟨S16x4096x8x1, .f32⟩
  | .hbm, ⟨43, _⟩ => ⟨S16x4096x8x1, .f32⟩
  | .hbm, ⟨44, _⟩ => ⟨S16x4096x8x64, .f32⟩
  | .hbm, ⟨45, _⟩ => ⟨S16x4096x8x64, .f32⟩
  | .hbm, ⟨46, _⟩ => ⟨S1x1x1x64, .f32⟩
  | .hbm, ⟨47, _⟩ => ⟨S16x4096x8x64, .f32⟩
  | .hbm, ⟨48, _⟩ => ⟨S16x4096x8x64, .f32⟩
  | .hbm, ⟨49, _⟩ => ⟨S_, .f32⟩
  | .hbm, ⟨50, _⟩ => ⟨S16x4096x8x64, .f32⟩
  | .hbm, ⟨51, _⟩ => ⟨S16x4096x8x64, .f32⟩
  | .hbm, ⟨52, _⟩ => ⟨S16x4096x8x64, .f32⟩
  | .hbm, ⟨53, _⟩ => ⟨S16x4096x8x64, .f32⟩
  | .hbm, ⟨54, _⟩ => ⟨S_, .f32⟩
  | .hbm, ⟨55, _⟩ => ⟨S16x4096x8, .f32⟩
  | .hbm, ⟨56, _⟩ => ⟨S16x4096x8x1, .f32⟩
  | .hbm, ⟨57, _⟩ => ⟨S_, .f32⟩
  | .hbm, ⟨58, _⟩ => ⟨S16x4096x8x1, .f32⟩
  | .hbm, ⟨59, _⟩ => ⟨S16x4096x8x1, .f32⟩
  | .hbm, ⟨60, _⟩ => ⟨S_, .f32⟩
  | .hbm, ⟨61, _⟩ => ⟨S16x4096x8x1, .f32⟩
  | .hbm, ⟨62, _⟩ => ⟨S16x4096x8x1, .f32⟩
  | .hbm, ⟨63, _⟩ => ⟨S16x4096x8x1, .f32⟩
  | .hbm, ⟨64, _⟩ => ⟨S16x4096x8x64, .f32⟩
  | .hbm, ⟨65, _⟩ => ⟨S16x4096x8x64, .f32⟩
  | .hbm, ⟨66, _⟩ => ⟨S1x1x1x64, .f32⟩
  | .hbm, ⟨67, _⟩ => ⟨S16x4096x8x64, .f32⟩
  | .hbm, ⟨68, _⟩ => ⟨S16x4096x8x64, .f32⟩
  | .hbm, ⟨69, _⟩ => ⟨S16x4096x512, .f32⟩
  | .hbm, ⟨70, _⟩ => ⟨S16x4096x512, .f32⟩
  | .hbm, ⟨71, _⟩ => ⟨S16x4096x512, .f32⟩
  | .hbm, ⟨72, _⟩ => ⟨S16x4096x512, .f32⟩
  | .hbm, ⟨73, _⟩ => ⟨S_, .f32⟩
  | .hbm, ⟨74, _⟩ => ⟨S16x4096x512, .f32⟩
  | .hbm, ⟨75, _⟩ => ⟨S16x4096x512, .f32⟩
  | .hbm, ⟨76, _⟩ => ⟨S_, .f32⟩
  | .hbm, ⟨77, _⟩ => ⟨S16x4096x512, .f32⟩
  | .hbm, ⟨78, _⟩ => ⟨S16x4096x512, .f32⟩
  | .hbm, ⟨79, _⟩ => ⟨S16x4096x512, .f32⟩
  | .hbm, ⟨80, _⟩ => ⟨S16x4126x512, .f32⟩
  | .hbm, ⟨81, _⟩ => ⟨S16x4096x512, .bf16⟩
  | .hbm, ⟨82, _⟩ => ⟨S16x4096x512, .bf16⟩
  | .hbm, ⟨83, _⟩ => ⟨S16x16x256x512, .f32⟩
  | .hbm, ⟨84, _⟩ => ⟨S16x16x512x256, .f32⟩
  | .hbm, ⟨85, _⟩ => ⟨S16x16x512x256, .bf16⟩
  | .hbm, ⟨86, _⟩ => ⟨S16x32x512, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Proof.KI.Common.lean ====
/-
  What the frame and the value proof of `KernelIdeal` share: the resource algebra, the variant of the two
  `scf.while` loops.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline
public import Idealize.ShloMosaic.Lib.Pipeline.Frame

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- The variant: how many trips of a loop are left. -/
abbrev 𝒱₀ : Variants := Variants.nat

end Cert.Proof.KI

end
-- ==== Proof.KI.Trip1.lean ====
/-
  One trip of the first query tile's loop over the key tiles, as the run finds it.
-/
module

public import proofs.«01_k».proof.Proof.KI.Common

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR nD τ) ℕ

/-- The number of key tiles strictly below the first query tile of point `i`, as the kernel computes it. -/
def nfull1 (i : grid0.Coords) : BitVec 32 :=
  let v3 : BitVec 32 := Scalar.addi 0#32 (Scalar.muli (Scalar.addi (Scalar.muli (BitVec.ofNat 32 (i 2).val) 2#32) 0#32) 256#32)
  let v4 : BitVec 32 := Scalar.divsi v3 256#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 256#32 0#32)) (Scalar.extui (Scalar.cmpi .slt 256#32 0#32))
  let v18 : BitVec 1 := Scalar.andi (Scalar.cmpi .ne v9 v14) (Scalar.cmpi .ne (Scalar.remsi v3 256#32) 0#32)
  Scalar.select v18 (Scalar.subi v4 1#32) v4

set_option maxRecDepth 65536 in
set_option maxHeartbeats 40000000 in
/-- What one trip leaves in the accumulator and in the carries and the flag it hands on, with the proof that the
    loop's body, entered with its test passing, runs to the next call holding these. -/
noncomputable def trip1Run (c : Dev nD) (i : grid0.Coords)
    (arg3 : Memref sig .tc .smem S1 .f32) (harg3 : arg3.IsWhole)
    (arg5 : Memref sig .tc .vmem S1x4096x512 .bf16) (harg5 : arg5.IsWhole)
    (arg6 : Memref sig .tc .vmem S1x16x512x256 .bf16) (harg6 : arg6.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (v298 : FVec F S256x256 .bf16) (x3 : Vec F S1 .f32) (x5 : Vec F S1x4096x512 .bf16)
    (x6 : Vec F S1x16x512x256 .bf16) (x8 : Vec F S8x256x128 .bf16) (x9 : Vec F S512x256 .f32) (x10 : Vec F S8x256 .f32)
    (arg11 : BitVec 32) (hchk : k0_chk1 i arg11) :
    { W : Vec F S512x256 .f32 × Vec F S8x256 .f32 × BitVec 1 //
      ∀ (bd : Option ℕ) (E : Set ℕ) (K : BitVec 32 × BitVec 1 → sProp 𝕄) (arg12 : BitVec 1)
        (hlt : Scalar.cmpi .slt arg11 (nfull1 i) = 1#1)
        (hmore : arg12 = 1#1),
        iprop(owns (c : Thread nD τ) arg3 fullShare x3 ∗ owns (c : Thread nD τ) arg5 fullShare x5
            ∗ owns (c : Thread nD τ) arg6 fullShare x6 ∗ owns (c : Thread nD τ) arg8 fullShare x8
            ∗ owns (c : Thread nD τ) arg9 fullShare x9 ∗ owns (c : Thread nD τ) arg10 fullShare x10
            ∗ (iprop(owns (c : Thread nD τ) arg3 fullShare x3 ∗ owns (c : Thread nD τ) arg5 fullShare x5
                ∗ owns (c : Thread nD τ) arg6 fullShare x6 ∗ owns (c : Thread nD τ) arg8 fullShare x8
                ∗ owns (c : Thread nD τ) arg9 fullShare W.1 ∗ owns (c : Thread nD τ) arg10 fullShare W.2.1)
              -∗ wp frame (wpE (defs₀ (F := F)) 𝒱₀ (c : Thread nD τ) bd) E
                (.op (.call (1 : (Λ₀ F).Label) ⟨i, arg5, harg5, arg8, harg8, v298, arg10, harg10, arg3, harg3, arg9, harg9, arg6, harg6, Scalar.addi arg11 1#32, W.2.2⟩) .ret) K))
          ⊢ wp frame (wpE (defs₀ (F := F)) 𝒱₀ (c : Thread nD τ) bd) E
            (cc0_while1 i arg5 harg5 arg8 harg8 v298 arg10 harg10 arg3 harg3 arg9 harg9 arg6 harg6 arg11 arg12) K } := by
  refine ⟨(?acc, ?carry, ?more), fun bd E K arg12 hlt hmore => ?run⟩
  case run =>
    subst hmore
    simp only [cc0_while1_eq_skeleton]
    unfold cc0_while1_skel
    rw [if_pos]
    swap
    · show Scalar.andi (Scalar.cmpi .slt arg11 (nfull1 i)) 1#1 = 1#1
      rw [hlt]; rfl
    unfold owns
    iintro ⟨⟨%f3, %hf3, H3⟩, ⟨%f5, %hf5, H5⟩, ⟨%f6, %hf6, H6⟩, ⟨%f8, %hf8, H8⟩, ⟨%f9, %hf9, H9⟩, ⟨%f10, %hf10, H10⟩, Hk⟩
    obtain rfl := harg3.eq_unread hf3
    obtain rfl := harg5.eq_unread hf5
    obtain rfl := harg6.eq_unread hf6
    obtain rfl := harg8.eq_unread hf8
    obtain rfl := harg9.eq_unread hf9
    obtain rfl := harg10.eq_unread hf10
    sl_exec_parts (disch := exact hchk)
    have e11 : trip1Run.sl.v1348 arg11 = Scalar.addi arg11 1#32 := rfl
    rw [e11]
    iapply Hk
    isplitl [H3]
    · iexists _; isplitr; swap; · iexact H3
      ipureintro; exact harg3.read_unread _
    isplitl [H5]
    · iexists _; isplitr; swap; · iexact H5
      ipureintro; exact harg5.read_unread _
    isplitl [H6]
    · iexists _; isplitr; swap; · iexact H6
      ipureintro; exact harg6.read_unread _
    isplitl [H8]
    · iexists _; isplitr; swap; · iexact H8
      ipureintro; exact harg8.read_unread _
    isplitl [H9]
    · iexists _; isplitr; swap; · iexact H9
      ipureintro; rfl
    iexists _; isplitr; swap; · iexact H10
    ipureintro; rfl

end Cert.Proof.KI

end
-- ==== Proof.KI.Trip2.lean ====
/-
  One trip of the second query tile's loop over the key tiles, as the run finds it.
-/
module

public import proofs.«01_k».proof.Proof.KI.Common

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR nD τ) ℕ

/-- The number of key tiles strictly below the second query tile of point `i`, as the kernel computes it. -/
def nfull2 (i : grid0.Coords) : BitVec 32 :=
  let v3 : BitVec 32 := Scalar.addi 0#32 (Scalar.muli (Scalar.addi (Scalar.muli (BitVec.ofNat 32 (i 2).val) 2#32) 1#32) 256#32)
  let v4 : BitVec 32 := Scalar.divsi v3 256#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 256#32 0#32)) (Scalar.extui (Scalar.cmpi .slt 256#32 0#32))
  let v18 : BitVec 1 := Scalar.andi (Scalar.cmpi .ne v9 v14) (Scalar.cmpi .ne (Scalar.remsi v3 256#32) 0#32)
  Scalar.select v18 (Scalar.subi v4 1#32) v4

set_option maxRecDepth 65536 in
set_option maxHeartbeats 40000000 in
/-- What one trip leaves in the accumulator and in the carries and the flag it hands on, with the proof that the
    loop's body, entered with its test passing, runs to the next call holding these. -/
noncomputable def trip2Run (c : Dev nD) (i : grid0.Coords)
    (arg3 : Memref sig .tc .smem S1 .f32) (harg3 : arg3.IsWhole)
    (arg5 : Memref sig .tc .vmem S1x4096x512 .bf16) (harg5 : arg5.IsWhole)
    (arg6 : Memref sig .tc .vmem S1x16x512x256 .bf16) (harg6 : arg6.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (v972 : FVec F S256x256 .bf16) (x3 : Vec F S1 .f32) (x5 : Vec F S1x4096x512 .bf16)
    (x6 : Vec F S1x16x512x256 .bf16) (x8 : Vec F S8x256x128 .bf16) (x9 : Vec F S512x256 .f32) (x10 : Vec F S8x256 .f32)
    (arg11 : BitVec 32) (hchk : k0_chk2 i arg11) :
    { W : Vec F S512x256 .f32 × Vec F S8x256 .f32 × BitVec 1 //
      ∀ (bd : Option ℕ) (E : Set ℕ) (K : BitVec 32 × BitVec 1 → sProp 𝕄) (arg12 : BitVec 1)
        (hlt : Scalar.cmpi .slt arg11 (nfull2 i) = 1#1)
        (hmore : arg12 = 1#1),
        iprop(owns (c : Thread nD τ) arg3 fullShare x3 ∗ owns (c : Thread nD τ) arg5 fullShare x5
            ∗ owns (c : Thread nD τ) arg6 fullShare x6 ∗ owns (c : Thread nD τ) arg8 fullShare x8
            ∗ owns (c : Thread nD τ) arg9 fullShare x9 ∗ owns (c : Thread nD τ) arg10 fullShare x10
            ∗ (iprop(owns (c : Thread nD τ) arg3 fullShare x3 ∗ owns (c : Thread nD τ) arg5 fullShare x5
                ∗ owns (c : Thread nD τ) arg6 fullShare x6 ∗ owns (c : Thread nD τ) arg8 fullShare x8
                ∗ owns (c : Thread nD τ) arg9 fullShare W.1 ∗ owns (c : Thread nD τ) arg10 fullShare W.2.1)
              -∗ wp frame (wpE (defs₀ (F := F)) 𝒱₀ (c : Thread nD τ) bd) E
                (.op (.call (2 : (Λ₀ F).Label) ⟨i, arg5, harg5, arg8, harg8, v972, arg10, harg10, arg3, harg3, arg9, harg9, arg6, harg6, Scalar.addi arg11 1#32, W.2.2⟩) .ret) K))
          ⊢ wp frame (wpE (defs₀ (F := F)) 𝒱₀ (c : Thread nD τ) bd) E
            (cc0_while2 i arg5 harg5 arg8 harg8 v972 arg10 harg10 arg3 harg3 arg9 harg9 arg6 harg6 arg11 arg12) K } := by
  refine ⟨(?acc, ?carry, ?more), fun bd E K arg12 hlt hmore => ?run⟩
  case run =>
    subst hmore
    simp only [cc0_while2_eq_skeleton]
    unfold cc0_while2_skel
    rw [if_pos]
    swap
    · show Scalar.andi (Scalar.cmpi .slt arg11 (nfull2 i)) 1#1 = 1#1
      rw [hlt]; rfl
    unfold owns
    iintro ⟨⟨%f3, %hf3, H3⟩, ⟨%f5, %hf5, H5⟩, ⟨%f6, %hf6, H6⟩, ⟨%f8, %hf8, H8⟩, ⟨%f9, %hf9, H9⟩, ⟨%f10, %hf10, H10⟩, Hk⟩
    obtain rfl := harg3.eq_unread hf3
    obtain rfl := harg5.eq_unread hf5
    obtain rfl := harg6.eq_unread hf6
    obtain rfl := harg8.eq_unread hf8
    obtain rfl := harg9.eq_unread hf9
    obtain rfl := harg10.eq_unread hf10
    sl_exec_parts (disch := exact hchk)
    have e11 : trip2Run.sl.v1348 arg11 = Scalar.addi arg11 1#32 := rfl
    rw [e11]
    iapply Hk
    isplitl [H3]
    · iexists _; isplitr; swap; · iexact H3
      ipureintro; exact harg3.read_unread _
    isplitl [H5]
    · iexists _; isplitr; swap; · iexact H5
      ipureintro; exact harg5.read_unread _
    isplitl [H6]
    · iexists _; isplitr; swap; · iexact H6
      ipureintro; exact harg6.read_unread _
    isplitl [H8]
    · iexists _; isplitr; swap; · iexact H8
      ipureintro; exact harg8.read_unread _
    isplitl [H9]
    · iexists _; isplitr; swap; · iexact H9
      ipureintro; rfl
    iexists _; isplitr; swap; · iexact H10
    ipureintro; rfl

end Cert.Proof.KI

end
-- ==== Proof.KI.Loops.lean ====
/-
  The key tiles below a query tile: how many there are, where trip `j` of each loop reads, that its check holds, and
  what the two loops leave, by induction on the trips left.
-/
module

public import proofs.«01_k».proof.Proof.KI.Trip1
public import proofs.«01_k».proof.Proof.KI.Trip2

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR nD τ) ℕ

/-! ## Words -/

/-- The tile trip `j` of `N` reads: `N - 1 - j`. -/
theorem word_tile (N j : ℕ) (hj : j < N) (hN : N < 16) :
    Scalar.subi (Scalar.subi (BitVec.ofNat 32 N) 1#32) (BitVec.ofNat 32 j) = BitVec.ofNat 32 (N - 1 - j) := by
  interval_cases N <;> interval_cases j <;> rfl

/-- Its first row. -/
theorem word_row : ∀ t < 16, (Scalar.muli (BitVec.ofNat 32 t) 256#32).toNat = 256 * t := by decide

theorem word_toNat : ∀ t < 16, (BitVec.ofNat 32 t).toNat = t := by decide

theorem word_slt : ∀ N < 16, ∀ j < N, Scalar.cmpi .slt (BitVec.ofNat 32 j) (BitVec.ofNat 32 N) = 1#1 := by decide

theorem word_not_slt : ∀ N < 16, Scalar.cmpi .slt (BitVec.ofNat 32 N) (BitVec.ofNat 32 N) = 0#1 := by decide

theorem word_succ : ∀ j < 16, Scalar.addi (BitVec.ofNat 32 j) 1#32 = BitVec.ofNat 32 (j + 1) := by decide

/-- The specification of a loop that takes `P` and leaves `Q`, whatever values it returns. -/
def lspec (P Q : sProp 𝕄) : sWPT 𝕄 (BitVec 32 × BitVec 1) := do
  sWPT.consume P
  let r ← sWPT.arbitrary
  sWPT.produce Q
  pure r

theorem lspec_apply (P Q : sProp 𝕄) (K : BitVec 32 × BitVec 1 → sProp 𝕄) :
    lspec P Q K = iprop(P ∗ ∀ r : BitVec 32 × BitVec 1, (Q -∗ K r)) := rfl

/-- The six memrefs the loops use, at what they hold. -/
def held (c : Dev nD)
    (arg3 : Memref sig .tc .smem S1 .f32) (arg5 : Memref sig .tc .vmem S1x4096x512 .bf16)
    (arg6 : Memref sig .tc .vmem S1x16x512x256 .bf16) (arg8 : Memref sig .tc .vmem S8x256x128 .bf16)
    (arg9 : Memref sig .tc .vmem S512x256 .f32) (arg10 : Memref sig .tc .vmem S8x256 .f32)
    (x3 : Vec F S1 .f32) (x5 : Vec F S1x4096x512 .bf16)
    (x6 : Vec F S1x16x512x256 .bf16) (x8 : Vec F S8x256x128 .bf16) (x9 : Vec F S512x256 .f32) (x10 : Vec F S8x256 .f32) :
    sProp 𝕄 :=
  iprop(owns (c : Thread nD τ) arg3 fullShare x3 ∗ owns (c : Thread nD τ) arg5 fullShare x5
    ∗ owns (c : Thread nD τ) arg6 fullShare x6 ∗ owns (c : Thread nD τ) arg8 fullShare x8
    ∗ owns (c : Thread nD τ) arg9 fullShare x9 ∗ owns (c : Thread nD τ) arg10 fullShare x10)

/-! ## The loop of query tile 0 -/

theorem nfull1_eq (i : grid0.Coords) : nfull1 i = BitVec.ofNat 32 (2 * (i 2).val) := by
  have h : (i 2).val < 8 := (i 2).isLt
  unfold nfull1
  generalize (i 2).val = n at h ⊢
  interval_cases n <;> rfl

theorem k0_off13_eq (i : grid0.Coords) (j : ℕ) (hj : j < 2 * (i 2).val) :
    k0_off13 i (BitVec.ofNat 32 j) = ![0, 256 * (2 * (i 2).val - 1 - j), 0] := by
  have h : (i 2).val < 8 := (i 2).isLt
  show ![0, (Scalar.muli (Scalar.subi (Scalar.subi (nfull1 i) 1#32) (BitVec.ofNat 32 j)) 256#32).toNat, 0] = _
  rw [nfull1_eq, word_tile _ _ hj (by omega), word_row _ (by omega)]

theorem k0_off14_eq (i : grid0.Coords) (j : ℕ) (hj : j < 2 * (i 2).val) :
    k0_off14 i (BitVec.ofNat 32 j) = ![0, 256 * (2 * (i 2).val - 1 - j), 128] := by
  have h : (i 2).val < 8 := (i 2).isLt
  show ![0, (Scalar.muli (Scalar.subi (Scalar.subi (nfull1 i) 1#32) (BitVec.ofNat 32 j)) 256#32).toNat, 128] = _
  rw [nfull1_eq, word_tile _ _ hj (by omega), word_row _ (by omega)]

theorem k0_off15_eq (i : grid0.Coords) (j : ℕ) (hj : j < 2 * (i 2).val) :
    k0_off15 i (BitVec.ofNat 32 j) = ![0, 256 * (2 * (i 2).val - 1 - j), 256] := by
  have h : (i 2).val < 8 := (i 2).isLt
  show ![0, (Scalar.muli (Scalar.subi (Scalar.subi (nfull1 i) 1#32) (BitVec.ofNat 32 j)) 256#32).toNat, 256] = _
  rw [nfull1_eq, word_tile _ _ hj (by omega), word_row _ (by omega)]

theorem k0_off16_eq (i : grid0.Coords) (j : ℕ) (hj : j < 2 * (i 2).val) :
    k0_off16 i (BitVec.ofNat 32 j) = ![0, 256 * (2 * (i 2).val - 1 - j), 384] := by
  have h : (i 2).val < 8 := (i 2).isLt
  show ![0, (Scalar.muli (Scalar.subi (Scalar.subi (nfull1 i) 1#32) (BitVec.ofNat 32 j)) 256#32).toNat, 384] = _
  rw [nfull1_eq, word_tile _ _ hj (by omega), word_row _ (by omega)]

theorem k0_off17_eq (i : grid0.Coords) (j : ℕ) (hj : j < 2 * (i 2).val) :
    k0_off17 i (BitVec.ofNat 32 j) = ![0, 2 * (i 2).val - 1 - j, 0, 0] := by
  have h : (i 2).val < 8 := (i 2).isLt
  show ![0, (Scalar.subi (Scalar.subi (nfull1 i) 1#32) (BitVec.ofNat 32 j)).toNat, 0, 0] = _
  rw [nfull1_eq, word_tile _ _ hj (by omega), word_toNat _ (by omega)]

theorem k0_off18_eq (i : grid0.Coords) (j : ℕ) (hj : j < 2 * (i 2).val) :
    k0_off18 i (BitVec.ofNat 32 j) = ![0, 2 * (i 2).val - 1 - j, 64, 0] := by
  have h : (i 2).val < 8 := (i 2).isLt
  show ![0, (Scalar.subi (Scalar.subi (nfull1 i) 1#32) (BitVec.ofNat 32 j)).toNat, 64, 0] = _
  rw [nfull1_eq, word_tile _ _ hj (by omega), word_toNat _ (by omega)]

theorem k0_off19_eq (i : grid0.Coords) (j : ℕ) (hj : j < 2 * (i 2).val) :
    k0_off19 i (BitVec.ofNat 32 j) = ![0, 2 * (i 2).val - 1 - j, 128, 0] := by
  have h : (i 2).val < 8 := (i 2).isLt
  show ![0, (Scalar.subi (Scalar.subi (nfull1 i) 1#32) (BitVec.ofNat 32 j)).toNat, 128, 0] = _
  rw [nfull1_eq, word_tile _ _ hj (by omega), word_toNat _ (by omega)]

theorem k0_off20_eq (i : grid0.Coords) (j : ℕ) (hj : j < 2 * (i 2).val) :
    k0_off20 i (BitVec.ofNat 32 j) = ![0, 2 * (i 2).val - 1 - j, 192, 0] := by
  have h : (i 2).val < 8 := (i 2).isLt
  show ![0, (Scalar.subi (Scalar.subi (nfull1 i) 1#32) (BitVec.ofNat 32 j)).toNat, 192, 0] = _
  rw [nfull1_eq, word_tile _ _ hj (by omega), word_toNat _ (by omega)]

theorem k0_off21_eq (i : grid0.Coords) (j : ℕ) (hj : j < 2 * (i 2).val) :
    k0_off21 i (BitVec.ofNat 32 j) = ![0, 2 * (i 2).val - 1 - j, 256, 0] := by
  have h : (i 2).val < 8 := (i 2).isLt
  show ![0, (Scalar.subi (Scalar.subi (nfull1 i) 1#32) (BitVec.ofNat 32 j)).toNat, 256, 0] = _
  rw [nfull1_eq, word_tile _ _ hj (by omega), word_toNat _ (by omega)]

theorem k0_off22_eq (i : grid0.Coords) (j : ℕ) (hj : j < 2 * (i 2).val) :
    k0_off22 i (BitVec.ofNat 32 j) = ![0, 2 * (i 2).val - 1 - j, 320, 0] := by
  have h : (i 2).val < 8 := (i 2).isLt
  show ![0, (Scalar.subi (Scalar.subi (nfull1 i) 1#32) (BitVec.ofNat 32 j)).toNat, 320, 0] = _
  rw [nfull1_eq, word_tile _ _ hj (by omega), word_toNat _ (by omega)]

theorem k0_off23_eq (i : grid0.Coords) (j : ℕ) (hj : j < 2 * (i 2).val) :
    k0_off23 i (BitVec.ofNat 32 j) = ![0, 2 * (i 2).val - 1 - j, 384, 0] := by
  have h : (i 2).val < 8 := (i 2).isLt
  show ![0, (Scalar.subi (Scalar.subi (nfull1 i) 1#32) (BitVec.ofNat 32 j)).toNat, 384, 0] = _
  rw [nfull1_eq, word_tile _ _ hj (by omega), word_toNat _ (by omega)]

theorem k0_off24_eq (i : grid0.Coords) (j : ℕ) (hj : j < 2 * (i 2).val) :
    k0_off24 i (BitVec.ofNat 32 j) = ![0, 2 * (i 2).val - 1 - j, 448, 0] := by
  have h : (i 2).val < 8 := (i 2).isLt
  show ![0, (Scalar.subi (Scalar.subi (nfull1 i) 1#32) (BitVec.ofNat 32 j)).toNat, 448, 0] = _
  rw [nfull1_eq, word_tile _ _ hj (by omega), word_toNat _ (by omega)]

theorem chk1 (i : grid0.Coords) (j : ℕ) (hj : j < 2 * (i 2).val) : k0_chk1 i (BitVec.ofNat 32 j) := by
  have h : (i 2).val < 8 := (i 2).isLt
  unfold k0_chk1
  refine ⟨?_, ?_, ?_, ?_, ?_, ?_, ?_, ?_, ?_, ?_, ?_, ?_, ?_⟩
  · show 256 ∣ (Scalar.muli (Scalar.subi (Scalar.subi (nfull1 i) 1#32) (BitVec.ofNat 32 j)) 256#32).toNat
    rw [nfull1_eq, word_tile _ _ hj (by omega), word_row _ (by omega)]
    exact dvd_mul_right _ _
  · rw [k0_off13_eq i j hj]; intro a; fin_cases a <;> simp [S1x256x128, S1x4096x512] <;> omega
  · rw [k0_off14_eq i j hj]; intro a; fin_cases a <;> simp [S1x256x128, S1x4096x512] <;> omega
  · rw [k0_off15_eq i j hj]; intro a; fin_cases a <;> simp [S1x256x128, S1x4096x512] <;> omega
  · rw [k0_off16_eq i j hj]; intro a; fin_cases a <;> simp [S1x256x128, S1x4096x512] <;> omega
  · rw [k0_off17_eq i j hj]; intro a; fin_cases a <;> simp [S1x1x64x256, S1x16x512x256] <;> omega
  · rw [k0_off18_eq i j hj]; intro a; fin_cases a <;> simp [S1x1x64x256, S1x16x512x256] <;> omega
  · rw [k0_off19_eq i j hj]; intro a; fin_cases a <;> simp [S1x1x64x256, S1x16x512x256] <;> omega
  · rw [k0_off20_eq i j hj]; intro a; fin_cases a <;> simp [S1x1x64x256, S1x16x512x256] <;> omega
  · rw [k0_off21_eq i j hj]; intro a; fin_cases a <;> simp [S1x1x64x256, S1x16x512x256] <;> omega
  · rw [k0_off22_eq i j hj]; intro a; fin_cases a <;> simp [S1x1x64x256, S1x16x512x256] <;> omega
  · rw [k0_off23_eq i j hj]; intro a; fin_cases a <;> simp [S1x1x64x256, S1x16x512x256] <;> omega
  · rw [k0_off24_eq i j hj]; intro a; fin_cases a <;> simp [S1x1x64x256, S1x16x512x256] <;> omega

section
variable (c : Dev nD) (i : grid0.Coords)
    (arg3 : Memref sig .tc .smem S1 .f32) (harg3 : arg3.IsWhole)
    (arg5 : Memref sig .tc .vmem S1x4096x512 .bf16) (harg5 : arg5.IsWhole)
    (arg6 : Memref sig .tc .vmem S1x16x512x256 .bf16) (harg6 : arg6.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (suf : FVec F S256x256 .bf16) (x3 : Vec F S1 .f32) (x5 : Vec F S1x4096x512 .bf16)
    (x6 : Vec F S1x16x512x256 .bf16) (x8 : Vec F S8x256x128 .bf16)

/-- What the loop leaves in the accumulator and the carries with `k` trips left, entered with the flag `more`. -/
def loop1 : (k : ℕ) → k ≤ 2 * (i 2).val → Vec F S512x256 .f32 → Vec F S8x256 .f32 → BitVec 1 → Vec F S512x256 .f32 × Vec F S8x256 .f32
  | 0, _, A, C, _ => (A, C)
  | k + 1, hk, A, C, more =>
    if more = 1#1 then
      loop1 k (by omega)
        (trip1Run c i arg3 harg3 arg5 harg5 arg6 harg6 arg8 harg8 arg9 harg9 arg10 harg10 suf x3 x5 x6 x8 A C
          (BitVec.ofNat 32 (2 * (i 2).val - (k + 1))) (chk1 i _ (by omega))).1.1
        (trip1Run c i arg3 harg3 arg5 harg5 arg6 harg6 arg8 harg8 arg9 harg9 arg10 harg10 suf x3 x5 x6 x8 A C
          (BitVec.ofNat 32 (2 * (i 2).val - (k + 1))) (chk1 i _ (by omega))).1.2.1
        (trip1Run c i arg3 harg3 arg5 harg5 arg6 harg6 arg8 harg8 arg9 harg9 arg10 harg10 suf x3 x5 x6 x8 A C
          (BitVec.ofNat 32 (2 * (i 2).val - (k + 1))) (chk1 i _ (by omega))).1.2.2
    else (A, C)

/-- The loop entered with `k` trips left meets its specification. -/
theorem spec1_le (E : Set ℕ) : ∀ (k : ℕ) (hk : k ≤ 2 * (i 2).val) (A : Vec F S512x256 .f32) (C : Vec F S8x256 .f32) (more : BitVec 1)
    (K : BitVec 32 × BitVec 1 → sProp 𝕄),
    lspec (held c arg3 arg5 arg6 arg8 arg9 arg10 x3 x5 x6 x8 A C)
        (held c arg3 arg5 arg6 arg8 arg9 arg10 x3 x5 x6 x8
          (loop1 c i arg3 harg3 arg5 harg5 arg6 harg6 arg8 harg8 arg9 harg9 arg10 harg10 suf x3 x5 x6 x8 k hk A C more).1
          (loop1 c i arg3 harg3 arg5 harg5 arg6 harg6 arg8 harg8 arg9 harg9 arg10 harg10 suf x3 x5 x6 x8 k hk A C more).2) K
      ⊢ wp frame (wpE (defs₀ (F := F)) 𝒱₀ (c : Thread nD τ) (some k)) E
          (defs₀ (F := F) .tc 1 ⟨i, arg5, harg5, arg8, harg8, suf, arg10, harg10, arg3, harg3, arg9, harg9, arg6, harg6,
            BitVec.ofNat 32 (2 * (i 2).val - k), more⟩) K := by
  have hi : (i 2).val < 8 := (i 2).isLt
  intro k
  induction k with
  | zero =>
    intro hk A C more K
    rw [lspec_apply]
    show _ ⊢ wp frame (wpE (defs₀ (F := F)) 𝒱₀ (c : Thread nD τ) (some 0)) E
      (cc0_while1 i arg5 harg5 arg8 harg8 suf arg10 harg10 arg3 harg3 arg9 harg9 arg6 harg6 (BitVec.ofNat 32 (2 * (i 2).val - 0)) more) K
    simp only [cc0_while1_eq_skeleton]
    unfold cc0_while1_skel
    rw [if_neg]
    swap
    · show ¬ Scalar.andi (Scalar.cmpi .slt (BitVec.ofNat 32 (2 * (i 2).val - 0)) (nfull1 i)) more = 1#1
      rw [nfull1_eq, Nat.sub_zero, word_not_slt _ (by omega)]
      revert more; decide
    iintro ⟨H, Hk⟩
    rw [show (pure (BitVec.ofNat 32 (2 * (i 2).val - 0), more) : Prog (TpuEff nD τ sig (Elt F) (Λ₀ F) .tc) (BitVec 32 × BitVec 1)) = .ret _ from rfl, wp_ret]
    imodintro
    iapply Hk
    simp only [loop1]
    iexact H
  | succ k ih =>
    intro hk A C more K
    rw [lspec_apply]
    show _ ⊢ wp frame (wpE (defs₀ (F := F)) 𝒱₀ (c : Thread nD τ) (some (k + 1))) E
      (cc0_while1 i arg5 harg5 arg8 harg8 suf arg10 harg10 arg3 harg3 arg9 harg9 arg6 harg6 (BitVec.ofNat 32 (2 * (i 2).val - (k + 1))) more) K
    by_cases hm : more = 1#1
    · have hlt : Scalar.cmpi .slt (BitVec.ofNat 32 (2 * (i 2).val - (k + 1))) (nfull1 i) = 1#1 := by
        rw [nfull1_eq]; exact word_slt _ (by omega) _ (by omega)
      have hrun := (trip1Run c i arg3 harg3 arg5 harg5 arg6 harg6 arg8 harg8 arg9 harg9 arg10 harg10 suf x3 x5 x6 x8 A C
          (BitVec.ofNat 32 (2 * (i 2).val - (k + 1))) (chk1 i _ (by omega))).2 (some (k + 1)) E K more hlt hm
      rw [loop1, if_pos hm]
      generalize (trip1Run c i arg3 harg3 arg5 harg5 arg6 harg6 arg8 harg8 arg9 harg9 arg10 harg10 suf x3 x5 x6 x8 A C
          (BitVec.ofNat 32 (2 * (i 2).val - (k + 1))) (chk1 i _ (by omega))).1 = W at hrun ⊢
      unfold held at *
      iintro ⟨⟨H3, H5, H6, H8, H9, H10⟩, Hk⟩
      iapply hrun
      isplitl [H3]; · iexact H3
      isplitl [H5]; · iexact H5
      isplitl [H6]; · iexact H6
      isplitl [H8]; · iexact H8
      isplitl [H9]; · iexact H9
      isplitl [H10]; · iexact H10
      iintro ⟨H3, H5, H6, H8, H9, H10⟩
      rw [word_succ _ (by omega), show 2 * (i 2).val - (k + 1) + 1 = 2 * (i 2).val - k by omega]
      iapply (wp_call_spec 𝒱₀ (c : Thread nD τ) (some (k + 1)) E _ k
        (fun u hu => by cases hu; exact Nat.lt_succ_self k) (ih (by omega) W.1 W.2.1 W.2.2))
      rw [lspec_apply]
      isplitl [H3 H5 H6 H8 H9 H10]
      · isplitl [H3]; · iexact H3
        isplitl [H5]; · iexact H5
        isplitl [H6]; · iexact H6
        isplitl [H8]; · iexact H8
        isplitl [H9]; · iexact H9
        iexact H10
      iintro %r H
      rw [wp_ret]; imodintro
      iapply Hk
      iexact H
    · simp only [cc0_while1_eq_skeleton]
      unfold cc0_while1_skel
      rw [if_neg]
      swap
      · show ¬ Scalar.andi (Scalar.cmpi .slt (BitVec.ofNat 32 (2 * (i 2).val - (k + 1))) (nfull1 i)) more = 1#1
        generalize Scalar.cmpi .slt (BitVec.ofNat 32 (2 * (i 2).val - (k + 1))) (nfull1 i) = b
        revert hm; revert more b; decide
      iintro ⟨H, Hk⟩
      rw [show (pure (BitVec.ofNat 32 (2 * (i 2).val - (k + 1)), more) : Prog (TpuEff nD τ sig (Elt F) (Λ₀ F) .tc) (BitVec 32 × BitVec 1)) = .ret _ from rfl, wp_ret]
      imodintro
      iapply Hk
      rw [loop1, if_neg hm]
      iexact H

/-- The call of the loop from the kernel's body. -/
theorem call1 (E : Set ℕ) (A : Vec F S512x256 .f32) (C : Vec F S8x256 .f32) (more : BitVec 1) {α : Type}
    (kont : BitVec 32 × BitVec 1 → Prog (TpuEff nD τ sig (Elt F) (Λ₀ F) .tc) α) (Q : α → sProp 𝕄) :
    iprop(held c arg3 arg5 arg6 arg8 arg9 arg10 x3 x5 x6 x8 A C
        ∗ ∀ r : BitVec 32 × BitVec 1, held c arg3 arg5 arg6 arg8 arg9 arg10 x3 x5 x6 x8
            (loop1 c i arg3 harg3 arg5 harg5 arg6 harg6 arg8 harg8 arg9 harg9 arg10 harg10 suf x3 x5 x6 x8 (2 * (i 2).val) le_rfl A C more).1
            (loop1 c i arg3 harg3 arg5 harg5 arg6 harg6 arg8 harg8 arg9 harg9 arg10 harg10 suf x3 x5 x6 x8 (2 * (i 2).val) le_rfl A C more).2
          -∗ wp frame (wpE (defs₀ (F := F)) 𝒱₀ (c : Thread nD τ) none) E (kont r) Q)
      ⊢ wp frame (wpE (defs₀ (F := F)) 𝒱₀ (c : Thread nD τ) none) E
          (.op (.call (1 : (Λ₀ F).Label) ⟨i, arg5, harg5, arg8, harg8, suf, arg10, harg10, arg3, harg3, arg9, harg9, arg6, harg6,
            0#32, more⟩) kont) Q := by
  have h := spec1_le c i arg3 harg3 arg5 harg5 arg6 harg6 arg8 harg8 arg9 harg9 arg10 harg10 suf x3 x5 x6 x8 E (2 * (i 2).val) le_rfl A C more
  rw [Nat.sub_self] at h
  iintro ⟨H, Hk⟩
  iapply (wp_call_spec 𝒱₀ (c : Thread nD τ) none E (lspec _ _) (2 * (i 2).val) (fun u hu => nomatch hu) h)
  rw [lspec_apply]
  isplitl [H]; · iexact H
  iexact Hk

end

/-! ## The loop of query tile 1 -/

theorem nfull2_eq (i : grid0.Coords) : nfull2 i = BitVec.ofNat 32 (2 * (i 2).val + 1) := by
  have h : (i 2).val < 8 := (i 2).isLt
  unfold nfull2
  generalize (i 2).val = n at h ⊢
  interval_cases n <;> rfl

theorem k0_off25_eq (i : grid0.Coords) (j : ℕ) (hj : j < 2 * (i 2).val + 1) :
    k0_off25 i (BitVec.ofNat 32 j) = ![0, 256 * (2 * (i 2).val + 1 - 1 - j), 0] := by
  have h : (i 2).val < 8 := (i 2).isLt
  show ![0, (Scalar.muli (Scalar.subi (Scalar.subi (nfull2 i) 1#32) (BitVec.ofNat 32 j)) 256#32).toNat, 0] = _
  rw [nfull2_eq, word_tile _ _ hj (by omega), word_row _ (by omega)]

theorem k0_off26_eq (i : grid0.Coords) (j : ℕ) (hj : j < 2 * (i 2).val + 1) :
    k0_off26 i (BitVec.ofNat 32 j) = ![0, 256 * (2 * (i 2).val + 1 - 1 - j), 128] := by
  have h : (i 2).val < 8 := (i 2).isLt
  show ![0, (Scalar.muli (Scalar.subi (Scalar.subi (nfull2 i) 1#32) (BitVec.ofNat 32 j)) 256#32).toNat, 128] = _
  rw [nfull2_eq, word_tile _ _ hj (by omega), word_row _ (by omega)]

theorem k0_off27_eq (i : grid0.Coords) (j : ℕ) (hj : j < 2 * (i 2).val + 1) :
    k0_off27 i (BitVec.ofNat 32 j) = ![0, 256 * (2 * (i 2).val + 1 - 1 - j), 256] := by
  have h : (i 2).val < 8 := (i 2).isLt
  show ![0, (Scalar.muli (Scalar.subi (Scalar.subi (nfull2 i) 1#32) (BitVec.ofNat 32 j)) 256#32).toNat, 256] = _
  rw [nfull2_eq, word_tile _ _ hj (by omega), word_row _ (by omega)]

theorem k0_off28_eq (i : grid0.Coords) (j : ℕ) (hj : j < 2 * (i 2).val + 1) :
    k0_off28 i (BitVec.ofNat 32 j) = ![0, 256 * (2 * (i 2).val + 1 - 1 - j), 384] := by
  have h : (i 2).val < 8 := (i 2).isLt
  show ![0, (Scalar.muli (Scalar.subi (Scalar.subi (nfull2 i) 1#32) (BitVec.ofNat 32 j)) 256#32).toNat, 384] = _
  rw [nfull2_eq, word_tile _ _ hj (by omega), word_row _ (by omega)]

theorem k0_off29_eq (i : grid0.Coords) (j : ℕ) (hj : j < 2 * (i 2).val + 1) :
    k0_off29 i (BitVec.ofNat 32 j) = ![0, 2 * (i 2).val + 1 - 1 - j, 0, 0] := by
  have h : (i 2).val < 8 := (i 2).isLt
  show ![0, (Scalar.subi (Scalar.subi (nfull2 i) 1#32) (BitVec.ofNat 32 j)).toNat, 0, 0] = _
  rw [nfull2_eq, word_tile _ _ hj (by omega), word_toNat _ (by omega)]

theorem k0_off30_eq (i : grid0.Coords) (j : ℕ) (hj : j < 2 * (i 2).val + 1) :
    k0_off30 i (BitVec.ofNat 32 j) = ![0, 2 * (i 2).val + 1 - 1 - j, 64, 0] := by
  have h : (i 2).val < 8 := (i 2).isLt
  show ![0, (Scalar.subi (Scalar.subi (nfull2 i) 1#32) (BitVec.ofNat 32 j)).toNat, 64, 0] = _
  rw [nfull2_eq, word_tile _ _ hj (by omega), word_toNat _ (by omega)]

theorem k0_off31_eq (i : grid0.Coords) (j : ℕ) (hj : j < 2 * (i 2).val + 1) :
    k0_off31 i (BitVec.ofNat 32 j) = ![0, 2 * (i 2).val + 1 - 1 - j, 128, 0] := by
  have h : (i 2).val < 8 := (i 2).isLt
  show ![0, (Scalar.subi (Scalar.subi (nfull2 i) 1#32) (BitVec.ofNat 32 j)).toNat, 128, 0] = _
  rw [nfull2_eq, word_tile _ _ hj (by omega), word_toNat _ (by omega)]

theorem k0_off32_eq (i : grid0.Coords) (j : ℕ) (hj : j < 2 * (i 2).val + 1) :
    k0_off32 i (BitVec.ofNat 32 j) = ![0, 2 * (i 2).val + 1 - 1 - j, 192, 0] := by
  have h : (i 2).val < 8 := (i 2).isLt
  show ![0, (Scalar.subi (Scalar.subi (nfull2 i) 1#32) (BitVec.ofNat 32 j)).toNat, 192, 0] = _
  rw [nfull2_eq, word_tile _ _ hj (by omega), word_toNat _ (by omega)]

theorem k0_off33_eq (i : grid0.Coords) (j : ℕ) (hj : j < 2 * (i 2).val + 1) :
    k0_off33 i (BitVec.ofNat 32 j) = ![0, 2 * (i 2).val + 1 - 1 - j, 256, 0] := by
  have h : (i 2).val < 8 := (i 2).isLt
  show ![0, (Scalar.subi (Scalar.subi (nfull2 i) 1#32) (BitVec.ofNat 32 j)).toNat, 256, 0] = _
  rw [nfull2_eq, word_tile _ _ hj (by omega), word_toNat _ (by omega)]

theorem k0_off34_eq (i : grid0.Coords) (j : ℕ) (hj : j < 2 * (i 2).val + 1) :
    k0_off34 i (BitVec.ofNat 32 j) = ![0, 2 * (i 2).val + 1 - 1 - j, 320, 0] := by
  have h : (i 2).val < 8 := (i 2).isLt
  show ![0, (Scalar.subi (Scalar.subi (nfull2 i) 1#32) (BitVec.ofNat 32 j)).toNat, 320, 0] = _
  rw [nfull2_eq, word_tile _ _ hj (by omega), word_toNat _ (by omega)]

theorem k0_off35_eq (i : grid0.Coords) (j : ℕ) (hj : j < 2 * (i 2).val + 1) :
    k0_off35 i (BitVec.ofNat 32 j) = ![0, 2 * (i 2).val + 1 - 1 - j, 384, 0] := by
  have h : (i 2).val < 8 := (i 2).isLt
  show ![0, (Scalar.subi (Scalar.subi (nfull2 i) 1#32) (BitVec.ofNat 32 j)).toNat, 384, 0] = _
  rw [nfull2_eq, word_tile _ _ hj (by omega), word_toNat _ (by omega)]

theorem k0_off36_eq (i : grid0.Coords) (j : ℕ) (hj : j < 2 * (i 2).val + 1) :
    k0_off36 i (BitVec.ofNat 32 j) = ![0, 2 * (i 2).val + 1 - 1 - j, 448, 0] := by
  have h : (i 2).val < 8 := (i 2).isLt
  show ![0, (Scalar.subi (Scalar.subi (nfull2 i) 1#32) (BitVec.ofNat 32 j)).toNat, 448, 0] = _
  rw [nfull2_eq, word_tile _ _ hj (by omega), word_toNat _ (by omega)]

theorem chk2 (i : grid0.Coords) (j : ℕ) (hj : j < 2 * (i 2).val + 1) : k0_chk2 i (BitVec.ofNat 32 j) := by
  have h : (i 2).val < 8 := (i 2).isLt
  unfold k0_chk2
  refine ⟨?_, ?_, ?_, ?_, ?_, ?_, ?_, ?_, ?_, ?_, ?_, ?_, ?_⟩
  · show 256 ∣ (Scalar.muli (Scalar.subi (Scalar.subi (nfull2 i) 1#32) (BitVec.ofNat 32 j)) 256#32).toNat
    rw [nfull2_eq, word_tile _ _ hj (by omega), word_row _ (by omega)]
    exact dvd_mul_right _ _
  · rw [k0_off25_eq i j hj]; intro a; fin_cases a <;> simp [S1x256x128, S1x4096x512] <;> omega
  · rw [k0_off26_eq i j hj]; intro a; fin_cases a <;> simp [S1x256x128, S1x4096x512] <;> omega
  · rw [k0_off27_eq i j hj]; intro a; fin_cases a <;> simp [S1x256x128, S1x4096x512] <;> omega
  · rw [k0_off28_eq i j hj]; intro a; fin_cases a <;> simp [S1x256x128, S1x4096x512] <;> omega
  · rw [k0_off29_eq i j hj]; intro a; fin_cases a <;> simp [S1x1x64x256, S1x16x512x256] <;> omega
  · rw [k0_off30_eq i j hj]; intro a; fin_cases a <;> simp [S1x1x64x256, S1x16x512x256] <;> omega
  · rw [k0_off31_eq i j hj]; intro a; fin_cases a <;> simp [S1x1x64x256, S1x16x512x256] <;> omega
  · rw [k0_off32_eq i j hj]; intro a; fin_cases a <;> simp [S1x1x64x256, S1x16x512x256] <;> omega
  · rw [k0_off33_eq i j hj]; intro a; fin_cases a <;> simp [S1x1x64x256, S1x16x512x256] <;> omega
  · rw [k0_off34_eq i j hj]; intro a; fin_cases a <;> simp [S1x1x64x256, S1x16x512x256] <;> omega
  · rw [k0_off35_eq i j hj]; intro a; fin_cases a <;> simp [S1x1x64x256, S1x16x512x256] <;> omega
  · rw [k0_off36_eq i j hj]; intro a; fin_cases a <;> simp [S1x1x64x256, S1x16x512x256] <;> omega

section
variable (c : Dev nD) (i : grid0.Coords)
    (arg3 : Memref sig .tc .smem S1 .f32) (harg3 : arg3.IsWhole)
    (arg5 : Memref sig .tc .vmem S1x4096x512 .bf16) (harg5 : arg5.IsWhole)
    (arg6 : Memref sig .tc .vmem S1x16x512x256 .bf16) (harg6 : arg6.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (suf : FVec F S256x256 .bf16) (x3 : Vec F S1 .f32) (x5 : Vec F S1x4096x512 .bf16)
    (x6 : Vec F S1x16x512x256 .bf16) (x8 : Vec F S8x256x128 .bf16)

/-- What the loop leaves in the accumulator and the carries with `k` trips left, entered with the flag `more`. -/
def loop2 : (k : ℕ) → k ≤ 2 * (i 2).val + 1 → Vec F S512x256 .f32 → Vec F S8x256 .f32 → BitVec 1 → Vec F S512x256 .f32 × Vec F S8x256 .f32
  | 0, _, A, C, _ => (A, C)
  | k + 1, hk, A, C, more =>
    if more = 1#1 then
      loop2 k (by omega)
        (trip2Run c i arg3 harg3 arg5 harg5 arg6 harg6 arg8 harg8 arg9 harg9 arg10 harg10 suf x3 x5 x6 x8 A C
          (BitVec.ofNat 32 (2 * (i 2).val + 1 - (k + 1))) (chk2 i _ (by omega))).1.1
        (trip2Run c i arg3 harg3 arg5 harg5 arg6 harg6 arg8 harg8 arg9 harg9 arg10 harg10 suf x3 x5 x6 x8 A C
          (BitVec.ofNat 32 (2 * (i 2).val + 1 - (k + 1))) (chk2 i _ (by omega))).1.2.1
        (trip2Run c i arg3 harg3 arg5 harg5 arg6 harg6 arg8 harg8 arg9 harg9 arg10 harg10 suf x3 x5 x6 x8 A C
          (BitVec.ofNat 32 (2 * (i 2).val + 1 - (k + 1))) (chk2 i _ (by omega))).1.2.2
    else (A, C)

/-- The loop entered with `k` trips left meets its specification. -/
theorem spec2_le (E : Set ℕ) : ∀ (k : ℕ) (hk : k ≤ 2 * (i 2).val + 1) (A : Vec F S512x256 .f32) (C : Vec F S8x256 .f32) (more : BitVec 1)
    (K : BitVec 32 × BitVec 1 → sProp 𝕄),
    lspec (held c arg3 arg5 arg6 arg8 arg9 arg10 x3 x5 x6 x8 A C)
        (held c arg3 arg5 arg6 arg8 arg9 arg10 x3 x5 x6 x8
          (loop2 c i arg3 harg3 arg5 harg5 arg6 harg6 arg8 harg8 arg9 harg9 arg10 harg10 suf x3 x5 x6 x8 k hk A C more).1
          (loop2 c i arg3 harg3 arg5 harg5 arg6 harg6 arg8 harg8 arg9 harg9 arg10 harg10 suf x3 x5 x6 x8 k hk A C more).2) K
      ⊢ wp frame (wpE (defs₀ (F := F)) 𝒱₀ (c : Thread nD τ) (some k)) E
          (defs₀ (F := F) .tc 2 ⟨i, arg5, harg5, arg8, harg8, suf, arg10, harg10, arg3, harg3, arg9, harg9, arg6, harg6,
            BitVec.ofNat 32 (2 * (i 2).val + 1 - k), more⟩) K := by
  have hi : (i 2).val < 8 := (i 2).isLt
  intro k
  induction k with
  | zero =>
    intro hk A C more K
    rw [lspec_apply]
    show _ ⊢ wp frame (wpE (defs₀ (F := F)) 𝒱₀ (c : Thread nD τ) (some 0)) E
      (cc0_while2 i arg5 harg5 arg8 harg8 suf arg10 harg10 arg3 harg3 arg9 harg9 arg6 harg6 (BitVec.ofNat 32 (2 * (i 2).val + 1 - 0)) more) K
    simp only [cc0_while2_eq_skeleton]
    unfold cc0_while2_skel
    rw [if_neg]
    swap
    · show ¬ Scalar.andi (Scalar.cmpi .slt (BitVec.ofNat 32 (2 * (i 2).val + 1 - 0)) (nfull2 i)) more = 1#1
      rw [nfull2_eq, Nat.sub_zero, word_not_slt _ (by omega)]
      revert more; decide
    iintro ⟨H, Hk⟩
    rw [show (pure (BitVec.ofNat 32 (2 * (i 2).val + 1 - 0), more) : Prog (TpuEff nD τ sig (Elt F) (Λ₀ F) .tc) (BitVec 32 × BitVec 1)) = .ret _ from rfl, wp_ret]
    imodintro
    iapply Hk
    simp only [loop2]
    iexact H
  | succ k ih =>
    intro hk A C more K
    rw [lspec_apply]
    show _ ⊢ wp frame (wpE (defs₀ (F := F)) 𝒱₀ (c : Thread nD τ) (some (k + 1))) E
      (cc0_while2 i arg5 harg5 arg8 harg8 suf arg10 harg10 arg3 harg3 arg9 harg9 arg6 harg6 (BitVec.ofNat 32 (2 * (i 2).val + 1 - (k + 1))) more) K
    by_cases hm : more = 1#1
    · have hlt : Scalar.cmpi .slt (BitVec.ofNat 32 (2 * (i 2).val + 1 - (k + 1))) (nfull2 i) = 1#1 := by
        rw [nfull2_eq]; exact word_slt _ (by omega) _ (by omega)
      have hrun := (trip2Run c i arg3 harg3 arg5 harg5 arg6 harg6 arg8 harg8 arg9 harg9 arg10 harg10 suf x3 x5 x6 x8 A C
          (BitVec.ofNat 32 (2 * (i 2).val + 1 - (k + 1))) (chk2 i _ (by omega))).2 (some (k + 1)) E K more hlt hm
      rw [loop2, if_pos hm]
      generalize (trip2Run c i arg3 harg3 arg5 harg5 arg6 harg6 arg8 harg8 arg9 harg9 arg10 harg10 suf x3 x5 x6 x8 A C
          (BitVec.ofNat 32 (2 * (i 2).val + 1 - (k + 1))) (chk2 i _ (by omega))).1 = W at hrun ⊢
      unfold held at *
      iintro ⟨⟨H3, H5, H6, H8, H9, H10⟩, Hk⟩
      iapply hrun
      isplitl [H3]; · iexact H3
      isplitl [H5]; · iexact H5
      isplitl [H6]; · iexact H6
      isplitl [H8]; · iexact H8
      isplitl [H9]; · iexact H9
      isplitl [H10]; · iexact H10
      iintro ⟨H3, H5, H6, H8, H9, H10⟩
      rw [word_succ _ (by omega), show 2 * (i 2).val + 1 - (k + 1) + 1 = 2 * (i 2).val + 1 - k by omega]
      iapply (wp_call_spec 𝒱₀ (c : Thread nD τ) (some (k + 1)) E _ k
        (fun u hu => by cases hu; exact Nat.lt_succ_self k) (ih (by omega) W.1 W.2.1 W.2.2))
      rw [lspec_apply]
      isplitl [H3 H5 H6 H8 H9 H10]
      · isplitl [H3]; · iexact H3
        isplitl [H5]; · iexact H5
        isplitl [H6]; · iexact H6
        isplitl [H8]; · iexact H8
        isplitl [H9]; · iexact H9
        iexact H10
      iintro %r H
      rw [wp_ret]; imodintro
      iapply Hk
      iexact H
    · simp only [cc0_while2_eq_skeleton]
      unfold cc0_while2_skel
      rw [if_neg]
      swap
      · show ¬ Scalar.andi (Scalar.cmpi .slt (BitVec.ofNat 32 (2 * (i 2).val + 1 - (k + 1))) (nfull2 i)) more = 1#1
        generalize Scalar.cmpi .slt (BitVec.ofNat 32 (2 * (i 2).val + 1 - (k + 1))) (nfull2 i) = b
        revert hm; revert more b; decide
      iintro ⟨H, Hk⟩
      rw [show (pure (BitVec.ofNat 32 (2 * (i 2).val + 1 - (k + 1)), more) : Prog (TpuEff nD τ sig (Elt F) (Λ₀ F) .tc) (BitVec 32 × BitVec 1)) = .ret _ from rfl, wp_ret]
      imodintro
      iapply Hk
      rw [loop2, if_neg hm]
      iexact H

/-- The call of the loop from the kernel's body. -/
theorem call2 (E : Set ℕ) (A : Vec F S512x256 .f32) (C : Vec F S8x256 .f32) (more : BitVec 1) {α : Type}
    (kont : BitVec 32 × BitVec 1 → Prog (TpuEff nD τ sig (Elt F) (Λ₀ F) .tc) α) (Q : α → sProp 𝕄) :
    iprop(held c arg3 arg5 arg6 arg8 arg9 arg10 x3 x5 x6 x8 A C
        ∗ ∀ r : BitVec 32 × BitVec 1, held c arg3 arg5 arg6 arg8 arg9 arg10 x3 x5 x6 x8
            (loop2 c i arg3 harg3 arg5 harg5 arg6 harg6 arg8 harg8 arg9 harg9 arg10 harg10 suf x3 x5 x6 x8 (2 * (i 2).val + 1) le_rfl A C more).1
            (loop2 c i arg3 harg3 arg5 harg5 arg6 harg6 arg8 harg8 arg9 harg9 arg10 harg10 suf x3 x5 x6 x8 (2 * (i 2).val + 1) le_rfl A C more).2
          -∗ wp frame (wpE (defs₀ (F := F)) 𝒱₀ (c : Thread nD τ) none) E (kont r) Q)
      ⊢ wp frame (wpE (defs₀ (F := F)) 𝒱₀ (c : Thread nD τ) none) E
          (.op (.call (2 : (Λ₀ F).Label) ⟨i, arg5, harg5, arg8, harg8, suf, arg10, harg10, arg3, harg3, arg9, harg9, arg6, harg6,
            0#32, more⟩) kont) Q := by
  have h := spec2_le c i arg3 harg3 arg5 harg5 arg6 harg6 arg8 harg8 arg9 harg9 arg10 harg10 suf x3 x5 x6 x8 E (2 * (i 2).val + 1) le_rfl A C more
  rw [Nat.sub_self] at h
  iintro ⟨H, Hk⟩
  iapply (wp_call_spec 𝒱₀ (c : Thread nD τ) none E (lspec _ _) (2 * (i 2).val + 1) (fun u hu => nomatch hu) h)
  rw [lspec_apply]
  isplitl [H]; · iexact H
  iexact Hk

end

end Cert.Proof.KI

end
-- ==== Proof.KI.Body.lean ====
/-
  The kernel's body at one point, as the run finds it, between and around its two loops.
-/
module

public import proofs.«01_k».proof.Proof.KI.Loops

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR nD τ) ℕ

set_option maxRecDepth 65536 in
set_option maxHeartbeats 40000000 in
/-- What the body leaves in the result's buffer, with the proof that it runs to it. -/
noncomputable def bodyRun (c : Dev nD) (i : grid0.Coords)
    (arg3 : Memref sig .tc .smem S1 .f32) (harg3 : arg3.IsWhole)
    (arg4 : Memref sig .tc .vmem S1x512x512 .bf16) (harg4 : arg4.IsWhole)
    (arg5 : Memref sig .tc .vmem S1x4096x512 .bf16) (harg5 : arg5.IsWhole)
    (arg6 : Memref sig .tc .vmem S1x16x512x256 .bf16) (harg6 : arg6.IsWhole)
    (arg7 : Memref sig .tc .vmem S1x512x512 .bf16) (harg7 : arg7.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (x3 : Vec F S1 .f32) (x4 : Vec F S1x512x512 .bf16) (x5 : Vec F S1x4096x512 .bf16) (x6 : Vec F S1x16x512x256 .bf16) :
    { Y : Vec F S1x512x512 .bf16 //
      ∀ (E : Set ℕ) (K : PUnit → sProp 𝕄),
        iprop(owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg3 fullShare x3 ∗ owns (c : Thread nD τ) arg4 fullShare x4
                ∗ owns (c : Thread nD τ) arg5 fullShare x5 ∗ owns (c : Thread nD τ) arg6 fullShare x6
                ∗ owns (c : Thread nD τ) arg7 fullShare Y ∗ (∃ d, owns (c : Thread nD τ) arg8 fullShare d)
                ∗ (∃ d, owns (c : Thread nD τ) arg9 fullShare d) ∗ (∃ d, owns (c : Thread nD τ) arg10 fullShare d))
              -∗ K ⟨⟩))
          ⊢ wp frame (wpE (defs₀ (F := F)) 𝒱₀ (c : Thread nD τ) none) E
            (cc0_sb_attention i arg3 harg3 arg4 harg4 arg5 harg5 arg6 harg6 arg7 harg7 arg8 harg8 arg9 harg9 arg10 harg10) K } := by
  refine ⟨?Y, fun E K => ?run⟩
  case run =>
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg3.eq_unread hf3
    obtain rfl := harg4.eq_unread hf4
    obtain rfl := harg5.eq_unread hf5
    obtain rfl := harg6.eq_unread hf6
    sl_unfold [cc0_sb_attention]
    sl_exec_parts!
    iapply (call1 c i arg3 harg3 arg5 harg5 arg6 harg6 arg8 harg8 arg9 harg9 arg10 harg10)
    unfold held owns
    isplitl [H3 H5 H6 H8 H9 H10]
    · isplitl [H3]
      · iexists _; isplitr; swap; · iexact H3
        ipureintro; exact harg3.read_unread _
      isplitl [H5]
      · iexists _; isplitr; swap; · iexact H5
        ipureintro; exact harg5.read_unread _
      isplitl [H6]
      · iexists _; isplitr; swap; · iexact H6
        ipureintro; exact harg6.read_unread _
      isplitl [H8]
      · iexists _; isplitr; swap; · iexact H8
        ipureintro; rfl
      isplitl [H9]
      · iexists _; isplitr; swap; · iexact H9
        ipureintro; rfl
      iexists _; isplitr; swap; · iexact H10
      ipureintro; rfl
    iintro %r ⟨⟨%f3', %hf3', H3⟩, ⟨%f5', %hf5', H5⟩, ⟨%f6', %hf6', H6⟩, ⟨%f8', %hf8', H8⟩, ⟨%f9', %hf9', H9⟩, ⟨%f10', %hf10', H10⟩⟩
    obtain rfl := harg3.eq_unread hf3'
    obtain rfl := harg5.eq_unread hf5'
    obtain rfl := harg6.eq_unread hf6'
    obtain rfl := harg9.eq_unread hf9'
    clear hf8' hf10'
    sl_exec_parts!
    iapply (call2 c i arg3 harg3 arg5 harg5 arg6 harg6 arg8 harg8 arg9 harg9 arg10 harg10)
    unfold held owns
    isplitl [H3 H5 H6 H8 H9 H10]
    · isplitl [H3]
      · iexists _; isplitr; swap; · iexact H3
        ipureintro; exact harg3.read_unread _
      isplitl [H5]
      · iexists _; isplitr; swap; · iexact H5
        ipureintro; exact harg5.read_unread _
      isplitl [H6]
      · iexists _; isplitr; swap; · iexact H6
        ipureintro; exact harg6.read_unread _
      isplitl [H8]
      · iexists _; isplitr; swap; · iexact H8
        ipureintro; rfl
      isplitl [H9]
      · iexists _; isplitr; swap; · iexact H9
        ipureintro; rfl
      iexists _; isplitr; swap; · iexact H10
      ipureintro; rfl
    iintro %r ⟨⟨%f3', %hf3', H3⟩, ⟨%f5', %hf5', H5⟩, ⟨%f6', %hf6', H6⟩, ⟨%f8', %hf8', H8⟩, ⟨%f9', %hf9', H9⟩, ⟨%f10', %hf10', H10⟩⟩
    obtain rfl := harg3.eq_unread hf3'
    obtain rfl := harg5.eq_unread hf5'
    obtain rfl := harg6.eq_unread hf6'
    obtain rfl := harg9.eq_unread hf9'
    clear hf8' hf10'
    sl_exec_parts!
    sl_step
    iapply Hk
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    iexists _; iexists _; isplitr; swap; · iexact H10
    ipureintro; rfl

end Cert.Proof.KI

end
-- ==== Proof.KI.Run.lean ====
/-
  The run of `KernelIdeal`'s @main: the host operations, then the region, at the body's run of `Body.lean`; its frame.
-/
module

public import proofs.«01_k».proof.Proof.KI.Body
public import Idealize.ShloMosaic.Lib.Pipeline.FrameBody

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]
variable (m : (ℓ : Loc nD τ sig) → Buf (Elt F) ℓ)

local notation "𝕄" => MT nD τ sig Unit (Elt F) ℕ (UR nD τ) ℕ

/-- The TensorCore's buffers when the region is entered: after the host operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  repeat' constructor

set_option maxHeartbeats 4000000 in
theorem hmain : Pipeline.HMain (Ix := Unit) (Name := ℕ) (U := UR nD τ) (Lvl := ℕ) cfgs 0 defs₀ 𝒱₀ m (main (F := F)) (V m) :=
  Pipeline.hmain_prefix cfgs 0 defs₀ 𝒱₀ m main hostOps0 hostOps0_sub host_fresh main_chain

/-- Window `w`'s block at point `t`, off the arrays at the region's entry. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the body leaves in the result's block at point `t`. -/
def outAt (c : Dev nD) (t : Fin (cfg0 (F := F)).N) : Vec F S1x512x512 .bf16 :=
  (bodyRun c (grid0.coords t)
    (win0_0.stage ((cfg0 (F := F)).slots t 0)) (hstage0_0 (((cfg0 (F := F)).slots t 0).cast nbuf0_0))
    (win0_1.stage ((cfg0 (F := F)).slots t 1)) (hstage0_1 (((cfg0 (F := F)).slots t 1).cast nbuf0_1))
    (win0_2.stage ((cfg0 (F := F)).slots t 2)) (hstage0_2 (((cfg0 (F := F)).slots t 2).cast nbuf0_2))
    (win0_3.stage ((cfg0 (F := F)).slots t 3)) (hstage0_3 (((cfg0 (F := F)).slots t 3).cast nbuf0_3))
    (win0_4.stage ((cfg0 (F := F)).slots t 4)) (hstage0_4 (((cfg0 (F := F)).slots t 4).cast nbuf0_4))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t)).1

/-- The proof data: the inputs' blocks stay, the result's is what the body leaves. -/
def dats (_ : Fin 1) (c : Dev nD) : Dat τ (Elt F) Unit ℕ (UR nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := ΦA spec0 c
  q _ := fullShare
  owed _ := 0

theorem after0_0 (c : Dev nD) (t) : (dats m 0 c).after 0 t = iblk m c 0 t := rfl
theorem after0_1 (c : Dev nD) (t) : (dats m 0 c).after 1 t = iblk m c 1 t := rfl
theorem after0_2 (c : Dev nD) (t) : (dats m 0 c).after 2 t = iblk m c 2 t := rfl
theorem after0_3 (c : Dev nD) (t) : (dats m 0 c).after 3 t = iblk m c 3 t := rfl
theorem after0_4 (c : Dev nD) (t) : (dats m 0 c).after 4 t = outAt m c t := rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; rfl) t d).trans rfl
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; rfl) t d).trans rfl
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; rfl) t d).trans rfl
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; rfl) t d).trans rfl

set_option maxHeartbeats 4000000 in
theorem body_obligation (c : Dev nD) : BodyObligation (dats (F := F) m 0 c) (defs₀ (F := F)) 𝒱₀ () Set.univ := fun t => by
  rw [bigSep_W0, bigSep_W0]
  sl_whnfR [defs₀, Defs.onTc]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = ΦA spec0 c from rfl]
  unfold ΦA
  rw [scopedRest0_eq]
  simp only [← owns_whole]
  iintro ⟨⟨⟨⟨%f8, H8⟩, ⟨%f9, H9⟩, ⟨%f10, H10⟩⟩, Hr⟩, Ho, ⟨%d0, H0⟩, ⟨%d1, H1⟩, ⟨%d2, H2⟩, ⟨%d3, H3⟩, ⟨%d4, H4⟩⟩
  unfold outAt
  iapply ((bodyRun c _ _ _ _ _ _ _ _ _ _ _ _ _ _ _ _ _
    (iblk m c 0 t) (iblk m c 1 t) (iblk m c 2 t) (iblk m c 3 t)).2 Set.univ _)
  isplitl [H0]; · rw [before0_0 m c t d0]; iexact H0
  isplitl [H1]; · rw [before0_1 m c t d1]; iexact H1
  isplitl [H2]; · rw [before0_2 m c t d2]; iexact H2
  isplitl [H3]; · rw [before0_3 m c t d3]; iexact H3
  isplitl [H4]; · iexists _; iexact H4
  isplitl [H8]; · iexists _; iexact H8
  isplitl [H9]; · iexists _; iexact H9
  isplitl [H10]; · iexists _; iexact H10
  iintro ⟨H0, H1, H2, H3, H4, ⟨%g8, H8⟩, ⟨%g9, H9⟩, ⟨%g10, H10⟩⟩
  isplitl [H8 H9 H10 Hr]
  · isplitl [H8 H9 H10]
    · isplitl [H8]; · iexists _; iexact H8
      isplitl [H9]; · iexists _; iexact H9
      iexists _; iexact H10
    · iexact Hr
  isplitl [Ho]; · iexact Ho
  isplitl [H0]; · iexact H0
  isplitl [H1]; · iexact H1
  isplitl [H2]; · iexact H2
  isplitl [H3]; · iexact H3
  iexact H4

set_option backward.isDefEq.respectTransparency.types false in
/-- The run: every fair execution terminates, the arrays hold what the proof data computes. -/
theorem run_main (ρ : Dev nD → PrngReg) : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := fun _ _ => rfl) (hΦ := fun _ _ => rfl)

/-! ## No host operation writes an argument -/

/-- A reference below the first result is written by none of them. -/
theorem not_written {b : Ref sig .tc} (hb : b ∈ [main_arg0, main_arg1, main_arg2, main_arg3, main_arg4]) :
    ∀ op ∈ (hostOps0 : List (HloOp τ sig (Elt F))), Proc.devRef .tc b ∉ op.writes := by
  refine List.forall_iff_forall_mem.mp ?_
  have key : ∀ b ∈ [main_arg0, main_arg1, main_arg2, main_arg3, main_arg4], ∀ r ∈ [main_v0, main_v1, main_cst, main_v2, main_v3, main_v4, main_cst_0, main_v5, main_cst_1, main_v6, main_cst_2, main_v7, main_v8, main_v9, main_v10, main_v11, main_v12, main_v13, main_v14, main_v15, main_cst_3, main_v16, main_v17, main_v18], b ≠ r := by decide
  have k1 := key b hb
  simp only [List.Forall]
  repeat' apply And.intro
  all_goals exact fun h => StableHlo.devRef_ne_of_ne (k1 _ (by simp)) (Finset.mem_singleton.mp h)

theorem V_arg0 (c : Dev nD) : V m c main_arg0 = m ((c : Thread nD τ).loc main_arg0) :=
  StableHlo.after_of_forall_not_mem (b := Proc.devRef .tc main_arg0) _ _ (not_written (by decide))
theorem V_arg1 (c : Dev nD) : V m c main_arg1 = m ((c : Thread nD τ).loc main_arg1) :=
  StableHlo.after_of_forall_not_mem (b := Proc.devRef .tc main_arg1) _ _ (not_written (by decide))
theorem V_arg2 (c : Dev nD) : V m c main_arg2 = m ((c : Thread nD τ).loc main_arg2) :=
  StableHlo.after_of_forall_not_mem (b := Proc.devRef .tc main_arg2) _ _ (not_written (by decide))
theorem V_arg3 (c : Dev nD) : V m c main_arg3 = m ((c : Thread nD τ).loc main_arg3) :=
  StableHlo.after_of_forall_not_mem (b := Proc.devRef .tc main_arg3) _ _ (not_written (by decide))
theorem V_arg4 (c : Dev nD) : V m c main_arg4 = m ((c : Thread nD τ).loc main_arg4) :=
  StableHlo.after_of_forall_not_mem (b := Proc.devRef .tc main_arg4) _ _ (not_written (by decide))

/-- What the frame says of a final state. -/
theorem args_kept {r : PUnit × MemSt nD τ sig (Elt F)} (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).2 main_arg0 (Pipeline.mem_restRefs_of main_arg0 (by decide) (show ∀ w, (spec0 w).arr.view.ref ≠ main_arg0 by decide))).trans (V_arg0 m c),
   ((h c).2 main_arg1 (Pipeline.mem_restRefs_of main_arg1 (by decide) (show ∀ w, (spec0 w).arr.view.ref ≠ main_arg1 by decide))).trans (V_arg1 m c),
   ((h c).2 main_arg2 (Pipeline.mem_restRefs_of main_arg2 (by decide) (show ∀ w, (spec0 w).arr.view.ref ≠ main_arg2 by decide))).trans (V_arg2 m c),
   ((h c).2 main_arg3 (Pipeline.mem_restRefs_of main_arg3 (by decide) (show ∀ w, (spec0 w).arr.view.ref ≠ main_arg3 by decide))).trans (V_arg3 m c),
   ((h c).2 main_arg4 (Pipeline.mem_restRefs_of main_arg4 (by decide) (show ∀ w, (spec0 w).arr.view.ref ≠ main_arg4 by decide))).trans (V_arg4 m c)⟩

/-- What a final state holds in the result. -/
theorem result_eq {r : PUnit × MemSt nD τ sig (Elt F)} (h : Pipeline.FramePost cfgs (dats m) 0 (V m) r) (c : Dev nD) :
    r.2.mem ((c : Thread nD τ).loc main_v19) = (dats m 0 c).arrAt 4 (cfg0 (F := F)).N := (h c).1 4

end Cert.Proof.KI

end

end
-- ==== Proof.K.Common.lean ====
/-
  What the frame and the value proof of `Kernel` share: the resource algebra, the variant of the two
  `scf.while` loops.
-/
module

public import proofs.«01_k».proof.Proof.Gen.Kernel.Skeleton
public import proofs.«01_k».proof.Proof.Gen.Kernel.Launch
public import proofs.«01_k».proof.Proof.Gen.Kernel.Points
public import Idealize.ShloMosaic.Lib.Tactic
import Mathlib.Tactic.IntervalCases
public import Idealize.ShloMosaic.Lib.Pipeline
public import Idealize.ShloMosaic.Lib.Pipeline.Frame

@[expose] public section

noncomputable section

namespace Cert.Proof.K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- The variant: how many trips of a loop are left. -/
abbrev 𝒱₀ : Variants := Variants.nat

end Cert.Proof.K

end
-- ==== Proof.Frames.lean ====
/-
  The frames of the three programs, and the two named constants.
-/
module

public import proofs.«01_k».proof.Defs
public import proofs.«01_k».proof.Proof.KI.Run
public import proofs.«01_k».proof.Proof.K.Run
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_kernel : Cert.quiescent_Kernel (hKernel := Cert.Kernel.Gen.facts) := fun m g _ =>
  (θ_run _ _ _).mono (fun _ h => ⟨fun c => K.args_kept m h.1 c, h.2⟩) (K.run_main m g)

theorem frame_ideal : Cert.quiescent_KernelIdeal (hKernelIdeal := Cert.KernelIdeal.Gen.facts) := fun m g _ =>
  (θ_run _ _ _).mono (fun _ h => ⟨fun c => KI.args_kept m h.1 c, h.2⟩) (KI.run_main m g)

theorem frame_reference : Cert.quiescent_ReferenceIdeal (hReferenceIdeal := Cert.ReferenceIdeal.Gen.facts) := fun m g _ =>
  (θ_run _ _ _).mono (fun _ h => ⟨fun c => (h c).2, sem_eq_zero_of_no_sems rfl _⟩) (Cert.ReferenceIdeal.Value.run m g)

theorem preserved : Cert.preserves_Kernel_KernelIdeal :=
  ⟨IdealRules.named_const.statement Cert.KernelIdeal.κ "neg_log2_e" .f32 _ _ rfl,
    IdealRules.named_const.statement Cert.KernelIdeal.κ "exp_underflow" .f32 _ _ rfl⟩

end Cert.Proof

end

end
-- ==== Proof.KI.Head.lean ====
/-
  One head of one key tile, as functions of what the trip reads, and what they hold entry by entry.
-/
module

public import proofs.«01_k».proof.Proof.KI.Common
public import Idealize.ShloMosaic.Lib.MatmulPlain
public import Idealize.ShloMosaic.Lib.ValueIdx
public import Idealize.ShloMosaic.Lib.ValueLayout
public import Idealize.ShloMosaic.Lib.Pointwise

@[expose] public section

noncomputable section

namespace Cert.Proof.KI

open Cert.KernelIdeal Cert.KernelIdeal.Gen

open Idealize.ShloMosaic hiding ix1 ix2 ix3 ix4
open Idealize.ShloMosaic.ValueIdx
open Idealize.ShloMosaic.TcCoe

/-- The scores of a key tile against the query tile, keys down and queries across. -/
def hz (kb qb : FVec Ideal S1x256x128 .bf16) : FVec Ideal S256x256 .f32 :=
  matmul dot_S256x128_S256x128_S256x256_1_1_0_0_n_n none (shapeCast S256x128 kb shapeCasts_S1x256x128_S256x128)
    (shapeCast S256x128 qb shapeCasts_S1x256x128_S256x128) (constant S256x256 .f32 0x00000000#32)

/-- The softplus of the scores. -/
def hsp (z : FVec Ideal S256x256 .f32) : FVec Ideal S256x256 .f32 :=
  addf (maximumf z (broadcast S256x256 (Scalar.ofBits .f32 0x00000000#32)))
    (log (addf (broadcast S256x256 (Scalar.ofBits .f32 0x3F800000#32))
      (exp2 (mulf (absf z) (broadcast S256x256 (Named.named κ "neg_log2_e" 0xBFB8AA3B#32))))))

/-- The sums down a tile, from each key on. -/
def hw (suf : FVec Ideal S256x256 .bf16) (sp : FVec Ideal S256x256 .f32) : FVec Ideal S256x256 .f32 :=
  matmul dot_S256x256_S256x256_S256x256_1_0_0_1_n_n none suf (truncf .bf16 sp bitsLt_bf16_f32)
    (constant S256x256 .f32 0x00000000#32)

/-- The carry a tile hands on. -/
def hcar (w : FVec Ideal S256x256 .f32) (l : FVec Ideal S1x256 .f32) : FVec Ideal S1x256 .f32 :=
  addf l (extractStridedSlice S1x256 ![0, 0] w slices_S256x256_o0_0_S1x256)

/-- The weights. -/
def ha (z w : FVec Ideal S256x256 .f32) (l : FVec Ideal S1x256 .f32) : FVec Ideal S256x256 .f32 :=
  exp (subf z (addf w (broadcastTo S256x256 l broadcasts_S1x256_S256x256)))

/-- The accumulator's rows of a head after a tile. -/
def hacc (old : FVec Ideal S64x256 .f32) (vb : FVec Ideal S1x1x64x256 .bf16) (a : FVec Ideal S256x256 .f32) :
    FVec Ideal S64x256 .f32 :=
  shapeCast S64x256 (addf old (matmul dot_S64x256_S256x256_S64x256_1_0_0_1_n_n none (shapeCast S64x256 vb shapeCasts_S1x1x64x256_S64x256)
    (truncf .bf16 a bitsLt_bf16_f32) (constant S64x256 .f32 0x00000000#32))) shapeCasts_S64x256_S64x256

/-- The softplus of a number. -/
def spR (x : ℝ) : ℝ := max x 0 + Real.log (1 + Real.exp (-|x|))

theorem coe_sumR {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_maxR (x y : ℝ) : max (x : EReal) (y : EReal) = ((max x y : ℝ) : EReal) :=
  (EReal.coe_strictMono.monotone.map_max).symm

theorem absf_coeR (r : ℝ) : (FloatOps.absf (F := Ideal) (φ := .f32) (r : EReal) : EReal) = ((|r| : ℝ) : EReal) := by
  show max (r : EReal) (-(r : EReal)) = _
  rw [← EReal.coe_neg, coe_maxR]
  rfl

theorem exp2_coeR (r : ℝ) :
    (FloatOps.exp2 (F := Ideal) (φ := .f32) ((r : EReal) * ((-((Real.log 2)⁻¹) : ℝ) : EReal)) : EReal)
      = ((Real.exp (-r) : ℝ) : EReal) := by
  rw [← EReal.coe_mul]
  show ((Real.rpow 2 (r * -(Real.log 2)⁻¹) : ℝ) : EReal) = _
  refine congrArg _ ?_
  have h2 : Real.log 2 ≠ 0 := (Real.log_pos (by norm_num)).ne'
  show (2 : ℝ) ^ (r * -(Real.log 2)⁻¹) = _
  rw [Real.rpow_def_of_pos (by norm_num)]
  congr 1
  field_simp

theorem log_coeR (r : ℝ) (h : 0 ≤ r) : Ideal.log (1 + (r : EReal)) = ((Real.log (1 + r) : ℝ) : EReal) := by
  rw [← EReal.coe_one, ← EReal.coe_add, Ideal.log_coe, if_neg (by linarith)]

theorem hz_apply (kb qb : FVec Ideal S1x256x128 .bf16) (a b : Fin 256) :
    hz kb qb (ix2 a b) = ∑ l : Fin 128, (kb (ix3 (0 : Fin 1) a l) * qb (ix3 (0 : Fin 1) b l) : EReal) := by
  unfold hz
  refine (Ideal.matmul_transposedRhs_apply (M := 256) (K := 128) (N := 256) none _ _ _ a b).trans ?_
  simp only [shapeCast_1ab_ab_apply, constant_apply]
  simp

theorem spR_named : (((Named.named (F := Ideal) κ "neg_log2_e" 0xBFB8AA3B#32 : Ideal .f32)) : EReal) = ((-((Real.log 2)⁻¹) : ℝ) : EReal) := by
  rfl

theorem hsp_apply (z : FVec Ideal S256x256 .f32) (i : S256x256.Idx) (r : ℝ) (h : z i = (r : EReal)) :
    hsp z i = ((spR r : ℝ) : EReal) := by
  unfold hsp
  pointwise
  rw [h, spR_named]
  rw [absf_coeR, exp2_coeR, log_coeR _ (Real.exp_pos _).le, ← EReal.coe_zero, coe_maxR, ← EReal.coe_add]
  rfl

theorem hw_apply (suf : FVec Ideal S256x256 .bf16) (sp : FVec Ideal S256x256 .f32) (s : Fin 256 → Fin 256 → ℝ)
    (hsuf : ∀ a b : Fin 256, suf (ix2 a b) = ((if a ≤ b then 1 else 0 : ℝ) : EReal))
    (hs : ∀ a b : Fin 256, sp (ix2 a b) = ((s a b : ℝ) : EReal)) (a b : Fin 256) :
    hw suf sp (ix2 a b) = ((∑ k : Fin 256, if a ≤ k then s k b else 0 : ℝ) : EReal) := by
  unfold hw
  refine (Ideal.matmul_plain_apply (M := 256) (K := 256) (N := 256) none _ _ _ a b).trans ?_
  simp only [hsuf, truncf_apply, hs, constant_apply]
  rw [Ideal.ofBits_zero, zero_add, coe_sumR]
  refine Finset.sum_congr rfl fun k _ => ?_
  rw [← EReal.coe_mul]
  split_ifs <;> simp

theorem hcar_apply (w : FVec Ideal S256x256 .f32) (l : FVec Ideal S1x256 .f32) (b : Fin 256) :
    hcar w l (ix2 (0 : Fin 1) b) = (l (ix2 (0 : Fin 1) b) + w (ix2 (0 : Fin 256) b) : EReal) := by
  unfold hcar
  pointwise
  rfl

theorem ha_apply (z w : FVec Ideal S256x256 .f32) (l : FVec Ideal S1x256 .f32) (a b : Fin 256) (zr wr lr : ℝ)
    (hz : z (ix2 a b) = (zr : EReal)) (hw : w (ix2 a b) = (wr : EReal)) (hl : l (ix2 (0 : Fin 1) b) = (lr : EReal)) :
    ha z w l (ix2 a b) = ((Real.exp (zr - (wr + lr)) : ℝ) : EReal) := by
  unfold ha
  pointwise
  rw [hz, hw, show l (Idealize.ShloMosaic.ix2 (0 : Fin 1) (ix2 a b 1)) = (lr : EReal) from hl,
    ← EReal.coe_add, ← EReal.coe_sub, Ideal.exp_coe]

theorem shapeCast_11ab (vb : FVec Ideal S1x1x64x256 .bf16) (r : Fin 64) (k : Fin 256) :
    shapeCast S64x256 vb shapeCasts_S1x1x64x256_S64x256 (ix2 r k) = vb (ix4 (0 : Fin 1) (0 : Fin 1) r k) :=
  congrArg vb (reshapeEquiv_ix2_11ab _ r k)

theorem hacc_apply (old : FVec Ideal S64x256 .f32) (vb : FVec Ideal S1x1x64x256 .bf16) (a : FVec Ideal S256x256 .f32)
    (r : Fin 64) (b : Fin 256) :
    hacc old vb a (ix2 r b)
      = (old (ix2 r b) + ∑ k : Fin 256, (vb (ix4 (0 : Fin 1) (0 : Fin 1) r k) * a (ix2 k b) : EReal) : EReal) := by
  unfold hacc
  rw [shapeCast_self]
  refine (addf_apply _ _ _).trans ?_
  refine congrArg (old (ix2 r b) + ·) ?_
  refine (Ideal.matmul_plain_apply (M := 64) (K := 256) (N := 256) none _ _ _ r b).trans ?_
  simp only [truncf_apply, constant_apply]
  rw [Ideal.ofBits_zero, zero_add]
  refine Finset.sum_congr rfl fun k _ => ?_
  rw [shapeCast_11ab]

end Cert.Proof.KI

end
end
-- ==== Proof.KI.Reads.lean ====
/-
  What the loads of a trip read, coordinate by coordinate, and what its stores leave.
-/
module

public import proofs.«01_k».proof.Proof.KI.Head

@[expose] public section

noncomputable section

namespace Cert.Proof.KI

open Cert.KernelIdeal Cert.KernelIdeal.Gen

open Idealize.ShloMosaic hiding ix1 ix2 ix3 ix4 eq_ix2
open Idealize.ShloMosaic.ValueIdx
open Idealize.ShloMosaic.TcCoe

theorem rd5 (a : Memref sig .tc .vmem S1x4096x512 .bf16) (ha : a.IsWhole) (x : FVec Ideal S1x4096x512 .bf16)
    (Kn : ℕ → ℕ → EReal) (hK : ∀ y, x y = Kn (y 1).val (y 2).val) (off : Fin 3 → ℕ) (inb) (r0 c0 : ℕ)
    (hoff : off = ![0, r0, c0]) (r : Fin 256) (l : Fin 128) :
    View.readAt (Elt Ideal) a.view (Rect.unit (s := S1x4096x512) off S1x256x128.size inb).toLoadRect (ha.unread x) (ix3 (0 : Fin 1) r l)
      = Kn (r0 + r.val) (c0 + l.val) := by
  subst hoff
  rw [View.readAt_eq_ld, ha.read_unread]
  refine (hK _).trans ?_
  show Kn (r0 + 1 * r.val) (c0 + 1 * l.val) = _
  rw [one_mul, one_mul]

theorem rd8 (a : Memref sig .tc .vmem S8x256x128 .bf16) (ha : a.IsWhole) (x : FVec Ideal S8x256x128 .bf16)
    (Qn : ℕ → ℕ → ℕ → EReal) (hQ : ∀ y, x y = Qn (y 0).val (y 1).val (y 2).val) (h : ℕ) (inb) (r : Fin 256) (l : Fin 128) :
    View.readAt (Elt Ideal) a.view (Rect.unit (s := S8x256x128) ![h, 0, 0] S1x256x128.size inb).toLoadRect (ha.unread x) (ix3 (0 : Fin 1) r l)
      = Qn h r.val l.val := by
  rw [View.readAt_eq_ld, ha.read_unread]
  refine (hQ _).trans ?_
  show Qn (h + 1 * 0) (0 + 1 * r.val) (0 + 1 * l.val) = _
  simp only [one_mul, zero_add, add_zero]

theorem rd6 (a : Memref sig .tc .vmem S1x16x512x256 .bf16) (ha : a.IsWhole) (x : FVec Ideal S1x16x512x256 .bf16)
    (Vn : ℕ → ℕ → ℕ → EReal) (hV : ∀ y, x y = Vn (y 1).val (y 2).val (y 3).val) (off : Fin 4 → ℕ) (inb) (j r0 : ℕ)
    (hoff : off = ![0, j, r0, 0]) (r : Fin 64) (k : Fin 256) :
    View.readAt (Elt Ideal) a.view (Rect.unit (s := S1x16x512x256) off S1x1x64x256.size inb).toLoadRect (ha.unread x)
        (ix4 (0 : Fin 1) (0 : Fin 1) r k)
      = Vn j (r0 + r.val) k.val := by
  subst hoff
  rw [View.readAt_eq_ld, ha.read_unread]
  refine (hV _).trans ?_
  show Vn (j + 1 * 0) (r0 + 1 * r.val) (0 + 1 * k.val) = _
  simp only [one_mul, zero_add, add_zero]

theorem rd9 (a : Memref sig .tc .vmem S512x256 .f32) (ha : a.IsWhole) (x : FVec Ideal S512x256 .f32)
    (An : ℕ → ℕ → EReal) (hA : ∀ y, x y = An (y 0).val (y 1).val) (r0 : ℕ) (inb) (r : Fin 64) (b : Fin 256) :
    View.readAt (Elt Ideal) a.view (Rect.unit (s := S512x256) ![r0, 0] S64x256.size inb).toLoadRect (ha.unread x) (ix2 r b)
      = An (r0 + r.val) b.val := by
  rw [View.readAt_eq_ld, ha.read_unread]
  refine (hA _).trans ?_
  show An (r0 + 1 * r.val) (0 + 1 * b.val) = _
  simp only [one_mul, zero_add]

theorem rd10 (a : Memref sig .tc .vmem S8x256 .f32) (ha : a.IsWhole) (x : FVec Ideal S8x256 .f32)
    (Cn : ℕ → ℕ → ℝ) (hC : ∀ y, x y = ((Cn (y 0).val (y 1).val : ℝ) : EReal)) (h : ℕ) (inb) (b : Fin 256) :
    View.readAt (Elt Ideal) a.view (Rect.unit (s := S8x256) ![h, 0] S1x256.size inb).toLoadRect (ha.unread x) (ix2 (0 : Fin 1) b)
      = ((Cn h b.val : ℝ) : EReal) := by
  rw [View.readAt_eq_ld, ha.read_unread]
  refine (hC _).trans ?_
  show ((Cn (h + 1 * 0) (0 + 1 * b.val) : ℝ) : EReal) = _
  simp only [one_mul, zero_add, add_zero]

theorem piece64 (P : FVec Ideal S64x256 .f32) (G : ℕ → ℕ → EReal) (c : ℕ) (i)
    (h : ∀ (r : Fin 64) (b : Fin 256), P (ix2 r b) = G (c + r.val) b.val)
    (x : (Rect.unit (s := S512x256) ![c, 0] S64x256.size i).shape.Idx) :
    P x = (fun y : S512x256.Idx => G (y 0).val (y 1).val) ((Rect.unit (s := S512x256) ![c, 0] S64x256.size i).emb x) := by
  rw [show x = ix2 (x 0 : Fin 64) (x 1 : Fin 256) from eq_ix2 x]
  refine (h _ _).trans ?_
  show _ = G (c + 1 * (x 0).val) (0 + 1 * (x 1).val)
  rw [one_mul, one_mul, zero_add]

theorem piece1 (P : FVec Ideal S1x256 .f32) (G : ℕ → ℕ → EReal) (c : ℕ) (i)
    (h : ∀ (b : Fin 256), P (ix2 (0 : Fin 1) b) = G c b.val)
    (x : (Rect.unit (s := S8x256) ![c, 0] S1x256.size i).shape.Idx) :
    P x = (fun y : S8x256.Idx => G (y 0).val (y 1).val) ((Rect.unit (s := S8x256) ![c, 0] S1x256.size i).emb x) := by
  have h0 : (x 0 : Fin 1) = (0 : Fin 1) := Fin.eq_zero _
  have hx : x = ix2 (0 : Fin 1) (x 1 : Fin 256) := by
    rw [← h0]
    exact eq_ix2 x
  have e0 : (x 0).val = 0 := congrArg Fin.val h0
  refine (congrArg P hx).trans ?_
  refine (h _).trans ?_
  show _ = G (c + 1 * (x 0).val) (0 + 1 * (x 1).val)
  rw [e0, one_mul, one_mul, zero_add, add_zero]

theorem mem64 (c : ℕ) (i) (y : S512x256.Idx) (h : (y 0).val / 64 * 64 = c) :
    y ∈ (Rect.unit (s := S512x256) ![c, 0] S64x256.size i).set := by
  rw [Rect.mem_set_unit]
  intro a
  have h1 := (y 1).isLt
  match a with
  | ⟨0, _⟩ => exact ⟨show c ≤ (y 0).val by omega, show (y 0).val < c + 64 by omega⟩
  | ⟨1, _⟩ => exact ⟨Nat.zero_le _, show (y 1).val < 0 + 256 by simpa using h1⟩

theorem mem1 (c : ℕ) (i) (y : S8x256.Idx) (h : (y 0).val = c) :
    y ∈ (Rect.unit (s := S8x256) ![c, 0] S1x256.size i).set := by
  rw [Rect.mem_set_unit]
  intro a
  have h1 := (y 1).isLt
  match a with
  | ⟨0, _⟩ => exact ⟨show c ≤ (y 0).val by omega, show (y 0).val < c + 1 by omega⟩
  | ⟨1, _⟩ => exact ⟨Nat.zero_le _, show (y 1).val < 0 + 256 by simpa using h1⟩

/-- Eight pieces of sixty-four rows, each holding its rows of `G`, leave `G`. -/
theorem acc_list (a : Memref sig .tc .vmem S512x256 .f32) (f : a.view.ty.Contents (Elt Ideal)) (G : ℕ → ℕ → EReal)
    (P0 P1 P2 P3 P4 P5 P6 P7 : FVec Ideal S64x256 .f32) (i0 i1 i2 i3 i4 i5 i6 i7) (L : List (View.Piece (Elt Ideal) S512x256 .f32))
    (h0 : ∀ (r : Fin 64) (b : Fin 256), P0 (ix2 r b) = G (64 * 0 + r.val) b.val)
    (h1 : ∀ (r : Fin 64) (b : Fin 256), P1 (ix2 r b) = G (64 * 1 + r.val) b.val)
    (h2 : ∀ (r : Fin 64) (b : Fin 256), P2 (ix2 r b) = G (64 * 2 + r.val) b.val)
    (h3 : ∀ (r : Fin 64) (b : Fin 256), P3 (ix2 r b) = G (64 * 3 + r.val) b.val)
    (h4 : ∀ (r : Fin 64) (b : Fin 256), P4 (ix2 r b) = G (64 * 4 + r.val) b.val)
    (h5 : ∀ (r : Fin 64) (b : Fin 256), P5 (ix2 r b) = G (64 * 5 + r.val) b.val)
    (h6 : ∀ (r : Fin 64) (b : Fin 256), P6 (ix2 r b) = G (64 * 6 + r.val) b.val)
    (h7 : ∀ (r : Fin 64) (b : Fin 256), P7 (ix2 r b) = G (64 * 7 + r.val) b.val) (y : S512x256.Idx) :
    a.view.read (Elt Ideal) (a.view.writes (Elt Ideal) f
      (⟨Rect.unit (s := S512x256) ![448, 0] S64x256.size i7, P7⟩ :: ⟨Rect.unit (s := S512x256) ![384, 0] S64x256.size i6, P6⟩ ::
       ⟨Rect.unit (s := S512x256) ![320, 0] S64x256.size i5, P5⟩ :: ⟨Rect.unit (s := S512x256) ![256, 0] S64x256.size i4, P4⟩ ::
       ⟨Rect.unit (s := S512x256) ![192, 0] S64x256.size i3, P3⟩ :: ⟨Rect.unit (s := S512x256) ![128, 0] S64x256.size i2, P2⟩ ::
       ⟨Rect.unit (s := S512x256) ![64, 0] S64x256.size i1, P1⟩ :: ⟨Rect.unit (s := S512x256) ![0, 0] S64x256.size i0, P0⟩ :: L)) y
      = G (y 0).val (y 1).val := by
  refine View.read_writes_apply_of_pieces a.view (a.view.writes (Elt Ideal) f L) (fun y : S512x256.Idx => G (y 0).val (y 1).val)
    [⟨Rect.unit (s := S512x256) ![448, 0] S64x256.size i7, P7⟩, ⟨Rect.unit (s := S512x256) ![384, 0] S64x256.size i6, P6⟩,
     ⟨Rect.unit (s := S512x256) ![320, 0] S64x256.size i5, P5⟩, ⟨Rect.unit (s := S512x256) ![256, 0] S64x256.size i4, P4⟩,
     ⟨Rect.unit (s := S512x256) ![192, 0] S64x256.size i3, P3⟩, ⟨Rect.unit (s := S512x256) ![128, 0] S64x256.size i2, P2⟩,
     ⟨Rect.unit (s := S512x256) ![64, 0] S64x256.size i1, P1⟩, ⟨Rect.unit (s := S512x256) ![0, 0] S64x256.size i0, P0⟩] ?_ y ?_
  · intro p hp
    simp only [List.mem_cons, List.not_mem_nil, or_false] at hp
    rcases hp with rfl | rfl | rfl | rfl | rfl | rfl | rfl | rfl
    · exact piece64 P7 G 448 i7 h7
    · exact piece64 P6 G 384 i6 h6
    · exact piece64 P5 G 320 i5 h5
    · exact piece64 P4 G 256 i4 h4
    · exact piece64 P3 G 192 i3 h3
    · exact piece64 P2 G 128 i2 h2
    · exact piece64 P1 G 64 i1 h1
    · exact piece64 P0 G 0 i0 h0
  · have hy : (y 0).val < 512 := (y 0).isLt
    have hq : (y 0).val / 64 = 0 ∨ (y 0).val / 64 = 1 ∨ (y 0).val / 64 = 2 ∨ (y 0).val / 64 = 3 ∨ (y 0).val / 64 = 4
        ∨ (y 0).val / 64 = 5 ∨ (y 0).val / 64 = 6 ∨ (y 0).val / 64 = 7 := by omega
    rcases hq with hq | hq | hq | hq | hq | hq | hq | hq
    · exact ⟨⟨_, P0⟩, List.mem_cons_of_mem _ (List.mem_cons_of_mem _ (List.mem_cons_of_mem _ (List.mem_cons_of_mem _ (List.mem_cons_of_mem _ (List.mem_cons_of_mem _ (List.mem_cons_of_mem _ (List.mem_cons_self))))))), mem64 0 i0 y (by omega)⟩
    · exact ⟨⟨_, P1⟩, List.mem_cons_of_mem _ (List.mem_cons_of_mem _ (List.mem_cons_of_mem _ (List.mem_cons_of_mem _ (List.mem_cons_of_mem _ (List.mem_cons_of_mem _ (List.mem_cons_self)))))), mem64 64 i1 y (by omega)⟩
    · exact ⟨⟨_, P2⟩, List.mem_cons_of_mem _ (List.mem_cons_of_mem _ (List.mem_cons_of_mem _ (List.mem_cons_of_mem _ (List.mem_cons_of_mem _ (List.mem_cons_self))))), mem64 128 i2 y (by omega)⟩
    · exact ⟨⟨_, P3⟩, List.mem_cons_of_mem _ (List.mem_cons_of_mem _ (List.mem_cons_of_mem _ (List.mem_cons_of_mem _ (List.mem_cons_self)))), mem64 192 i3 y (by omega)⟩
    · exact ⟨⟨_, P4⟩, List.mem_cons_of_mem _ (List.mem_cons_of_mem _ (List.mem_cons_of_mem _ (List.mem_cons_self))), mem64 256 i4 y (by omega)⟩
    · exact ⟨⟨_, P5⟩, List.mem_cons_of_mem _ (List.mem_cons_of_mem _ (List.mem_cons_self)), mem64 320 i5 y (by omega)⟩
    · exact ⟨⟨_, P6⟩, List.mem_cons_of_mem _ (List.mem_cons_self), mem64 384 i6 y (by omega)⟩
    · exact ⟨⟨_, P7⟩, List.mem_cons_self, mem64 448 i7 y (by omega)⟩

theorem car_list (a : Memref sig .tc .vmem S8x256 .f32) (f : a.view.ty.Contents (Elt Ideal)) (G : ℕ → ℕ → EReal)
    (P0 P1 P2 P3 P4 P5 P6 P7 : FVec Ideal S1x256 .f32) (i0 i1 i2 i3 i4 i5 i6 i7) (L : List (View.Piece (Elt Ideal) S8x256 .f32))
    (h0 : ∀ (b : Fin 256), P0 (ix2 (0 : Fin 1) b) = G 0 b.val)
    (h1 : ∀ (b : Fin 256), P1 (ix2 (0 : Fin 1) b) = G 1 b.val)
    (h2 : ∀ (b : Fin 256), P2 (ix2 (0 : Fin 1) b) = G 2 b.val)
    (h3 : ∀ (b : Fin 256), P3 (ix2 (0 : Fin 1) b) = G 3 b.val)
    (h4 : ∀ (b : Fin 256), P4 (ix2 (0 : Fin 1) b) = G 4 b.val)
    (h5 : ∀ (b : Fin 256), P5 (ix2 (0 : Fin 1) b) = G 5 b.val)
    (h6 : ∀ (b : Fin 256), P6 (ix2 (0 : Fin 1) b) = G 6 b.val)
    (h7 : ∀ (b : Fin 256), P7 (ix2 (0 : Fin 1) b) = G 7 b.val) (y : S8x256.Idx) :
    a.view.read (Elt Ideal) (a.view.writes (Elt Ideal) f
      (⟨Rect.unit (s := S8x256) ![7, 0] S1x256.size i7, P7⟩ :: ⟨Rect.unit (s := S8x256) ![6, 0] S1x256.size i6, P6⟩ ::
       ⟨Rect.unit (s := S8x256) ![5, 0] S1x256.size i5, P5⟩ :: ⟨Rect.unit (s := S8x256) ![4, 0] S1x256.size i4, P4⟩ ::
       ⟨Rect.unit (s := S8x256) ![3, 0] S1x256.size i3, P3⟩ :: ⟨Rect.unit (s := S8x256) ![2, 0] S1x256.size i2, P2⟩ ::
       ⟨Rect.unit (s := S8x256) ![1, 0] S1x256.size i1, P1⟩ :: ⟨Rect.unit (s := S8x256) ![0, 0] S1x256.size i0, P0⟩ :: L)) y
      = G (y 0).val (y 1).val := by
  refine View.read_writes_apply_of_pieces a.view (a.view.writes (Elt Ideal) f L) (fun y : S8x256.Idx => G (y 0).val (y 1).val)
    [⟨Rect.unit (s := S8x256) ![7, 0] S1x256.size i7, P7⟩, ⟨Rect.unit (s := S8x256) ![6, 0] S1x256.size i6, P6⟩,
     ⟨Rect.unit (s := S8x256) ![5, 0] S1x256.size i5, P5⟩, ⟨Rect.unit (s := S8x256) ![4, 0] S1x256.size i4, P4⟩,
     ⟨Rect.unit (s := S8x256) ![3, 0] S1x256.size i3, P3⟩, ⟨Rect.unit (s := S8x256) ![2, 0] S1x256.size i2, P2⟩,
     ⟨Rect.unit (s := S8x256) ![1, 0] S1x256.size i1, P1⟩, ⟨Rect.unit (s := S8x256) ![0, 0] S1x256.size i0, P0⟩] ?_ y ?_
  · intro p hp
    simp only [List.mem_cons, List.not_mem_nil, or_false] at hp
    rcases hp with rfl | rfl | rfl | rfl | rfl | rfl | rfl | rfl
    · exact piece1 P7 G 7 i7 h7
    · exact piece1 P6 G 6 i6 h6
    · exact piece1 P5 G 5 i5 h5
    · exact piece1 P4 G 4 i4 h4
    · exact piece1 P3 G 3 i3 h3
    · exact piece1 P2 G 2 i2 h2
    · exact piece1 P1 G 1 i1 h1
    · exact piece1 P0 G 0 i0 h0
  · have hy : (y 0).val < 8 := (y 0).isLt
    have hq : (y 0).val = 0 ∨ (y 0).val = 1 ∨ (y 0).val = 2 ∨ (y 0).val = 3 ∨ (y 0).val = 4
        ∨ (y 0).val = 5 ∨ (y 0).val = 6 ∨ (y 0).val = 7 := by omega
    rcases hq with hq | hq | hq | hq | hq | hq | hq | hq
    · exact ⟨⟨_, P0⟩, List.mem_cons_of_mem _ (List.mem_cons_of_mem _ (List.mem_cons_of_mem _ (List.mem_cons_of_mem _ (List.mem_cons_of_mem _ (List.mem_cons_of_mem _ (List.mem_cons_of_mem _ (List.mem_cons_self))))))), mem1 0 i0 y hq⟩
    · exact ⟨⟨_, P1⟩, List.mem_cons_of_mem _ (List.mem_cons_of_mem _ (List.mem_cons_of_mem _ (List.mem_cons_of_mem _ (List.mem_cons_of_mem _ (List.mem_cons_of_mem _ (List.mem_cons_self)))))), mem1 1 i1 y hq⟩
    · exact ⟨⟨_, P2⟩, List.mem_cons_of_mem _ (List.mem_cons_of_mem _ (List.mem_cons_of_mem _ (List.mem_cons_of_mem _ (List.mem_cons_of_mem _ (List.mem_cons_self))))), mem1 2 i2 y hq⟩
    · exact ⟨⟨_, P3⟩, List.mem_cons_of_mem _ (List.mem_cons_of_mem _ (List.mem_cons_of_mem _ (List.mem_cons_of_mem _ (List.mem_cons_self)))), mem1 3 i3 y hq⟩
    · exact ⟨⟨_, P4⟩, List.mem_cons_of_mem _ (List.mem_cons_of_mem _ (List.mem_cons_of_mem _ (List.mem_cons_self))), mem1 4 i4 y hq⟩
    · exact ⟨⟨_, P5⟩, List.mem_cons_of_mem _ (List.mem_cons_of_mem _ (List.mem_cons_self)), mem1 5 i5 y hq⟩
    · exact ⟨⟨_, P6⟩, List.mem_cons_of_mem _ (List.mem_cons_self), mem1 6 i6 y hq⟩
    · exact ⟨⟨_, P7⟩, List.mem_cons_self, mem1 7 i7 y hq⟩

end Cert.Proof.KI

end
end
-- ==== Proof.KI.Spec.lean ====
/-
  A key tile's step on the carries and the accumulator, as numbers, and that a head's vectors hold it.
-/
module

public import proofs.«01_k».proof.Proof.KI.Reads

@[expose] public section

noncomputable section

namespace Cert.Proof.KI

open Cert.KernelIdeal Cert.KernelIdeal.Gen

open Idealize.ShloMosaic hiding ix1 ix2 ix3 ix4 eq_ix2
open Idealize.ShloMosaic.ValueIdx
open Idealize.ShloMosaic.TcCoe

/-- The softplus of a score where the key is visible to query `b` of the tile that starts at `q0`, and `0` elsewhere. -/
def msp (q0 : ℕ) (Zn : ℕ → ℕ → ℕ → ℝ) (h kp b : ℕ) : ℝ := if kp < q0 + b then spR (Zn h kp b) else 0

/-- The carries after key tile `j`. -/
def stepC (q0 : ℕ) (Zn : ℕ → ℕ → ℕ → ℝ) (C : ℕ → ℕ → ℝ) (j h b : ℕ) : ℝ :=
  C h b + ∑ k : Fin 256, msp q0 Zn h (256 * j + k.val) b

/-- What a key of tile `j` pays: the softpluses from it on. -/
def tailS (q0 : ℕ) (Zn : ℕ → ℕ → ℕ → ℝ) (C : ℕ → ℕ → ℝ) (j h k b : ℕ) : ℝ :=
  (∑ k' : Fin 256, if k ≤ k'.val then msp q0 Zn h (256 * j + k'.val) b else 0) + C h b

/-- The weight of a key of tile `j`. -/
def wt (q0 : ℕ) (Zn : ℕ → ℕ → ℕ → ℝ) (C : ℕ → ℕ → ℝ) (j h k b : ℕ) : ℝ :=
  if 256 * j + k < q0 + b then Real.exp (Zn h (256 * j + k) b - tailS q0 Zn C j h k b) else 0

/-- The accumulator after key tile `j`. -/
def stepA (q0 : ℕ) (Zn : ℕ → ℕ → ℕ → ℝ) (Vn : ℕ → ℕ → ℕ → EReal) (C : ℕ → ℕ → ℝ) (A : ℕ → ℕ → EReal) (j r b : ℕ) : EReal :=
  A r b + ∑ k : Fin 256, Vn j r k.val * ((wt q0 Zn C j (r / 64) k.val b : ℝ) : EReal)

section

variable (q0 : ℕ) (Zn : ℕ → ℕ → ℕ → ℝ) (Kn : ℕ → ℕ → EReal) (Qn Vn : ℕ → ℕ → ℕ → EReal)
  (C : ℕ → ℕ → ℝ) (A : ℕ → ℕ → EReal)

theorem z_spec (h p j : ℕ) (hp : p = 128 * (h / 2)) (kb qb : FVec Ideal S1x256x128 .bf16)
    (hZ : ∀ a b : Fin 256, (∑ l : Fin 128, Kn (256 * j + a.val) (128 * (h / 2) + l.val) * Qn h b.val l.val)
      = ((Zn h (256 * j + a.val) b.val : ℝ) : EReal))
    (hk : ∀ (a : Fin 256) (l : Fin 128), kb (ix3 (0 : Fin 1) a l) = Kn (256 * j + a.val) (p + l.val))
    (hq : ∀ (b : Fin 256) (l : Fin 128), qb (ix3 (0 : Fin 1) b l) = Qn h b.val l.val) (a b : Fin 256) :
    hz kb qb (ix2 a b) = ((Zn h (256 * j + a.val) b.val : ℝ) : EReal) := by
  subst hp
  rw [hz_apply, ← hZ]
  exact Finset.sum_congr rfl fun l _ => by rw [hk, hq]

variable (suf : FVec Ideal S256x256 .bf16)
  (hsuf : ∀ a b : Fin 256, suf (ix2 a b) = ((if a ≤ b then 1 else 0 : ℝ) : EReal))
include hsuf

theorem w_spec (h j : ℕ) (sp : FVec Ideal S256x256 .f32)
    (hs : ∀ a b : Fin 256, sp (ix2 a b) = ((msp q0 Zn h (256 * j + a.val) b.val : ℝ) : EReal)) (a b : Fin 256) :
    hw suf sp (ix2 a b)
      = ((∑ k' : Fin 256, if a.val ≤ k'.val then msp q0 Zn h (256 * j + k'.val) b.val else 0 : ℝ) : EReal) :=
  hw_apply suf sp (fun a b => msp q0 Zn h (256 * j + a.val) b.val) hsuf hs a b

theorem car_spec (h j : ℕ) (sp : FVec Ideal S256x256 .f32) (l : FVec Ideal S1x256 .f32)
    (hl : ∀ b : Fin 256, l (ix2 (0 : Fin 1) b) = ((C h b.val : ℝ) : EReal))
    (hs : ∀ a b : Fin 256, sp (ix2 a b) = ((msp q0 Zn h (256 * j + a.val) b.val : ℝ) : EReal)) (b : Fin 256) :
    hcar (hw suf sp) l (ix2 (0 : Fin 1) b) = ((stepC q0 Zn C j h b.val : ℝ) : EReal) := by
  rw [hcar_apply, hl, w_spec q0 Zn suf hsuf h j sp hs, ← EReal.coe_add]
  simp [stepC]

theorem a_spec (h j : ℕ) (z sp : FVec Ideal S256x256 .f32) (l : FVec Ideal S1x256 .f32)
    (hz : ∀ a b : Fin 256, z (ix2 a b) = ((Zn h (256 * j + a.val) b.val : ℝ) : EReal))
    (hl : ∀ b : Fin 256, l (ix2 (0 : Fin 1) b) = ((C h b.val : ℝ) : EReal))
    (hs : ∀ a b : Fin 256, sp (ix2 a b) = ((msp q0 Zn h (256 * j + a.val) b.val : ℝ) : EReal)) (a b : Fin 256) :
    ha z (hw suf sp) l (ix2 a b)
      = ((Real.exp (Zn h (256 * j + a.val) b.val - tailS q0 Zn C j h a.val b.val) : ℝ) : EReal) :=
  ha_apply _ _ _ a b _ _ _ (hz a b) (w_spec q0 Zn suf hsuf h j sp hs a b) (hl b)

omit hsuf in
theorem acc_spec (h j r0 : ℕ) (hr0 : r0 = 64 * h) (old : FVec Ideal S64x256 .f32) (vb : FVec Ideal S1x1x64x256 .bf16)
    (w : FVec Ideal S256x256 .f32)
    (ho : ∀ (r : Fin 64) (b : Fin 256), old (ix2 r b) = A (r0 + r.val) b.val)
    (hv : ∀ (r : Fin 64) (k : Fin 256), vb (ix4 (0 : Fin 1) (0 : Fin 1) r k) = Vn j (r0 + r.val) k.val)
    (hw : ∀ a b : Fin 256, w (ix2 a b) = ((wt q0 Zn C j h a.val b.val : ℝ) : EReal)) (r : Fin 64) (b : Fin 256) :
    hacc old vb w (ix2 r b) = stepA q0 Zn Vn C A j (64 * h + r.val) b.val := by
  subst hr0
  rw [hacc_apply, ho]
  refine congrArg (A (64 * h + r.val) b.val + ·) (Finset.sum_congr rfl fun k _ => ?_)
  rw [hv, hw, show (64 * h + r.val) / 64 = h by have := r.isLt; omega]

end

section

variable (q0 : ℕ) (Zn : ℕ → ℕ → ℕ → ℝ) (Kn : ℕ → ℕ → EReal) (Qn Vn : ℕ → ℕ → ℕ → EReal)
  (C : ℕ → ℕ → ℝ) (A : ℕ → ℕ → EReal) (suf : FVec Ideal S256x256 .bf16)
  (hsuf : ∀ a b : Fin 256, suf (ix2 a b) = ((if a ≤ b then 1 else 0 : ℝ) : EReal)) (h p j : ℕ)
  (hlow : 256 * (j + 1) ≤ q0) (hp : p = 128 * (h / 2)) (kb qb : FVec Ideal S1x256x128 .bf16) (l : FVec Ideal S1x256 .f32)
  (hZ : ∀ a b : Fin 256, (∑ l : Fin 128, Kn (256 * j + a.val) (128 * (h / 2) + l.val) * Qn h b.val l.val)
      = ((Zn h (256 * j + a.val) b.val : ℝ) : EReal))
  (hk : ∀ (a : Fin 256) (l : Fin 128), kb (ix3 (0 : Fin 1) a l) = Kn (256 * j + a.val) (p + l.val))
  (hq : ∀ (b : Fin 256) (l : Fin 128), qb (ix3 (0 : Fin 1) b l) = Qn h b.val l.val)
  (hl : ∀ b : Fin 256, l (ix2 (0 : Fin 1) b) = ((C h b.val : ℝ) : EReal))
include hsuf hlow hp hZ hk hq hl

theorem full_sp (a b : Fin 256) :
    hsp (hz kb qb) (ix2 a b) = ((msp q0 Zn h (256 * j + a.val) b.val : ℝ) : EReal) := by
  rw [hsp_apply _ _ _ (z_spec Zn Kn Qn h p j hp kb qb hZ hk hq a b), msp, if_pos (by have := a.isLt; omega)]

/-- A whole visible tile's carry. -/
theorem full_car (b : Fin 256) :
    hcar (hw suf (hsp (hz kb qb))) l (ix2 (0 : Fin 1) b) = ((stepC q0 Zn C j h b.val : ℝ) : EReal) :=
  car_spec q0 Zn C suf hsuf h j _ l hl
    (full_sp q0 Zn Kn Qn C suf hsuf h p j hlow hp kb qb l hZ hk hq hl) b

/-- A whole visible tile's rows of the accumulator. -/
theorem full_acc (r0 : ℕ) (hr0 : r0 = 64 * h) (old : FVec Ideal S64x256 .f32) (vb : FVec Ideal S1x1x64x256 .bf16)
    (ho : ∀ (r : Fin 64) (b : Fin 256), old (ix2 r b) = A (r0 + r.val) b.val)
    (hv : ∀ (r : Fin 64) (k : Fin 256), vb (ix4 (0 : Fin 1) (0 : Fin 1) r k) = Vn j (r0 + r.val) k.val)
    (r : Fin 64) (b : Fin 256) :
    hacc old vb (ha (hz kb qb) (hw suf (hsp (hz kb qb))) l) (ix2 r b) = stepA q0 Zn Vn C A j (64 * h + r.val) b.val := by
  refine acc_spec q0 Zn Vn C A h j r0 hr0 old vb _ ho hv (fun a b => ?_) r b
  rw [a_spec q0 Zn C suf hsuf h j _ _ l (z_spec Zn Kn Qn h p j hp kb qb hZ hk hq) hl
    (full_sp q0 Zn Kn Qn C suf hsuf h p j hlow hp kb qb l hZ hk hq hl), wt, if_pos (by have := a.isLt; omega)]

end

section

variable (q0 : ℕ) (Zn : ℕ → ℕ → ℕ → ℝ) (Kn : ℕ → ℕ → EReal) (Qn Vn : ℕ → ℕ → ℕ → EReal)
  (C : ℕ → ℕ → ℝ) (A : ℕ → ℕ → EReal) (suf : FVec Ideal S256x256 .bf16)
  (hsuf : ∀ a b : Fin 256, suf (ix2 a b) = ((if a ≤ b then 1 else 0 : ℝ) : EReal)) (h p j : ℕ)
  (hdiag : 256 * j = q0) (hp : p = 128 * (h / 2)) (kb qb : FVec Ideal S1x256x128 .bf16) (l : FVec Ideal S1x256 .f32)
  (vis : IVec S256x256 1) (hvis : ∀ a b : Fin 256, vis (ix2 a b) = if a.val < b.val then 1#1 else 0#1)
  (hZ : ∀ a b : Fin 256, (∑ l : Fin 128, Kn (256 * j + a.val) (128 * (h / 2) + l.val) * Qn h b.val l.val)
      = ((Zn h (256 * j + a.val) b.val : ℝ) : EReal))
  (hk : ∀ (a : Fin 256) (l : Fin 128), kb (ix3 (0 : Fin 1) a l) = Kn (256 * j + a.val) (p + l.val))
  (hq : ∀ (b : Fin 256) (l : Fin 128), qb (ix3 (0 : Fin 1) b l) = Qn h b.val l.val)
  (hl : ∀ b : Fin 256, l (ix2 (0 : Fin 1) b) = ((C h b.val : ℝ) : EReal))
include hsuf hdiag hp hvis hZ hk hq hl

/-- Zeroes, as the masked tile writes them. -/
abbrev zero256 : FVec Ideal S256x256 .f32 := broadcast S256x256 (Scalar.ofBits .f32 0x00000000#32)

omit hsuf hdiag hp hZ hk hq hl in
theorem sel_apply (x : FVec Ideal S256x256 .f32) (a b : Fin 256) (t : ℝ)
    (hx : x (ix2 a b) = ((t : ℝ) : EReal)) :
    select vis x zero256 (ix2 a b) = (((if a.val < b.val then t else 0 : ℝ)) : EReal) := by
  refine (select_apply _ _ _ _).trans ?_
  rw [hvis]
  split_ifs with hc
  · exact hx
  · exact Ideal.ofBits_zero_f32

theorem diag_sp (a b : Fin 256) :
    select vis (hsp (hz kb qb)) zero256 (ix2 a b) = ((msp q0 Zn h (256 * j + a.val) b.val : ℝ) : EReal) := by
  rw [sel_apply vis hvis _ a b _ (hsp_apply _ _ _ (z_spec Zn Kn Qn h p j hp kb qb hZ hk hq a b)), msp]
  congr 1
  exact if_congr (by omega) rfl rfl

theorem diag_car (b : Fin 256) :
    hcar (hw suf (select vis (hsp (hz kb qb)) zero256)) l (ix2 (0 : Fin 1) b) = ((stepC q0 Zn C j h b.val : ℝ) : EReal) :=
  car_spec q0 Zn C suf hsuf h j _ l hl
    (diag_sp q0 Zn Kn Qn C suf hsuf h p j hdiag hp kb qb l vis hvis hZ hk hq hl) b

theorem diag_acc (r0 : ℕ) (hr0 : r0 = 64 * h) (old : FVec Ideal S64x256 .f32) (vb : FVec Ideal S1x1x64x256 .bf16)
    (ho : ∀ (r : Fin 64) (b : Fin 256), old (ix2 r b) = A (r0 + r.val) b.val)
    (hv : ∀ (r : Fin 64) (k : Fin 256), vb (ix4 (0 : Fin 1) (0 : Fin 1) r k) = Vn j (r0 + r.val) k.val)
    (r : Fin 64) (b : Fin 256) :
    hacc old vb (select vis (ha (hz kb qb) (hw suf (select vis (hsp (hz kb qb)) zero256)) l) zero256) (ix2 r b)
      = stepA q0 Zn Vn C A j (64 * h + r.val) b.val := by
  refine acc_spec q0 Zn Vn C A h j r0 hr0 old vb _ ho hv (fun a b => ?_) r b
  rw [sel_apply vis hvis _ a b _ (a_spec q0 Zn C suf hsuf h j _ _ l (z_spec Zn Kn Qn h p j hp kb qb hZ hk hq) hl
    (diag_sp q0 Zn Kn Qn C suf hsuf h p j hdiag hp kb qb l vis hvis hZ hk hq hl) a b), wt]
  congr 1
  exact if_congr (by omega) rfl rfl

end

end Cert.Proof.KI

end
end
-- ==== Proof.KI.More.lean ====
/-
  The flag of a key tile: the smallest carry is a number, the stop is not `⊥`, so the comparison holds.
-/
module

public import proofs.«01_k».proof.Proof.KI.Spec

@[expose] public section

noncomputable section

namespace Cert.Proof.KI

open Cert.KernelIdeal Cert.KernelIdeal.Gen

open Idealize.ShloMosaic hiding ix1 ix2 ix3 ix4 eq_ix2
open Idealize.ShloMosaic.ValueIdx
open Idealize.ShloMosaic.TcCoe

/-- A carry as it is stored, the cast being none. -/
theorem car_cast (x : FVec Ideal S1x256 .f32) (b : Fin 256) (v : EReal) (h : x (ix2 (0 : Fin 1) b) = v) :
    shapeCast S1x256 x shapeCasts_S1x256_S1x256 (ix2 (0 : Fin 1) b) = v := by
  rw [shapeCast_self, h]

/-- The smallest of eight carries. -/
def hmin (c0 c1 c2 c3 c4 c5 c6 c7 : FVec Ideal S1x256 .f32) : Ideal .f32 :=
  extractAt ![0, 0, 0] (shapeCast S1x1x1 (multiReduction .minimumf [1, 2] S1 (shapeCast S1x1x256
    (minimumf (minimumf (minimumf (minimumf (minimumf (minimumf (minimumf c0 c1) c2) c3) c4) c5) c6) c7)
      shapeCasts_S1x256_S1x1x256) 0x7F800000#32 reduces_S1x1x256_S1 (.inl rfl) rfl) shapeCasts_S1_S1x1x1) inpos_S1x1x1_p0_0_0

theorem hmin_lt (c0 c1 c2 c3 c4 c5 c6 c7 : FVec Ideal S1x256 .f32)
    (h : ∃ r : ℝ, c7 (ix2 (0 : Fin 1) (0 : Fin 256)) = (r : EReal)) : (hmin c0 c1 c2 c3 c4 c5 c6 c7 : EReal) < ⊤ := by
  obtain ⟨r, hr⟩ := h
  unfold hmin
  pointwise
  rw [Finset.fold_min_lt]
  refine Or.inr ⟨((0 : Fin 1), (0 : Fin 256)), Finset.mem_univ _, ?_⟩
  refine lt_of_le_of_lt (min_le_right _ _) ?_
  rw [show c7 (Idealize.ShloMosaic.ix2 (0 : Fin 1) (0 : Fin 256)) = (r : EReal) from hr]
  exact EReal.coe_lt_top r

theorem more_spec (c0 c1 c2 c3 c4 c5 c6 c7 : FVec Ideal S1x256 .f32) (s : Ideal .f32) (hs : (s : EReal) ≠ ⊥)
    (h : ∃ r : ℝ, c7 (ix2 (0 : Fin 1) (0 : Fin 256)) = (r : EReal)) :
    Scalar.cmpf (F := Ideal) .olt (hmin c0 c1 c2 c3 c4 c5 c6 c7) (Scalar.addf s (Named.named κ "exp_underflow" 0x42DC0000#32)) = 1#1 := by
  have e : (Scalar.addf s (Named.named κ "exp_underflow" 0x42DC0000#32) : EReal) = ⊤ := by
    show (s : EReal) + ⊤ = ⊤
    exact EReal.add_top_of_ne_bot hs
  have hlt := hmin_lt c0 c1 c2 c3 c4 c5 c6 c7 h
  rw [← e] at hlt
  exact congrArg BitVec.ofBool (decide_eq_true hlt)

end Cert.Proof.KI

end
end
-- ==== Proof.KI.TripVal1.lean ====
/-
  What a trip of the first query tile's loop holds, as numbers.
-/
module

public import proofs.«01_k».proof.Proof.KI.More
public import proofs.«01_k».proof.Proof.KI.Trip1

@[expose] public section

set_option maxRecDepth 65536

noncomputable section

namespace Cert.Proof.KI

open Cert.KernelIdeal Cert.KernelIdeal.Gen

open Idealize.ShloMosaic hiding ix1 ix2 ix3 ix4 eq_ix2
open Idealize.ShloMosaic.ValueIdx
open Idealize.ShloMosaic.TcCoe

section

variable (c : Dev nD) (i : grid0.Coords)
    (arg3 : Memref sig .tc .smem S1 .f32) (harg3 : arg3.IsWhole)
    (arg5 : Memref sig .tc .vmem S1x4096x512 .bf16) (harg5 : arg5.IsWhole)
    (arg6 : Memref sig .tc .vmem S1x16x512x256 .bf16) (harg6 : arg6.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (suf : FVec Ideal S256x256 .bf16) (x3 : Vec Ideal S1 .f32) (x5 : Vec Ideal S1x4096x512 .bf16)
    (x6 : Vec Ideal S1x16x512x256 .bf16) (x8 : Vec Ideal S8x256x128 .bf16) (x9 : Vec Ideal S512x256 .f32) (x10 : Vec Ideal S8x256 .f32)
    (arg11 : BitVec 32) (hchk : k0_chk1 i arg11)
    (q0 : ℕ) (Zn : ℕ → ℕ → ℕ → ℝ) (Kn : ℕ → ℕ → EReal) (Qn Vn : ℕ → ℕ → ℕ → EReal)
    (C : ℕ → ℕ → ℝ) (A : ℕ → ℕ → EReal) (j : ℕ) (hlow : 256 * (j + 1) ≤ q0)
    (hsuf : ∀ a b : Fin 256, suf (ix2 a b) = ((if a ≤ b then 1 else 0 : ℝ) : EReal))
    (hK : ∀ y, x5 y = Kn (y 1).val (y 2).val) (hQ : ∀ y, x8 y = Qn (y 0).val (y 1).val (y 2).val)
    (hV : ∀ y, x6 y = Vn (y 1).val (y 2).val (y 3).val)
    (hA : ∀ y, x9 y = A (y 0).val (y 1).val) (hC : ∀ y, x10 y = ((C (y 0).val (y 1).val : ℝ) : EReal))
    (hZ : ∀ h, h < 8 → ∀ a b : Fin 256, (∑ l : Fin 128, Kn (256 * j + a.val) (128 * (h / 2) + l.val) * Qn h b.val l.val)
      = ((Zn h (256 * j + a.val) b.val : ℝ) : EReal))
    (o13 : k0_off13 i arg11 = ![0, 256 * j, 0])
    (o14 : k0_off14 i arg11 = ![0, 256 * j, 128])
    (o15 : k0_off15 i arg11 = ![0, 256 * j, 256])
    (o16 : k0_off16 i arg11 = ![0, 256 * j, 384])
    (o17 : k0_off17 i arg11 = ![0, j, 0, 0])
    (o18 : k0_off18 i arg11 = ![0, j, 64, 0])
    (o19 : k0_off19 i arg11 = ![0, j, 128, 0])
    (o20 : k0_off20 i arg11 = ![0, j, 192, 0])
    (o21 : k0_off21 i arg11 = ![0, j, 256, 0])
    (o22 : k0_off22 i arg11 = ![0, j, 320, 0])
    (o23 : k0_off23 i arg11 = ![0, j, 384, 0])
    (o24 : k0_off24 i arg11 = ![0, j, 448, 0])
include hlow hsuf hK hQ hC hZ o13 o14 o15 o16

set_option maxHeartbeats 4000000 in
/-- The carries. -/
theorem trip1_car (y : S8x256.Idx) :
    (trip1Run c i arg3 harg3 arg5 harg5 arg6 harg6 arg8 harg8 arg9 harg9 arg10 harg10 suf x3 x5 x6 x8 x9 x10 arg11 hchk).1.2.1 y
      = ((stepC q0 Zn C j (y 0).val (y 1).val : ℝ) : EReal) := by
  refine car_list arg10 (harg10.unread x10) (fun h b => ((stepC q0 Zn C j h b : ℝ) : EReal)) _ _ _ _ _ _ _ _ _ _ _ _ _ _ _ _ []
    ?_ ?_ ?_ ?_ ?_ ?_ ?_ ?_ y
  · intro b
    exact car_cast _ b _ (full_car q0 Zn Kn Qn C suf hsuf 0 0 j hlow rfl _ _ _ (hZ 0 (by decide)) (rd5 arg5 harg5 x5 Kn hK (k0_off13 i arg11) _ (256 * j) 0 o13)
      (rd8 arg8 harg8 x8 Qn hQ 0 _) (rd10 arg10 harg10 x10 C hC 0 _) b)
  · intro b
    exact car_cast _ b _ (full_car q0 Zn Kn Qn C suf hsuf 1 0 j hlow rfl _ _ _ (hZ 1 (by decide)) (rd5 arg5 harg5 x5 Kn hK (k0_off13 i arg11) _ (256 * j) 0 o13)
      (rd8 arg8 harg8 x8 Qn hQ 1 _) (rd10 arg10 harg10 x10 C hC 1 _) b)
  · intro b
    exact car_cast _ b _ (full_car q0 Zn Kn Qn C suf hsuf 2 128 j hlow rfl _ _ _ (hZ 2 (by decide)) (rd5 arg5 harg5 x5 Kn hK (k0_off14 i arg11) _ (256 * j) 128 o14)
      (rd8 arg8 harg8 x8 Qn hQ 2 _) (rd10 arg10 harg10 x10 C hC 2 _) b)
  · intro b
    exact car_cast _ b _ (full_car q0 Zn Kn Qn C suf hsuf 3 128 j hlow rfl _ _ _ (hZ 3 (by decide)) (rd5 arg5 harg5 x5 Kn hK (k0_off14 i arg11) _ (256 * j) 128 o14)
      (rd8 arg8 harg8 x8 Qn hQ 3 _) (rd10 arg10 harg10 x10 C hC 3 _) b)
  · intro b
    exact car_cast _ b _ (full_car q0 Zn Kn Qn C suf hsuf 4 256 j hlow rfl _ _ _ (hZ 4 (by decide)) (rd5 arg5 harg5 x5 Kn hK (k0_off15 i arg11) _ (256 * j) 256 o15)
      (rd8 arg8 harg8 x8 Qn hQ 4 _) (rd10 arg10 harg10 x10 C hC 4 _) b)
  · intro b
    exact car_cast _ b _ (full_car q0 Zn Kn Qn C suf hsuf 5 256 j hlow rfl _ _ _ (hZ 5 (by decide)) (rd5 arg5 harg5 x5 Kn hK (k0_off15 i arg11) _ (256 * j) 256 o15)
      (rd8 arg8 harg8 x8 Qn hQ 5 _) (rd10 arg10 harg10 x10 C hC 5 _) b)
  · intro b
    exact car_cast _ b _ (full_car q0 Zn Kn Qn C suf hsuf 6 384 j hlow rfl _ _ _ (hZ 6 (by decide)) (rd5 arg5 harg5 x5 Kn hK (k0_off16 i arg11) _ (256 * j) 384 o16)
      (rd8 arg8 harg8 x8 Qn hQ 6 _) (rd10 arg10 harg10 x10 C hC 6 _) b)
  · intro b
    exact car_cast _ b _ (full_car q0 Zn Kn Qn C suf hsuf 7 384 j hlow rfl _ _ _ (hZ 7 (by decide)) (rd5 arg5 harg5 x5 Kn hK (k0_off16 i arg11) _ (256 * j) 384 o16)
      (rd8 arg8 harg8 x8 Qn hQ 7 _) (rd10 arg10 harg10 x10 C hC 7 _) b)

set_option maxHeartbeats 4000000 in
/-- The flag: no carry is infinite, so it never falls. -/
theorem trip1_more (hx3 : (trip1Run.sl.r_21 c arg3 harg3 x3 : EReal) ≠ ⊥) :
    (trip1Run c i arg3 harg3 arg5 harg5 arg6 harg6 arg8 harg8 arg9 harg9 arg10 harg10 suf x3 x5 x6 x8 x9 x10 arg11 hchk).1.2.2
      = 1#1 := by
  refine more_spec _ _ _ _ _ _ _ _ _ ?_ ⟨_, full_car q0 Zn Kn Qn C suf hsuf 7 384 j hlow rfl _ _ _ (hZ 7 (by decide)) (rd5 arg5 harg5 x5 Kn hK (k0_off16 i arg11) _ (256 * j) 384 o16)
      (rd8 arg8 harg8 x8 Qn hQ 7 _) (rd10 arg10 harg10 x10 C hC 7 _) 0⟩
  exact hx3

include hV hA o17 o18 o19 o20 o21 o22 o23 o24

set_option maxHeartbeats 4000000 in
/-- The accumulator. -/
theorem trip1_acc (y : S512x256.Idx) :
    (trip1Run c i arg3 harg3 arg5 harg5 arg6 harg6 arg8 harg8 arg9 harg9 arg10 harg10 suf x3 x5 x6 x8 x9 x10 arg11 hchk).1.1 y
      = stepA q0 Zn Vn C A j (y 0).val (y 1).val := by
  refine acc_list arg9 (harg9.unread x9) (stepA q0 Zn Vn C A j) _ _ _ _ _ _ _ _ _ _ _ _ _ _ _ _ []
    ?_ ?_ ?_ ?_ ?_ ?_ ?_ ?_ y
  · exact full_acc q0 Zn Kn Qn Vn C A suf hsuf 0 0 j hlow rfl _ _ _ (hZ 0 (by decide)) (rd5 arg5 harg5 x5 Kn hK (k0_off13 i arg11) _ (256 * j) 0 o13)
      (rd8 arg8 harg8 x8 Qn hQ 0 _) (rd10 arg10 harg10 x10 C hC 0 _) 0 rfl _ _
      (rd9 arg9 harg9 x9 A hA 0 _) (rd6 arg6 harg6 x6 Vn hV (k0_off17 i arg11) _ j 0 o17)
  · exact full_acc q0 Zn Kn Qn Vn C A suf hsuf 1 0 j hlow rfl _ _ _ (hZ 1 (by decide)) (rd5 arg5 harg5 x5 Kn hK (k0_off13 i arg11) _ (256 * j) 0 o13)
      (rd8 arg8 harg8 x8 Qn hQ 1 _) (rd10 arg10 harg10 x10 C hC 1 _) 64 rfl _ _
      (rd9 arg9 harg9 x9 A hA 64 _) (rd6 arg6 harg6 x6 Vn hV (k0_off18 i arg11) _ j 64 o18)
  · exact full_acc q0 Zn Kn Qn Vn C A suf hsuf 2 128 j hlow rfl _ _ _ (hZ 2 (by decide)) (rd5 arg5 harg5 x5 Kn hK (k0_off14 i arg11) _ (256 * j) 128 o14)
      (rd8 arg8 harg8 x8 Qn hQ 2 _) (rd10 arg10 harg10 x10 C hC 2 _) 128 rfl _ _
      (rd9 arg9 harg9 x9 A hA 128 _) (rd6 arg6 harg6 x6 Vn hV (k0_off19 i arg11) _ j 128 o19)
  · exact full_acc q0 Zn Kn Qn Vn C A suf hsuf 3 128 j hlow rfl _ _ _ (hZ 3 (by decide)) (rd5 arg5 harg5 x5 Kn hK (k0_off14 i arg11) _ (256 * j) 128 o14)
      (rd8 arg8 harg8 x8 Qn hQ 3 _) (rd10 arg10 harg10 x10 C hC 3 _) 192 rfl _ _
      (rd9 arg9 harg9 x9 A hA 192 _) (rd6 arg6 harg6 x6 Vn hV (k0_off20 i arg11) _ j 192 o20)
  · exact full_acc q0 Zn Kn Qn Vn C A suf hsuf 4 256 j hlow rfl _ _ _ (hZ 4 (by decide)) (rd5 arg5 harg5 x5 Kn hK (k0_off15 i arg11) _ (256 * j) 256 o15)
      (rd8 arg8 harg8 x8 Qn hQ 4 _) (rd10 arg10 harg10 x10 C hC 4 _) 256 rfl _ _
      (rd9 arg9 harg9 x9 A hA 256 _) (rd6 arg6 harg6 x6 Vn hV (k0_off21 i arg11) _ j 256 o21)
  · exact full_acc q0 Zn Kn Qn Vn C A suf hsuf 5 256 j hlow rfl _ _ _ (hZ 5 (by decide)) (rd5 arg5 harg5 x5 Kn hK (k0_off15 i arg11) _ (256 * j) 256 o15)
      (rd8 arg8 harg8 x8 Qn hQ 5 _) (rd10 arg10 harg10 x10 C hC 5 _) 320 rfl _ _
      (rd9 arg9 harg9 x9 A hA 320 _) (rd6 arg6 harg6 x6 Vn hV (k0_off22 i arg11) _ j 320 o22)
  · exact full_acc q0 Zn Kn Qn Vn C A suf hsuf 6 384 j hlow rfl _ _ _ (hZ 6 (by decide)) (rd5 arg5 harg5 x5 Kn hK (k0_off16 i arg11) _ (256 * j) 384 o16)
      (rd8 arg8 harg8 x8 Qn hQ 6 _) (rd10 arg10 harg10 x10 C hC 6 _) 384 rfl _ _
      (rd9 arg9 harg9 x9 A hA 384 _) (rd6 arg6 harg6 x6 Vn hV (k0_off23 i arg11) _ j 384 o23)
  · exact full_acc q0 Zn Kn Qn Vn C A suf hsuf 7 384 j hlow rfl _ _ _ (hZ 7 (by decide)) (rd5 arg5 harg5 x5 Kn hK (k0_off16 i arg11) _ (256 * j) 384 o16)
      (rd8 arg8 harg8 x8 Qn hQ 7 _) (rd10 arg10 harg10 x10 C hC 7 _) 448 rfl _ _
      (rd9 arg9 harg9 x9 A hA 448 _) (rd6 arg6 harg6 x6 Vn hV (k0_off24 i arg11) _ j 448 o24)

end

end Cert.Proof.KI

end
end
-- ==== Proof.KI.TripVal2.lean ====
/-
  What a trip of the second query tile's loop holds, as numbers.
-/
module

public import proofs.«01_k».proof.Proof.KI.More
public import proofs.«01_k».proof.Proof.KI.Trip2

@[expose] public section

set_option maxRecDepth 65536

noncomputable section

namespace Cert.Proof.KI

open Cert.KernelIdeal Cert.KernelIdeal.Gen

open Idealize.ShloMosaic hiding ix1 ix2 ix3 ix4 eq_ix2
open Idealize.ShloMosaic.ValueIdx
open Idealize.ShloMosaic.TcCoe

section

variable (c : Dev nD) (i : grid0.Coords)
    (arg3 : Memref sig .tc .smem S1 .f32) (harg3 : arg3.IsWhole)
    (arg5 : Memref sig .tc .vmem S1x4096x512 .bf16) (harg5 : arg5.IsWhole)
    (arg6 : Memref sig .tc .vmem S1x16x512x256 .bf16) (harg6 : arg6.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (suf : FVec Ideal S256x256 .bf16) (x3 : Vec Ideal S1 .f32) (x5 : Vec Ideal S1x4096x512 .bf16)
    (x6 : Vec Ideal S1x16x512x256 .bf16) (x8 : Vec Ideal S8x256x128 .bf16) (x9 : Vec Ideal S512x256 .f32) (x10 : Vec Ideal S8x256 .f32)
    (arg11 : BitVec 32) (hchk : k0_chk2 i arg11)
    (q0 : ℕ) (Zn : ℕ → ℕ → ℕ → ℝ) (Kn : ℕ → ℕ → EReal) (Qn Vn : ℕ → ℕ → ℕ → EReal)
    (C : ℕ → ℕ → ℝ) (A : ℕ → ℕ → EReal) (j : ℕ) (hlow : 256 * (j + 1) ≤ q0)
    (hsuf : ∀ a b : Fin 256, suf (ix2 a b) = ((if a ≤ b then 1 else 0 : ℝ) : EReal))
    (hK : ∀ y, x5 y = Kn (y 1).val (y 2).val) (hQ : ∀ y, x8 y = Qn (y 0).val (y 1).val (y 2).val)
    (hV : ∀ y, x6 y = Vn (y 1).val (y 2).val (y 3).val)
    (hA : ∀ y, x9 y = A (y 0).val (y 1).val) (hC : ∀ y, x10 y = ((C (y 0).val (y 1).val : ℝ) : EReal))
    (hZ : ∀ h, h < 8 → ∀ a b : Fin 256, (∑ l : Fin 128, Kn (256 * j + a.val) (128 * (h / 2) + l.val) * Qn h b.val l.val)
      = ((Zn h (256 * j + a.val) b.val : ℝ) : EReal))
    (o25 : k0_off25 i arg11 = ![0, 256 * j, 0])
    (o26 : k0_off26 i arg11 = ![0, 256 * j, 128])
    (o27 : k0_off27 i arg11 = ![0, 256 * j, 256])
    (o28 : k0_off28 i arg11 = ![0, 256 * j, 384])
    (o29 : k0_off29 i arg11 = ![0, j, 0, 0])
    (o30 : k0_off30 i arg11 = ![0, j, 64, 0])
    (o31 : k0_off31 i arg11 = ![0, j, 128, 0])
    (o32 : k0_off32 i arg11 = ![0, j, 192, 0])
    (o33 : k0_off33 i arg11 = ![0, j, 256, 0])
    (o34 : k0_off34 i arg11 = ![0, j, 320, 0])
    (o35 : k0_off35 i arg11 = ![0, j, 384, 0])
    (o36 : k0_off36 i arg11 = ![0, j, 448, 0])
include hlow hsuf hK hQ hC hZ o25 o26 o27 o28

set_option maxHeartbeats 4000000 in
/-- The carries. -/
theorem trip2_car (y : S8x256.Idx) :
    (trip2Run c i arg3 harg3 arg5 harg5 arg6 harg6 arg8 harg8 arg9 harg9 arg10 harg10 suf x3 x5 x6 x8 x9 x10 arg11 hchk).1.2.1 y
      = ((stepC q0 Zn C j (y 0).val (y 1).val : ℝ) : EReal) := by
  refine car_list arg10 (harg10.unread x10) (fun h b => ((stepC q0 Zn C j h b : ℝ) : EReal)) _ _ _ _ _ _ _ _ _ _ _ _ _ _ _ _ []
    ?_ ?_ ?_ ?_ ?_ ?_ ?_ ?_ y
  · intro b
    exact car_cast _ b _ (full_car q0 Zn Kn Qn C suf hsuf 0 0 j hlow rfl _ _ _ (hZ 0 (by decide)) (rd5 arg5 harg5 x5 Kn hK (k0_off25 i arg11) _ (256 * j) 0 o25)
      (rd8 arg8 harg8 x8 Qn hQ 0 _) (rd10 arg10 harg10 x10 C hC 0 _) b)
  · intro b
    exact car_cast _ b _ (full_car q0 Zn Kn Qn C suf hsuf 1 0 j hlow rfl _ _ _ (hZ 1 (by decide)) (rd5 arg5 harg5 x5 Kn hK (k0_off25 i arg11) _ (256 * j) 0 o25)
      (rd8 arg8 harg8 x8 Qn hQ 1 _) (rd10 arg10 harg10 x10 C hC 1 _) b)
  · intro b
    exact car_cast _ b _ (full_car q0 Zn Kn Qn C suf hsuf 2 128 j hlow rfl _ _ _ (hZ 2 (by decide)) (rd5 arg5 harg5 x5 Kn hK (k0_off26 i arg11) _ (256 * j) 128 o26)
      (rd8 arg8 harg8 x8 Qn hQ 2 _) (rd10 arg10 harg10 x10 C hC 2 _) b)
  · intro b
    exact car_cast _ b _ (full_car q0 Zn Kn Qn C suf hsuf 3 128 j hlow rfl _ _ _ (hZ 3 (by decide)) (rd5 arg5 harg5 x5 Kn hK (k0_off26 i arg11) _ (256 * j) 128 o26)
      (rd8 arg8 harg8 x8 Qn hQ 3 _) (rd10 arg10 harg10 x10 C hC 3 _) b)
  · intro b
    exact car_cast _ b _ (full_car q0 Zn Kn Qn C suf hsuf 4 256 j hlow rfl _ _ _ (hZ 4 (by decide)) (rd5 arg5 harg5 x5 Kn hK (k0_off27 i arg11) _ (256 * j) 256 o27)
      (rd8 arg8 harg8 x8 Qn hQ 4 _) (rd10 arg10 harg10 x10 C hC 4 _) b)
  · intro b
    exact car_cast _ b _ (full_car q0 Zn Kn Qn C suf hsuf 5 256 j hlow rfl _ _ _ (hZ 5 (by decide)) (rd5 arg5 harg5 x5 Kn hK (k0_off27 i arg11) _ (256 * j) 256 o27)
      (rd8 arg8 harg8 x8 Qn hQ 5 _) (rd10 arg10 harg10 x10 C hC 5 _) b)
  · intro b
    exact car_cast _ b _ (full_car q0 Zn Kn Qn C suf hsuf 6 384 j hlow rfl _ _ _ (hZ 6 (by decide)) (rd5 arg5 harg5 x5 Kn hK (k0_off28 i arg11) _ (256 * j) 384 o28)
      (rd8 arg8 harg8 x8 Qn hQ 6 _) (rd10 arg10 harg10 x10 C hC 6 _) b)
  · intro b
    exact car_cast _ b _ (full_car q0 Zn Kn Qn C suf hsuf 7 384 j hlow rfl _ _ _ (hZ 7 (by decide)) (rd5 arg5 harg5 x5 Kn hK (k0_off28 i arg11) _ (256 * j) 384 o28)
      (rd8 arg8 harg8 x8 Qn hQ 7 _) (rd10 arg10 harg10 x10 C hC 7 _) b)

set_option maxHeartbeats 4000000 in
/-- The flag: no carry is infinite, so it never falls. -/
theorem trip2_more (hx3 : (trip2Run.sl.r_21 c arg3 harg3 x3 : EReal) ≠ ⊥) :
    (trip2Run c i arg3 harg3 arg5 harg5 arg6 harg6 arg8 harg8 arg9 harg9 arg10 harg10 suf x3 x5 x6 x8 x9 x10 arg11 hchk).1.2.2
      = 1#1 := by
  refine more_spec _ _ _ _ _ _ _ _ _ ?_ ⟨_, full_car q0 Zn Kn Qn C suf hsuf 7 384 j hlow rfl _ _ _ (hZ 7 (by decide)) (rd5 arg5 harg5 x5 Kn hK (k0_off28 i arg11) _ (256 * j) 384 o28)
      (rd8 arg8 harg8 x8 Qn hQ 7 _) (rd10 arg10 harg10 x10 C hC 7 _) 0⟩
  exact hx3

include hV hA o29 o30 o31 o32 o33 o34 o35 o36

set_option maxHeartbeats 4000000 in
/-- The accumulator. -/
theorem trip2_acc (y : S512x256.Idx) :
    (trip2Run c i arg3 harg3 arg5 harg5 arg6 harg6 arg8 harg8 arg9 harg9 arg10 harg10 suf x3 x5 x6 x8 x9 x10 arg11 hchk).1.1 y
      = stepA q0 Zn Vn C A j (y 0).val (y 1).val := by
  refine acc_list arg9 (harg9.unread x9) (stepA q0 Zn Vn C A j) _ _ _ _ _ _ _ _ _ _ _ _ _ _ _ _ []
    ?_ ?_ ?_ ?_ ?_ ?_ ?_ ?_ y
  · exact full_acc q0 Zn Kn Qn Vn C A suf hsuf 0 0 j hlow rfl _ _ _ (hZ 0 (by decide)) (rd5 arg5 harg5 x5 Kn hK (k0_off25 i arg11) _ (256 * j) 0 o25)
      (rd8 arg8 harg8 x8 Qn hQ 0 _) (rd10 arg10 harg10 x10 C hC 0 _) 0 rfl _ _
      (rd9 arg9 harg9 x9 A hA 0 _) (rd6 arg6 harg6 x6 Vn hV (k0_off29 i arg11) _ j 0 o29)
  · exact full_acc q0 Zn Kn Qn Vn C A suf hsuf 1 0 j hlow rfl _ _ _ (hZ 1 (by decide)) (rd5 arg5 harg5 x5 Kn hK (k0_off25 i arg11) _ (256 * j) 0 o25)
      (rd8 arg8 harg8 x8 Qn hQ 1 _) (rd10 arg10 harg10 x10 C hC 1 _) 64 rfl _ _
      (rd9 arg9 harg9 x9 A hA 64 _) (rd6 arg6 harg6 x6 Vn hV (k0_off30 i arg11) _ j 64 o30)
  · exact full_acc q0 Zn Kn Qn Vn C A suf hsuf 2 128 j hlow rfl _ _ _ (hZ 2 (by decide)) (rd5 arg5 harg5 x5 Kn hK (k0_off26 i arg11) _ (256 * j) 128 o26)
      (rd8 arg8 harg8 x8 Qn hQ 2 _) (rd10 arg10 harg10 x10 C hC 2 _) 128 rfl _ _
      (rd9 arg9 harg9 x9 A hA 128 _) (rd6 arg6 harg6 x6 Vn hV (k0_off31 i arg11) _ j 128 o31)
  · exact full_acc q0 Zn Kn Qn Vn C A suf hsuf 3 128 j hlow rfl _ _ _ (hZ 3 (by decide)) (rd5 arg5 harg5 x5 Kn hK (k0_off26 i arg11) _ (256 * j) 128 o26)
      (rd8 arg8 harg8 x8 Qn hQ 3 _) (rd10 arg10 harg10 x10 C hC 3 _) 192 rfl _ _
      (rd9 arg9 harg9 x9 A hA 192 _) (rd6 arg6 harg6 x6 Vn hV (k0_off32 i arg11) _ j 192 o32)
  · exact full_acc q0 Zn Kn Qn Vn C A suf hsuf 4 256 j hlow rfl _ _ _ (hZ 4 (by decide)) (rd5 arg5 harg5 x5 Kn hK (k0_off27 i arg11) _ (256 * j) 256 o27)
      (rd8 arg8 harg8 x8 Qn hQ 4 _) (rd10 arg10 harg10 x10 C hC 4 _) 256 rfl _ _
      (rd9 arg9 harg9 x9 A hA 256 _) (rd6 arg6 harg6 x6 Vn hV (k0_off33 i arg11) _ j 256 o33)
  · exact full_acc q0 Zn Kn Qn Vn C A suf hsuf 5 256 j hlow rfl _ _ _ (hZ 5 (by decide)) (rd5 arg5 harg5 x5 Kn hK (k0_off27 i arg11) _ (256 * j) 256 o27)
      (rd8 arg8 harg8 x8 Qn hQ 5 _) (rd10 arg10 harg10 x10 C hC 5 _) 320 rfl _ _
      (rd9 arg9 harg9 x9 A hA 320 _) (rd6 arg6 harg6 x6 Vn hV (k0_off34 i arg11) _ j 320 o34)
  · exact full_acc q0 Zn Kn Qn Vn C A suf hsuf 6 384 j hlow rfl _ _ _ (hZ 6 (by decide)) (rd5 arg5 harg5 x5 Kn hK (k0_off28 i arg11) _ (256 * j) 384 o28)
      (rd8 arg8 harg8 x8 Qn hQ 6 _) (rd10 arg10 harg10 x10 C hC 6 _) 384 rfl _ _
      (rd9 arg9 harg9 x9 A hA 384 _) (rd6 arg6 harg6 x6 Vn hV (k0_off35 i arg11) _ j 384 o35)
  · exact full_acc q0 Zn Kn Qn Vn C A suf hsuf 7 384 j hlow rfl _ _ _ (hZ 7 (by decide)) (rd5 arg5 harg5 x5 Kn hK (k0_off28 i arg11) _ (256 * j) 384 o28)
      (rd8 arg8 harg8 x8 Qn hQ 7 _) (rd10 arg10 harg10 x10 C hC 7 _) 448 rfl _ _
      (rd9 arg9 harg9 x9 A hA 448 _) (rd6 arg6 harg6 x6 Vn hV (k0_off36 i arg11) _ j 448 o36)

end

end Cert.Proof.KI

end
end
-- ==== Proof.KI.LoopVal.lean ====
/-
  What the two loops leave in the accumulator, as numbers.
-/
module

public import proofs.«01_k».proof.Proof.KI.TripVal1
public import proofs.«01_k».proof.Proof.KI.TripVal2
public import proofs.«01_k».proof.Proof.KI.Loops

@[expose] public section

set_option maxRecDepth 65536

noncomputable section

namespace Cert.Proof.KI

open Cert.KernelIdeal Cert.KernelIdeal.Gen

open Idealize.ShloMosaic hiding ix1 ix2 ix3 ix4 eq_ix2
open Idealize.ShloMosaic.ValueIdx
open Idealize.ShloMosaic.TcCoe

/-- The accumulator after the tiles `k - 1, …, 0`, from given carries and accumulator. -/
def runA (q0 : ℕ) (Zn : ℕ → ℕ → ℕ → ℝ) (Vn : ℕ → ℕ → ℕ → EReal) : ℕ → (ℕ → ℕ → ℝ) → (ℕ → ℕ → EReal) → ℕ → ℕ → EReal
  | 0, _, A => A
  | k + 1, C, A => runA q0 Zn Vn k (stepC q0 Zn C k) (stepA q0 Zn Vn C A k)

theorem stop_ne1 (c : Dev nD) (arg3 : Memref sig .tc .smem S1 .f32) (harg3 : arg3.IsWhole) (x3 : Vec Ideal S1 .f32)
    (hx3 : ∀ y, (x3 y : EReal) ≠ ⊥) : (trip1Run.sl.r_21 c arg3 harg3 x3 : EReal) ≠ ⊥ := by
  unfold trip1Run.sl.r_21
  rw [View.readAt_eq_ld, harg3.read_unread]
  exact hx3 _

theorem stop_ne2 (c : Dev nD) (arg3 : Memref sig .tc .smem S1 .f32) (harg3 : arg3.IsWhole) (x3 : Vec Ideal S1 .f32)
    (hx3 : ∀ y, (x3 y : EReal) ≠ ⊥) : (trip2Run.sl.r_21 c arg3 harg3 x3 : EReal) ≠ ⊥ := by
  unfold trip2Run.sl.r_21
  rw [View.readAt_eq_ld, harg3.read_unread]
  exact hx3 _

section
variable (c : Dev nD) (i : grid0.Coords)
    (arg3 : Memref sig .tc .smem S1 .f32) (harg3 : arg3.IsWhole)
    (arg5 : Memref sig .tc .vmem S1x4096x512 .bf16) (harg5 : arg5.IsWhole)
    (arg6 : Memref sig .tc .vmem S1x16x512x256 .bf16) (harg6 : arg6.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (suf : FVec Ideal S256x256 .bf16) (x3 : Vec Ideal S1 .f32) (x5 : Vec Ideal S1x4096x512 .bf16)
    (x6 : Vec Ideal S1x16x512x256 .bf16) (x8 : Vec Ideal S8x256x128 .bf16)
    (q0 : ℕ) (Zn : ℕ → ℕ → ℕ → ℝ) (Kn : ℕ → ℕ → EReal) (Qn Vn : ℕ → ℕ → ℕ → EReal)

/-- What the loop of the first query tile leaves, entered with the flag up: the remaining tiles' steps. -/
theorem loop1_val (hx3 : ∀ y, (x3 y : EReal) ≠ ⊥)
    (hsuf : ∀ a b : Fin 256, suf (ix2 a b) = ((if a ≤ b then 1 else 0 : ℝ) : EReal))
    (hK : ∀ y, x5 y = Kn (y 1).val (y 2).val) (hQ : ∀ y, x8 y = Qn (y 0).val (y 1).val (y 2).val)
    (hV : ∀ y, x6 y = Vn (y 1).val (y 2).val (y 3).val)
    (hZ : ∀ h, h < 8 → ∀ kp, kp < 4096 → ∀ b : Fin 256, (∑ l : Fin 128, Kn kp (128 * (h / 2) + l.val) * Qn h b.val l.val)
      = ((Zn h kp b.val : ℝ) : EReal)) :
    ∀ (k : ℕ) (hk : k ≤ 2 * (i 2).val) (hlo : 256 * k ≤ q0) (A : Vec Ideal S512x256 .f32) (C : Vec Ideal S8x256 .f32)
      (Cn : ℕ → ℕ → ℝ) (An : ℕ → ℕ → EReal)
      (hA : ∀ y, A y = An (y 0).val (y 1).val) (hC : ∀ y, C y = ((Cn (y 0).val (y 1).val : ℝ) : EReal)) (y : S512x256.Idx),
      (loop1 c i arg3 harg3 arg5 harg5 arg6 harg6 arg8 harg8 arg9 harg9 arg10 harg10 suf x3 x5 x6 x8 k hk A C 1#1).1 y
        = runA q0 Zn Vn k Cn An (y 0).val (y 1).val := by
  have hi : (i 2).val < 8 := (i 2).isLt
  intro k
  induction k with
  | zero =>
    intro hk hlo A C Cn An hA hC y
    exact hA y
  | succ k ih =>
    intro hk hlo A C Cn An hA hC y
    have hlow : 256 * (k + 1) ≤ q0 := hlo
    have o13 : k0_off13 i (BitVec.ofNat 32 (2 * (i 2).val - (k + 1))) = ![0, 256 * k, 0] :=
      (k0_off13_eq i _ (by omega)).trans (by rw [show 2 * (i 2).val - 1 - (2 * (i 2).val - (k + 1)) = k by omega])
    have o14 : k0_off14 i (BitVec.ofNat 32 (2 * (i 2).val - (k + 1))) = ![0, 256 * k, 128] :=
      (k0_off14_eq i _ (by omega)).trans (by rw [show 2 * (i 2).val - 1 - (2 * (i 2).val - (k + 1)) = k by omega])
    have o15 : k0_off15 i (BitVec.ofNat 32 (2 * (i 2).val - (k + 1))) = ![0, 256 * k, 256] :=
      (k0_off15_eq i _ (by omega)).trans (by rw [show 2 * (i 2).val - 1 - (2 * (i 2).val - (k + 1)) = k by omega])
    have o16 : k0_off16 i (BitVec.ofNat 32 (2 * (i 2).val - (k + 1))) = ![0, 256 * k, 384] :=
      (k0_off16_eq i _ (by omega)).trans (by rw [show 2 * (i 2).val - 1 - (2 * (i 2).val - (k + 1)) = k by omega])
    have o17 : k0_off17 i (BitVec.ofNat 32 (2 * (i 2).val - (k + 1))) = ![0, k, 0, 0] :=
      (k0_off17_eq i _ (by omega)).trans (by rw [show 2 * (i 2).val - 1 - (2 * (i 2).val - (k + 1)) = k by omega])
    have o18 : k0_off18 i (BitVec.ofNat 32 (2 * (i 2).val - (k + 1))) = ![0, k, 64, 0] :=
      (k0_off18_eq i _ (by omega)).trans (by rw [show 2 * (i 2).val - 1 - (2 * (i 2).val - (k + 1)) = k by omega])
    have o19 : k0_off19 i (BitVec.ofNat 32 (2 * (i 2).val - (k + 1))) = ![0, k, 128, 0] :=
      (k0_off19_eq i _ (by omega)).trans (by rw [show 2 * (i 2).val - 1 - (2 * (i 2).val - (k + 1)) = k by omega])
    have o20 : k0_off20 i (BitVec.ofNat 32 (2 * (i 2).val - (k + 1))) = ![0, k, 192, 0] :=
      (k0_off20_eq i _ (by omega)).trans (by rw [show 2 * (i 2).val - 1 - (2 * (i 2).val - (k + 1)) = k by omega])
    have o21 : k0_off21 i (BitVec.ofNat 32 (2 * (i 2).val - (k + 1))) = ![0, k, 256, 0] :=
      (k0_off21_eq i _ (by omega)).trans (by rw [show 2 * (i 2).val - 1 - (2 * (i 2).val - (k + 1)) = k by omega])
    have o22 : k0_off22 i (BitVec.ofNat 32 (2 * (i 2).val - (k + 1))) = ![0, k, 320, 0] :=
      (k0_off22_eq i _ (by omega)).trans (by rw [show 2 * (i 2).val - 1 - (2 * (i 2).val - (k + 1)) = k by omega])
    have o23 : k0_off23 i (BitVec.ofNat 32 (2 * (i 2).val - (k + 1))) = ![0, k, 384, 0] :=
      (k0_off23_eq i _ (by omega)).trans (by rw [show 2 * (i 2).val - 1 - (2 * (i 2).val - (k + 1)) = k by omega])
    have o24 : k0_off24 i (BitVec.ofNat 32 (2 * (i 2).val - (k + 1))) = ![0, k, 448, 0] :=
      (k0_off24_eq i _ (by omega)).trans (by rw [show 2 * (i 2).val - 1 - (2 * (i 2).val - (k + 1)) = k by omega])
    rw [loop1, if_pos rfl,
      trip1_more c i arg3 harg3 arg5 harg5 arg6 harg6 arg8 harg8 arg9 harg9 arg10 harg10 suf x3 x5 x6 x8 A C _ (chk1 i _ (by omega)) q0 Zn Kn Qn Cn k hlow hsuf hK hQ hC (fun h hh a b => hZ h hh (256 * k + a.val) (by have := a.isLt; omega) b) o13 o14 o15 o16
        (stop_ne1 c arg3 harg3 x3 hx3)]
    exact ih (by omega) (by omega) _ _ _ _
      (fun y => trip1_acc c i arg3 harg3 arg5 harg5 arg6 harg6 arg8 harg8 arg9 harg9 arg10 harg10 suf x3 x5 x6 x8 A C _ (chk1 i _ (by omega)) q0 Zn Kn Qn Vn Cn An k hlow hsuf hK hQ hV hA hC (fun h hh a b => hZ h hh (256 * k + a.val) (by have := a.isLt; omega) b)
        o13 o14 o15 o16 o17 o18 o19 o20 o21 o22 o23 o24 y)
      (fun y => trip1_car c i arg3 harg3 arg5 harg5 arg6 harg6 arg8 harg8 arg9 harg9 arg10 harg10 suf x3 x5 x6 x8 A C _ (chk1 i _ (by omega)) q0 Zn Kn Qn Cn k hlow hsuf hK hQ hC (fun h hh a b => hZ h hh (256 * k + a.val) (by have := a.isLt; omega) b)
        o13 o14 o15 o16 y) y

/-- What the loop of the second query tile leaves, entered with the flag up: the remaining tiles' steps. -/
theorem loop2_val (hx3 : ∀ y, (x3 y : EReal) ≠ ⊥)
    (hsuf : ∀ a b : Fin 256, suf (ix2 a b) = ((if a ≤ b then 1 else 0 : ℝ) : EReal))
    (hK : ∀ y, x5 y = Kn (y 1).val (y 2).val) (hQ : ∀ y, x8 y = Qn (y 0).val (y 1).val (y 2).val)
    (hV : ∀ y, x6 y = Vn (y 1).val (y 2).val (y 3).val)
    (hZ : ∀ h, h < 8 → ∀ kp, kp < 4096 → ∀ b : Fin 256, (∑ l : Fin 128, Kn kp (128 * (h / 2) + l.val) * Qn h b.val l.val)
      = ((Zn h kp b.val : ℝ) : EReal)) :
    ∀ (k : ℕ) (hk : k ≤ 2 * (i 2).val + 1) (hlo : 256 * k ≤ q0) (A : Vec Ideal S512x256 .f32) (C : Vec Ideal S8x256 .f32)
      (Cn : ℕ → ℕ → ℝ) (An : ℕ → ℕ → EReal)
      (hA : ∀ y, A y = An (y 0).val (y 1).val) (hC : ∀ y, C y = ((Cn (y 0).val (y 1).val : ℝ) : EReal)) (y : S512x256.Idx),
      (loop2 c i arg3 harg3 arg5 harg5 arg6 harg6 arg8 harg8 arg9 harg9 arg10 harg10 suf x3 x5 x6 x8 k hk A C 1#1).1 y
        = runA q0 Zn Vn k Cn An (y 0).val (y 1).val := by
  have hi : (i 2).val < 8 := (i 2).isLt
  intro k
  induction k with
  | zero =>
    intro hk hlo A C Cn An hA hC y
    exact hA y
  | succ k ih =>
    intro hk hlo A C Cn An hA hC y
    have hlow : 256 * (k + 1) ≤ q0 := hlo
    have o25 : k0_off25 i (BitVec.ofNat 32 (2 * (i 2).val + 1 - (k + 1))) = ![0, 256 * k, 0] :=
      (k0_off25_eq i _ (by omega)).trans (by rw [show 2 * (i 2).val + 1 - 1 - (2 * (i 2).val + 1 - (k + 1)) = k by omega])
    have o26 : k0_off26 i (BitVec.ofNat 32 (2 * (i 2).val + 1 - (k + 1))) = ![0, 256 * k, 128] :=
      (k0_off26_eq i _ (by omega)).trans (by rw [show 2 * (i 2).val + 1 - 1 - (2 * (i 2).val + 1 - (k + 1)) = k by omega])
    have o27 : k0_off27 i (BitVec.ofNat 32 (2 * (i 2).val + 1 - (k + 1))) = ![0, 256 * k, 256] :=
      (k0_off27_eq i _ (by omega)).trans (by rw [show 2 * (i 2).val + 1 - 1 - (2 * (i 2).val + 1 - (k + 1)) = k by omega])
    have o28 : k0_off28 i (BitVec.ofNat 32 (2 * (i 2).val + 1 - (k + 1))) = ![0, 256 * k, 384] :=
      (k0_off28_eq i _ (by omega)).trans (by rw [show 2 * (i 2).val + 1 - 1 - (2 * (i 2).val + 1 - (k + 1)) = k by omega])
    have o29 : k0_off29 i (BitVec.ofNat 32 (2 * (i 2).val + 1 - (k + 1))) = ![0, k, 0, 0] :=
      (k0_off29_eq i _ (by omega)).trans (by rw [show 2 * (i 2).val + 1 - 1 - (2 * (i 2).val + 1 - (k + 1)) = k by omega])
    have o30 : k0_off30 i (BitVec.ofNat 32 (2 * (i 2).val + 1 - (k + 1))) = ![0, k, 64, 0] :=
      (k0_off30_eq i _ (by omega)).trans (by rw [show 2 * (i 2).val + 1 - 1 - (2 * (i 2).val + 1 - (k + 1)) = k by omega])
    have o31 : k0_off31 i (BitVec.ofNat 32 (2 * (i 2).val + 1 - (k + 1))) = ![0, k, 128, 0] :=
      (k0_off31_eq i _ (by omega)).trans (by rw [show 2 * (i 2).val + 1 - 1 - (2 * (i 2).val + 1 - (k + 1)) = k by omega])
    have o32 : k0_off32 i (BitVec.ofNat 32 (2 * (i 2).val + 1 - (k + 1))) = ![0, k, 192, 0] :=
      (k0_off32_eq i _ (by omega)).trans (by rw [show 2 * (i 2).val + 1 - 1 - (2 * (i 2).val + 1 - (k + 1)) = k by omega])
    have o33 : k0_off33 i (BitVec.ofNat 32 (2 * (i 2).val + 1 - (k + 1))) = ![0, k, 256, 0] :=
      (k0_off33_eq i _ (by omega)).trans (by rw [show 2 * (i 2).val + 1 - 1 - (2 * (i 2).val + 1 - (k + 1)) = k by omega])
    have o34 : k0_off34 i (BitVec.ofNat 32 (2 * (i 2).val + 1 - (k + 1))) = ![0, k, 320, 0] :=
      (k0_off34_eq i _ (by omega)).trans (by rw [show 2 * (i 2).val + 1 - 1 - (2 * (i 2).val + 1 - (k + 1)) = k by omega])
    have o35 : k0_off35 i (BitVec.ofNat 32 (2 * (i 2).val + 1 - (k + 1))) = ![0, k, 384, 0] :=
      (k0_off35_eq i _ (by omega)).trans (by rw [show 2 * (i 2).val + 1 - 1 - (2 * (i 2).val + 1 - (k + 1)) = k by omega])
    have o36 : k0_off36 i (BitVec.ofNat 32 (2 * (i 2).val + 1 - (k + 1))) = ![0, k, 448, 0] :=
      (k0_off36_eq i _ (by omega)).trans (by rw [show 2 * (i 2).val + 1 - 1 - (2 * (i 2).val + 1 - (k + 1)) = k by omega])
    rw [loop2, if_pos rfl,
      trip2_more c i arg3 harg3 arg5 harg5 arg6 harg6 arg8 harg8 arg9 harg9 arg10 harg10 suf x3 x5 x6 x8 A C _ (chk2 i _ (by omega)) q0 Zn Kn Qn Cn k hlow hsuf hK hQ hC (fun h hh a b => hZ h hh (256 * k + a.val) (by have := a.isLt; omega) b) o25 o26 o27 o28
        (stop_ne2 c arg3 harg3 x3 hx3)]
    exact ih (by omega) (by omega) _ _ _ _
      (fun y => trip2_acc c i arg3 harg3 arg5 harg5 arg6 harg6 arg8 harg8 arg9 harg9 arg10 harg10 suf x3 x5 x6 x8 A C _ (chk2 i _ (by omega)) q0 Zn Kn Qn Vn Cn An k hlow hsuf hK hQ hV hA hC (fun h hh a b => hZ h hh (256 * k + a.val) (by have := a.isLt; omega) b)
        o25 o26 o27 o28 o29 o30 o31 o32 o33 o34 o35 o36 y)
      (fun y => trip2_car c i arg3 harg3 arg5 harg5 arg6 harg6 arg8 harg8 arg9 harg9 arg10 harg10 suf x3 x5 x6 x8 A C _ (chk2 i _ (by omega)) q0 Zn Kn Qn Cn k hlow hsuf hK hQ hC (fun h hh a b => hZ h hh (256 * k + a.val) (by have := a.isLt; omega) b)
        o25 o26 o27 o28 y) y

end

end Cert.Proof.KI

end
end
-- ==== Proof.KI.BodyCommon.lean ====
/-
  What the body of a step lays out before its loops: the masked heads of the queries, the suffix matrix, the causal mask of
  the diagonal tile, the zero fills.
-/
module

public import proofs.«01_k».proof.Proof.KI.LoopVal
public import proofs.«01_k».proof.Proof.KI.Body
public import Idealize.ShloMosaic.Lib.WritesUnit
public import Idealize.ShloMosaic.Lib.WordCmp

@[expose] public section

set_option maxRecDepth 65536

noncomputable section

namespace Cert.Proof.KI

open Cert.KernelIdeal Cert.KernelIdeal.Gen

open Idealize.ShloMosaic hiding ix1 ix2 ix3 ix4 eq_ix2 eq_ix3
open Idealize.ShloMosaic.ValueIdx
open Idealize.ShloMosaic.TcCoe

theorem piece8 (P : FVec Ideal S1x256x128 .bf16) (G : ℕ → ℕ → ℕ → EReal) (c : ℕ) (i)
    (h : ∀ (r : Fin 256) (l : Fin 128), P (ix3 (0 : Fin 1) r l) = G c r.val l.val)
    (x : (Rect.unit (s := S8x256x128) ![c, 0, 0] S1x256x128.size i).shape.Idx) :
    P x = (fun y : S8x256x128.Idx => G (y 0).val (y 1).val (y 2).val)
      ((Rect.unit (s := S8x256x128) ![c, 0, 0] S1x256x128.size i).emb x) := by
  have h0 : (x 0 : Fin 1) = (0 : Fin 1) := Fin.eq_zero _
  have hx : x = ix3 (0 : Fin 1) (x 1 : Fin 256) (x 2 : Fin 128) := by
    rw [← h0]
    exact eq_ix3 x
  have e0 : (x 0).val = 0 := congrArg Fin.val h0
  refine (congrArg P hx).trans ?_
  refine (h _ _).trans ?_
  show _ = G (c + 1 * (x 0).val) (0 + 1 * (x 1).val) (0 + 1 * (x 2).val)
  rw [e0, one_mul, one_mul, one_mul, zero_add, zero_add, add_zero]

theorem mem8 (c : ℕ) (i) (y : S8x256x128.Idx) (h : (y 0).val = c) :
    y ∈ (Rect.unit (s := S8x256x128) ![c, 0, 0] S1x256x128.size i).set := by
  rw [Rect.mem_set_unit]
  intro a
  have h1 := (y 1).isLt
  have h2 := (y 2).isLt
  match a with
  | ⟨0, _⟩ => exact ⟨show c ≤ (y 0).val by omega, show (y 0).val < c + 1 by omega⟩
  | ⟨1, _⟩ => exact ⟨Nat.zero_le _, show (y 1).val < 0 + 256 by simpa using h1⟩
  | ⟨2, _⟩ => exact ⟨Nat.zero_le _, show (y 2).val < 0 + 128 by simpa using h2⟩

/-- Eight heads, each holding its part of `G`, leave `G`. -/
theorem head_list (a : Memref sig .tc .vmem S8x256x128 .bf16) (f : a.view.ty.Contents (Elt Ideal)) (G : ℕ → ℕ → ℕ → EReal)
    (P0 P1 P2 P3 P4 P5 P6 P7 : FVec Ideal S1x256x128 .bf16) (i0 i1 i2 i3 i4 i5 i6 i7)
    (L : List (View.Piece (Elt Ideal) S8x256x128 .bf16))
    (h0 : ∀ (r : Fin 256) (l : Fin 128), P0 (ix3 (0 : Fin 1) r l) = G 0 r.val l.val)
    (h1 : ∀ (r : Fin 256) (l : Fin 128), P1 (ix3 (0 : Fin 1) r l) = G 1 r.val l.val)
    (h2 : ∀ (r : Fin 256) (l : Fin 128), P2 (ix3 (0 : Fin 1) r l) = G 2 r.val l.val)
    (h3 : ∀ (r : Fin 256) (l : Fin 128), P3 (ix3 (0 : Fin 1) r l) = G 3 r.val l.val)
    (h4 : ∀ (r : Fin 256) (l : Fin 128), P4 (ix3 (0 : Fin 1) r l) = G 4 r.val l.val)
    (h5 : ∀ (r : Fin 256) (l : Fin 128), P5 (ix3 (0 : Fin 1) r l) = G 5 r.val l.val)
    (h6 : ∀ (r : Fin 256) (l : Fin 128), P6 (ix3 (0 : Fin 1) r l) = G 6 r.val l.val)
    (h7 : ∀ (r : Fin 256) (l : Fin 128), P7 (ix3 (0 : Fin 1) r l) = G 7 r.val l.val) (y : S8x256x128.Idx) :
    a.view.read (Elt Ideal) (a.view.writes (Elt Ideal) f
      (⟨Rect.unit (s := S8x256x128) ![7, 0, 0] S1x256x128.size i7, P7⟩ :: ⟨Rect.unit (s := S8x256x128) ![6, 0, 0] S1x256x128.size i6, P6⟩ :: ⟨Rect.unit (s := S8x256x128) ![5, 0, 0] S1x256x128.size i5, P5⟩ :: ⟨Rect.unit (s := S8x256x128) ![4, 0, 0] S1x256x128.size i4, P4⟩ :: ⟨Rect.unit (s := S8x256x128) ![3, 0, 0] S1x256x128.size i3, P3⟩ :: ⟨Rect.unit (s := S8x256x128) ![2, 0, 0] S1x256x128.size i2, P2⟩ :: ⟨Rect.unit (s := S8x256x128) ![1, 0, 0] S1x256x128.size i1, P1⟩ :: ⟨Rect.unit (s := S8x256x128) ![0, 0, 0] S1x256x128.size i0, P0⟩ :: L)) y
      = G (y 0).val (y 1).val (y 2).val := by
  refine View.read_writes_apply_of_pieces a.view (a.view.writes (Elt Ideal) f L)
    (fun y : S8x256x128.Idx => G (y 0).val (y 1).val (y 2).val)
    [⟨Rect.unit (s := S8x256x128) ![7, 0, 0] S1x256x128.size i7, P7⟩, ⟨Rect.unit (s := S8x256x128) ![6, 0, 0] S1x256x128.size i6, P6⟩, ⟨Rect.unit (s := S8x256x128) ![5, 0, 0] S1x256x128.size i5, P5⟩, ⟨Rect.unit (s := S8x256x128) ![4, 0, 0] S1x256x128.size i4, P4⟩, ⟨Rect.unit (s := S8x256x128) ![3, 0, 0] S1x256x128.size i3, P3⟩, ⟨Rect.unit (s := S8x256x128) ![2, 0, 0] S1x256x128.size i2, P2⟩, ⟨Rect.unit (s := S8x256x128) ![1, 0, 0] S1x256x128.size i1, P1⟩, ⟨Rect.unit (s := S8x256x128) ![0, 0, 0] S1x256x128.size i0, P0⟩] ?_ y ?_
  · intro p hp
    simp only [List.mem_cons, List.not_mem_nil, or_false] at hp
    rcases hp with rfl | rfl | rfl | rfl | rfl | rfl | rfl | rfl
    · exact piece8 P7 G 7 i7 h7
    · exact piece8 P6 G 6 i6 h6
    · exact piece8 P5 G 5 i5 h5
    · exact piece8 P4 G 4 i4 h4
    · exact piece8 P3 G 3 i3 h3
    · exact piece8 P2 G 2 i2 h2
    · exact piece8 P1 G 1 i1 h1
    · exact piece8 P0 G 0 i0 h0
  · have hy : (y 0).val < 8 := (y 0).isLt
    have hq : (y 0).val = 0 ∨ (y 0).val = 1 ∨ (y 0).val = 2 ∨ (y 0).val = 3 ∨ (y 0).val = 4
        ∨ (y 0).val = 5 ∨ (y 0).val = 6 ∨ (y 0).val = 7 := by omega
    rcases hq with h | h | h | h | h | h | h | h
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem8 0 i0 y h⟩
    · exact ⟨_, List.mem_cons_of_mem _ (List.mem_cons_of_mem _ (List.mem_cons_of_mem _ (List.mem_cons_of_mem _ (List.mem_cons_of_mem _ (List.mem_cons_of_mem _ (List.mem_cons_self)))))), mem8 1 i1 y h⟩
    · exact ⟨_, List.mem_cons_of_mem _ (List.mem_cons_of_mem _ (List.mem_cons_of_mem _ (List.mem_cons_of_mem _ (List.mem_cons_of_mem _ (List.mem_cons_self))))), mem8 2 i2 y h⟩
    · exact ⟨_, List.mem_cons_of_mem _ (List.mem_cons_of_mem _ (List.mem_cons_of_mem _ (List.mem_cons_of_mem _ (List.mem_cons_self)))), mem8 3 i3 y h⟩
    · exact ⟨_, List.mem_cons_of_mem _ (List.mem_cons_of_mem _ (List.mem_cons_of_mem _ (List.mem_cons_self))), mem8 4 i4 y h⟩
    · exact ⟨_, List.mem_cons_of_mem _ (List.mem_cons_of_mem _ (List.mem_cons_self)), mem8 5 i5 y h⟩
    · exact ⟨_, List.mem_cons_of_mem _ (List.mem_cons_self), mem8 6 i6 y h⟩
    · exact ⟨_, List.mem_cons_self, mem8 7 i7 y h⟩

theorem rdc8 (a : Memref sig .tc .vmem S8x256x128 .bf16) (L : List (View.Piece (Elt Ideal) S8x256x128 .bf16))
    (Qn : ℕ → ℕ → ℕ → EReal)
    (hQ : ∀ y, a.view.read (Elt Ideal) (a.view.writes (Elt Ideal) a.view.junk L) y = Qn (y 0).val (y 1).val (y 2).val) (h : ℕ) (inb)
    (r : Fin 256) (l : Fin 128) :
    a.view.readCov L (Rect.unit (s := S8x256x128) ![h, 0, 0] S1x256x128.size inb).toLoadRect (ix3 (0 : Fin 1) r l) = Qn h r.val l.val := by
  show View.readAt (Elt Ideal) a.view _ _ _ = _
  rw [View.readAt_eq_ld]
  refine (hQ _).trans ?_
  show Qn (h + 1 * 0) (0 + 1 * r.val) (0 + 1 * l.val) = _
  simp only [one_mul, zero_add, add_zero]

theorem rdc10 (a : Memref sig .tc .vmem S8x256 .f32) (L : List (View.Piece (Elt Ideal) S8x256 .f32)) (Cn : ℕ → ℕ → ℝ)
    (hC : ∀ y, a.view.read (Elt Ideal) (a.view.writes (Elt Ideal) a.view.junk L) y = ((Cn (y 0).val (y 1).val : ℝ) : EReal)) (h : ℕ) (inb)
    (b : Fin 256) :
    a.view.readCov L (Rect.unit (s := S8x256) ![h, 0] S1x256.size inb).toLoadRect (ix2 (0 : Fin 1) b) = ((Cn h b.val : ℝ) : EReal) := by
  show View.readAt (Elt Ideal) a.view _ _ _ = _
  rw [View.readAt_eq_ld]
  refine (hC _).trans ?_
  show ((Cn (h + 1 * 0) (0 + 1 * b.val) : ℝ) : EReal) = _
  simp only [one_mul, zero_add, add_zero]

/-- The list `L` leaves zero in the rows from `n` on. -/
def ZeroFrom (a : Memref sig .tc .vmem S512x256 .f32) (L : List (View.Piece (Elt Ideal) S512x256 .f32)) (n : ℕ) : Prop :=
  ∀ y : S512x256.Idx, n ≤ (y 0).val → (a.view.read (Elt Ideal) (a.view.writes (Elt Ideal) a.view.junk L) y : EReal) = 0

theorem zero_fill9 (a : Memref sig .tc .vmem S512x256 .f32) (P : FVec Ideal S512x256 .f32) (inb) (hP : ∀ y, (P y : EReal) = 0)
    (L : List (View.Piece (Elt Ideal) S512x256 .f32)) :
    ZeroFrom a (⟨Rect.unit (s := S512x256) ![0, 0] S512x256.size inb, P⟩ :: L) 0 := by
  intro y _
  rw [View.read_writes_cons_unit_of_mem a.view _ inb P L y y rfl
    (fun x => by match x with
      | ⟨0, _⟩ => exact (Nat.zero_add _).symm
      | ⟨1, _⟩ => exact (Nat.zero_add _).symm)]
  exact hP y

theorem zero_fill10 (a : Memref sig .tc .vmem S8x256 .f32) (P : FVec Ideal S8x256 .f32) (inb) (hP : ∀ y, (P y : EReal) = 0)
    (L : List (View.Piece (Elt Ideal) S8x256 .f32)) (y : S8x256.Idx) :
    a.view.read (Elt Ideal) (a.view.writes (Elt Ideal) a.view.junk (⟨Rect.unit (s := S8x256) ![0, 0] S8x256.size inb, P⟩ :: L)) y
      = (((fun _ _ => 0 : ℕ → ℕ → ℝ) (y 0).val (y 1).val : ℝ) : EReal) := by
  rw [View.read_writes_cons_unit_of_mem a.view _ inb P L y y rfl
    (fun x => by match x with
      | ⟨0, _⟩ => exact (Nat.zero_add _).symm
      | ⟨1, _⟩ => exact (Nat.zero_add _).symm)]
  exact (hP y).trans EReal.coe_zero.symm

theorem zero_skip (a : Memref sig .tc .vmem S512x256 .f32) (P : FVec Ideal S64x256 .f32) (n : ℕ) (inb)
    (L : List (View.Piece (Elt Ideal) S512x256 .f32)) (h : ZeroFrom a L n) :
    ZeroFrom a (⟨Rect.unit (s := S512x256) ![n, 0] S64x256.size inb, P⟩ :: L) (n + 64) := by
  intro y hy
  rw [View.read_writes_cons_unit_of_not_mem a.view _ inb P L y rfl 0 (Or.inr hy)]
  exact h y (by omega)

theorem rdc9 (a : Memref sig .tc .vmem S512x256 .f32) (L : List (View.Piece (Elt Ideal) S512x256 .f32)) (n : ℕ) (h : ZeroFrom a L n)
    (inb) (r : Fin 64) (b : Fin 256) :
    a.view.readCov L (Rect.unit (s := S512x256) ![n, 0] S64x256.size inb).toLoadRect (ix2 r b)
      = (fun _ _ => 0 : ℕ → ℕ → EReal) (n + r.val) b.val := by
  show View.readAt (Elt Ideal) a.view _ _ _ = _
  rw [View.readAt_eq_ld]
  exact h _ (show n ≤ n + 1 * r.val by omega)

theorem rd4 (a : Memref sig .tc .vmem S1x512x512 .bf16) (ha : a.IsWhole) (x : FVec Ideal S1x512x512 .bf16)
    (Xn : ℕ → ℕ → EReal) (hX : ∀ y, x y = Xn (y 1).val (y 2).val) (r0 c0 : ℕ) (inb) (r : Fin 256) (l : Fin 128) :
    View.readAt (Elt Ideal) a.view (Rect.unit (s := S1x512x512) ![0, r0, c0] S1x256x128.size inb).toLoadRect (ha.unread x) (ix3 (0 : Fin 1) r l)
      = Xn (r0 + r.val) (c0 + l.val) := by
  rw [View.readAt_eq_ld, ha.read_unread]
  refine (hX _).trans ?_
  show Xn (r0 + 1 * r.val) (c0 + 1 * l.val) = _
  rw [one_mul, one_mul]

/-- The queries' head `h` of the tile that starts at row `r0`: its pair's lanes, the other head's at zero. -/
def headQ (Xn : ℕ → ℕ → EReal) (r0 h b l : ℕ) : EReal := if l / 64 = h % 2 then Xn (r0 + b) (128 * (h / 2) + l) else 0

theorem head_piece (Xn : ℕ → ℕ → EReal) (r0 h p : ℕ) (hp : p = 128 * (h / 2)) (m : IVec S256x128 1)
    (hm : ∀ (r : Fin 256) (l : Fin 128), m (ix2 r l) = if l.val / 64 = h % 2 then 1#1 else 0#1) (blk : FVec Ideal S1x256x128 .bf16)
    (hb : ∀ (r : Fin 256) (l : Fin 128), blk (ix3 (0 : Fin 1) r l) = Xn (r0 + r.val) (p + l.val)) (r : Fin 256) (l : Fin 128) :
    shapeCast S1x256x128 (select m (shapeCast S256x128 blk shapeCasts_S1x256x128_S256x128)
      (broadcast S256x128 (Scalar.ofBits (F := Ideal) .bf16 0x0000#16))) shapeCasts_S256x128_S1x256x128 (ix3 (0 : Fin 1) r l)
      = headQ Xn r0 h r.val l.val := by
  subst hp
  refine (shapeCast_ab_1ab_apply _ _ (0 : Fin 1) r l).trans ?_
  refine (select_apply _ _ _ _).trans ?_
  rw [hm, headQ]
  split_ifs with hc
  · refine (shapeCast_1ab_ab_apply _ _ r l).trans ?_
    exact hb r l
  · exact Ideal.ofBits_zero (φ := .bf16)

theorem lane_even (r : Fin 256) (l : Fin 128) :
    cmpi .eq bodyRun.sl.v47 bodyRun.sl.v26 (ix2 r l) = if l.val / 64 = 0 % 2 then 1#1 else 0#1 := by
  revert l
  exact (by decide : ∀ l : Fin 128, cmpi .eq bodyRun.sl.v47 bodyRun.sl.v26 (ix2 (0 : Fin 256) l) = if l.val / 64 = 0 % 2 then 1#1 else 0#1)

theorem lane_odd (r : Fin 256) (l : Fin 128) :
    cmpi .eq bodyRun.sl.v47 bodyRun.sl.v38 (ix2 r l) = if l.val / 64 = 1 % 2 then 1#1 else 0#1 := by
  revert l
  exact (by decide : ∀ l : Fin 128, cmpi .eq bodyRun.sl.v47 bodyRun.sl.v38 (ix2 (0 : Fin 256) l) = if l.val / 64 = 1 % 2 then 1#1 else 0#1)

theorem slt_nat (x y : ℕ) (hx : x < 4096) (hy : y < 4096) :
    IntOp.cmpi .slt (BitVec.ofNat 32 x) (BitVec.ofNat 32 y) = if x < y then 1#1 else 0#1 := by
  rw [WordCmp.cmpi_slt_ofNat (by omega) (by omega)]
  by_cases h : x < y <;> simp [h]

theorem sge_nat (x y : ℕ) (hx : x < 4096) (hy : y < 4096) :
    IntOp.cmpi .sge (BitVec.ofNat 32 x) (BitVec.ofNat 32 y) = if y ≤ x then 1#1 else 0#1 := by
  rw [WordCmp.cmpi_sge_ofNat (by omega) (by omega)]
  by_cases h : y ≤ x <;> simp [h]

theorem col_v293 (a b : Fin 256) : bodyRun.sl.v293 (ix2 a b) = BitVec.ofNat 32 b.val :=
  congrArg (BitVec.ofNat 32) (Nat.zero_add _ : 0 + b.val = _)

theorem row_v294 (a b : Fin 256) : bodyRun.sl.v294 (ix2 a b) = BitVec.ofNat 32 a.val :=
  congrArg (BitVec.ofNat 32) (Nat.zero_add _ : 0 + a.val = _)

theorem col_v967 (a b : Fin 256) : bodyRun.sl.v967 (ix2 a b) = BitVec.ofNat 32 b.val :=
  congrArg (BitVec.ofNat 32) (Nat.zero_add _ : 0 + b.val = _)

theorem row_v968 (a b : Fin 256) : bodyRun.sl.v968 (ix2 a b) = BitVec.ofNat 32 a.val :=
  congrArg (BitVec.ofNat 32) (Nat.zero_add _ : 0 + a.val = _)

/-- The suffix matrix. -/
theorem suffix_spec (a b : Fin 256) :
    bodyRun.sl.v298 (F := Ideal) (ix2 a b) = ((if a ≤ b then 1 else 0 : ℝ) : EReal) := by
  have e : bodyRun.sl.v296 (ix2 a b) = if a.val ≤ b.val then 1#32 else 0#32 := by
    show (IntOp.cmpi .sge (bodyRun.sl.v293 (ix2 a b)) (bodyRun.sl.v294 (ix2 a b))).setWidth 32 = _
    rw [col_v293, row_v294, sge_nat _ _ (by omega) (by omega)]
    split_ifs <;> rfl
  show (FloatOps.sitofp (F := Ideal) .f32 (bodyRun.sl.v296 (ix2 a b)) : EReal) = _
  rw [e]
  by_cases h : a ≤ b
  · rw [if_pos h, if_pos (show a.val ≤ b.val from h)]
    show (((1#32).toInt : ℝ) : EReal) = _
    norm_num
  · rw [if_neg h, if_neg (show ¬ a.val ≤ b.val from h)]
    show (((0#32).toInt : ℝ) : EReal) = _
    norm_num

theorem suffix_spec' (a b : Fin 256) :
    bodyRun.sl.v972 (F := Ideal) (ix2 a b) = ((if a ≤ b then 1 else 0 : ℝ) : EReal) := suffix_spec a b

/-- A step of the grid whose tile number is `t`. -/
def atTile (t : Fin 8) : grid0.Coords := fun a => match a with
  | ⟨0, _⟩ => (0 : Fin 16)
  | ⟨1, _⟩ => (0 : Fin 1)
  | ⟨2, _⟩ => t

theorem word_k1 (i : grid0.Coords) : bodyRun.sl.v307 i = BitVec.ofNat 32 (512 * (i 2).val) :=
  (by decide : ∀ t : Fin 8, bodyRun.sl.v307 (atTile t) = BitVec.ofNat 32 (512 * t.val)) (i 2)

theorem word_q1 (i : grid0.Coords) : bodyRun.sl.v3 i = BitVec.ofNat 32 (512 * (i 2).val) :=
  (by decide : ∀ t : Fin 8, bodyRun.sl.v3 (atTile t) = BitVec.ofNat 32 (512 * t.val)) (i 2)

theorem word_k2 (i : grid0.Coords) : bodyRun.sl.v981 i = BitVec.ofNat 32 (512 * (i 2).val + 256) :=
  (by decide : ∀ t : Fin 8, bodyRun.sl.v981 (atTile t) = BitVec.ofNat 32 (512 * t.val + 256)) (i 2)

theorem word_q2 (i : grid0.Coords) : bodyRun.sl.v677 i = BitVec.ofNat 32 (512 * (i 2).val + 256) :=
  (by decide : ∀ t : Fin 8, bodyRun.sl.v677 (atTile t) = BitVec.ofNat 32 (512 * t.val + 256)) (i 2)

/-- The causal mask of the diagonal tile. -/
theorem vis1 (i : grid0.Coords) (a b : Fin 256) : bodyRun.sl.v316 i (ix2 a b) = if a.val < b.val then 1#1 else 0#1 := by
  have hi : (i 2).val < 8 := (i 2).isLt
  show IntOp.cmpi .slt (bodyRun.sl.v307 i + bodyRun.sl.v294 (ix2 a b)) (bodyRun.sl.v3 i + bodyRun.sl.v293 (ix2 a b)) = _
  rw [row_v294, col_v293, word_k1, word_q1, ← BitVec.ofNat_add, ← BitVec.ofNat_add, slt_nat _ _ (by omega) (by omega)]
  exact if_congr (by omega) rfl rfl

theorem vis2 (i : grid0.Coords) (a b : Fin 256) : bodyRun.sl.v990 i (ix2 a b) = if a.val < b.val then 1#1 else 0#1 := by
  have hi : (i 2).val < 8 := (i 2).isLt
  show IntOp.cmpi .slt (bodyRun.sl.v981 i + bodyRun.sl.v968 (ix2 a b)) (bodyRun.sl.v677 i + bodyRun.sl.v967 (ix2 a b)) = _
  rw [row_v968, col_v967, word_k2, word_q2, ← BitVec.ofNat_add, ← BitVec.ofNat_add, slt_nat _ _ (by omega) (by omega)]
  exact if_congr (by omega) rfl rfl

end Cert.Proof.KI

end
end
-- ==== Proof.KI.BodyVal1.lean ====
/-
  The first query tile of a step, as numbers: its heads, its diagonal tile, and its loop.
-/
module

public import proofs.«01_k».proof.Proof.KI.BodyCommon

@[expose] public section

set_option maxRecDepth 65536

noncomputable section

namespace Cert.Proof.KI

open Cert.KernelIdeal Cert.KernelIdeal.Gen

open Idealize.ShloMosaic hiding ix1 ix2 ix3 ix4 eq_ix2 eq_ix3
open Idealize.ShloMosaic.ValueIdx
open Idealize.ShloMosaic.TcCoe

section

variable (c : Dev nD) (i : grid0.Coords)
    (arg3 : Memref sig .tc .smem S1 .f32) (harg3 : arg3.IsWhole)
    (arg4 : Memref sig .tc .vmem S1x512x512 .bf16) (harg4 : arg4.IsWhole)
    (arg5 : Memref sig .tc .vmem S1x4096x512 .bf16) (harg5 : arg5.IsWhole)
    (arg6 : Memref sig .tc .vmem S1x16x512x256 .bf16) (harg6 : arg6.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (x3 : Vec Ideal S1 .f32) (x4 : Vec Ideal S1x512x512 .bf16) (x5 : Vec Ideal S1x4096x512 .bf16)
    (x6 : Vec Ideal S1x16x512x256 .bf16)
    (Xn Kn : ℕ → ℕ → EReal) (Vn : ℕ → ℕ → ℕ → EReal) (Zn : ℕ → ℕ → ℕ → ℝ)
    (hX : ∀ y, x4 y = Xn (y 1).val (y 2).val) (hK : ∀ y, x5 y = Kn (y 1).val (y 2).val)
    (hV : ∀ y, x6 y = Vn (y 1).val (y 2).val (y 3).val)
    (hZ : ∀ h, h < 8 → ∀ kp, kp < 4096 → ∀ b : Fin 256,
      (∑ l : Fin 128, Kn kp (128 * (h / 2) + l.val) * headQ Xn 0 h b.val l.val) = ((Zn h kp b.val : ℝ) : EReal))

include hX in
set_option maxHeartbeats 4000000 in
/-- The heads the tile's trips read. -/
theorem heads1 (y : S8x256x128.Idx) :
    arg8.view.read (Elt Ideal) (arg8.view.writes (Elt Ideal) arg8.view.junk (bodyRun.sl.H8_8 c arg4 harg4 x4)) y
      = headQ Xn 0 (y 0).val (y 1).val (y 2).val := by
  refine head_list arg8 arg8.view.junk (headQ Xn 0) _ _ _ _ _ _ _ _ _ _ _ _ _ _ _ _ [] ?_ ?_ ?_ ?_ ?_ ?_ ?_ ?_ y
  · exact head_piece Xn 0 0 0 rfl _ lane_even _ (rd4 arg4 harg4 x4 Xn hX 0 0 _)
  · exact head_piece Xn 0 1 0 rfl _ lane_odd _ (rd4 arg4 harg4 x4 Xn hX 0 0 _)
  · exact head_piece Xn 0 2 128 rfl _ lane_even _ (rd4 arg4 harg4 x4 Xn hX 0 128 _)
  · exact head_piece Xn 0 3 128 rfl _ lane_odd _ (rd4 arg4 harg4 x4 Xn hX 0 128 _)
  · exact head_piece Xn 0 4 256 rfl _ lane_even _ (rd4 arg4 harg4 x4 Xn hX 0 256 _)
  · exact head_piece Xn 0 5 256 rfl _ lane_odd _ (rd4 arg4 harg4 x4 Xn hX 0 256 _)
  · exact head_piece Xn 0 6 384 rfl _ lane_even _ (rd4 arg4 harg4 x4 Xn hX 0 384 _)
  · exact head_piece Xn 0 7 384 rfl _ lane_odd _ (rd4 arg4 harg4 x4 Xn hX 0 384 _)

theorem hz81 (hZ : ∀ h, h < 8 → ∀ kp, kp < 4096 → ∀ b : Fin 256,
      (∑ l : Fin 128, Kn kp (128 * (h / 2) + l.val) * headQ Xn 0 h b.val l.val) = ((Zn h kp b.val : ℝ) : EReal))
    (h : ℕ) (hh : h < 8) (a b : Fin 256) :
    (∑ l : Fin 128, Kn (256 * (2 * (i 2).val) + a.val) (128 * (h / 2) + l.val) * headQ Xn 0 h b.val l.val)
      = ((Zn h (256 * (2 * (i 2).val) + a.val) b.val : ℝ) : EReal) :=
  hZ h hh _ (by have hi : (i 2).val < 8 := (i 2).isLt; omega) b

theorem ok1_0 : k0_off1 i 0#32 = ![0, 256 * (2 * (i 2).val), 0] :=
  (k0_off1_eq i 0).trans (by rw [show 512 * (i 2).val + 256 * ((0 : Fin 2)).val = 256 * (2 * (i 2).val) from by simp; omega])

theorem ok1_1 : k0_off2 i 0#32 = ![0, 256 * (2 * (i 2).val), 128] :=
  (k0_off2_eq i 0).trans (by rw [show 512 * (i 2).val + 256 * ((0 : Fin 2)).val = 256 * (2 * (i 2).val) from by simp; omega])

theorem ok1_2 : k0_off3 i 0#32 = ![0, 256 * (2 * (i 2).val), 256] :=
  (k0_off3_eq i 0).trans (by rw [show 512 * (i 2).val + 256 * ((0 : Fin 2)).val = 256 * (2 * (i 2).val) from by simp; omega])

theorem ok1_3 : k0_off4 i 0#32 = ![0, 256 * (2 * (i 2).val), 384] :=
  (k0_off4_eq i 0).trans (by rw [show 512 * (i 2).val + 256 * ((0 : Fin 2)).val = 256 * (2 * (i 2).val) from by simp; omega])

theorem ov1_0 : k0_off5 i 0#32 = ![0, (2 * (i 2).val), 0, 0] :=
  (k0_off5_eq i 0).trans (by rfl)

theorem ov1_1 : k0_off6 i 0#32 = ![0, (2 * (i 2).val), 64, 0] :=
  (k0_off6_eq i 0).trans (by rfl)

theorem ov1_2 : k0_off7 i 0#32 = ![0, (2 * (i 2).val), 128, 0] :=
  (k0_off7_eq i 0).trans (by rfl)

theorem ov1_3 : k0_off8 i 0#32 = ![0, (2 * (i 2).val), 192, 0] :=
  (k0_off8_eq i 0).trans (by rfl)

theorem ov1_4 : k0_off9 i 0#32 = ![0, (2 * (i 2).val), 256, 0] :=
  (k0_off9_eq i 0).trans (by rfl)

theorem ov1_5 : k0_off10 i 0#32 = ![0, (2 * (i 2).val), 320, 0] :=
  (k0_off10_eq i 0).trans (by rfl)

theorem ov1_6 : k0_off11 i 0#32 = ![0, (2 * (i 2).val), 384, 0] :=
  (k0_off11_eq i 0).trans (by rfl)

theorem ov1_7 : k0_off12 i 0#32 = ![0, (2 * (i 2).val), 448, 0] :=
  (k0_off12_eq i 0).trans (by rfl)

include hX hK hZ

set_option maxHeartbeats 4000000 in
/-- The carries after the diagonal tile. -/
theorem diag1_car (y : S8x256.Idx) :
    arg10.view.read (Elt Ideal) (arg10.view.writes (Elt Ideal) arg10.view.junk (bodyRun.sl.H10_9 c i arg4 harg4 arg5 harg5 arg8 arg10 x4 x5)) y
      = ((stepC (256 * (2 * (i 2).val)) Zn (fun _ _ => 0) (2 * (i 2).val) (y 0).val (y 1).val : ℝ) : EReal) := by
  refine car_list arg10 arg10.view.junk (fun h b => ((stepC (256 * (2 * (i 2).val)) Zn (fun _ _ => 0) (2 * (i 2).val) h b : ℝ) : EReal))
    _ _ _ _ _ _ _ _ _ _ _ _ _ _ _ _ bodyRun.sl.H10_1 ?_ ?_ ?_ ?_ ?_ ?_ ?_ ?_ y
  · intro b
    exact car_cast _ b _ (diag_car (256 * (2 * (i 2).val)) Zn Kn (headQ Xn 0) (fun _ _ => 0) bodyRun.sl.v298 suffix_spec 0 0 (2 * (i 2).val) rfl rfl _ _ _ (bodyRun.sl.v316 i) (vis1 i) (hz81 i Xn Kn Zn hZ 0 (by decide)) (rd5 arg5 harg5 x5 Kn hK (k0_off1 i 0#32) _ (256 * (2 * (i 2).val)) 0 (ok1_0 i))
      (rdc8 arg8 (bodyRun.sl.H8_8 c arg4 harg4 x4) (headQ Xn 0) (heads1 c arg4 harg4 arg8 x4 Xn hX) 0 _)
      (rdc10 arg10 (bodyRun.sl.H10_1) (fun _ _ => 0) (zero_fill10 arg10 _ _ (fun _ => Ideal.ofBits_zero_f32) []) 0 _) b)
  · intro b
    exact car_cast _ b _ (diag_car (256 * (2 * (i 2).val)) Zn Kn (headQ Xn 0) (fun _ _ => 0) bodyRun.sl.v298 suffix_spec 1 0 (2 * (i 2).val) rfl rfl _ _ _ (bodyRun.sl.v316 i) (vis1 i) (hz81 i Xn Kn Zn hZ 1 (by decide)) (rd5 arg5 harg5 x5 Kn hK (k0_off1 i 0#32) _ (256 * (2 * (i 2).val)) 0 (ok1_0 i))
      (rdc8 arg8 (bodyRun.sl.H8_8 c arg4 harg4 x4) (headQ Xn 0) (heads1 c arg4 harg4 arg8 x4 Xn hX) 1 _)
      (rdc10 arg10 (bodyRun.sl.H10_1) (fun _ _ => 0) (zero_fill10 arg10 _ _ (fun _ => Ideal.ofBits_zero_f32) []) 1 _) b)
  · intro b
    exact car_cast _ b _ (diag_car (256 * (2 * (i 2).val)) Zn Kn (headQ Xn 0) (fun _ _ => 0) bodyRun.sl.v298 suffix_spec 2 128 (2 * (i 2).val) rfl rfl _ _ _ (bodyRun.sl.v316 i) (vis1 i) (hz81 i Xn Kn Zn hZ 2 (by decide)) (rd5 arg5 harg5 x5 Kn hK (k0_off2 i 0#32) _ (256 * (2 * (i 2).val)) 128 (ok1_1 i))
      (rdc8 arg8 (bodyRun.sl.H8_8 c arg4 harg4 x4) (headQ Xn 0) (heads1 c arg4 harg4 arg8 x4 Xn hX) 2 _)
      (rdc10 arg10 (bodyRun.sl.H10_1) (fun _ _ => 0) (zero_fill10 arg10 _ _ (fun _ => Ideal.ofBits_zero_f32) []) 2 _) b)
  · intro b
    exact car_cast _ b _ (diag_car (256 * (2 * (i 2).val)) Zn Kn (headQ Xn 0) (fun _ _ => 0) bodyRun.sl.v298 suffix_spec 3 128 (2 * (i 2).val) rfl rfl _ _ _ (bodyRun.sl.v316 i) (vis1 i) (hz81 i Xn Kn Zn hZ 3 (by decide)) (rd5 arg5 harg5 x5 Kn hK (k0_off2 i 0#32) _ (256 * (2 * (i 2).val)) 128 (ok1_1 i))
      (rdc8 arg8 (bodyRun.sl.H8_8 c arg4 harg4 x4) (headQ Xn 0) (heads1 c arg4 harg4 arg8 x4 Xn hX) 3 _)
      (rdc10 arg10 (bodyRun.sl.H10_1) (fun _ _ => 0) (zero_fill10 arg10 _ _ (fun _ => Ideal.ofBits_zero_f32) []) 3 _) b)
  · intro b
    exact car_cast _ b _ (diag_car (256 * (2 * (i 2).val)) Zn Kn (headQ Xn 0) (fun _ _ => 0) bodyRun.sl.v298 suffix_spec 4 256 (2 * (i 2).val) rfl rfl _ _ _ (bodyRun.sl.v316 i) (vis1 i) (hz81 i Xn Kn Zn hZ 4 (by decide)) (rd5 arg5 harg5 x5 Kn hK (k0_off3 i 0#32) _ (256 * (2 * (i 2).val)) 256 (ok1_2 i))
      (rdc8 arg8 (bodyRun.sl.H8_8 c arg4 harg4 x4) (headQ Xn 0) (heads1 c arg4 harg4 arg8 x4 Xn hX) 4 _)
      (rdc10 arg10 (bodyRun.sl.H10_1) (fun _ _ => 0) (zero_fill10 arg10 _ _ (fun _ => Ideal.ofBits_zero_f32) []) 4 _) b)
  · intro b
    exact car_cast _ b _ (diag_car (256 * (2 * (i 2).val)) Zn Kn (headQ Xn 0) (fun _ _ => 0) bodyRun.sl.v298 suffix_spec 5 256 (2 * (i 2).val) rfl rfl _ _ _ (bodyRun.sl.v316 i) (vis1 i) (hz81 i Xn Kn Zn hZ 5 (by decide)) (rd5 arg5 harg5 x5 Kn hK (k0_off3 i 0#32) _ (256 * (2 * (i 2).val)) 256 (ok1_2 i))
      (rdc8 arg8 (bodyRun.sl.H8_8 c arg4 harg4 x4) (headQ Xn 0) (heads1 c arg4 harg4 arg8 x4 Xn hX) 5 _)
      (rdc10 arg10 (bodyRun.sl.H10_1) (fun _ _ => 0) (zero_fill10 arg10 _ _ (fun _ => Ideal.ofBits_zero_f32) []) 5 _) b)
  · intro b
    exact car_cast _ b _ (diag_car (256 * (2 * (i 2).val)) Zn Kn (headQ Xn 0) (fun _ _ => 0) bodyRun.sl.v298 suffix_spec 6 384 (2 * (i 2).val) rfl rfl _ _ _ (bodyRun.sl.v316 i) (vis1 i) (hz81 i Xn Kn Zn hZ 6 (by decide)) (rd5 arg5 harg5 x5 Kn hK (k0_off4 i 0#32) _ (256 * (2 * (i 2).val)) 384 (ok1_3 i))
      (rdc8 arg8 (bodyRun.sl.H8_8 c arg4 harg4 x4) (headQ Xn 0) (heads1 c arg4 harg4 arg8 x4 Xn hX) 6 _)
      (rdc10 arg10 (bodyRun.sl.H10_1) (fun _ _ => 0) (zero_fill10 arg10 _ _ (fun _ => Ideal.ofBits_zero_f32) []) 6 _) b)
  · intro b
    exact car_cast _ b _ (diag_car (256 * (2 * (i 2).val)) Zn Kn (headQ Xn 0) (fun _ _ => 0) bodyRun.sl.v298 suffix_spec 7 384 (2 * (i 2).val) rfl rfl _ _ _ (bodyRun.sl.v316 i) (vis1 i) (hz81 i Xn Kn Zn hZ 7 (by decide)) (rd5 arg5 harg5 x5 Kn hK (k0_off4 i 0#32) _ (256 * (2 * (i 2).val)) 384 (ok1_3 i))
      (rdc8 arg8 (bodyRun.sl.H8_8 c arg4 harg4 x4) (headQ Xn 0) (heads1 c arg4 harg4 arg8 x4 Xn hX) 7 _)
      (rdc10 arg10 (bodyRun.sl.H10_1) (fun _ _ => 0) (zero_fill10 arg10 _ _ (fun _ => Ideal.ofBits_zero_f32) []) 7 _) b)

set_option maxHeartbeats 4000000 in
/-- The flag after the diagonal tile. -/
theorem diag1_more (hx3 : ∀ y, (x3 y : EReal) ≠ ⊥) :
    bodyRun.sl.v514 c i arg3 harg3 arg4 harg4 arg5 harg5 arg8 arg10 x3 x4 x5 = 1#1 := by
  refine more_spec _ _ _ _ _ _ _ _ _ ?_ ⟨_, diag_car (256 * (2 * (i 2).val)) Zn Kn (headQ Xn 0) (fun _ _ => 0) bodyRun.sl.v298 suffix_spec 7 384 (2 * (i 2).val) rfl rfl _ _ _ (bodyRun.sl.v316 i) (vis1 i) (hz81 i Xn Kn Zn hZ 7 (by decide)) (rd5 arg5 harg5 x5 Kn hK (k0_off4 i 0#32) _ (256 * (2 * (i 2).val)) 384 (ok1_3 i))
      (rdc8 arg8 (bodyRun.sl.H8_8 c arg4 harg4 x4) (headQ Xn 0) (heads1 c arg4 harg4 arg8 x4 Xn hX) 7 _)
      (rdc10 arg10 (bodyRun.sl.H10_1) (fun _ _ => 0) (zero_fill10 arg10 _ _ (fun _ => Ideal.ofBits_zero_f32) []) 7 _) 0⟩
  exact stop_ne1 c arg3 harg3 x3 hx3

omit hX hK hZ

theorem zf1_0 : ZeroFrom arg9 (bodyRun.sl.H9_1) 0 :=
  zero_fill9 arg9 _ _ (fun _ => Ideal.ofBits_zero_f32) []

theorem zf1_1 : ZeroFrom arg9 (bodyRun.sl.H9_2 c i arg4 harg4 arg5 harg5 arg6 harg6 arg8 arg9 arg10 x4 x5 x6) 64 :=
  zero_skip arg9 _ 0 _ _ (zf1_0 arg9)

theorem zf1_2 : ZeroFrom arg9 (bodyRun.sl.H9_3 c i arg4 harg4 arg5 harg5 arg6 harg6 arg8 arg9 arg10 x4 x5 x6) 128 :=
  zero_skip arg9 _ 64 _ _ (zf1_1 c i arg4 harg4 arg5 harg5 arg6 harg6 arg8 arg9 arg10 x4 x5 x6)

theorem zf1_3 : ZeroFrom arg9 (bodyRun.sl.H9_4 c i arg4 harg4 arg5 harg5 arg6 harg6 arg8 arg9 arg10 x4 x5 x6) 192 :=
  zero_skip arg9 _ 128 _ _ (zf1_2 c i arg4 harg4 arg5 harg5 arg6 harg6 arg8 arg9 arg10 x4 x5 x6)

theorem zf1_4 : ZeroFrom arg9 (bodyRun.sl.H9_5 c i arg4 harg4 arg5 harg5 arg6 harg6 arg8 arg9 arg10 x4 x5 x6) 256 :=
  zero_skip arg9 _ 192 _ _ (zf1_3 c i arg4 harg4 arg5 harg5 arg6 harg6 arg8 arg9 arg10 x4 x5 x6)

theorem zf1_5 : ZeroFrom arg9 (bodyRun.sl.H9_6 c i arg4 harg4 arg5 harg5 arg6 harg6 arg8 arg9 arg10 x4 x5 x6) 320 :=
  zero_skip arg9 _ 256 _ _ (zf1_4 c i arg4 harg4 arg5 harg5 arg6 harg6 arg8 arg9 arg10 x4 x5 x6)

theorem zf1_6 : ZeroFrom arg9 (bodyRun.sl.H9_7 c i arg4 harg4 arg5 harg5 arg6 harg6 arg8 arg9 arg10 x4 x5 x6) 384 :=
  zero_skip arg9 _ 320 _ _ (zf1_5 c i arg4 harg4 arg5 harg5 arg6 harg6 arg8 arg9 arg10 x4 x5 x6)

theorem zf1_7 : ZeroFrom arg9 (bodyRun.sl.H9_8 c i arg4 harg4 arg5 harg5 arg6 harg6 arg8 arg9 arg10 x4 x5 x6) 448 :=
  zero_skip arg9 _ 384 _ _ (zf1_6 c i arg4 harg4 arg5 harg5 arg6 harg6 arg8 arg9 arg10 x4 x5 x6)

include hX hK hZ hV

set_option maxHeartbeats 4000000 in
/-- The accumulator after the diagonal tile. -/
theorem diag1_acc (y : S512x256.Idx) :
    arg9.view.read (Elt Ideal) (arg9.view.writes (Elt Ideal) arg9.view.junk (bodyRun.sl.H9_9 c i arg4 harg4 arg5 harg5 arg6 harg6 arg8 arg9 arg10 x4 x5 x6)) y
      = stepA (256 * (2 * (i 2).val)) Zn Vn (fun _ _ => 0) (fun _ _ => 0) (2 * (i 2).val) (y 0).val (y 1).val := by
  refine acc_list arg9 arg9.view.junk (stepA (256 * (2 * (i 2).val)) Zn Vn (fun _ _ => 0) (fun _ _ => 0) (2 * (i 2).val))
    _ _ _ _ _ _ _ _ _ _ _ _ _ _ _ _ bodyRun.sl.H9_1 ?_ ?_ ?_ ?_ ?_ ?_ ?_ ?_ y
  · exact diag_acc (256 * (2 * (i 2).val)) Zn Kn (headQ Xn 0) Vn (fun _ _ => 0) (fun _ _ => 0) bodyRun.sl.v298 suffix_spec 0 0 (2 * (i 2).val) rfl rfl _ _ _ (bodyRun.sl.v316 i) (vis1 i) (hz81 i Xn Kn Zn hZ 0 (by decide)) (rd5 arg5 harg5 x5 Kn hK (k0_off1 i 0#32) _ (256 * (2 * (i 2).val)) 0 (ok1_0 i))
      (rdc8 arg8 (bodyRun.sl.H8_8 c arg4 harg4 x4) (headQ Xn 0) (heads1 c arg4 harg4 arg8 x4 Xn hX) 0 _)
      (rdc10 arg10 (bodyRun.sl.H10_1) (fun _ _ => 0) (zero_fill10 arg10 _ _ (fun _ => Ideal.ofBits_zero_f32) []) 0 _)
      0 rfl _ _ (rdc9 arg9 _ 0 (zf1_0 arg9) _)
      (rd6 arg6 harg6 x6 Vn hV (k0_off5 i 0#32) _ (2 * (i 2).val) 0 (ov1_0 i))
  · exact diag_acc (256 * (2 * (i 2).val)) Zn Kn (headQ Xn 0) Vn (fun _ _ => 0) (fun _ _ => 0) bodyRun.sl.v298 suffix_spec 1 0 (2 * (i 2).val) rfl rfl _ _ _ (bodyRun.sl.v316 i) (vis1 i) (hz81 i Xn Kn Zn hZ 1 (by decide)) (rd5 arg5 harg5 x5 Kn hK (k0_off1 i 0#32) _ (256 * (2 * (i 2).val)) 0 (ok1_0 i))
      (rdc8 arg8 (bodyRun.sl.H8_8 c arg4 harg4 x4) (headQ Xn 0) (heads1 c arg4 harg4 arg8 x4 Xn hX) 1 _)
      (rdc10 arg10 (bodyRun.sl.H10_1) (fun _ _ => 0) (zero_fill10 arg10 _ _ (fun _ => Ideal.ofBits_zero_f32) []) 1 _)
      64 rfl _ _ (rdc9 arg9 _ 64 (zf1_1 c i arg4 harg4 arg5 harg5 arg6 harg6 arg8 arg9 arg10 x4 x5 x6) _)
      (rd6 arg6 harg6 x6 Vn hV (k0_off6 i 0#32) _ (2 * (i 2).val) 64 (ov1_1 i))
  · exact diag_acc (256 * (2 * (i 2).val)) Zn Kn (headQ Xn 0) Vn (fun _ _ => 0) (fun _ _ => 0) bodyRun.sl.v298 suffix_spec 2 128 (2 * (i 2).val) rfl rfl _ _ _ (bodyRun.sl.v316 i) (vis1 i) (hz81 i Xn Kn Zn hZ 2 (by decide)) (rd5 arg5 harg5 x5 Kn hK (k0_off2 i 0#32) _ (256 * (2 * (i 2).val)) 128 (ok1_1 i))
      (rdc8 arg8 (bodyRun.sl.H8_8 c arg4 harg4 x4) (headQ Xn 0) (heads1 c arg4 harg4 arg8 x4 Xn hX) 2 _)
      (rdc10 arg10 (bodyRun.sl.H10_1) (fun _ _ => 0) (zero_fill10 arg10 _ _ (fun _ => Ideal.ofBits_zero_f32) []) 2 _)
      128 rfl _ _ (rdc9 arg9 _ 128 (zf1_2 c i arg4 harg4 arg5 harg5 arg6 harg6 arg8 arg9 arg10 x4 x5 x6) _)
      (rd6 arg6 harg6 x6 Vn hV (k0_off7 i 0#32) _ (2 * (i 2).val) 128 (ov1_2 i))
  · exact diag_acc (256 * (2 * (i 2).val)) Zn Kn (headQ Xn 0) Vn (fun _ _ => 0) (fun _ _ => 0) bodyRun.sl.v298 suffix_spec 3 128 (2 * (i 2).val) rfl rfl _ _ _ (bodyRun.sl.v316 i) (vis1 i) (hz81 i Xn Kn Zn hZ 3 (by decide)) (rd5 arg5 harg5 x5 Kn hK (k0_off2 i 0#32) _ (256 * (2 * (i 2).val)) 128 (ok1_1 i))
      (rdc8 arg8 (bodyRun.sl.H8_8 c arg4 harg4 x4) (headQ Xn 0) (heads1 c arg4 harg4 arg8 x4 Xn hX) 3 _)
      (rdc10 arg10 (bodyRun.sl.H10_1) (fun _ _ => 0) (zero_fill10 arg10 _ _ (fun _ => Ideal.ofBits_zero_f32) []) 3 _)
      192 rfl _ _ (rdc9 arg9 _ 192 (zf1_3 c i arg4 harg4 arg5 harg5 arg6 harg6 arg8 arg9 arg10 x4 x5 x6) _)
      (rd6 arg6 harg6 x6 Vn hV (k0_off8 i 0#32) _ (2 * (i 2).val) 192 (ov1_3 i))
  · exact diag_acc (256 * (2 * (i 2).val)) Zn Kn (headQ Xn 0) Vn (fun _ _ => 0) (fun _ _ => 0) bodyRun.sl.v298 suffix_spec 4 256 (2 * (i 2).val) rfl rfl _ _ _ (bodyRun.sl.v316 i) (vis1 i) (hz81 i Xn Kn Zn hZ 4 (by decide)) (rd5 arg5 harg5 x5 Kn hK (k0_off3 i 0#32) _ (256 * (2 * (i 2).val)) 256 (ok1_2 i))
      (rdc8 arg8 (bodyRun.sl.H8_8 c arg4 harg4 x4) (headQ Xn 0) (heads1 c arg4 harg4 arg8 x4 Xn hX) 4 _)
      (rdc10 arg10 (bodyRun.sl.H10_1) (fun _ _ => 0) (zero_fill10 arg10 _ _ (fun _ => Ideal.ofBits_zero_f32) []) 4 _)
      256 rfl _ _ (rdc9 arg9 _ 256 (zf1_4 c i arg4 harg4 arg5 harg5 arg6 harg6 arg8 arg9 arg10 x4 x5 x6) _)
      (rd6 arg6 harg6 x6 Vn hV (k0_off9 i 0#32) _ (2 * (i 2).val) 256 (ov1_4 i))
  · exact diag_acc (256 * (2 * (i 2).val)) Zn Kn (headQ Xn 0) Vn (fun _ _ => 0) (fun _ _ => 0) bodyRun.sl.v298 suffix_spec 5 256 (2 * (i 2).val) rfl rfl _ _ _ (bodyRun.sl.v316 i) (vis1 i) (hz81 i Xn Kn Zn hZ 5 (by decide)) (rd5 arg5 harg5 x5 Kn hK (k0_off3 i 0#32) _ (256 * (2 * (i 2).val)) 256 (ok1_2 i))
      (rdc8 arg8 (bodyRun.sl.H8_8 c arg4 harg4 x4) (headQ Xn 0) (heads1 c arg4 harg4 arg8 x4 Xn hX) 5 _)
      (rdc10 arg10 (bodyRun.sl.H10_1) (fun _ _ => 0) (zero_fill10 arg10 _ _ (fun _ => Ideal.ofBits_zero_f32) []) 5 _)
      320 rfl _ _ (rdc9 arg9 _ 320 (zf1_5 c i arg4 harg4 arg5 harg5 arg6 harg6 arg8 arg9 arg10 x4 x5 x6) _)
      (rd6 arg6 harg6 x6 Vn hV (k0_off10 i 0#32) _ (2 * (i 2).val) 320 (ov1_5 i))
  · exact diag_acc (256 * (2 * (i 2).val)) Zn Kn (headQ Xn 0) Vn (fun _ _ => 0) (fun _ _ => 0) bodyRun.sl.v298 suffix_spec 6 384 (2 * (i 2).val) rfl rfl _ _ _ (bodyRun.sl.v316 i) (vis1 i) (hz81 i Xn Kn Zn hZ 6 (by decide)) (rd5 arg5 harg5 x5 Kn hK (k0_off4 i 0#32) _ (256 * (2 * (i 2).val)) 384 (ok1_3 i))
      (rdc8 arg8 (bodyRun.sl.H8_8 c arg4 harg4 x4) (headQ Xn 0) (heads1 c arg4 harg4 arg8 x4 Xn hX) 6 _)
      (rdc10 arg10 (bodyRun.sl.H10_1) (fun _ _ => 0) (zero_fill10 arg10 _ _ (fun _ => Ideal.ofBits_zero_f32) []) 6 _)
      384 rfl _ _ (rdc9 arg9 _ 384 (zf1_6 c i arg4 harg4 arg5 harg5 arg6 harg6 arg8 arg9 arg10 x4 x5 x6) _)
      (rd6 arg6 harg6 x6 Vn hV (k0_off11 i 0#32) _ (2 * (i 2).val) 384 (ov1_6 i))
  · exact diag_acc (256 * (2 * (i 2).val)) Zn Kn (headQ Xn 0) Vn (fun _ _ => 0) (fun _ _ => 0) bodyRun.sl.v298 suffix_spec 7 384 (2 * (i 2).val) rfl rfl _ _ _ (bodyRun.sl.v316 i) (vis1 i) (hz81 i Xn Kn Zn hZ 7 (by decide)) (rd5 arg5 harg5 x5 Kn hK (k0_off4 i 0#32) _ (256 * (2 * (i 2).val)) 384 (ok1_3 i))
      (rdc8 arg8 (bodyRun.sl.H8_8 c arg4 harg4 x4) (headQ Xn 0) (heads1 c arg4 harg4 arg8 x4 Xn hX) 7 _)
      (rdc10 arg10 (bodyRun.sl.H10_1) (fun _ _ => 0) (zero_fill10 arg10 _ _ (fun _ => Ideal.ofBits_zero_f32) []) 7 _)
      448 rfl _ _ (rdc9 arg9 _ 448 (zf1_7 c i arg4 harg4 arg5 harg5 arg6 harg6 arg8 arg9 arg10 x4 x5 x6) _)
      (rd6 arg6 harg6 x6 Vn hV (k0_off12 i 0#32) _ (2 * (i 2).val) 448 (ov1_7 i))

/-- The accumulator at the end of the tile. -/
theorem tile1_val (hx3 : ∀ y, (x3 y : EReal) ≠ ⊥) (hk) (y : S512x256.Idx) :
    (loop1 c i arg3 harg3 arg5 harg5 arg6 harg6 arg8 harg8 arg9 harg9 arg10 harg10 bodyRun.sl.v298 x3 x5 x6
      (arg8.view.read (Elt Ideal) (arg8.view.writes (Elt Ideal) arg8.view.junk (bodyRun.sl.H8_8 c arg4 harg4 x4))) (2 * (i 2).val) hk
      (arg9.view.read (Elt Ideal) (arg9.view.writes (Elt Ideal) arg9.view.junk (bodyRun.sl.H9_9 c i arg4 harg4 arg5 harg5 arg6 harg6 arg8 arg9 arg10 x4 x5 x6)))
      (arg10.view.read (Elt Ideal) (arg10.view.writes (Elt Ideal) arg10.view.junk (bodyRun.sl.H10_9 c i arg4 harg4 arg5 harg5 arg8 arg10 x4 x5)))
      (bodyRun.sl.v514 c i arg3 harg3 arg4 harg4 arg5 harg5 arg8 arg10 x3 x4 x5)).1 y
      = runA (256 * (2 * (i 2).val)) Zn Vn (2 * (i 2).val) (stepC (256 * (2 * (i 2).val)) Zn (fun _ _ => 0) (2 * (i 2).val))
          (stepA (256 * (2 * (i 2).val)) Zn Vn (fun _ _ => 0) (fun _ _ => 0) (2 * (i 2).val)) (y 0).val (y 1).val := by
  rw [diag1_more c i arg3 harg3 arg4 harg4 arg5 harg5 arg8 arg10 x3 x4 x5 Xn Kn Zn hX hK hZ hx3]
  exact loop1_val c i arg3 harg3 arg5 harg5 arg6 harg6 arg8 harg8 arg9 harg9 arg10 harg10 bodyRun.sl.v298 x3 x5 x6 _
    (256 * (2 * (i 2).val)) Zn Kn (headQ Xn 0) Vn hx3 suffix_spec hK (heads1 c arg4 harg4 arg8 x4 Xn hX) hV hZ (2 * (i 2).val) hk (Nat.le_refl _) _ _ _ _
    (diag1_acc c i arg4 harg4 arg5 harg5 arg6 harg6 arg8 arg9 arg10 x4 x5 x6 Xn Kn Vn Zn hX hK hV hZ)
    (diag1_car c i arg4 harg4 arg5 harg5 arg8 arg10 x4 x5 Xn Kn Zn hX hK hZ) y

end

end Cert.Proof.KI

end
end
-- ==== Proof.KI.BodyVal2.lean ====
/-
  The second query tile of a step, as numbers: its heads, its diagonal tile, and its loop.
-/
module

public import proofs.«01_k».proof.Proof.KI.BodyCommon

@[expose] public section

set_option maxRecDepth 65536

noncomputable section

namespace Cert.Proof.KI

open Cert.KernelIdeal Cert.KernelIdeal.Gen

open Idealize.ShloMosaic hiding ix1 ix2 ix3 ix4 eq_ix2 eq_ix3
open Idealize.ShloMosaic.ValueIdx
open Idealize.ShloMosaic.TcCoe

section

variable (c : Dev nD) (i : grid0.Coords)
    (arg3 : Memref sig .tc .smem S1 .f32) (harg3 : arg3.IsWhole)
    (arg4 : Memref sig .tc .vmem S1x512x512 .bf16) (harg4 : arg4.IsWhole)
    (arg5 : Memref sig .tc .vmem S1x4096x512 .bf16) (harg5 : arg5.IsWhole)
    (arg6 : Memref sig .tc .vmem S1x16x512x256 .bf16) (harg6 : arg6.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (x3 : Vec Ideal S1 .f32) (x4 : Vec Ideal S1x512x512 .bf16) (x5 : Vec Ideal S1x4096x512 .bf16)
    (x6 : Vec Ideal S1x16x512x256 .bf16)
    (Xn Kn : ℕ → ℕ → EReal) (Vn : ℕ → ℕ → ℕ → EReal) (Zn : ℕ → ℕ → ℕ → ℝ)
    (hX : ∀ y, x4 y = Xn (y 1).val (y 2).val) (hK : ∀ y, x5 y = Kn (y 1).val (y 2).val)
    (hV : ∀ y, x6 y = Vn (y 1).val (y 2).val (y 3).val)
    (hZ : ∀ h, h < 8 → ∀ kp, kp < 4096 → ∀ b : Fin 256,
      (∑ l : Fin 128, Kn kp (128 * (h / 2) + l.val) * headQ Xn 256 h b.val l.val) = ((Zn h kp b.val : ℝ) : EReal))

include hX in
set_option maxHeartbeats 4000000 in
/-- The heads the tile's trips read. -/
theorem heads2 (y : S8x256x128.Idx) :
    arg8.view.read (Elt Ideal) (arg8.view.writes (Elt Ideal) arg8.view.junk (bodyRun.sl.H8_8_1 c arg4 harg4 x4)) y
      = headQ Xn 256 (y 0).val (y 1).val (y 2).val := by
  refine head_list arg8 arg8.view.junk (headQ Xn 256) _ _ _ _ _ _ _ _ _ _ _ _ _ _ _ _ [] ?_ ?_ ?_ ?_ ?_ ?_ ?_ ?_ y
  · exact head_piece Xn 256 0 0 rfl _ lane_even _ (rd4 arg4 harg4 x4 Xn hX 256 0 _)
  · exact head_piece Xn 256 1 0 rfl _ lane_odd _ (rd4 arg4 harg4 x4 Xn hX 256 0 _)
  · exact head_piece Xn 256 2 128 rfl _ lane_even _ (rd4 arg4 harg4 x4 Xn hX 256 128 _)
  · exact head_piece Xn 256 3 128 rfl _ lane_odd _ (rd4 arg4 harg4 x4 Xn hX 256 128 _)
  · exact head_piece Xn 256 4 256 rfl _ lane_even _ (rd4 arg4 harg4 x4 Xn hX 256 256 _)
  · exact head_piece Xn 256 5 256 rfl _ lane_odd _ (rd4 arg4 harg4 x4 Xn hX 256 256 _)
  · exact head_piece Xn 256 6 384 rfl _ lane_even _ (rd4 arg4 harg4 x4 Xn hX 256 384 _)
  · exact head_piece Xn 256 7 384 rfl _ lane_odd _ (rd4 arg4 harg4 x4 Xn hX 256 384 _)

theorem hz82 (hZ : ∀ h, h < 8 → ∀ kp, kp < 4096 → ∀ b : Fin 256,
      (∑ l : Fin 128, Kn kp (128 * (h / 2) + l.val) * headQ Xn 256 h b.val l.val) = ((Zn h kp b.val : ℝ) : EReal))
    (h : ℕ) (hh : h < 8) (a b : Fin 256) :
    (∑ l : Fin 128, Kn (256 * (2 * (i 2).val + 1) + a.val) (128 * (h / 2) + l.val) * headQ Xn 256 h b.val l.val)
      = ((Zn h (256 * (2 * (i 2).val + 1) + a.val) b.val : ℝ) : EReal) :=
  hZ h hh _ (by have hi : (i 2).val < 8 := (i 2).isLt; omega) b

theorem ok2_0 : k0_off1 i 1#32 = ![0, 256 * (2 * (i 2).val + 1), 0] :=
  (k0_off1_eq i 1).trans (by rw [show 512 * (i 2).val + 256 * ((1 : Fin 2)).val = 256 * (2 * (i 2).val + 1) from by simp; omega])

theorem ok2_1 : k0_off2 i 1#32 = ![0, 256 * (2 * (i 2).val + 1), 128] :=
  (k0_off2_eq i 1).trans (by rw [show 512 * (i 2).val + 256 * ((1 : Fin 2)).val = 256 * (2 * (i 2).val + 1) from by simp; omega])

theorem ok2_2 : k0_off3 i 1#32 = ![0, 256 * (2 * (i 2).val + 1), 256] :=
  (k0_off3_eq i 1).trans (by rw [show 512 * (i 2).val + 256 * ((1 : Fin 2)).val = 256 * (2 * (i 2).val + 1) from by simp; omega])

theorem ok2_3 : k0_off4 i 1#32 = ![0, 256 * (2 * (i 2).val + 1), 384] :=
  (k0_off4_eq i 1).trans (by rw [show 512 * (i 2).val + 256 * ((1 : Fin 2)).val = 256 * (2 * (i 2).val + 1) from by simp; omega])

theorem ov2_0 : k0_off5 i 1#32 = ![0, (2 * (i 2).val + 1), 0, 0] :=
  (k0_off5_eq i 1).trans (by rfl)

theorem ov2_1 : k0_off6 i 1#32 = ![0, (2 * (i 2).val + 1), 64, 0] :=
  (k0_off6_eq i 1).trans (by rfl)

theorem ov2_2 : k0_off7 i 1#32 = ![0, (2 * (i 2).val + 1), 128, 0] :=
  (k0_off7_eq i 1).trans (by rfl)

theorem ov2_3 : k0_off8 i 1#32 = ![0, (2 * (i 2).val + 1), 192, 0] :=
  (k0_off8_eq i 1).trans (by rfl)

theorem ov2_4 : k0_off9 i 1#32 = ![0, (2 * (i 2).val + 1), 256, 0] :=
  (k0_off9_eq i 1).trans (by rfl)

theorem ov2_5 : k0_off10 i 1#32 = ![0, (2 * (i 2).val + 1), 320, 0] :=
  (k0_off10_eq i 1).trans (by rfl)

theorem ov2_6 : k0_off11 i 1#32 = ![0, (2 * (i 2).val + 1), 384, 0] :=
  (k0_off11_eq i 1).trans (by rfl)

theorem ov2_7 : k0_off12 i 1#32 = ![0, (2 * (i 2).val + 1), 448, 0] :=
  (k0_off12_eq i 1).trans (by rfl)

include hX hK hZ

set_option maxHeartbeats 4000000 in
/-- The carries after the diagonal tile. -/
theorem diag2_car (y : S8x256.Idx) :
    arg10.view.read (Elt Ideal) (arg10.view.writes (Elt Ideal) arg10.view.junk (bodyRun.sl.H10_9_1 c i arg4 harg4 arg5 harg5 arg8 arg10 x4 x5)) y
      = ((stepC (256 * (2 * (i 2).val + 1)) Zn (fun _ _ => 0) (2 * (i 2).val + 1) (y 0).val (y 1).val : ℝ) : EReal) := by
  refine car_list arg10 arg10.view.junk (fun h b => ((stepC (256 * (2 * (i 2).val + 1)) Zn (fun _ _ => 0) (2 * (i 2).val + 1) h b : ℝ) : EReal))
    _ _ _ _ _ _ _ _ _ _ _ _ _ _ _ _ bodyRun.sl.H10_1_1 ?_ ?_ ?_ ?_ ?_ ?_ ?_ ?_ y
  · intro b
    exact car_cast _ b _ (diag_car (256 * (2 * (i 2).val + 1)) Zn Kn (headQ Xn 256) (fun _ _ => 0) bodyRun.sl.v972 suffix_spec' 0 0 (2 * (i 2).val + 1) rfl rfl _ _ _ (bodyRun.sl.v990 i) (vis2 i) (hz82 i Xn Kn Zn hZ 0 (by decide)) (rd5 arg5 harg5 x5 Kn hK (k0_off1 i 1#32) _ (256 * (2 * (i 2).val + 1)) 0 (ok2_0 i))
      (rdc8 arg8 (bodyRun.sl.H8_8_1 c arg4 harg4 x4) (headQ Xn 256) (heads2 c arg4 harg4 arg8 x4 Xn hX) 0 _)
      (rdc10 arg10 (bodyRun.sl.H10_1_1) (fun _ _ => 0) (zero_fill10 arg10 _ _ (fun _ => Ideal.ofBits_zero_f32) []) 0 _) b)
  · intro b
    exact car_cast _ b _ (diag_car (256 * (2 * (i 2).val + 1)) Zn Kn (headQ Xn 256) (fun _ _ => 0) bodyRun.sl.v972 suffix_spec' 1 0 (2 * (i 2).val + 1) rfl rfl _ _ _ (bodyRun.sl.v990 i) (vis2 i) (hz82 i Xn Kn Zn hZ 1 (by decide)) (rd5 arg5 harg5 x5 Kn hK (k0_off1 i 1#32) _ (256 * (2 * (i 2).val + 1)) 0 (ok2_0 i))
      (rdc8 arg8 (bodyRun.sl.H8_8_1 c arg4 harg4 x4) (headQ Xn 256) (heads2 c arg4 harg4 arg8 x4 Xn hX) 1 _)
      (rdc10 arg10 (bodyRun.sl.H10_1_1) (fun _ _ => 0) (zero_fill10 arg10 _ _ (fun _ => Ideal.ofBits_zero_f32) []) 1 _) b)
  · intro b
    exact car_cast _ b _ (diag_car (256 * (2 * (i 2).val + 1)) Zn Kn (headQ Xn 256) (fun _ _ => 0) bodyRun.sl.v972 suffix_spec' 2 128 (2 * (i 2).val + 1) rfl rfl _ _ _ (bodyRun.sl.v990 i) (vis2 i) (hz82 i Xn Kn Zn hZ 2 (by decide)) (rd5 arg5 harg5 x5 Kn hK (k0_off2 i 1#32) _ (256 * (2 * (i 2).val + 1)) 128 (ok2_1 i))
      (rdc8 arg8 (bodyRun.sl.H8_8_1 c arg4 harg4 x4) (headQ Xn 256) (heads2 c arg4 harg4 arg8 x4 Xn hX) 2 _)
      (rdc10 arg10 (bodyRun.sl.H10_1_1) (fun _ _ => 0) (zero_fill10 arg10 _ _ (fun _ => Ideal.ofBits_zero_f32) []) 2 _) b)
  · intro b
    exact car_cast _ b _ (diag_car (256 * (2 * (i 2).val + 1)) Zn Kn (headQ Xn 256) (fun _ _ => 0) bodyRun.sl.v972 suffix_spec' 3 128 (2 * (i 2).val + 1) rfl rfl _ _ _ (bodyRun.sl.v990 i) (vis2 i) (hz82 i Xn Kn Zn hZ 3 (by decide)) (rd5 arg5 harg5 x5 Kn hK (k0_off2 i 1#32) _ (256 * (2 * (i 2).val + 1)) 128 (ok2_1 i))
      (rdc8 arg8 (bodyRun.sl.H8_8_1 c arg4 harg4 x4) (headQ Xn 256) (heads2 c arg4 harg4 arg8 x4 Xn hX) 3 _)
      (rdc10 arg10 (bodyRun.sl.H10_1_1) (fun _ _ => 0) (zero_fill10 arg10 _ _ (fun _ => Ideal.ofBits_zero_f32) []) 3 _) b)
  · intro b
    exact car_cast _ b _ (diag_car (256 * (2 * (i 2).val + 1)) Zn Kn (headQ Xn 256) (fun _ _ => 0) bodyRun.sl.v972 suffix_spec' 4 256 (2 * (i 2).val + 1) rfl rfl _ _ _ (bodyRun.sl.v990 i) (vis2 i) (hz82 i Xn Kn Zn hZ 4 (by decide)) (rd5 arg5 harg5 x5 Kn hK (k0_off3 i 1#32) _ (256 * (2 * (i 2).val + 1)) 256 (ok2_2 i))
      (rdc8 arg8 (bodyRun.sl.H8_8_1 c arg4 harg4 x4) (headQ Xn 256) (heads2 c arg4 harg4 arg8 x4 Xn hX) 4 _)
      (rdc10 arg10 (bodyRun.sl.H10_1_1) (fun _ _ => 0) (zero_fill10 arg10 _ _ (fun _ => Ideal.ofBits_zero_f32) []) 4 _) b)
  · intro b
    exact car_cast _ b _ (diag_car (256 * (2 * (i 2).val + 1)) Zn Kn (headQ Xn 256) (fun _ _ => 0) bodyRun.sl.v972 suffix_spec' 5 256 (2 * (i 2).val + 1) rfl rfl _ _ _ (bodyRun.sl.v990 i) (vis2 i) (hz82 i Xn Kn Zn hZ 5 (by decide)) (rd5 arg5 harg5 x5 Kn hK (k0_off3 i 1#32) _ (256 * (2 * (i 2).val + 1)) 256 (ok2_2 i))
      (rdc8 arg8 (bodyRun.sl.H8_8_1 c arg4 harg4 x4) (headQ Xn 256) (heads2 c arg4 harg4 arg8 x4 Xn hX) 5 _)
      (rdc10 arg10 (bodyRun.sl.H10_1_1) (fun _ _ => 0) (zero_fill10 arg10 _ _ (fun _ => Ideal.ofBits_zero_f32) []) 5 _) b)
  · intro b
    exact car_cast _ b _ (diag_car (256 * (2 * (i 2).val + 1)) Zn Kn (headQ Xn 256) (fun _ _ => 0) bodyRun.sl.v972 suffix_spec' 6 384 (2 * (i 2).val + 1) rfl rfl _ _ _ (bodyRun.sl.v990 i) (vis2 i) (hz82 i Xn Kn Zn hZ 6 (by decide)) (rd5 arg5 harg5 x5 Kn hK (k0_off4 i 1#32) _ (256 * (2 * (i 2).val + 1)) 384 (ok2_3 i))
      (rdc8 arg8 (bodyRun.sl.H8_8_1 c arg4 harg4 x4) (headQ Xn 256) (heads2 c arg4 harg4 arg8 x4 Xn hX) 6 _)
      (rdc10 arg10 (bodyRun.sl.H10_1_1) (fun _ _ => 0) (zero_fill10 arg10 _ _ (fun _ => Ideal.ofBits_zero_f32) []) 6 _) b)
  · intro b
    exact car_cast _ b _ (diag_car (256 * (2 * (i 2).val + 1)) Zn Kn (headQ Xn 256) (fun _ _ => 0) bodyRun.sl.v972 suffix_spec' 7 384 (2 * (i 2).val + 1) rfl rfl _ _ _ (bodyRun.sl.v990 i) (vis2 i) (hz82 i Xn Kn Zn hZ 7 (by decide)) (rd5 arg5 harg5 x5 Kn hK (k0_off4 i 1#32) _ (256 * (2 * (i 2).val + 1)) 384 (ok2_3 i))
      (rdc8 arg8 (bodyRun.sl.H8_8_1 c arg4 harg4 x4) (headQ Xn 256) (heads2 c arg4 harg4 arg8 x4 Xn hX) 7 _)
      (rdc10 arg10 (bodyRun.sl.H10_1_1) (fun _ _ => 0) (zero_fill10 arg10 _ _ (fun _ => Ideal.ofBits_zero_f32) []) 7 _) b)

set_option maxHeartbeats 4000000 in
/-- The flag after the diagonal tile. -/
theorem diag2_more (hx3 : ∀ y, (x3 y : EReal) ≠ ⊥) :
    bodyRun.sl.v1188 c i arg3 harg3 arg4 harg4 arg5 harg5 arg8 arg10 x3 x4 x5 = 1#1 := by
  refine more_spec _ _ _ _ _ _ _ _ _ ?_ ⟨_, diag_car (256 * (2 * (i 2).val + 1)) Zn Kn (headQ Xn 256) (fun _ _ => 0) bodyRun.sl.v972 suffix_spec' 7 384 (2 * (i 2).val + 1) rfl rfl _ _ _ (bodyRun.sl.v990 i) (vis2 i) (hz82 i Xn Kn Zn hZ 7 (by decide)) (rd5 arg5 harg5 x5 Kn hK (k0_off4 i 1#32) _ (256 * (2 * (i 2).val + 1)) 384 (ok2_3 i))
      (rdc8 arg8 (bodyRun.sl.H8_8_1 c arg4 harg4 x4) (headQ Xn 256) (heads2 c arg4 harg4 arg8 x4 Xn hX) 7 _)
      (rdc10 arg10 (bodyRun.sl.H10_1_1) (fun _ _ => 0) (zero_fill10 arg10 _ _ (fun _ => Ideal.ofBits_zero_f32) []) 7 _) 0⟩
  exact stop_ne2 c arg3 harg3 x3 hx3

omit hX hK hZ

theorem zf2_0 : ZeroFrom arg9 (bodyRun.sl.H9_1_1) 0 :=
  zero_fill9 arg9 _ _ (fun _ => Ideal.ofBits_zero_f32) []

theorem zf2_1 : ZeroFrom arg9 (bodyRun.sl.H9_2_1 c i arg4 harg4 arg5 harg5 arg6 harg6 arg8 arg9 arg10 x4 x5 x6) 64 :=
  zero_skip arg9 _ 0 _ _ (zf2_0 arg9)

theorem zf2_2 : ZeroFrom arg9 (bodyRun.sl.H9_3_1 c i arg4 harg4 arg5 harg5 arg6 harg6 arg8 arg9 arg10 x4 x5 x6) 128 :=
  zero_skip arg9 _ 64 _ _ (zf2_1 c i arg4 harg4 arg5 harg5 arg6 harg6 arg8 arg9 arg10 x4 x5 x6)

theorem zf2_3 : ZeroFrom arg9 (bodyRun.sl.H9_4_1 c i arg4 harg4 arg5 harg5 arg6 harg6 arg8 arg9 arg10 x4 x5 x6) 192 :=
  zero_skip arg9 _ 128 _ _ (zf2_2 c i arg4 harg4 arg5 harg5 arg6 harg6 arg8 arg9 arg10 x4 x5 x6)

theorem zf2_4 : ZeroFrom arg9 (bodyRun.sl.H9_5_1 c i arg4 harg4 arg5 harg5 arg6 harg6 arg8 arg9 arg10 x4 x5 x6) 256 :=
  zero_skip arg9 _ 192 _ _ (zf2_3 c i arg4 harg4 arg5 harg5 arg6 harg6 arg8 arg9 arg10 x4 x5 x6)

theorem zf2_5 : ZeroFrom arg9 (bodyRun.sl.H9_6_1 c i arg4 harg4 arg5 harg5 arg6 harg6 arg8 arg9 arg10 x4 x5 x6) 320 :=
  zero_skip arg9 _ 256 _ _ (zf2_4 c i arg4 harg4 arg5 harg5 arg6 harg6 arg8 arg9 arg10 x4 x5 x6)

theorem zf2_6 : ZeroFrom arg9 (bodyRun.sl.H9_7_1 c i arg4 harg4 arg5 harg5 arg6 harg6 arg8 arg9 arg10 x4 x5 x6) 384 :=
  zero_skip arg9 _ 320 _ _ (zf2_5 c i arg4 harg4 arg5 harg5 arg6 harg6 arg8 arg9 arg10 x4 x5 x6)

theorem zf2_7 : ZeroFrom arg9 (bodyRun.sl.H9_8_1 c i arg4 harg4 arg5 harg5 arg6 harg6 arg8 arg9 arg10 x4 x5 x6) 448 :=
  zero_skip arg9 _ 384 _ _ (zf2_6 c i arg4 harg4 arg5 harg5 arg6 harg6 arg8 arg9 arg10 x4 x5 x6)

include hX hK hZ hV

set_option maxHeartbeats 4000000 in
/-- The accumulator after the diagonal tile. -/
theorem diag2_acc (y : S512x256.Idx) :
    arg9.view.read (Elt Ideal) (arg9.view.writes (Elt Ideal) arg9.view.junk (bodyRun.sl.H9_9_1 c i arg4 harg4 arg5 harg5 arg6 harg6 arg8 arg9 arg10 x4 x5 x6)) y
      = stepA (256 * (2 * (i 2).val + 1)) Zn Vn (fun _ _ => 0) (fun _ _ => 0) (2 * (i 2).val + 1) (y 0).val (y 1).val := by
  refine acc_list arg9 arg9.view.junk (stepA (256 * (2 * (i 2).val + 1)) Zn Vn (fun _ _ => 0) (fun _ _ => 0) (2 * (i 2).val + 1))
    _ _ _ _ _ _ _ _ _ _ _ _ _ _ _ _ bodyRun.sl.H9_1_1 ?_ ?_ ?_ ?_ ?_ ?_ ?_ ?_ y
  · exact diag_acc (256 * (2 * (i 2).val + 1)) Zn Kn (headQ Xn 256) Vn (fun _ _ => 0) (fun _ _ => 0) bodyRun.sl.v972 suffix_spec' 0 0 (2 * (i 2).val + 1) rfl rfl _ _ _ (bodyRun.sl.v990 i) (vis2 i) (hz82 i Xn Kn Zn hZ 0 (by decide)) (rd5 arg5 harg5 x5 Kn hK (k0_off1 i 1#32) _ (256 * (2 * (i 2).val + 1)) 0 (ok2_0 i))
      (rdc8 arg8 (bodyRun.sl.H8_8_1 c arg4 harg4 x4) (headQ Xn 256) (heads2 c arg4 harg4 arg8 x4 Xn hX) 0 _)
      (rdc10 arg10 (bodyRun.sl.H10_1_1) (fun _ _ => 0) (zero_fill10 arg10 _ _ (fun _ => Ideal.ofBits_zero_f32) []) 0 _)
      0 rfl _ _ (rdc9 arg9 _ 0 (zf2_0 arg9) _)
      (rd6 arg6 harg6 x6 Vn hV (k0_off5 i 1#32) _ (2 * (i 2).val + 1) 0 (ov2_0 i))
  · exact diag_acc (256 * (2 * (i 2).val + 1)) Zn Kn (headQ Xn 256) Vn (fun _ _ => 0) (fun _ _ => 0) bodyRun.sl.v972 suffix_spec' 1 0 (2 * (i 2).val + 1) rfl rfl _ _ _ (bodyRun.sl.v990 i) (vis2 i) (hz82 i Xn Kn Zn hZ 1 (by decide)) (rd5 arg5 harg5 x5 Kn hK (k0_off1 i 1#32) _ (256 * (2 * (i 2).val + 1)) 0 (ok2_0 i))
      (rdc8 arg8 (bodyRun.sl.H8_8_1 c arg4 harg4 x4) (headQ Xn 256) (heads2 c arg4 harg4 arg8 x4 Xn hX) 1 _)
      (rdc10 arg10 (bodyRun.sl.H10_1_1) (fun _ _ => 0) (zero_fill10 arg10 _ _ (fun _ => Ideal.ofBits_zero_f32) []) 1 _)
      64 rfl _ _ (rdc9 arg9 _ 64 (zf2_1 c i arg4 harg4 arg5 harg5 arg6 harg6 arg8 arg9 arg10 x4 x5 x6) _)
      (rd6 arg6 harg6 x6 Vn hV (k0_off6 i 1#32) _ (2 * (i 2).val + 1) 64 (ov2_1 i))
  · exact diag_acc (256 * (2 * (i 2).val + 1)) Zn Kn (headQ Xn 256) Vn (fun _ _ => 0) (fun _ _ => 0) bodyRun.sl.v972 suffix_spec' 2 128 (2 * (i 2).val + 1) rfl rfl _ _ _ (bodyRun.sl.v990 i) (vis2 i) (hz82 i Xn Kn Zn hZ 2 (by decide)) (rd5 arg5 harg5 x5 Kn hK (k0_off2 i 1#32) _ (256 * (2 * (i 2).val + 1)) 128 (ok2_1 i))
      (rdc8 arg8 (bodyRun.sl.H8_8_1 c arg4 harg4 x4) (headQ Xn 256) (heads2 c arg4 harg4 arg8 x4 Xn hX) 2 _)
      (rdc10 arg10 (bodyRun.sl.H10_1_1) (fun _ _ => 0) (zero_fill10 arg10 _ _ (fun _ => Ideal.ofBits_zero_f32) []) 2 _)
      128 rfl _ _ (rdc9 arg9 _ 128 (zf2_2 c i arg4 harg4 arg5 harg5 arg6 harg6 arg8 arg9 arg10 x4 x5 x6) _)
      (rd6 arg6 harg6 x6 Vn hV (k0_off7 i 1#32) _ (2 * (i 2).val + 1) 128 (ov2_2 i))
  · exact diag_acc (256 * (2 * (i 2).val + 1)) Zn Kn (headQ Xn 256) Vn (fun _ _ => 0) (fun _ _ => 0) bodyRun.sl.v972 suffix_spec' 3 128 (2 * (i 2).val + 1) rfl rfl _ _ _ (bodyRun.sl.v990 i) (vis2 i) (hz82 i Xn Kn Zn hZ 3 (by decide)) (rd5 arg5 harg5 x5 Kn hK (k0_off2 i 1#32) _ (256 * (2 * (i 2).val + 1)) 128 (ok2_1 i))
      (rdc8 arg8 (bodyRun.sl.H8_8_1 c arg4 harg4 x4) (headQ Xn 256) (heads2 c arg4 harg4 arg8 x4 Xn hX) 3 _)
      (rdc10 arg10 (bodyRun.sl.H10_1_1) (fun _ _ => 0) (zero_fill10 arg10 _ _ (fun _ => Ideal.ofBits_zero_f32) []) 3 _)
      192 rfl _ _ (rdc9 arg9 _ 192 (zf2_3 c i arg4 harg4 arg5 harg5 arg6 harg6 arg8 arg9 arg10 x4 x5 x6) _)
      (rd6 arg6 harg6 x6 Vn hV (k0_off8 i 1#32) _ (2 * (i 2).val + 1) 192 (ov2_3 i))
  · exact diag_acc (256 * (2 * (i 2).val + 1)) Zn Kn (headQ Xn 256) Vn (fun _ _ => 0) (fun _ _ => 0) bodyRun.sl.v972 suffix_spec' 4 256 (2 * (i 2).val + 1) rfl rfl _ _ _ (bodyRun.sl.v990 i) (vis2 i) (hz82 i Xn Kn Zn hZ 4 (by decide)) (rd5 arg5 harg5 x5 Kn hK (k0_off3 i 1#32) _ (256 * (2 * (i 2).val + 1)) 256 (ok2_2 i))
      (rdc8 arg8 (bodyRun.sl.H8_8_1 c arg4 harg4 x4) (headQ Xn 256) (heads2 c arg4 harg4 arg8 x4 Xn hX) 4 _)
      (rdc10 arg10 (bodyRun.sl.H10_1_1) (fun _ _ => 0) (zero_fill10 arg10 _ _ (fun _ => Ideal.ofBits_zero_f32) []) 4 _)
      256 rfl _ _ (rdc9 arg9 _ 256 (zf2_4 c i arg4 harg4 arg5 harg5 arg6 harg6 arg8 arg9 arg10 x4 x5 x6) _)
      (rd6 arg6 harg6 x6 Vn hV (k0_off9 i 1#32) _ (2 * (i 2).val + 1) 256 (ov2_4 i))
  · exact diag_acc (256 * (2 * (i 2).val + 1)) Zn Kn (headQ Xn 256) Vn (fun _ _ => 0) (fun _ _ => 0) bodyRun.sl.v972 suffix_spec' 5 256 (2 * (i 2).val + 1) rfl rfl _ _ _ (bodyRun.sl.v990 i) (vis2 i) (hz82 i Xn Kn Zn hZ 5 (by decide)) (rd5 arg5 harg5 x5 Kn hK (k0_off3 i 1#32) _ (256 * (2 * (i 2).val + 1)) 256 (ok2_2 i))
      (rdc8 arg8 (bodyRun.sl.H8_8_1 c arg4 harg4 x4) (headQ Xn 256) (heads2 c arg4 harg4 arg8 x4 Xn hX) 5 _)
      (rdc10 arg10 (bodyRun.sl.H10_1_1) (fun _ _ => 0) (zero_fill10 arg10 _ _ (fun _ => Ideal.ofBits_zero_f32) []) 5 _)
      320 rfl _ _ (rdc9 arg9 _ 320 (zf2_5 c i arg4 harg4 arg5 harg5 arg6 harg6 arg8 arg9 arg10 x4 x5 x6) _)
      (rd6 arg6 harg6 x6 Vn hV (k0_off10 i 1#32) _ (2 * (i 2).val + 1) 320 (ov2_5 i))
  · exact diag_acc (256 * (2 * (i 2).val + 1)) Zn Kn (headQ Xn 256) Vn (fun _ _ => 0) (fun _ _ => 0) bodyRun.sl.v972 suffix_spec' 6 384 (2 * (i 2).val + 1) rfl rfl _ _ _ (bodyRun.sl.v990 i) (vis2 i) (hz82 i Xn Kn Zn hZ 6 (by decide)) (rd5 arg5 harg5 x5 Kn hK (k0_off4 i 1#32) _ (256 * (2 * (i 2).val + 1)) 384 (ok2_3 i))
      (rdc8 arg8 (bodyRun.sl.H8_8_1 c arg4 harg4 x4) (headQ Xn 256) (heads2 c arg4 harg4 arg8 x4 Xn hX) 6 _)
      (rdc10 arg10 (bodyRun.sl.H10_1_1) (fun _ _ => 0) (zero_fill10 arg10 _ _ (fun _ => Ideal.ofBits_zero_f32) []) 6 _)
      384 rfl _ _ (rdc9 arg9 _ 384 (zf2_6 c i arg4 harg4 arg5 harg5 arg6 harg6 arg8 arg9 arg10 x4 x5 x6) _)
      (rd6 arg6 harg6 x6 Vn hV (k0_off11 i 1#32) _ (2 * (i 2).val + 1) 384 (ov2_6 i))
  · exact diag_acc (256 * (2 * (i 2).val + 1)) Zn Kn (headQ Xn 256) Vn (fun _ _ => 0) (fun _ _ => 0) bodyRun.sl.v972 suffix_spec' 7 384 (2 * (i 2).val + 1) rfl rfl _ _ _ (bodyRun.sl.v990 i) (vis2 i) (hz82 i Xn Kn Zn hZ 7 (by decide)) (rd5 arg5 harg5 x5 Kn hK (k0_off4 i 1#32) _ (256 * (2 * (i 2).val + 1)) 384 (ok2_3 i))
      (rdc8 arg8 (bodyRun.sl.H8_8_1 c arg4 harg4 x4) (headQ Xn 256) (heads2 c arg4 harg4 arg8 x4 Xn hX) 7 _)
      (rdc10 arg10 (bodyRun.sl.H10_1_1) (fun _ _ => 0) (zero_fill10 arg10 _ _ (fun _ => Ideal.ofBits_zero_f32) []) 7 _)
      448 rfl _ _ (rdc9 arg9 _ 448 (zf2_7 c i arg4 harg4 arg5 harg5 arg6 harg6 arg8 arg9 arg10 x4 x5 x6) _)
      (rd6 arg6 harg6 x6 Vn hV (k0_off12 i 1#32) _ (2 * (i 2).val + 1) 448 (ov2_7 i))

/-- The accumulator at the end of the tile. -/
theorem tile2_val (hx3 : ∀ y, (x3 y : EReal) ≠ ⊥) (hk) (y : S512x256.Idx) :
    (loop2 c i arg3 harg3 arg5 harg5 arg6 harg6 arg8 harg8 arg9 harg9 arg10 harg10 bodyRun.sl.v972 x3 x5 x6
      (arg8.view.read (Elt Ideal) (arg8.view.writes (Elt Ideal) arg8.view.junk (bodyRun.sl.H8_8_1 c arg4 harg4 x4))) (2 * (i 2).val + 1) hk
      (arg9.view.read (Elt Ideal) (arg9.view.writes (Elt Ideal) arg9.view.junk (bodyRun.sl.H9_9_1 c i arg4 harg4 arg5 harg5 arg6 harg6 arg8 arg9 arg10 x4 x5 x6)))
      (arg10.view.read (Elt Ideal) (arg10.view.writes (Elt Ideal) arg10.view.junk (bodyRun.sl.H10_9_1 c i arg4 harg4 arg5 harg5 arg8 arg10 x4 x5)))
      (bodyRun.sl.v1188 c i arg3 harg3 arg4 harg4 arg5 harg5 arg8 arg10 x3 x4 x5)).1 y
      = runA (256 * (2 * (i 2).val + 1)) Zn Vn (2 * (i 2).val + 1) (stepC (256 * (2 * (i 2).val + 1)) Zn (fun _ _ => 0) (2 * (i 2).val + 1))
          (stepA (256 * (2 * (i 2).val + 1)) Zn Vn (fun _ _ => 0) (fun _ _ => 0) (2 * (i 2).val + 1)) (y 0).val (y 1).val := by
  rw [diag2_more c i arg3 harg3 arg4 harg4 arg5 harg5 arg8 arg10 x3 x4 x5 Xn Kn Zn hX hK hZ hx3]
  exact loop2_val c i arg3 harg3 arg5 harg5 arg6 harg6 arg8 harg8 arg9 harg9 arg10 harg10 bodyRun.sl.v972 x3 x5 x6 _
    (256 * (2 * (i 2).val + 1)) Zn Kn (headQ Xn 256) Vn hx3 suffix_spec' hK (heads2 c arg4 harg4 arg8 x4 Xn hX) hV hZ (2 * (i 2).val + 1) hk (Nat.le_refl _) _ _ _ _
    (diag2_acc c i arg4 harg4 arg5 harg5 arg6 harg6 arg8 arg9 arg10 x4 x5 x6 Xn Kn Vn Zn hX hK hV hZ)
    (diag2_car c i arg4 harg4 arg5 harg5 arg8 arg10 x4 x5 Xn Kn Zn hX hK hZ) y

end

end Cert.Proof.KI

end
end
-- ==== Proof.KI.Closed.lean ====
/-
  The steps of a query tile summed up: one sum over the keys, each key's weight in closed form.
-/
module

public import proofs.«01_k».proof.Proof.KI.LoopVal

@[expose] public section

noncomputable section

namespace Cert.Proof.KI

/-- The weight of key `kp` for a query that sees the keys before `lim`: the exponential of its score less the softpluses of
    the visible keys from it on, up to `N`. -/
def wS (lim : ℕ) (z : ℕ → ℝ) (N kp : ℕ) : ℝ :=
  if kp < lim then Real.exp (z kp - ∑ k' ∈ Finset.Ico kp N, if k' < lim then spR (z k') else 0) else 0

theorem sum_tail (f : ℕ → ℝ) (o a : ℕ) :
    (∑ k' : Fin 256, if a ≤ k'.val then f (o + k'.val) else 0) = ∑ k' ∈ Finset.Ico (o + a) (o + 256), f k' := by
  rw [Fin.sum_univ_eq_sum_range (fun k' => if a ≤ k' then f (o + k') else 0) 256, ← Finset.sum_filter,
    add_comm o a, add_comm o 256, ← Finset.sum_Ico_add f a 256 o]
  refine Finset.sum_congr ?_ fun _ _ => rfl
  ext x
  simp only [Finset.mem_filter, Finset.mem_range, Finset.mem_Ico]
  omega

section

variable (q0 : ℕ) (Zn : ℕ → ℕ → ℕ → ℝ) (Vn : ℕ → ℕ → ℕ → EReal) (N : ℕ)

theorem stepC_closed (C : ℕ → ℕ → ℝ) (k : ℕ) (hk : 256 * (k + 1) ≤ N)
    (hC : ∀ h b, C h b = ∑ k' ∈ Finset.Ico (256 * (k + 1)) N, msp q0 Zn h k' b) (h b : ℕ) :
    stepC q0 Zn C k h b = ∑ k' ∈ Finset.Ico (256 * k) N, msp q0 Zn h k' b := by
  have e := sum_tail (fun k' => msp q0 Zn h k' b) (256 * k) 0
  simp only [Nat.zero_le, if_true, add_zero] at e
  rw [stepC, hC, e, add_comm, show 256 * (k + 1) = 256 * k + 256 by ring]
  exact Finset.sum_Ico_consecutive _ (by omega) (by omega)

theorem tailS_closed (C : ℕ → ℕ → ℝ) (k : ℕ) (hk : 256 * (k + 1) ≤ N)
    (hC : ∀ h b, C h b = ∑ k' ∈ Finset.Ico (256 * (k + 1)) N, msp q0 Zn h k' b) (h a b : ℕ) (ha : a < 256) :
    tailS q0 Zn C k h a b = ∑ k' ∈ Finset.Ico (256 * k + a) N, msp q0 Zn h k' b := by
  rw [tailS, hC, sum_tail (fun k' => msp q0 Zn h k' b) (256 * k) a, show 256 * (k + 1) = 256 * k + 256 by ring]
  exact Finset.sum_Ico_consecutive _ (by omega) (by omega)

theorem wt_closed (C : ℕ → ℕ → ℝ) (k : ℕ) (hk : 256 * (k + 1) ≤ N)
    (hC : ∀ h b, C h b = ∑ k' ∈ Finset.Ico (256 * (k + 1)) N, msp q0 Zn h k' b) (h a b : ℕ) (ha : a < 256) :
    wt q0 Zn C k h a b = wS (q0 + b) (fun kp => Zn h kp b) N (256 * k + a) := by
  rw [wt, wS, tailS_closed q0 Zn N C k hk hC h a b ha]
  rfl

theorem runA_closed (k : ℕ) : ∀ (C : ℕ → ℕ → ℝ) (A : ℕ → ℕ → EReal) (hk : 256 * k ≤ N)
    (hC : ∀ h b, C h b = ∑ k' ∈ Finset.Ico (256 * k) N, msp q0 Zn h k' b) (r b : ℕ),
    runA q0 Zn Vn k C A r b = A r b + ∑ j ∈ Finset.range k, ∑ a : Fin 256,
      Vn j r a.val * ((wS (q0 + b) (fun kp => Zn (r / 64) kp b) N (256 * j + a.val) : ℝ) : EReal) := by
  induction k with
  | zero =>
    intro C A hk hC r b
    simp [runA]
  | succ k ih =>
    intro C A hk hC r b
    rw [runA, ih _ _ (by omega) (stepC_closed q0 Zn N C k hk hC), stepA, Finset.sum_range_succ, add_assoc,
      add_comm (∑ j ∈ Finset.range k, _)]
    congr 2
    exact Finset.sum_congr rfl fun a _ => by rw [wt_closed q0 Zn N C k hk hC _ _ _ a.isLt]

end

theorem sum_tiles (g : ℕ → EReal) (n : ℕ) :
    (∑ j ∈ Finset.range n, ∑ a : Fin 256, g (256 * j + a.val)) = ∑ kp ∈ Finset.range (256 * n), g kp := by
  induction n with
  | zero => simp
  | succ n ih =>
    rw [Finset.sum_range_succ, ih, Fin.sum_univ_eq_sum_range (fun a => g (256 * n + a)) 256,
      show 256 * (n + 1) = 256 * n + 256 by ring, Finset.sum_range_add]

theorem wS_far (lim : ℕ) (z : ℕ → ℝ) (N M kp : ℕ) (hN : lim ≤ N) (hM : N ≤ M) : wS lim z N kp = wS lim z M kp := by
  rw [wS, wS]
  split_ifs with h
  · congr 2
    rw [← Finset.sum_Ico_consecutive _ (show kp ≤ N by omega) hM]
    refine (add_zero _).symm.trans (congrArg _ (Finset.sum_eq_zero fun x hx => ?_).symm)
    rw [if_neg]
    have := Finset.mem_Ico.mp hx
    omega
  · rfl

/-- A query tile: query `b` of the tile that starts at `256 * n` gets the values of all keys, each at its weight. -/
theorem tile_closed (n : ℕ) (hn : n < 16) (Zn : ℕ → ℕ → ℕ → ℝ) (Vg : ℕ → ℕ → EReal) (r b : ℕ) (hb : b < 256) :
    runA (256 * n) Zn (fun j r a => Vg (256 * j + a) r) n (stepC (256 * n) Zn (fun _ _ => 0) n)
      (stepA (256 * n) Zn (fun j r a => Vg (256 * j + a) r) (fun _ _ => 0) (fun _ _ => 0) n) r b
      = ∑ kp ∈ Finset.range 4096, Vg kp r * ((wS (256 * n + b) (fun kp => Zn (r / 64) kp b) 4096 kp : ℝ) : EReal) := by
  refine (runA_closed (256 * n) Zn (fun j r a => Vg (256 * j + a) r) (256 * (n + 1)) (n + 1) (fun _ _ => 0) (fun _ _ => 0)
    (Nat.le_refl _) (fun h b => by simp) r b).trans ?_
  rw [zero_add, sum_tiles (fun kp => Vg kp r * ((wS (256 * n + b) (fun kp => Zn (r / 64) kp b) (256 * (n + 1)) kp : ℝ) : EReal))]
  rw [← Finset.sum_range_add_sum_Ico _ (show 256 * (n + 1) ≤ 4096 by omega)]
  rw [Finset.sum_eq_zero (s := Finset.Ico _ _) fun x hx => ?_, add_zero]
  · exact Finset.sum_congr rfl fun kp _ => by rw [wS_far _ _ (256 * (n + 1)) 4096 kp (by omega) (by omega)]
  · have := Finset.mem_Ico.mp hx
    rw [wS, if_neg (by omega), EReal.coe_zero, mul_zero]

end Cert.Proof.KI

end
end
-- ==== Proof.KI.OutVal.lean ====
/-
  What a step's body leaves in the result's block: both query tiles, each query's sum over the keys.
-/
module

public import proofs.«01_k».proof.Proof.KI.BodyVal1
public import proofs.«01_k».proof.Proof.KI.BodyVal2
public import proofs.«01_k».proof.Proof.KI.Closed

@[expose] public section

set_option maxRecDepth 65536

noncomputable section

namespace Cert.Proof.KI

open Cert.KernelIdeal Cert.KernelIdeal.Gen

open Idealize.ShloMosaic hiding ix1 ix2 ix3 ix4 eq_ix2 eq_ix3
open Idealize.ShloMosaic.ValueIdx
open Idealize.ShloMosaic.TcCoe

/-- A tile's accumulator as it is stored: queries down, features across. -/
def hout (w : FVec Ideal S512x256 .f32) : FVec Ideal S1x256x512 .bf16 :=
  shapeCast S1x256x512 (truncf .bf16 (transpose S256x512 [1, 0] w transposes_S512x256_p1_0_S256x512) bitsLt_bf16_f32)
    shapeCasts_S256x512_S1x256x512

theorem hout_apply (w : FVec Ideal S512x256 .f32) (b : Fin 256) (r : Fin 512) :
    hout w (ix3 (0 : Fin 1) b r) = (w (ix2 r b) : EReal) := by
  refine (shapeCast_ab_1ab_apply _ _ (0 : Fin 1) b r).trans ?_
  exact transpose_ix2_apply w _ b r

theorem rd_all9 (a : Memref sig .tc .vmem S512x256 .f32) (ha : a.IsWhole) (x : FVec Ideal S512x256 .f32) (inb) (y : S512x256.Idx) :
    View.readAt (Elt Ideal) a.view (Rect.unit (s := S512x256) ![0, 0] S512x256.size inb).toLoadRect (ha.unread x) y = x y := by
  rw [View.readAt_eq_ld, ha.read_unread]
  refine congrArg x (funext fun k => Fin.ext ?_)
  match k with
  | ⟨0, _⟩ => show 0 + 1 * (y 0).val = (y 0).val; omega
  | ⟨1, _⟩ => show 0 + 1 * (y 1).val = (y 1).val; omega

theorem out_list (a : Memref sig .tc .vmem S1x512x512 .bf16) (f : a.view.ty.Contents (Elt Ideal)) (P0 P1 : FVec Ideal S1x256x512 .bf16)
    (i0 i1) (G : ℕ → ℕ → EReal)
    (h0 : ∀ (b : Fin 256) (r : Fin 512), P0 (ix3 (0 : Fin 1) b r) = G b.val r.val)
    (h1 : ∀ (b : Fin 256) (r : Fin 512), P1 (ix3 (0 : Fin 1) b r) = G (256 + b.val) r.val)
    (q r : Fin 512) :
    a.view.read (Elt Ideal) (a.view.writes (Elt Ideal) f
      [⟨Rect.unit (s := S1x512x512) ![0, 256, 0] S1x256x512.size i1, P1⟩, ⟨Rect.unit (s := S1x512x512) ![0, 0, 0] S1x256x512.size i0, P0⟩])
      (ix3 (0 : Fin 1) q r) = G q.val r.val := by
  by_cases hq : q.val < 256
  · refine (View.read_writes_cons_unit_of_not_mem (Val := Elt Ideal) a.view f i1 P1 _ _ rfl 1 (Or.inl hq)).trans ?_
    refine (View.read_writes_cons_unit_of_mem (Val := Elt Ideal) a.view f i0 P0 [] (ix3 (0 : Fin 1) q r) (ix3 (0 : Fin 1) (⟨q.val, hq⟩ : Fin 256) r) rfl
        (fun k => by match k with
          | ⟨0, _⟩ => exact (Nat.zero_add _).symm
          | ⟨1, _⟩ => exact (Nat.zero_add _).symm
          | ⟨2, _⟩ => exact (Nat.zero_add _).symm)).trans ?_
    exact h0 _ _
  · refine (View.read_writes_cons_unit_of_mem (Val := Elt Ideal) a.view f i1 P1 _ (ix3 (0 : Fin 1) q r)
        (ix3 (0 : Fin 1) (⟨q.val - 256, by omega⟩ : Fin 256) r) rfl
        (fun k => by match k with
          | ⟨0, _⟩ => exact (Nat.zero_add _).symm
          | ⟨1, _⟩ => show q.val = 256 + (q.val - 256); omega
          | ⟨2, _⟩ => exact (Nat.zero_add _).symm)).trans ?_
    refine (h1 _ _).trans ?_
    show G (256 + (q.val - 256)) r.val = _
    rw [show 256 + (q.val - 256) = q.val by omega]

set_option maxHeartbeats 4000000 in
theorem out_val (c : Dev nD) (i : grid0.Coords)
    (arg3 : Memref sig .tc .smem S1 .f32) (harg3 : arg3.IsWhole)
    (arg4 : Memref sig .tc .vmem S1x512x512 .bf16) (harg4 : arg4.IsWhole)
    (arg5 : Memref sig .tc .vmem S1x4096x512 .bf16) (harg5 : arg5.IsWhole)
    (arg6 : Memref sig .tc .vmem S1x16x512x256 .bf16) (harg6 : arg6.IsWhole)
    (arg7 : Memref sig .tc .vmem S1x512x512 .bf16) (harg7 : arg7.IsWhole)
    (arg8 : Memref sig .tc .vmem S8x256x128 .bf16) (harg8 : arg8.IsWhole)
    (arg9 : Memref sig .tc .vmem S512x256 .f32) (harg9 : arg9.IsWhole)
    (arg10 : Memref sig .tc .vmem S8x256 .f32) (harg10 : arg10.IsWhole)
    (x3 : Vec Ideal S1 .f32) (x4 : Vec Ideal S1x512x512 .bf16) (x5 : Vec Ideal S1x4096x512 .bf16)
    (x6 : Vec Ideal S1x16x512x256 .bf16)
    (Xn Kn Vg : ℕ → ℕ → EReal) (Zg : ℕ → ℕ → ℕ → ℝ)
    (hx3 : ∀ y, (x3 y : EReal) ≠ ⊥)
    (hX : ∀ y, x4 y = Xn (y 1).val (y 2).val) (hK : ∀ y, x5 y = Kn (y 1).val (y 2).val)
    (hV : ∀ y, x6 y = Vg (256 * (y 1).val + (y 3).val) (y 2).val)
    (hZ : ∀ h, h < 8 → ∀ kp, kp < 4096 → ∀ q, q < 512 →
      (∑ l : Fin 128, Kn kp (128 * (h / 2) + l.val) * headQ Xn 0 h q l.val) = ((Zg h kp q : ℝ) : EReal))
    (q r : Fin 512) :
    (bodyRun c i arg3 harg3 arg4 harg4 arg5 harg5 arg6 harg6 arg7 harg7 arg8 harg8 arg9 harg9 arg10 harg10 x3 x4 x5 x6).1
      (ix3 (0 : Fin 1) q r)
      = ∑ kp ∈ Finset.range 4096, Vg kp r.val
          * ((wS (512 * (i 2).val + q.val) (fun kp => Zg (r.val / 64) kp q.val) 4096 kp : ℝ) : EReal) := by
  have hi : (i 2).val < 8 := (i 2).isLt
  refine out_list arg7 arg7.view.junk (hout _) (hout _) _ _
    (fun q r => ∑ kp ∈ Finset.range 4096, Vg kp r * ((wS (512 * (i 2).val + q) (fun kp => Zg (r / 64) kp q) 4096 kp : ℝ) : EReal))
    ?_ ?_ q r
  · intro b r
    refine (hout_apply _ b r).trans ?_
    refine (rd_all9 arg9 harg9 _ _ (ix2 r b)).trans ?_
    refine (tile1_val c i arg3 harg3 arg4 harg4 arg5 harg5 arg6 harg6 arg8 harg8 arg9 harg9 arg10 harg10 x3 x4 x5 x6 Xn Kn
      (fun j r a => Vg (256 * j + a) r) (fun h kp b => Zg h kp b) hX hK hV
      (fun h hh kp hkp b => hZ h hh kp hkp b.val (by omega)) hx3 _ (ix2 r b)).trans ?_
    refine (tile_closed (2 * (i 2).val) (by omega) _ Vg r.val b.val b.isLt).trans ?_
    rw [show 256 * (2 * (i 2).val) = 512 * (i 2).val by ring]
  · intro b r
    refine (hout_apply _ b r).trans ?_
    refine (rd_all9 arg9 harg9 _ _ (ix2 r b)).trans ?_
    refine (tile2_val c i arg3 harg3 arg4 harg4 arg5 harg5 arg6 harg6 arg8 harg8 arg9 harg9 arg10 harg10 x3 x4 x5 x6 Xn Kn
      (fun j r a => Vg (256 * j + a) r) (fun h kp b => Zg h kp (256 + b)) hX hK hV
      (fun h hh kp hkp b => ?_) hx3 _ (ix2 r b)).trans ?_
    · rw [← hZ h hh kp hkp (256 + b.val) (by omega)]
      refine Finset.sum_congr rfl fun l _ => ?_
      rw [headQ, headQ, zero_add]
    refine (tile_closed (2 * (i 2).val + 1) (by omega) _ Vg r.val b.val b.isLt).trans ?_
    rw [show 256 * (2 * (i 2).val + 1) + b.val = 512 * (i 2).val + (256 + b.val) by ring]

end Cert.Proof.KI

end
end
-- ==== Proof.KI.Array.lean ====
/-
  What the region leaves in the result's array, off the arrays it reads.
-/
module

public import proofs.«01_k».proof.Proof.KI.OutVal
public import proofs.«01_k».proof.Proof.KI.Run
public import Idealize.ShloMosaic.Lib.Pipeline.ValueKit

@[expose] public section

set_option maxRecDepth 65536

noncomputable section

namespace Cert.Proof.KI

open Cert.KernelIdeal Cert.KernelIdeal.Gen

open Idealize.ShloMosaic hiding ix1 ix2 ix3 ix4 eq_ix2 eq_ix3
open Idealize.ShloMosaic.ValueIdx
open Idealize.ShloMosaic.TcCoe

variable (m : (ℓ : Loc nD τ sig) → Buf (Elt Ideal) ℓ) (c : Dev nD)

theorem index1 : ∀ t : Fin 128, win0_1.index t 0 = (grid0.coords t 0).val ∧ win0_1.index t 1 = (grid0.coords t 2).val
    ∧ win0_1.index t 2 = 0 := by decide +kernel

theorem index2 : ∀ t : Fin 128, win0_2.index t 0 = (grid0.coords t 0).val ∧ win0_2.index t 1 = 0 ∧ win0_2.index t 2 = 0 := by
  decide +kernel

theorem index3 : ∀ t : Fin 128, win0_3.index t 0 = (grid0.coords t 0).val ∧ win0_3.index t 1 = 0 ∧ win0_3.index t 2 = 0
    ∧ win0_3.index t 3 = 0 := by decide +kernel

theorem index4 : ∀ t : Fin 128, win0_4.index t 0 = (grid0.coords t 0).val ∧ win0_4.index t 1 = (grid0.coords t 2).val
    ∧ win0_4.index t 2 = 0 := by decide +kernel

theorem blk1 (Q : ℕ → ℕ → ℕ → EReal) (hQ : ∀ y : S16x4096x512.Idx, V m c main_v10 y = Q (y 0).val (y 1).val (y 2).val)
    (t : Fin (cfg0 (F := Ideal)).N) (y : S1x512x512.Idx) :
    iblk m c 1 t y = Q (grid0.coords t 0).val (512 * (grid0.coords t 2).val + (y 1).val) (y 2).val := by
  refine (hQ _).trans ?_
  have h0 : (y 0).val = 0 := by have : (y 0).val < 1 := (y 0).isLt; omega
  obtain ⟨e0, e1, e2⟩ := index1 t
  congr 1
  all_goals blk_simp [e0, e1, e2]
  all_goals omega

theorem blk2 (K : ℕ → ℕ → ℕ → EReal) (hK : ∀ y : S16x4096x512.Idx, V m c main_v12 y = K (y 0).val (y 1).val (y 2).val)
    (t : Fin (cfg0 (F := Ideal)).N) (y : S1x4096x512.Idx) :
    iblk m c 2 t y = K (grid0.coords t 0).val (y 1).val (y 2).val := by
  refine (hK _).trans ?_
  have h0 : (y 0).val = 0 := by have : (y 0).val < 1 := (y 0).isLt; omega
  obtain ⟨e0, e1, e2⟩ := index2 t
  congr 1
  all_goals blk_simp [e0, e1, e2]
  all_goals omega

theorem blk3 (W : ℕ → ℕ → ℕ → EReal)
    (hW : ∀ y : S16x16x512x256.Idx, V m c main_v15 y = W (y 0).val (256 * (y 1).val + (y 3).val) (y 2).val)
    (t : Fin (cfg0 (F := Ideal)).N) (y : S1x16x512x256.Idx) :
    iblk m c 3 t y = W (grid0.coords t 0).val (256 * (y 1).val + (y 3).val) (y 2).val := by
  refine (hW _).trans ?_
  have h0 : (y 0).val = 0 := by have : (y 0).val < 1 := (y 0).isLt; omega
  obtain ⟨e0, e1, e2, e3⟩ := index3 t
  congr 1
  all_goals blk_simp [e0, e1, e2, e3]
  all_goals omega

theorem arr_val (Q K W : ℕ → ℕ → ℕ → EReal) (Z : ℕ → ℕ → ℕ → ℕ → ℝ)
    (hs : ∀ y : S1.Idx, @Ne EReal (V m c main_v18 y) ⊥)
    (hQ : ∀ y : S16x4096x512.Idx, V m c main_v10 y = Q (y 0).val (y 1).val (y 2).val)
    (hK : ∀ y : S16x4096x512.Idx, V m c main_v12 y = K (y 0).val (y 1).val (y 2).val)
    (hW : ∀ y : S16x16x512x256.Idx, V m c main_v15 y = W (y 0).val (256 * (y 1).val + (y 3).val) (y 2).val)
    (hZ : ∀ n, n < 16 → ∀ h, h < 8 → ∀ kp, kp < 4096 → ∀ q, q < 4096 →
      (∑ l : Fin 128, K n kp (128 * (h / 2) + l.val) * headQ (Q n) 0 h q l.val) = ((Z n h kp q : ℝ) : EReal)) :
    (dats m 0 c).arrAt 4 (cfg0 (F := Ideal)).N = fun y : S16x4096x512.Idx =>
      (∑ kp ∈ Finset.range 4096, W (y 0).val kp (y 2).val
        * ((wS (y 1).val (fun kp => Z (y 0).val ((y 2).val / 64) kp (y 1).val) 4096 kp : ℝ) : EReal) : EReal) := by
  refine (dats m 0 c).arrAt_eq_of_covers 4 _ (by decide +kernel) fun t hf y => ?_
  obtain ⟨e0, e1, e2⟩ := index4 t
  have h0 : (y 0).val = 0 := by have : (y 0).val < 1 := (y 0).isLt; omega
  have c0 : (grid0.coords t 0).val < 16 := (grid0.coords t 0).isLt
  have c2 : (grid0.coords t 2).val < 8 := (grid0.coords t 2).isLt
  have hy : y = ix3 (0 : Fin 1) (y 1 : Fin 512) (y 2 : Fin 512) := by
    funext k
    match k with
    | ⟨0, _⟩ => exact Fin.ext h0
    | ⟨1, _⟩ => rfl
    | ⟨2, _⟩ => rfl
  refine Eq.trans (b := outAt m c t y) rfl ?_
  refine (congrArg (outAt m c t) hy).trans ?_
  refine (out_val c (grid0.coords t) _ _ _ _ _ _ _ _ _ _ _ _ _ _ _ _ _ _ _ _
    (fun q l => Q (grid0.coords t 0).val (512 * (grid0.coords t 2).val + q) l) (K (grid0.coords t 0).val) (W (grid0.coords t 0).val)
    (fun h kp q => Z (grid0.coords t 0).val h kp (512 * (grid0.coords t 2).val + q))
    (fun y => hs _) (blk1 m c Q hQ t) (blk2 m c K hK t) (blk3 m c W hW t) (fun h hh kp hkp q hq => ?_) (y 1) (y 2)).trans ?_
  · rw [← hZ _ c0 h hh kp hkp (512 * (grid0.coords t 2).val + q) (by omega)]
    simp only [headQ, zero_add]
  · have p0 : (((((cfg0 (F := Ideal)).win 4).blk t).view.emb y) 0).val = (grid0.coords t 0).val := by
      blk_simp [e0]
    have p1 : (((((cfg0 (F := Ideal)).win 4).blk t).view.emb y) 1).val = 512 * (grid0.coords t 2).val + (y 1).val := by
      blk_simp [e1]; omega
    have p2 : (((((cfg0 (F := Ideal)).win 4).blk t).view.emb y) 2).val = (y 2).val := by
      blk_simp [e2]
    show _ = (∑ kp ∈ Finset.range 4096, W (((((cfg0 (F := Ideal)).win 4).blk t).view.emb y) 0).val kp (((((cfg0 (F := Ideal)).win 4).blk t).view.emb y) 2).val * _ : EReal)
    rw [p0, p1, p2]

end Cert.Proof.KI

end
end
-- ==== Proof.Ext.lean ====
/-
  A four-axis array read at natural coordinates.
-/
module

public import Idealize.ShloMosaic.Lib.Pipeline.ValueKit
public import Idealize.ShloMosaic.Lib.IdealHost

@[expose] public section

noncomputable section

namespace Cert.Proof

open Idealize.ShloMosaic hiding ix1 ix2 ix3 ix4 eq_ix2 eq_ix3 eq_ix4
open Idealize.ShloMosaic.ValueIdx

/-- An array of queries, keys or values read at (sequence, position, head, lane), zero off its extent. -/
def e4 (x : (⟨4, ![16, 4096, 8, 64]⟩ : Shape).Idx → EReal) (n q h d : ℕ) : EReal :=
  if hh : n < 16 ∧ q < 4096 ∧ h < 8 ∧ d < 64 then
    x (ix4 (⟨n, hh.1⟩ : Fin 16) (⟨q, hh.2.1⟩ : Fin 4096) (⟨h, hh.2.2.1⟩ : Fin 8) (⟨d, hh.2.2.2⟩ : Fin 64))
  else 0

theorem e4_eq (x : (⟨4, ![16, 4096, 8, 64]⟩ : Shape).Idx → EReal) (i : (⟨4, ![16, 4096, 8, 64]⟩ : Shape).Idx) {n q h d : ℕ}
    (hn : (i 0).val = n) (hq : (i 1).val = q) (hh : (i 2).val = h) (hd : (i 3).val = d) : x i = e4 x n q h d := by
  subst hn hq hh hd
  unfold e4
  rw [dif_pos ⟨(i 0).isLt, (i 1).isLt, (i 2).isLt, (i 3).isLt⟩]
  exact congrArg x (eq_ix4 i)

/-- The scale of a score, one eighth. -/
def eighth : ℝ := 1 / 8

theorem ofBits_eighth : Ideal.ofBits .f32 0x3E000000#32 = ((eighth : ℝ) : EReal) := by
  unfold eighth
  simp [Ideal.ofBits, Ideal.ieee, -EReal.coe_mul]; norm_num

theorem ofBits_eight_nonneg : 0 ≤ Ideal.ofBits .f32 0x41000000#32 := by
  rw [show Ideal.ofBits .f32 0x41000000#32 = ((8 : ℝ) : EReal) by
    simp [Ideal.ofBits, Ideal.ieee, -EReal.coe_mul]; norm_num]
  exact EReal.coe_nonneg.mpr (by norm_num)

theorem ofBits_bound_nonneg : 0 ≤ Ideal.ofBits .f32 0x3F828F5C#32 := by
  rw [show Ideal.ofBits .f32 0x3F828F5C#32 = (((8556380 : ℝ) * (2 : ℝ) ^ (-23 : ℤ) : ℝ) : EReal) by
    simp [Ideal.ofBits, Ideal.ieee, -EReal.coe_mul]]
  exact EReal.coe_nonneg.mpr (by positivity)

/-- A running maximum one of whose terms is not negative is not negative. -/
theorem foldl_max_nonneg {α : Type} (f : α → EReal) (l : List α) (v : EReal) (h : 0 ≤ v ∨ ∃ n ∈ l, 0 ≤ f n) :
    0 ≤ l.foldl (fun r n => max r (f n)) v := by
  induction l generalizing v with
  | nil => exact h.elim id fun ⟨n, hn, _⟩ => absurd hn List.not_mem_nil
  | cons a l ih =>
    refine ih (max v (f a)) ?_
    rcases h with h | ⟨n, hn, h0⟩
    · exact Or.inl (le_max_of_le_left h)
    · rcases List.mem_cons.1 hn with rfl | hn
      · exact Or.inl (le_max_of_le_right h0)
      · exact Or.inr ⟨n, hn, h0⟩

theorem abs_nonneg' (x : EReal) : 0 ≤ max x (-x) := by
  rcases le_total 0 x with h | h
  · exact le_max_of_le_left h
  · exact le_max_of_le_right (by rw [EReal.le_neg]; simpa using h)

end Cert.Proof

end
-- ==== Proof.KI.HostVal.lean ====
/-
  What the host prepares for the region, read at an index.
-/
module

public import proofs.«01_k».proof.Proof.KI.Array
public import proofs.«01_k».proof.Proof.Ext

@[expose] public section

set_option maxRecDepth 65536

noncomputable section

namespace Cert.Proof.KI

open Cert.KernelIdeal Cert.KernelIdeal.Gen

open Idealize.ShloMosaic hiding ix1 ix2 ix3 ix4 eq_ix2 eq_ix3 eq_ix4
open Idealize.ShloMosaic.ValueIdx
open Idealize.ShloMosaic.TcCoe Idealize.ShloMosaic.StableHlo

variable (m : (ℓ : Loc nD τ sig) → Buf (Elt Ideal) ℓ) (c : Dev nD)

/-- The queries, the keys and the values, as the memory holds them. -/
abbrev argQ : (⟨4, ![16, 4096, 8, 64]⟩ : Shape).Idx → EReal := m (c, Proc.tc.devRef main_arg0)
abbrev argK : (⟨4, ![16, 4096, 8, 64]⟩ : Shape).Idx → EReal := m (c, Proc.tc.devRef main_arg1)
abbrev argV : (⟨4, ![16, 4096, 8, 64]⟩ : Shape).Idx → EReal := m (c, Proc.tc.devRef main_arg2)

/-- The merged last axis at a flat lane. -/
theorem merge_apply (x : S16x4096x8x64.Idx → EReal) (y : S16x4096x512.Idx) :
    shapeCast S16x4096x512 x shapeCasts_S16x4096x8x64_S16x4096x512 y
      = e4 x (y 0).val (y 1).val ((y 2).val / 64) ((y 2).val % 64) := by
  have h2 : (y 2).val < 512 := (y 2).isLt
  refine (shapeCast_apply x shapeCasts_S16x4096x8x64_S16x4096x512 y
    (ix4 (y 0) (y 1) (⟨(y 2).val / 64, by omega⟩ : Fin 8) (⟨(y 2).val % 64, by omega⟩ : Fin 64)) ?_).trans
    (e4_eq x _ rfl rfl rfl rfl)
  rw [Shape.rowMajor_val_three, Shape.rowMajor_val_four]
  show (((y 0).val * 4096 + (y 1).val) * 8 + (y 2).val / 64) * 64 + (y 2).val % 64 = ((y 0).val * 4096 + (y 1).val) * 512 + (y 2).val
  omega

/-- The values cut into key tiles, lanes in rows. -/
theorem tiles_apply (x : S16x4096x8x64.Idx → EReal) (y : S16x16x512x256.Idx) :
    transpose S16x16x512x256 [0, 1, 3, 2] (shapeCast S16x16x256x512 x shapeCasts_S16x4096x8x64_S16x16x256x512)
        transposes_S16x16x256x512_S16x16x512x256_0_1_3_2 y
      = e4 x (y 0).val (256 * (y 1).val + (y 3).val) ((y 2).val / 64) ((y 2).val % 64) := by
  have h1 : (y 1).val < 16 := (y 1).isLt
  have h2 : (y 2).val < 512 := (y 2).isLt
  have h3 : (y 3).val < 256 := (y 3).isLt
  refine (transpose_apply [0, 1, 3, 2] _ transposes_S16x16x256x512_S16x16x512x256_0_1_3_2 y
    (ix4 (y 0) (y 1) (y 3) (y 2)) ?_).trans ?_
  · intro b
    match b with
    | ⟨0, _⟩ => rfl
    | ⟨1, _⟩ => rfl
    | ⟨2, _⟩ => rfl
    | ⟨3, _⟩ => rfl
  refine (shapeCast_apply x shapeCasts_S16x4096x8x64_S16x16x256x512 (ix4 (y 0) (y 1) (y 3) (y 2))
    (ix4 (y 0) (⟨256 * (y 1).val + (y 3).val, by omega⟩ : Fin 4096) (⟨(y 2).val / 64, by omega⟩ : Fin 8)
      (⟨(y 2).val % 64, by omega⟩ : Fin 64)) ?_).trans
    (e4_eq x _ rfl rfl rfl rfl)
  rw [Shape.rowMajor_val_four, Shape.rowMajor_val_four]
  show (((y 0).val * 4096 + (256 * (y 1).val + (y 3).val)) * 8 + (y 2).val / 64) * 64 + (y 2).val % 64
    = (((y 0).val * 16 + (y 1).val) * 256 + (y 3).val) * 512 + (y 2).val
  omega

theorem q_host (y : S16x4096x512.Idx) :
    V m c main_v10 y = e4 (argQ m c) (y 0).val (y 1).val ((y 2).val / 64) ((y 2).val % 64) * ((eighth : ℝ) : EReal) := by
  have e : V m c main_v10 = shapeCast S16x4096x512
      (mulf (F := Ideal) (φ := .f32) (m (c, Proc.tc.devRef main_arg0))
        (broadcastInDim S16x4096x8x64 ![] bcast_S_S16x4096x8x64 (constant (F := Ideal) S_ .f32 0x3E000000#32)))
      shapeCasts_S16x4096x8x64_S16x4096x512 := by
    unfold_abbrev_sides
    after_results
    rfl
  rw [e, merge_apply]
  unfold e4
  have h0 : (y 0).val < 16 := (y 0).isLt
  have h1 : (y 1).val < 4096 := (y 1).isLt
  have h2 : (y 2).val < 512 := (y 2).isLt
  have hh : (y 0).val < 16 ∧ (y 1).val < 4096 ∧ (y 2).val / 64 < 8 ∧ (y 2).val % 64 < 64 := by omega
  rw [dif_pos hh, dif_pos hh]
  exact congrArg (argQ m c _ * ·) ofBits_eighth

theorem k_host (y : S16x4096x512.Idx) :
    V m c main_v12 y = e4 (argK m c) (y 0).val (y 1).val ((y 2).val / 64) ((y 2).val % 64) := by
  have e : V m c main_v12 = shapeCast S16x4096x512 (m (c, Proc.tc.devRef main_arg1) : S16x4096x8x64.Idx → EReal)
      shapeCasts_S16x4096x8x64_S16x4096x512 := by
    unfold_abbrev_sides
    after_results
    rfl
  rw [e, merge_apply]

theorem w_host (y : S16x16x512x256.Idx) :
    V m c main_v15 y = e4 (argV m c) (y 0).val (256 * (y 1).val + (y 3).val) ((y 2).val / 64) ((y 2).val % 64) := by
  have e : V m c main_v15 = transpose S16x16x512x256 [0, 1, 3, 2]
      (shapeCast S16x16x256x512 (m (c, Proc.tc.devRef main_arg2) : S16x4096x8x64.Idx → EReal) shapeCasts_S16x4096x8x64_S16x16x256x512)
        transposes_S16x16x256x512_S16x16x512x256_0_1_3_2 := by
    unfold_abbrev_sides
    after_results
    rfl
  rw [e, tiles_apply]

/-- A largest magnitude is not negative. -/
theorem max_abs_nonneg (x : FVec Ideal S64 .f32) (j : S_.Idx) :
    (0 : EReal) ≤ Host.reduce FloatOps.maximumf (Host.absf x) (constant (F := Ideal) S_ .f32 0xFF800000#32) reducesTo_S64_S_d0 h_S_ j := by
  unfold Host.reduce
  refine foldl_max_nonneg (fun n => Host.absf (F := Ideal) x (S64.rowMajor.symm n)) _ _ (Or.inr ⟨⟨0, by decide⟩, ?_, abs_nonneg' _⟩)
  rw [List.mem_filter]
  exact ⟨List.mem_finRange _, decide_eq_true (funext fun a => a.elim0)⟩

theorem stop_host (y : S1.Idx) : @Ne EReal (V m c main_v18 y) ⊥ := by
  have e : ∃ (a b : FVec Ideal S64 .f32), V m c main_v18 = shapeCast S1 (mulf (F := Ideal) (φ := .f32)
      (mulf (F := Ideal) (φ := .f32) (constant (F := Ideal) S_ .f32 0x3F828F5C#32)
        (Host.reduce FloatOps.maximumf (Host.absf a) (constant (F := Ideal) S_ .f32 0xFF800000#32) reducesTo_S64_S_d0 h_S_))
      (mulf (F := Ideal) (φ := .f32) (constant (F := Ideal) S_ .f32 0x41000000#32)
        (Host.reduce FloatOps.maximumf (Host.absf b) (constant (F := Ideal) S_ .f32 0xFF800000#32) reducesTo_S64_S_d0 h_S_)))
      shapeCasts_S_S1 := by
    refine ⟨shapeCast S64 (m (c, Proc.tc.devRef main_arg3) : S1x64.Idx → EReal) shapeCasts_S1x64_S64,
      shapeCast S64 (m (c, Proc.tc.devRef main_arg4) : S1x64.Idx → EReal) shapeCasts_S1x64_S64, ?_⟩
    unfold_abbrev_sides
    after_results
    rfl
  obtain ⟨a, b, e⟩ := e
  rw [e]
  refine (lt_of_lt_of_le EReal.bot_lt_zero ?_).ne'
  exact mul_nonneg (mul_nonneg ofBits_bound_nonneg (max_abs_nonneg a _)) (mul_nonneg ofBits_eight_nonneg (max_abs_nonneg b _))

end Cert.Proof.KI

end
-- ==== Proof.RefVal.lean ====
/-
  The reference's result read at an index.
-/
module

public import proofs.«01_k».proof.Proof.KI.Closed
public import proofs.«01_k».proof.Proof.Ext
public import proofs.«01_k».proof.Proof.Gen.ReferenceIdeal.Run
public import Idealize.ShloMosaic.Lib.WordCmp
public import Idealize.ShloMosaic.Lib.FinSumWindow

@[expose] public section

set_option maxRecDepth 65536

noncomputable section

namespace Cert.Proof.Ref

open Cert.ReferenceIdeal Cert.ReferenceIdeal.Gen

open Idealize.ShloMosaic hiding ix1 ix2 ix3 ix4 eq_ix2 eq_ix3 eq_ix4
open Idealize.ShloMosaic.ValueIdx
open Idealize.ShloMosaic.TcCoe Idealize.ShloMosaic.StableHlo
open Cert.Proof.KI (spR wS)

/-! ## The reference in named parts -/

/-- Scores, scaled. -/
def rZ (q k : FVec Ideal S16x4096x8x64 .f32) : FVec Ideal S16x8x4096x4096 .f32 :=
  mulf (Host.dotGeneral dot_S16x4096x8x64_S16x4096x8x64_S16x8x4096x4096_3_3_1_1_02_02 none q k)
    (broadcastInDim S16x8x4096x4096 ![] bcast_S_S16x8x4096x4096 (constant S_ .f32 0x3E000000#32))

/-- Zero at every score's place. -/
def rO : FVec Ideal S16x8x4096x4096 .f32 := broadcastInDim S16x8x4096x4096 ![] bcast_S_S16x8x4096x4096 (constant S_ .f32 0x00000000#32)

/-- A key strictly before its query. -/
def rM : IVec S16x8x4096x4096 1 :=
  broadcastInDim S16x8x4096x4096 ![2, 3] bcast_S4096x4096_S16x8x4096x4096_2_3 (cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- The logarithm of one plus an exponential. -/
def rS (z : FVec Ideal S16x8x4096x4096 .f32) : FVec Ideal S16x8x4096x4096 .f32 :=
  select (cmpf .une (subf z rO) (subf z rO)) (addf z rO)
    (addf (maximumf z rO) (Host.log1p (Host.exp (Host.negf (Host.absf (subf z rO))))))

/-- The same where the key is visible, zero elsewhere. -/
def rP (z : FVec Ideal S16x8x4096x4096 .f32) : FVec Ideal S16x8x4096x4096 .f32 := select rM (rS z) rO

/-- Its sum over a key and the keys after it. -/
def rC (x : FVec Ideal S16x8x4096x4096 .f32) : FVec Ideal S16x8x4096x4096 .f32 :=
  Host.reduceWindowAdd ![1, 1, 1, 4096] ![1, 1, 1, 1] ![0, 0, 0, 0] ![0, 0, 0, 4095] x
    (broadcastInDim S_ ![] bcast_S_S_ (constant S_ .f32 0x00000000#32))
    reduceWindows_S16x8x4096x4096_S16x8x4096x4096_w1s1p0_0_w1s1p0_0_w1s1p0_0_w4096s1p0_4095 h_S_

/-- The weights. -/
def rW (z : FVec Ideal S16x8x4096x4096 .f32) : FVec Ideal S16x8x4096x4096 .f32 :=
  select rM (Host.exp (subf (Host.negf (rS (Host.negf z))) (subf (rC (rP z)) (rP z)))) rO

theorem res_eq (m : (ℓ : Loc nD τ sig) → Buf (Elt Ideal) ℓ) (c : Dev nD) :
    Cert.ReferenceIdeal.Value.res_main_v21 m c
      = shapeCast S16x4096x512 (transpose S16x4096x8x64 [0, 3, 1, 2]
          (Host.dotGeneral (F := Ideal) (φ₁ := .f32) (φ₂ := .f32) dot_S16x4096x8x64_S16x8x4096x4096_S16x8x64x4096_1_3_3_2_02_01 none (m (c, Proc.tc.devRef main_arg2))
            (rW (rZ (m (c, Proc.tc.devRef main_arg0)) (m (c, Proc.tc.devRef main_arg1)))))
          transposes_S16x8x64x4096_S16x4096x8x64_0_3_1_2) shapeCasts_S16x4096x8x64_S16x4096x512 := by
  unfold Cert.ReferenceIdeal.Value.res_main_v21
  rfl

/-! ## Each part at an index -/

theorem rO_apply (i : S16x8x4096x4096.Idx) : rO i = (0 : EReal) := Ideal.ofBits_zero_f32

theorem rZ_apply (q k : FVec Ideal S16x4096x8x64 .f32) (qR kR : ℕ → ℕ → ℕ → ℕ → ℝ)
    (hq : ∀ n p h d, e4 q n p h d = ((qR n p h d : ℝ) : EReal)) (hk : ∀ n p h d, e4 k n p h d = ((kR n p h d : ℝ) : EReal))
    (n : Fin 16) (h : Fin 8) (p kp : Fin 4096) :
    rZ q k (ix4 n h p kp) = (((∑ d : Fin 64, qR n p h d * kR n kp h d) * eighth : ℝ) : EReal) := by
  let D := dot_S16x4096x8x64_S16x4096x8x64_S16x8x4096x4096_3_3_1_1_02_02
  have hr : D.contr.rank = 1 := rfl
  have hs : D.contr.size ⟨0, by rw [hr]; omega⟩ = 64 := rfl
  have e : Host.dotGeneral (F := Ideal) (φ₁ := .f32) (φ₂ := .f32) D none q k (ix4 n h p kp)
      = ((∑ d : Fin 64, qR n p h d * kR n kp h d : ℝ) : EReal) := by
    refine (Ideal.dotGeneral_apply D none _ q k _).trans ?_
    rw [← Equiv.sum_comp (contrEquiv1 D 64 hr hs).symm, KI.coe_sumR]
    refine Finset.sum_congr rfl fun d _ => ?_
    have hd := contrEquiv1_symm_val D 64 hr hs d
    rw [EReal.coe_mul, ← hq, ← hk]
    refine congrArg₂ (· * ·) (e4_eq q _ rfl rfl rfl hd) (e4_eq k _ rfl rfl rfl hd)
  rw [EReal.coe_mul, ← e, ← ofBits_eighth]
  rfl

theorem rM_apply (n : Fin 16) (h : Fin 8) (p kp : Fin 4096) :
    rM (ix4 n h p kp) = BitVec.ofBool (decide (kp.val < p.val)) := by
  have hk := kp.isLt
  have hp := p.isLt
  exact WordCmp.cmpi_slt_ofNat (w := 32) (a := kp.val) (b := p.val) (by omega) (by omega)

theorem exp_coeR (r : ℝ) : Ideal.exp ((r : ℝ) : EReal) = ((Real.exp r : ℝ) : EReal) := rfl

theorem rS_apply (z : FVec Ideal S16x8x4096x4096 .f32) (i : S16x8x4096x4096.Idx) (t : ℝ) (hz : z i = ((t : ℝ) : EReal)) :
    rS z i = ((spR t : ℝ) : EReal) := by
  have e : rS z i = max (z i) (rO i) + Ideal.log (1 + Ideal.exp (-(max (z i - rO i) (-(z i - rO i))))) := by
    unfold rS
    refine (if_neg ?_ : (if BitVec.ofBool (decide (z i - rO i ≠ z i - rO i)) = 1 then _ else _) = _)
    simp
  rw [e, rO_apply, hz, sub_zero, ← EReal.coe_neg, ← EReal.coe_zero, KI.coe_maxR, KI.coe_maxR, ← EReal.coe_neg, exp_coeR,
    KI.log_coeR _ (Real.exp_pos _).le, ← EReal.coe_add]
  rfl

theorem pick_apply (x : FVec Ideal S16x8x4096x4096 .f32) (n : Fin 16) (h : Fin 8) (p kp : Fin 4096) (t : ℝ)
    (hx : kp.val < p.val → x (ix4 n h p kp) = ((t : ℝ) : EReal)) :
    select rM x rO (ix4 n h p kp) = ((if kp.val < p.val then t else 0 : ℝ) : EReal) := by
  show (if rM (ix4 n h p kp) = 1 then x (ix4 n h p kp) else rO (ix4 n h p kp)) = _
  rw [rM_apply, rO_apply]
  by_cases hlt : kp.val < p.val
  · rw [if_pos (by simp [hlt]), if_pos hlt, hx hlt]
  · rw [if_neg (by simp [hlt]), if_neg hlt, EReal.coe_zero]

theorem foldl_add_sum {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

theorem shift_sum (f : ℕ → ℝ) (N kp : ℕ) :
    (∑ n ∈ Finset.range N, if kp + n < N then f (kp + n) else 0) = ∑ k' ∈ Finset.Ico kp N, f k' := by
  rw [Finset.sum_Ico_eq_sum_range, ← Finset.sum_subset (Finset.range_subset_range.2 (Nat.sub_le N kp))]
  · exact Finset.sum_congr rfl fun n hn => if_pos (by have := Finset.mem_range.1 hn; omega)
  · intro n _ hn
    exact if_neg fun hlt => hn (Finset.mem_range.2 (by omega))

theorem rC_apply (x : FVec Ideal S16x8x4096x4096 .f32) (n : Fin 16) (h : Fin 8) (p : Fin 4096) (f : ℕ → ℝ)
    (hx : ∀ kp : Fin 4096, x (ix4 n h p kp) = ((f kp.val : ℝ) : EReal)) (kp : Fin 4096) :
    rC x (ix4 n h p kp) = ((∑ k' ∈ Finset.Ico kp.val 4096, f k' : ℝ) : EReal) := by
  let W : Shape := ⟨4, ![1, 1, 1, 4096]⟩
  have hN : W.numel = 4096 := by decide
  have e : rC x (ix4 n h p kp) = (List.finRange W.numel).foldl
      (fun r w => r + (((if kp.val + w.val < 4096 then f (kp.val + w.val) else 0 : ℝ) : ℝ) : EReal)) (0 : EReal) := by
    unfold rC Host.reduceWindowAdd
    rw [Ideal.hostReduceWindowAdd_def]
    unfold Ideal.hostReduceWindowAdd Host.reduceWindow
    have hz : (broadcastInDim S_ ![] bcast_S_S_ (constant (F := Ideal) S_ .f32 0x00000000#32)) (Shape.Idx.first h_S_) = (0 : EReal) :=
      Ideal.ofBits_zero_f32
    simp only [hz]
    refine congrArg (fun g => List.foldl g (0 : EReal) (List.finRange W.numel)) (funext fun r => funext fun w => congrArg (r + ·) ?_)
    have hw := Shape.rowMajor_val_four (W.rowMajor.symm w)
    rw [Equiv.apply_symm_apply] at hw
    have w0 : ((W.rowMajor.symm w) 0).val < 1 := ((W.rowMajor.symm w) 0).isLt
    have w1 : ((W.rowMajor.symm w) 1).val < 1 := ((W.rowMajor.symm w) 1).isLt
    have w2 : ((W.rowMajor.symm w) 2).val < 1 := ((W.rowMajor.symm w) 2).isLt
    have hw' : w.val = ((((W.rowMajor.symm w) 0).val * 1 + ((W.rowMajor.symm w) 1).val) * 1 + ((W.rowMajor.symm w) 2).val) * 4096
      + ((W.rowMajor.symm w) 3).val := hw
    have w3 : ((W.rowMajor.symm w) 3).val = w.val := by omega
    by_cases hlt : kp.val + w.val < 4096
    · rw [if_pos hlt, dif_pos]
      · refine (congrArg x (funext fun a => Fin.ext ?_)).trans (hx ⟨kp.val + w.val, hlt⟩)
        match a with
        | ⟨0, _⟩ => show n.val * 1 + ((W.rowMajor.symm w) 0).val - 0 = n.val; omega
        | ⟨1, _⟩ => show h.val * 1 + ((W.rowMajor.symm w) 1).val - 0 = h.val; omega
        | ⟨2, _⟩ => show p.val * 1 + ((W.rowMajor.symm w) 2).val - 0 = p.val; omega
        | ⟨3, _⟩ => show kp.val * 1 + ((W.rowMajor.symm w) 3).val - 0 = kp.val + w.val; omega
      · intro a
        match a with
        | ⟨0, _⟩ => show 0 ≤ n.val * 1 + ((W.rowMajor.symm w) 0).val ∧ n.val * 1 + ((W.rowMajor.symm w) 0).val - 0 < 16; have := n.isLt; omega
        | ⟨1, _⟩ => show 0 ≤ h.val * 1 + ((W.rowMajor.symm w) 1).val ∧ h.val * 1 + ((W.rowMajor.symm w) 1).val - 0 < 8; have := h.isLt; omega
        | ⟨2, _⟩ => show 0 ≤ p.val * 1 + ((W.rowMajor.symm w) 2).val ∧ p.val * 1 + ((W.rowMajor.symm w) 2).val - 0 < 4096; have := p.isLt; omega
        | ⟨3, _⟩ => show 0 ≤ kp.val * 1 + ((W.rowMajor.symm w) 3).val ∧ kp.val * 1 + ((W.rowMajor.symm w) 3).val - 0 < 4096; omega
    · rw [if_neg hlt, dif_neg, EReal.coe_zero]
      intro hin
      have h3 := (hin 3).2
      change kp.val * 1 + ((W.rowMajor.symm w) 3).val - 0 < 4096 at h3
      omega
  rw [e, foldl_add_sum, zero_add, ← Fin.sum_univ_def,
    Fin.sum_univ_eq_sum_range (fun w => (((if kp.val + w < 4096 then f (kp.val + w) else 0 : ℝ) : ℝ) : EReal)) W.numel, hN,
    ← KI.coe_sumR, shift_sum]

/-- A number less its softplus is minus the softplus of its opposite. -/
theorem sp_neg (t : ℝ) : -spR (-t) = t - spR t := by
  unfold spR
  rw [abs_neg]
  rcases le_total 0 t with h | h
  · rw [max_eq_left h, max_eq_right (by linarith)]; ring
  · rw [max_eq_right h, max_eq_left (by linarith)]; ring

theorem rW_apply (z : FVec Ideal S16x8x4096x4096 .f32) (n : Fin 16) (h : Fin 8) (p : Fin 4096) (f : ℕ → ℝ)
    (hz : ∀ kp : Fin 4096, z (ix4 n h p kp) = ((f kp.val : ℝ) : EReal)) (kp : Fin 4096) :
    rW z (ix4 n h p kp) = ((wS p.val f 4096 kp.val : ℝ) : EReal) := by
  unfold wS
  refine pick_apply _ n h p kp _ fun hlt => ?_
  have hP : ∀ kp : Fin 4096, rP z (ix4 n h p kp) = ((if kp.val < p.val then spR (f kp.val) else 0 : ℝ) : EReal) := fun kp =>
    pick_apply _ n h p kp _ fun _ => rS_apply z _ _ (hz kp)
  have hC := rC_apply (rP z) n h p (fun k' => if k' < p.val then spR (f k') else 0) hP kp
  have hN : Host.negf z (ix4 n h p kp) = ((-f kp.val : ℝ) : EReal) := by
    rw [EReal.coe_neg, ← hz]
    rfl
  have hS := rS_apply (Host.negf z) _ _ hN
  show Ideal.exp (-(rS (Host.negf z) (ix4 n h p kp)) - (rC (rP z) (ix4 n h p kp) - rP z (ix4 n h p kp))) = _
  rw [hS, hC, hP, if_pos hlt, ← EReal.coe_neg, ← EReal.coe_sub, ← EReal.coe_sub, exp_coeR, sp_neg]
  exact congrArg (fun t : ℝ => ((Real.exp t : ℝ) : EReal)) (by ring)

/-- The reference's result at (sequence, position, lane): the values of a head, weighed. -/
theorem res_val (m : (ℓ : Loc nD τ sig) → Buf (Elt Ideal) ℓ) (c : Dev nD) (q k v : (⟨4, ![16, 4096, 8, 64]⟩ : Shape).Idx → EReal)
    (mq : m (c, Proc.tc.devRef main_arg0) = q) (mk : m (c, Proc.tc.devRef main_arg1) = k) (mv : m (c, Proc.tc.devRef main_arg2) = v)
    (qR kR : ℕ → ℕ → ℕ → ℕ → ℝ)
    (hq : ∀ n p h d, e4 q n p h d = ((qR n p h d : ℝ) : EReal)) (hk : ∀ n p h d, e4 k n p h d = ((kR n p h d : ℝ) : EReal)) :
    Cert.ReferenceIdeal.Value.res_main_v21 m c = fun y : S16x4096x512.Idx =>
      (∑ kp ∈ Finset.range 4096, e4 v (y 0).val kp ((y 2).val / 64) ((y 2).val % 64)
        * ((wS (y 1).val (fun kp => (∑ d : Fin 64, qR (y 0).val (y 1).val ((y 2).val / 64) d * kR (y 0).val kp ((y 2).val / 64) d) * eighth)
            4096 kp : ℝ) : EReal) : EReal) := by
  subst mq mk mv
  rw [res_eq]
  funext y
  have h2 : (y 2).val < 512 := (y 2).isLt
  let hh : Fin 8 := ⟨(y 2).val / 64, by omega⟩
  let dd : Fin 64 := ⟨(y 2).val % 64, by omega⟩
  refine (shapeCast_apply _ shapeCasts_S16x4096x8x64_S16x4096x512 y (ix4 (y 0) (y 1) hh dd) ?_).trans ?_
  · rw [Shape.rowMajor_val_three, Shape.rowMajor_val_four]
    show (((y 0).val * 4096 + (y 1).val) * 8 + (y 2).val / 64) * 64 + (y 2).val % 64 = ((y 0).val * 4096 + (y 1).val) * 512 + (y 2).val
    omega
  refine (transpose_apply [0, 3, 1, 2] _ transposes_S16x8x64x4096_S16x4096x8x64_0_3_1_2 (ix4 (y 0) (y 1) hh dd)
    (ix4 (y 0) hh dd (y 1)) ?_).trans ?_
  · intro b
    match b with
    | ⟨0, _⟩ => rfl
    | ⟨1, _⟩ => rfl
    | ⟨2, _⟩ => rfl
    | ⟨3, _⟩ => rfl
  let D := dot_S16x4096x8x64_S16x8x4096x4096_S16x8x64x4096_1_3_3_2_02_01
  have hr : D.contr.rank = 1 := rfl
  have hs : D.contr.size ⟨0, by rw [hr]; omega⟩ = 4096 := rfl
  refine (Ideal.dotGeneral_apply D none _ _ _ _).trans ?_
  rw [← Equiv.sum_comp (contrEquiv1 D 4096 hr hs).symm, ← Fin.sum_univ_eq_sum_range
    (fun kp => e4 (m (c, Proc.tc.devRef main_arg2)) (y 0).val kp ((y 2).val / 64) ((y 2).val % 64)
        * ((wS (y 1).val (fun kp => (∑ d : Fin 64, qR (y 0).val (y 1).val ((y 2).val / 64) d * kR (y 0).val kp ((y 2).val / 64) d) * eighth)
            4096 kp : ℝ) : EReal)) 4096]
  refine Finset.sum_congr rfl fun kp _ => ?_
  have hd := contrEquiv1_symm_val D 4096 hr hs kp
  refine congrArg₂ (· * ·) (e4_eq _ _ rfl hd rfl rfl) ?_
  refine Eq.trans (congrArg _ ?_) (rW_apply _ (y 0) hh (y 1) _
    (fun kp => rZ_apply _ _ qR kR hq hk (y 0) hh (y 1) kp) kp)
  funext a
  apply Fin.ext
  match a with
  | ⟨0, _⟩ => rfl
  | ⟨1, _⟩ => rfl
  | ⟨2, _⟩ => rfl
  | ⟨3, _⟩ => exact hd

end Cert.Proof.Ref

end
-- ==== Proof.Value.lean ====
/-
  The kernel's result is the reference's, where every query and every key is a real number.
-/
module

public import proofs.«01_k».proof.Defs
public import proofs.«01_k».proof.Proof.KI.HostVal
public import proofs.«01_k».proof.Proof.RefVal
public import Idealize.ShloMosaic.Lib.ReduceAll

@[expose] public section

set_option maxRecDepth 65536

noncomputable section

namespace Cert.Proof

open Idealize.ShloMosaic hiding ix1 ix2 ix3 ix4 eq_ix2 eq_ix3 eq_ix4
open Idealize.ShloMosaic.ValueIdx
open Idealize.SL.Sem

/-- The precondition's side conditions. -/
theorem pre_facts : Cert.Pre_finite_queries_and_keys.Facts where
  bcast_S_S16x4096x8x64 := Cert.KernelIdeal.Gen.facts.bcast_S_S16x4096x8x64
  reducesTo_S16x4096x8x64_S_d0_1_2_3 := by decide
  h_S_ := Cert.KernelIdeal.Gen.facts.h_S_

/-- A number whose magnitude lies below infinity is real. -/
theorem real_of_abs (x : EReal) (h : max x (-x) < ⊤) : ((x.toReal : ℝ) : EReal) = x := by
  refine EReal.coe_toReal ?_ ?_
  · rintro rfl; simp at h
  · rintro rfl; simp at h

theorem e4_real (x : (⟨4, ![16, 4096, 8, 64]⟩ : Shape).Idx → EReal) (h : ∀ i, ((x i).toReal : EReal) = x i) (n q hd d : ℕ) :
    e4 x n q hd d = (((e4 x n q hd d).toReal : ℝ) : EReal) := by
  unfold e4
  split_ifs
  · exact (h _).symm
  · simp

/-- The precondition makes every query and every key real. -/
theorem pre_real (a0 a1 a2 : FVec Ideal Cert.Pre_finite_queries_and_keys.S16x4096x8x64 .f32)
    (a3 a4 : FVec Ideal Cert.Pre_finite_queries_and_keys.S1x64 .f32)
    (h : @Cert.Pre_finite_queries_and_keys.fn pre_facts Ideal _ a0 a1 a2 a3 a4 = fun _ => 1#1) :
    (∀ i, ((a0 i : EReal).toReal : EReal) = a0 i) ∧ (∀ i, ((a1 i : EReal).toReal : EReal) = a1 i) := by
  have hs : Subsingleton (Cert.Pre_finite_queries_and_keys.S_).Idx := ⟨fun a b => funext fun t => t.elim0⟩
  have h0 := congrFun h ValueIdx.ix0
  unfold Cert.Pre_finite_queries_and_keys.fn at h0
  have h1 := IntOp.andi_eq_one.1 h0
  have top : Ideal.ofBits .f32 0x7F800000#32 = ⊤ := by simp [Ideal.ofBits, Ideal.ieee]
  constructor
  · intro i
    have e := Host.reduce_andi_all _ _ _ _ _ h1.1 i
    refine real_of_abs _ ?_
    have e' := (Ideal.cmp_olt_eq_one _ _).1 e
    exact lt_of_lt_of_eq e' top
  · intro i
    have e := Host.reduce_andi_all _ _ _ _ _ h1.2 i
    refine real_of_abs _ ?_
    have e' := (Ideal.cmp_olt_eq_one _ _).1 e
    exact lt_of_lt_of_eq e' top

/-- The lanes of one head among the 128 of its pair. -/
theorem lanes_sum (Q K : ℕ → ℝ) (p : ℕ) (hp : p < 2) :
    (∑ l : Fin 128, if l.val / 64 = p then K (l.val % 64) * (Q (l.val % 64) * eighth) else 0)
      = (∑ d : Fin 64, Q d.val * K d.val) * eighth := by
  rw [FinSumWindow.sum_window (64 * p) (W := 64) (by omega) _ (fun P hP => if_neg (by omega)), Finset.sum_mul]
  refine Finset.sum_congr rfl fun d _ => ?_
  have hd := d.isLt
  rw [if_pos (show (64 * p + d.val) / 64 = p by omega), show (64 * p + d.val) % 64 = d.val by omega]
  ring

section

variable (m : (ℓ : Loc Cert.KernelIdeal.nD Cert.KernelIdeal.τ Cert.KernelIdeal.sig) → Buf (Elt Ideal) ℓ) (c : Dev Cert.KernelIdeal.nD)

/-- What the kernel's program leaves, off its arguments. -/
theorem kernel_val (qR kR : ℕ → ℕ → ℕ → ℕ → ℝ)
    (hq : ∀ n p h d, e4 (KI.argQ m c) n p h d = ((qR n p h d : ℝ) : EReal))
    (hk : ∀ n p h d, e4 (KI.argK m c) n p h d = ((kR n p h d : ℝ) : EReal)) :
    (KI.dats m 0 c).arrAt 4 (Cert.KernelIdeal.cfg0 (F := Ideal)).N = fun y : (⟨3, ![16, 4096, 512]⟩ : Shape).Idx =>
      (∑ kp ∈ Finset.range 4096, e4 (KI.argV m c) (y 0).val kp ((y 2).val / 64) ((y 2).val % 64)
        * ((KI.wS (y 1).val (fun kp => (∑ d : Fin 64, qR (y 0).val (y 1).val ((y 2).val / 64) d * kR (y 0).val kp ((y 2).val / 64) d) * eighth)
            4096 kp : ℝ) : EReal) : EReal) := by
  refine KI.arr_val m c (fun n q f => e4 (KI.argQ m c) n q (f / 64) (f % 64) * ((eighth : ℝ) : EReal))
    (fun n kp f => e4 (KI.argK m c) n kp (f / 64) (f % 64)) (fun n kp f => e4 (KI.argV m c) n kp (f / 64) (f % 64))
    (fun n h kp q => (∑ d : Fin 64, qR n q h d * kR n kp h d) * eighth)
    (KI.stop_host m c) (KI.q_host m c) (KI.k_host m c) (KI.w_host m c) ?_
  intro n hn h hh kp hkp q hqq
  rw [← lanes_sum (qR n q h) (kR n kp h) (h % 2) (Nat.mod_lt _ (by omega)), KI.coe_sumR]
  refine Finset.sum_congr rfl fun l _ => ?_
  have hl := l.isLt
  unfold KI.headQ
  by_cases e : l.val / 64 = h % 2
  · rw [if_pos e, if_pos e]
    have e1 : (128 * (h / 2) + l.val) / 64 = h := by omega
    have e2 : (128 * (h / 2) + l.val) % 64 = l.val % 64 := by omega
    show e4 (KI.argK m c) n kp ((128 * (h / 2) + l.val) / 64) ((128 * (h / 2) + l.val) % 64)
      * (e4 (KI.argQ m c) n (0 + q) ((128 * (h / 2) + l.val) / 64) ((128 * (h / 2) + l.val) % 64) * ((eighth : ℝ) : EReal)) = _
    rw [e1, e2, Nat.zero_add, hq, hk, ← EReal.coe_mul, ← EReal.coe_mul]
  · rw [if_neg e, if_neg e, mul_zero, EReal.coe_zero]

end

/-- The value claim. -/
theorem algebraic : Cert.algebraic_KernelIdeal_ReferenceIdeal_pre_finite_queries_and_keys (hKernelIdeal := Cert.KernelIdeal.Gen.facts)
    (hReferenceIdeal := Cert.ReferenceIdeal.Gen.facts) (hPre_finite_queries_and_keys := pre_facts) := by
  intro m g m' g' hpre hargs
  have hr := fun c => pre_real _ _ _ _ _ (hpre c)
  refine ⟨fun c => (KI.dats m 0 c).arrAt 4 (Cert.KernelIdeal.cfg0 (F := Ideal)).N, ?_, ?_⟩
  · exact (θ_run _ _ _).mono (fun _ h c => ⟨KI.result_eq m h.1 c, KI.args_kept m h.1 c⟩) (KI.run_main m g)
  · refine (θ_run _ _ _).mono (fun _ h c => ⟨(h c).1.trans ?_, (h c).2⟩) (Cert.ReferenceIdeal.Value.run m' g')
    have hq := e4_real (KI.argQ m c) (hr c).1
    have hk := e4_real (KI.argK m c) (hr c).2
    have ha := hargs c
    exact (Ref.res_val m' c (KI.argQ m c) (KI.argK m c) (KI.argV m c) ha.1 ha.2.1 ha.2.2.1 _ _ hq hk).trans
      (kernel_val m c _ _ hq hk).symm

end Cert.Proof

end
-- ==== Proof.FF.Spec.lean ====
/-
  The feed-forward part in closed form, over arrays read at natural numbers.
-/
module

public import Idealize.ShloMosaic.Lib.Pipeline.Value
public import Idealize.ShloMosaic.Lib.Pipeline.ValueKit

@[expose] public section

noncomputable section

namespace Cert.Proof.FF

open Idealize.ShloMosaic hiding ix1 ix2 ix3 ix4 eq_ix2 eq_ix3 eq_ix4
open Idealize.ShloMosaic.ValueIdx

/-- Arrays of one, two and three axes at natural numbers, zero off their extents. -/
def e1 {A : ℕ} (x : (⟨1, ![A]⟩ : Shape).Idx → EReal) (a : ℕ) : EReal := if h : a < A then x (ix1 (⟨a, h⟩ : Fin A)) else 0
def e2 {A B : ℕ} (x : (⟨2, ![A, B]⟩ : Shape).Idx → EReal) (a b : ℕ) : EReal :=
  if h : a < A ∧ b < B then x (ix2 (⟨a, h.1⟩ : Fin A) (⟨b, h.2⟩ : Fin B)) else 0
def e3 {A B C : ℕ} (x : (⟨3, ![A, B, C]⟩ : Shape).Idx → EReal) (a b c : ℕ) : EReal :=
  if h : a < A ∧ b < B ∧ c < C then x (ix3 (⟨a, h.1⟩ : Fin A) (⟨b, h.2.1⟩ : Fin B) (⟨c, h.2.2⟩ : Fin C)) else 0

theorem e1_eq {A : ℕ} (x : (⟨1, ![A]⟩ : Shape).Idx → EReal) (i : (⟨1, ![A]⟩ : Shape).Idx) {a : ℕ}
    (ha : (i 0).val = a) : x i = e1 x a := by
  subst ha
  unfold e1
  have h : (i 0).val < A := (i 0).isLt
  rw [dif_pos h]
  exact congrArg x (ValueIdx.eq_ix1 i)

theorem e2_eq {A B : ℕ} (x : (⟨2, ![A, B]⟩ : Shape).Idx → EReal) (i : (⟨2, ![A, B]⟩ : Shape).Idx) {a b : ℕ}
    (ha : (i 0).val = a) (hb : (i 1).val = b) : x i = e2 x a b := by
  subst ha hb
  unfold e2
  rw [dif_pos ⟨(i 0).isLt, (i 1).isLt⟩]
  exact congrArg x (ValueIdx.eq_ix2 i)

theorem e3_eq {A B C : ℕ} (x : (⟨3, ![A, B, C]⟩ : Shape).Idx → EReal) (i : (⟨3, ![A, B, C]⟩ : Shape).Idx) {a b c : ℕ}
    (ha : (i 0).val = a) (hb : (i 1).val = b) (hc : (i 2).val = c) : x i = e3 x a b c := by
  subst ha hb hc
  unfold e3
  rw [dif_pos ⟨(i 0).isLt, (i 1).isLt, (i 2).isLt⟩]
  exact congrArg x (ValueIdx.eq_ix3 i)

/-- The constants: the mean's divisor, the norm's epsilon, one half. -/
abbrev cN : EReal := Ideal.ofBits .f32 0x44800000#32
abbrev cE : EReal := Ideal.ofBits .f32 0x358637BD#32
abbrev cH : EReal := Ideal.ofBits .f32 0x3F000000#32

/-- The residual stream after the output projection, at a row. -/
def hS (X O C WO : ℕ → ℕ → EReal) (t d : ℕ) : EReal :=
  (X t d + ∑ k : Fin 512, O t k.val * WO k.val d) + ∑ k : Fin 512, C t k.val * WO (512 + k.val) d

/-- Its root-mean-square norm. -/
def nS (H : ℕ → ℕ → EReal) (G : ℕ → EReal) (t d : ℕ) : EReal :=
  H t d * Ideal.rsqrt (Ideal.div (∑ k : Fin 1024, H t k.val * H t k.val) cN + cE) * G d

/-- The up-projection. -/
def uS (N WU : ℕ → ℕ → EReal) (t l : ℕ) : EReal := ∑ k : Fin 1024, N t k.val * WU k.val l

/-- The convolution of a padded column. -/
def cS (P WD : ℕ → ℕ → EReal) (B : ℕ → EReal) (t l : ℕ) : EReal :=
  ((B l + WD 0 l * P t l) + WD 1 l * P (t + 1) l) + WD 2 l * P (t + 2) l

/-- The gated product. -/
def aS (P WD : ℕ → ℕ → EReal) (B : ℕ → EReal) (t l : ℕ) : EReal :=
  (cH * cS P WD B t (2816 + l) * Ideal.tanh (cH * cS P WD B t (2816 + l)) + cH * cS P WD B t (2816 + l)) * cS P WD B t l

/-- The down-projection, added to the stream. -/
def yS (H A WN : ℕ → ℕ → EReal) (t d : ℕ) : EReal := H t d + ∑ k : Fin 2816, A t k.val * WN k.val d

/-- The rows before the first, and then the rows. -/
def pS (Z U : ℕ → ℕ → EReal) (q l : ℕ) : EReal := if q < 2 then Z q l else U (q - 2) l

end Cert.Proof.FF

end

end
-- ==== Proof.FF.HostVal.lean ====
/-
  What the host prepares for the region, read at an index.
-/
module

public import proofs.«01_k».proof.Proof.Gen.Kernel2Ideal.Value
public import proofs.«01_k».proof.Proof.FF.Spec
public import Idealize.ShloMosaic.Lib.KernelVsHost

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe
open Idealize.ShloMosaic.StableHlo

variable (m : (ℓ : Loc nD τ sig) → Buf (Elt Ideal) ℓ) (c : Dev nD)

/-- The arguments, as the memory holds them. -/
abbrev aX : (⟨3, ![16, 4096, 1024]⟩ : Shape).Idx → EReal := m (c, Proc.tc.devRef main_arg0)
abbrev aO : (⟨3, ![16, 4096, 512]⟩ : Shape).Idx → EReal := m (c, Proc.tc.devRef main_arg1)
abbrev aC : (⟨3, ![16, 4096, 512]⟩ : Shape).Idx → EReal := m (c, Proc.tc.devRef main_arg2)
abbrev aS0 : (⟨3, ![16, 2, 5632]⟩ : Shape).Idx → EReal := m (c, Proc.tc.devRef main_arg3)
abbrev aWO : (⟨2, ![1024, 1024]⟩ : Shape).Idx → EReal := m (c, Proc.tc.devRef main_arg4)
abbrev aG : (⟨1, ![1024]⟩ : Shape).Idx → EReal := m (c, Proc.tc.devRef main_arg5)
abbrev aWU : (⟨2, ![1024, 5632]⟩ : Shape).Idx → EReal := m (c, Proc.tc.devRef main_arg6)
abbrev aWD : (⟨2, ![3, 5632]⟩ : Shape).Idx → EReal := m (c, Proc.tc.devRef main_arg7)
abbrev aB : (⟨1, ![5632]⟩ : Shape).Idx → EReal := m (c, Proc.tc.devRef main_arg8)
abbrev aWN : (⟨2, ![2816, 1024]⟩ : Shape).Idx → EReal := m (c, Proc.tc.devRef main_arg9)

theorem v0_host (y : S1024x1024.Idx) : V m c main_v0 y = e2 (aWO m c) (y 0).val (y 1).val := by
  have e : V m c main_v0 = (aWO m c : S1024x1024.Idx → EReal) := by
    unfold_abbrev_sides
    simp only [List.flatten_cons, List.flatten_nil, List.cons_append, List.nil_append, List.append_nil]
    after_results
    rfl
  rw [e]
  exact e2_eq _ y rfl rfl

theorem v2_host (y : S1024x5632.Idx) : V m c main_v2 y = e2 (aWU m c) (y 0).val (y 1).val := by
  have e : V m c main_v2 = (aWU m c : S1024x5632.Idx → EReal) := by
    unfold_abbrev_sides
    simp only [List.flatten_cons, List.flatten_nil, List.cons_append, List.nil_append, List.append_nil]
    after_results
    rfl
  rw [e]
  exact e2_eq _ y rfl rfl

theorem v4_host (y : S2816x1024.Idx) : V m c main_v4 y = e2 (aWN m c) (y 0).val (y 1).val := by
  have e : V m c main_v4 = (aWN m c : S2816x1024.Idx → EReal) := by
    unfold_abbrev_sides
    simp only [List.flatten_cons, List.flatten_nil, List.cons_append, List.nil_append, List.append_nil]
    after_results
    rfl
  rw [e]
  exact e2_eq _ y rfl rfl

theorem v5_host (y : S16x4096x512.Idx) : V m c main_v5 y = e3 (aO m c) (y 0).val (y 1).val (y 2).val := by
  have e : V m c main_v5 = (aO m c : S16x4096x512.Idx → EReal) := by
    unfold_abbrev_sides
    simp only [List.flatten_cons, List.flatten_nil, List.cons_append, List.nil_append, List.append_nil]
    after_results
    rfl
  rw [e]
  exact e3_eq _ y rfl rfl rfl

theorem v6_host (y : S16x4096x512.Idx) : V m c main_v6 y = e3 (aC m c) (y 0).val (y 1).val (y 2).val := by
  have e : V m c main_v6 = (aC m c : S16x4096x512.Idx → EReal) := by
    unfold_abbrev_sides
    simp only [List.flatten_cons, List.flatten_nil, List.cons_append, List.nil_append, List.append_nil]
    after_results
    rfl
  rw [e]
  exact e3_eq _ y rfl rfl rfl

theorem arg0_host (y : S16x4096x1024.Idx) : V m c main_arg0 y = e3 (aX m c) (y 0).val (y 1).val (y 2).val := by
  have e : V m c main_arg0 = (aX m c : S16x4096x1024.Idx → EReal) := by
    unfold_abbrev_sides
    simp only [List.flatten_cons, List.flatten_nil, List.cons_append, List.nil_append, List.append_nil]
    after_results
  rw [e]
  exact e3_eq _ y rfl rfl rfl

theorem arg7_host (y : S3x5632.Idx) : V m c main_arg7 y = e2 (aWD m c) (y 0).val (y 1).val := by
  have e : V m c main_arg7 = (aWD m c : S3x5632.Idx → EReal) := by
    unfold_abbrev_sides
    simp only [List.flatten_cons, List.flatten_nil, List.cons_append, List.nil_append, List.append_nil]
    after_results
  rw [e]
  exact e2_eq _ y rfl rfl

theorem v1_host (y : S1x1024.Idx) : V m c main_v1 y = e1 (aG m c) (y 1).val := by
  have e : V m c main_v1 = shapeCast S1x1024 (aG m c : S1024.Idx → EReal) shapeCasts_S1024_S1x1024 := by
    unfold_abbrev_sides
    simp only [List.flatten_cons, List.flatten_nil, List.cons_append, List.nil_append, List.append_nil]
    after_results
    rfl
  have h0 : (y 0).val < 1 := (y 0).isLt
  rw [e]
  refine (shapeCast_apply _ shapeCasts_S1024_S1x1024 y (ix1 (y 1)) ?_).trans (e1_eq _ _ rfl)
  rw [Shape.rowMajor_val_one, Shape.rowMajor_val_two]
  show (y 1).val = (y 0).val * 1024 + (y 1).val
  omega

theorem v3_host (y : S1x5632.Idx) : V m c main_v3 y = e1 (aB m c) (y 1).val := by
  have e : V m c main_v3 = shapeCast S1x5632 (aB m c : S5632.Idx → EReal) shapeCasts_S5632_S1x5632 := by
    unfold_abbrev_sides
    simp only [List.flatten_cons, List.flatten_nil, List.cons_append, List.nil_append, List.append_nil]
    after_results
    rfl
  have h0 : (y 0).val < 1 := (y 0).isLt
  rw [e]
  refine (shapeCast_apply _ shapeCasts_S5632_S1x5632 y (ix1 (y 1)) ?_).trans (e1_eq _ _ rfl)
  rw [Shape.rowMajor_val_one, Shape.rowMajor_val_two]
  show (y 1).val = (y 0).val * 5632 + (y 1).val
  omega

theorem v7_host (y : S16x8x5632.Idx) (h : 6 ≤ (y 1).val) :
    V m c main_v7 y = e3 (aS0 m c) (y 0).val ((y 1).val - 6) (y 2).val := by
  have e : V m c main_v7 = pad S16x8x5632 ![0, 6, 0] ![0, 0, 0] ![0, 0, 0] (aS0 m c : S16x2x5632.Idx → EReal)
      (sitofp (F := Ideal) .f32 (constantI S_ 32 0#32)) pads_S16x2x5632_S16x8x5632_000_600_000 h_S_ := by
    unfold_abbrev_sides
    simp only [List.flatten_cons, List.flatten_nil, List.cons_append, List.nil_append, List.append_nil]
    after_results
    rfl
  have h1 : (y 1).val < 8 := (y 1).isLt
  rw [e]
  refine (pad_apply_of_inside ![0, 6, 0] ![0, 0, 0] ![0, 0, 0] _ _ pads_S16x2x5632_S16x8x5632_000_600_000 h_S_ y
    (ix3 (y 0) (⟨(y 1).val - 6, by omega⟩ : Fin 2) (y 2)) ?_).trans (e3_eq _ _ rfl rfl rfl)
  intro a
  match a with
  | ⟨0, _⟩ => show (y 0).val = 0 + (y 0).val * 1; omega
  | ⟨1, _⟩ => show (y 1).val = 6 + ((y 1).val - 6) * 1; omega
  | ⟨2, _⟩ => show (y 2).val = 0 + (y 2).val * 1; omega

end Cert.Proof.FF

end

end
-- ==== Proof.FF.Cut.lean ====
/-
  The blocks the region's points read, at an index of the arguments.
-/
module

public import proofs.«01_k».proof.Proof.FF.HostVal
public import Idealize.ShloMosaic.Lib.Pipeline.ValueKit

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe

variable (m : (ℓ : Loc nD τ sig) → Buf (Elt Ideal) ℓ) (c : Dev nD)

theorem at0 : ∀ t : Fin 128, win0_0.index t 0 = t.val / 8 ∧ win0_0.index t 1 = t.val % 8 ∧ win0_0.index t 2 = 0 := by
  decide +kernel

theorem at1 : ∀ t : Fin 128, win0_1.index t 0 = t.val / 8 ∧ win0_1.index t 1 = t.val % 8 ∧ win0_1.index t 2 = 0 := by
  decide +kernel

theorem at2 : ∀ t : Fin 128, win0_2.index t 0 = t.val / 8 ∧ win0_2.index t 1 = t.val % 8 ∧ win0_2.index t 2 = 0 := by
  decide +kernel

theorem at3 : ∀ t : Fin 128, win0_3.index t 0 = 0 ∧ win0_3.index t 1 = 0 := by
  decide +kernel

theorem at4 : ∀ t : Fin 128, win0_4.index t 0 = 0 ∧ win0_4.index t 1 = 0 := by
  decide +kernel

theorem at5 : ∀ t : Fin 128, win0_5.index t 0 = 0 ∧ win0_5.index t 1 = 0 := by
  decide +kernel

theorem at6 : ∀ t : Fin 128, win0_6.index t 0 = 0 ∧ win0_6.index t 1 = 0 := by
  decide +kernel

theorem at7 : ∀ t : Fin 128, win0_7.index t 0 = 0 ∧ win0_7.index t 1 = 0 := by
  decide +kernel

theorem at8 : ∀ t : Fin 128, win0_8.index t 0 = 0 ∧ win0_8.index t 1 = 0 := by
  decide +kernel

theorem at9 : ∀ t : Fin 128, win0_9.index t 0 = t.val / 8 ∧ win0_9.index t 1 = 0 ∧ win0_9.index t 2 = 0 := by
  decide +kernel

theorem cut0 (t : Fin cfg0.N) (y : S1x512x1024.Idx) :
    iblk m c 0 t y = e3 (aX m c) (t.val / 8) (512 * (t.val % 8) + (y 1).val) (y 2).val := by
  refine (arg0_host m c _).trans ?_
  have h0 : (y 0).val = 0 := by have : (y 0).val < 1 := (y 0).isLt; omega
  obtain ⟨e0, e1, e2⟩ := at0 t
  congr 1
  all_goals blk_simp [e0, e1, e2]
  all_goals omega

theorem cut1 (t : Fin cfg0.N) (y : S1x512x512.Idx) :
    iblk m c 1 t y = e3 (aO m c) (t.val / 8) (512 * (t.val % 8) + (y 1).val) (y 2).val := by
  refine (v5_host m c _).trans ?_
  have h0 : (y 0).val = 0 := by have : (y 0).val < 1 := (y 0).isLt; omega
  obtain ⟨e0, e1, e2⟩ := at1 t
  congr 1
  all_goals blk_simp [e0, e1, e2]
  all_goals omega

theorem cut2 (t : Fin cfg0.N) (y : S1x512x512.Idx) :
    iblk m c 2 t y = e3 (aC m c) (t.val / 8) (512 * (t.val % 8) + (y 1).val) (y 2).val := by
  refine (v6_host m c _).trans ?_
  have h0 : (y 0).val = 0 := by have : (y 0).val < 1 := (y 0).isLt; omega
  obtain ⟨e0, e1, e2⟩ := at2 t
  congr 1
  all_goals blk_simp [e0, e1, e2]
  all_goals omega

theorem cut3 (t : Fin cfg0.N) (y : S1024x1024.Idx) :
    iblk m c 3 t y = e2 (aWO m c) (y 0).val (y 1).val := by
  refine (v0_host m c _).trans ?_
  obtain ⟨e0, e1⟩ := at3 t
  congr 1
  all_goals blk_simp [e0, e1]
  all_goals omega

theorem cut5 (t : Fin cfg0.N) (y : S1024x5632.Idx) :
    iblk m c 5 t y = e2 (aWU m c) (y 0).val (y 1).val := by
  refine (v2_host m c _).trans ?_
  obtain ⟨e0, e1⟩ := at5 t
  congr 1
  all_goals blk_simp [e0, e1]
  all_goals omega

theorem cut6 (t : Fin cfg0.N) (y : S3x5632.Idx) :
    iblk m c 6 t y = e2 (aWD m c) (y 0).val (y 1).val := by
  refine (arg7_host m c _).trans ?_
  obtain ⟨e0, e1⟩ := at6 t
  congr 1
  all_goals blk_simp [e0, e1]
  all_goals omega

theorem cut8 (t : Fin cfg0.N) (y : S2816x1024.Idx) :
    iblk m c 8 t y = e2 (aWN m c) (y 0).val (y 1).val := by
  refine (v4_host m c _).trans ?_
  obtain ⟨e0, e1⟩ := at8 t
  congr 1
  all_goals blk_simp [e0, e1]
  all_goals omega

theorem cut4 (t : Fin cfg0.N) (y : S1x1024.Idx) :
    iblk m c 4 t y = e1 (aG m c) (y 1).val := by
  refine (v1_host m c _).trans ?_
  obtain ⟨e0, e1⟩ := at4 t
  congr 1
  all_goals blk_simp [e0, e1]
  all_goals omega

theorem cut7 (t : Fin cfg0.N) (y : S1x5632.Idx) :
    iblk m c 7 t y = e1 (aB m c) (y 1).val := by
  refine (v3_host m c _).trans ?_
  obtain ⟨e0, e1⟩ := at7 t
  congr 1
  all_goals blk_simp [e0, e1]
  all_goals omega

theorem cut9 (t : Fin cfg0.N) (y : S1x8x5632.Idx) (h : 6 ≤ (y 1).val) :
    iblk m c 9 t y = e3 (aS0 m c) (t.val / 8) ((y 1).val - 6) (y 2).val := by
  have h0 : (y 0).val = 0 := by have : (y 0).val < 1 := (y 0).isLt; omega
  obtain ⟨e0, e1, e2⟩ := at9 t
  refine (v7_host m c _ ?_).trans ?_
  · blk_simp [e0, e1, e2]
    omega
  congr 1
  all_goals blk_simp [e0, e1, e2]
  all_goals omega

end Cert.Proof.FF

end

end
-- ==== Proof.FF.Glob.lean ====
/-
  The call's arrays, of its arguments.
-/
module

public import proofs.«01_k».proof.Proof.FF.Spec

@[expose] public section

set_option maxRecDepth 65536

noncomputable section

namespace Cert.Proof.FF

open Idealize.ShloMosaic hiding ix1 ix2 ix3 ix4 eq_ix1 eq_ix2 eq_ix3 eq_ix4
open Idealize.ShloMosaic.ValueIdx
open Idealize.ShloMosaic.TcCoe

/-- The call's arrays, of its arguments: batch `n`, row `t`, lane `d`. -/
def HG (X : (⟨3, ![16, 4096, 1024]⟩ : Shape).Idx → EReal) (O C : (⟨3, ![16, 4096, 512]⟩ : Shape).Idx → EReal)
    (WO : (⟨2, ![1024, 1024]⟩ : Shape).Idx → EReal) (n : ℕ) : ℕ → ℕ → EReal := hS (e3 X n) (e3 O n) (e3 C n) (e2 WO)
def NG (X : (⟨3, ![16, 4096, 1024]⟩ : Shape).Idx → EReal) (O C : (⟨3, ![16, 4096, 512]⟩ : Shape).Idx → EReal)
    (WO : (⟨2, ![1024, 1024]⟩ : Shape).Idx → EReal) (G : (⟨1, ![1024]⟩ : Shape).Idx → EReal) (n : ℕ) : ℕ → ℕ → EReal :=
  nS (HG X O C WO n) (e1 G)
def UG (X : (⟨3, ![16, 4096, 1024]⟩ : Shape).Idx → EReal) (O C : (⟨3, ![16, 4096, 512]⟩ : Shape).Idx → EReal)
    (WO : (⟨2, ![1024, 1024]⟩ : Shape).Idx → EReal) (G : (⟨1, ![1024]⟩ : Shape).Idx → EReal)
    (WU : (⟨2, ![1024, 5632]⟩ : Shape).Idx → EReal) (n : ℕ) : ℕ → ℕ → EReal := uS (NG X O C WO G n) (e2 WU)
def PG (X : (⟨3, ![16, 4096, 1024]⟩ : Shape).Idx → EReal) (O C : (⟨3, ![16, 4096, 512]⟩ : Shape).Idx → EReal)
    (S : (⟨3, ![16, 2, 5632]⟩ : Shape).Idx → EReal)
    (WO : (⟨2, ![1024, 1024]⟩ : Shape).Idx → EReal) (G : (⟨1, ![1024]⟩ : Shape).Idx → EReal)
    (WU : (⟨2, ![1024, 5632]⟩ : Shape).Idx → EReal) (n : ℕ) : ℕ → ℕ → EReal := pS (e3 S n) (UG X O C WO G WU n)
def YG (X : (⟨3, ![16, 4096, 1024]⟩ : Shape).Idx → EReal) (O C : (⟨3, ![16, 4096, 512]⟩ : Shape).Idx → EReal)
    (S : (⟨3, ![16, 2, 5632]⟩ : Shape).Idx → EReal)
    (WO : (⟨2, ![1024, 1024]⟩ : Shape).Idx → EReal) (G : (⟨1, ![1024]⟩ : Shape).Idx → EReal)
    (WU : (⟨2, ![1024, 5632]⟩ : Shape).Idx → EReal) (WD : (⟨2, ![3, 5632]⟩ : Shape).Idx → EReal)
    (B : (⟨1, ![5632]⟩ : Shape).Idx → EReal) (WN : (⟨2, ![2816, 1024]⟩ : Shape).Idx → EReal) (n : ℕ) : ℕ → ℕ → EReal :=
  yS (HG X O C WO n) (aS (PG X O C S WO G WU n) (e2 WD) (e1 B)) (e2 WN)

/-- The arrays read in range. -/
theorem e2_in {A B : ℕ} (x : (⟨2, ![A, B]⟩ : Shape).Idx → EReal) {a b : ℕ} (ha : a < A) (hb : b < B) :
    e2 x a b = x (ix2 (⟨a, ha⟩ : Fin A) (⟨b, hb⟩ : Fin B)) := dif_pos ⟨ha, hb⟩
theorem e3_in {A B C : ℕ} (x : (⟨3, ![A, B, C]⟩ : Shape).Idx → EReal) {a b c : ℕ} (ha : a < A) (hb : b < B) (hc : c < C) :
    e3 x a b c = x (ix3 (⟨a, ha⟩ : Fin A) (⟨b, hb⟩ : Fin B) (⟨c, hc⟩ : Fin C)) := dif_pos ⟨ha, hb, hc⟩

end Cert.Proof.FF

end

end
-- ==== Proof.FF.Head.lean ====
/-
  The stream, its norm and its projections over the blocks, at an index.
-/
module

public import proofs.«01_k».proof.Proof.Gen.Kernel2Ideal.Value
public import proofs.«01_k».proof.Proof.FF.Spec
public import Idealize.ShloMosaic.Lib.Pipeline.ReadBack

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe

/-- A load of one plane of an array, at natural numbers. -/
theorem e3_zero {A B : ℕ} (X : (⟨3, ![1, A, B]⟩ : Shape).Idx → EReal) (a b : ℕ) (i) (h0 : (i 0).val = 0) (h1 : (i 1).val = a)
    (h2 : (i 2).val = b) : X i = e3 X 0 a b := e3_eq X i h0 h1 h2

variable (x0 : Vec Ideal S1x512x1024 .f32) (x1 : Vec Ideal S1x512x512 .bf16) (x2 : Vec Ideal S1x512x512 .bf16)
  (x3 : Vec Ideal S1024x1024 .bf16) (x4 : Vec Ideal S1x1024 .f32) (x5 : Vec Ideal S1024x5632 .bf16)
  (x8 : Vec Ideal S2816x1024 .bf16)

/-- The stream, its norm and its up-projection, of the blocks. -/
def hB : ℕ → ℕ → EReal := hS (e3 x0 0) (e3 x1 0) (e3 x2 0) (e2 x3)
def nB : ℕ → ℕ → EReal := nS (hB x0 x1 x2 x3) (e2 x4 0)
def uB : ℕ → ℕ → EReal := uS (nB x0 x1 x2 x3 x4) (e2 x5)

/-- The two halves of the output weights. -/
abbrev wTop : Vec Ideal S512x1024 .bf16 :=
  View.ld (Val := Elt Ideal) (e' := .bf16) x3 (Rect.unit (s := S1024x1024) ![0, 0] S512x1024.size inb_S1024x1024_S512x1024_0_0)
abbrev wBot : Vec Ideal S512x1024 .bf16 :=
  View.ld (Val := Elt Ideal) (e' := .bf16) x3 (Rect.unit (s := S1024x1024) ![512, 0] S512x1024.size inb_S1024x1024_S512x1024_512_0)

theorem pay2_apply (y : S512x1024.Idx) :
    k0_pay2 (F := Ideal) x0 x1 (wTop x3) x2 (wBot x3) y = hB x0 x1 x2 x3 (y 0).val (y 1).val := by
  unfold k0_pay2
  pointwise
  unfold hB hS
  refine congrArg₂ (· + ·) (congrArg₂ (· + ·) (e3_eq x0 _ rfl rfl rfl) (Finset.sum_congr rfl fun k _ => ?_))
    (Finset.sum_congr rfl fun k _ => ?_)
  · refine congrArg₂ (· * ·) (e3_eq x1 _ rfl rfl rfl) (e2_eq x3 _ ?_ ?_)
    · exact (Rect.idx_unit_val _ _ inb_S1024x1024_S512x1024_0_0 _ 0).trans (Nat.zero_add _)
    · exact (Rect.idx_unit_val _ _ inb_S1024x1024_S512x1024_0_0 _ 1).trans (Nat.zero_add _)
  · refine congrArg₂ (· * ·) (e3_eq x2 _ rfl rfl rfl) (e2_eq x3 _ ?_ ?_)
    · exact Rect.idx_unit_val _ _ inb_S1024x1024_S512x1024_512_0 _ 0
    · exact (Rect.idx_unit_val _ _ inb_S1024x1024_S512x1024_512_0 _ 1).trans (Nat.zero_add _)

theorem pay3_apply (y : S512x1024.Idx) :
    k0_pay3 (F := Ideal) x0 x1 (wTop x3) x2 (wBot x3) x4 y = nB x0 x1 x2 x3 x4 (y 0).val (y 1).val := by
  unfold k0_pay3
  pointwise
  simp only [pay2_apply]
  unfold nB nS
  rw [e2_eq x4 _ (a := 0) (b := (y 1).val) rfl rfl]
  rfl

theorem pay4_apply (y : S512x5632.Idx) :
    k0_pay4 (F := Ideal) (k0_pay3 (F := Ideal) x0 x1 (wTop x3) x2 (wBot x3) x4) x5 y = uB x0 x1 x2 x3 x4 x5 (y 0).val (y 1).val := by
  unfold k0_pay4
  pointwise
  unfold uB uS
  refine Finset.sum_congr rfl fun k _ => ?_
  rw [pay3_apply, e2_eq x5 _ (a := k.val) (b := (y 1).val) rfl rfl]
  rfl

theorem pay44_apply (a : Vec Ideal S512x2816 .bf16) (y : S1x512x1024.Idx) :
    k0_pay44 (F := Ideal) (k0_pay2 (F := Ideal) x0 x1 (wTop x3) x2 (wBot x3)) a x8 y
      = yS (hB x0 x1 x2 x3) (e2 a) (e2 x8) (y 1).val (y 2).val := by
  unfold k0_pay44
  pointwise
  rw [pay2_apply]
  unfold yS
  refine congrArg₂ (· + ·) rfl (Finset.sum_congr rfl fun k _ => ?_)
  exact congrArg₂ (· * ·) (e2_eq a _ rfl rfl) (e2_eq x8 _ rfl rfl)

end Cert.Proof.FF

end

end
-- ==== Proof.FF.Blk.lean ====
/-
  The blocks' closed forms, as the call's arrays.
-/
module

public import proofs.«01_k».proof.Proof.FF.Cut
public import proofs.«01_k».proof.Proof.FF.Glob
public import proofs.«01_k».proof.Proof.FF.Head

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe

variable (m : (ℓ : Loc nD τ sig) → Buf (Elt Ideal) ℓ) (c : Dev nD)

abbrev mH : ℕ → ℕ → ℕ → EReal := HG (aX m c) (aO m c) (aC m c) (aWO m c)
abbrev mU : ℕ → ℕ → ℕ → EReal := UG (aX m c) (aO m c) (aC m c) (aWO m c) (aG m c) (aWU m c)
abbrev mP : ℕ → ℕ → ℕ → EReal := PG (aX m c) (aO m c) (aC m c) (aS0 m c) (aWO m c) (aG m c) (aWU m c)
abbrev mY : ℕ → ℕ → ℕ → EReal :=
  YG (aX m c) (aO m c) (aC m c) (aS0 m c) (aWO m c) (aG m c) (aWU m c) (aWD m c) (aB m c) (aWN m c)

variable (t : Fin cfg0.N)

theorem blk3 : e2 (A := 1024) (B := 1024) (iblk m c 3 t) = e2 (aWO m c) :=
  congrArg (e2 (A := 1024) (B := 1024)) (funext fun y => (cut3 m c t y).trans (e2_eq _ y rfl rfl).symm)
theorem blk5 : e2 (A := 1024) (B := 5632) (iblk m c 5 t) = e2 (aWU m c) :=
  congrArg (e2 (A := 1024) (B := 5632)) (funext fun y => (cut5 m c t y).trans (e2_eq _ y rfl rfl).symm)
theorem blk6 : e2 (A := 3) (B := 5632) (iblk m c 6 t) = e2 (aWD m c) :=
  congrArg (e2 (A := 3) (B := 5632)) (funext fun y => (cut6 m c t y).trans (e2_eq _ y rfl rfl).symm)
theorem blk8 : e2 (A := 2816) (B := 1024) (iblk m c 8 t) = e2 (aWN m c) :=
  congrArg (e2 (A := 2816) (B := 1024)) (funext fun y => (cut8 m c t y).trans (e2_eq _ y rfl rfl).symm)
theorem blk4 : e2 (A := 1) (B := 1024) (iblk m c 4 t) 0 = e1 (aG m c) := by
  funext l
  by_cases h : l < 1024
  · rw [e2_in _ Nat.zero_lt_one h]
    exact cut4 m c t _
  · unfold e2 e1
    rw [dif_neg (fun hh => h hh.2), dif_neg h]
theorem blk7 : e2 (A := 1) (B := 5632) (iblk m c 7 t) 0 = e1 (aB m c) := by
  funext l
  by_cases h : l < 5632
  · rw [e2_in _ Nat.zero_lt_one h]
    exact cut7 m c t _
  · unfold e2 e1
    rw [dif_neg (fun hh => h hh.2), dif_neg h]
theorem blk0 {r d : ℕ} (hr : r < 512) (hd : d < 1024) :
    e3 (A := 1) (B := 512) (C := 1024) (iblk m c 0 t) 0 r d = e3 (aX m c) (t.val / 8) (512 * (t.val % 8) + r) d := by
  rw [e3_in _ Nat.zero_lt_one hr hd]
  exact cut0 m c t _
theorem blk1 {r d : ℕ} (hr : r < 512) (hd : d < 512) :
    e3 (A := 1) (B := 512) (C := 512) (iblk m c 1 t) 0 r d = e3 (aO m c) (t.val / 8) (512 * (t.val % 8) + r) d := by
  rw [e3_in _ Nat.zero_lt_one hr hd]
  exact cut1 m c t _
theorem blk2 {r d : ℕ} (hr : r < 512) (hd : d < 512) :
    e3 (A := 1) (B := 512) (C := 512) (iblk m c 2 t) 0 r d = e3 (aC m c) (t.val / 8) (512 * (t.val % 8) + r) d := by
  rw [e3_in _ Nat.zero_lt_one hr hd]
  exact cut2 m c t _
theorem blk9 {q l : ℕ} (hq : q < 2) (hl : l < 5632) :
    e3 (A := 1) (B := 8) (C := 5632) (iblk m c 9 t) 0 (q + 6) l = e3 (aS0 m c) (t.val / 8) q l := by
  rw [e3_in _ Nat.zero_lt_one (by omega : q + 6 < 8) hl]
  exact cut9 m c t _ (by show 6 ≤ q + 6; omega)

theorem blkH {r d : ℕ} (hr : r < 512) (hd : d < 1024) :
    hB (iblk m c 0 t) (iblk m c 1 t) (iblk m c 2 t) (iblk m c 3 t) r d = mH m c (t.val / 8) (512 * (t.val % 8) + r) d := by
  unfold hB mH HG hS
  rw [blk3]
  refine congrArg₂ (· + ·) (congrArg₂ (· + ·) (blk0 m c t hr hd) (Finset.sum_congr rfl fun k _ => ?_))
    (Finset.sum_congr rfl fun k _ => ?_)
  · rw [blk1 m c t hr k.isLt]
  · rw [blk2 m c t hr k.isLt]

theorem blkN {r d : ℕ} (hr : r < 512) (hd : d < 1024) :
    nB (iblk m c 0 t) (iblk m c 1 t) (iblk m c 2 t) (iblk m c 3 t) (iblk m c 4 t) r d
      = NG (aX m c) (aO m c) (aC m c) (aWO m c) (aG m c) (t.val / 8) (512 * (t.val % 8) + r) d := by
  unfold nB NG nS
  rw [blk4, blkH m c t hr hd]
  congr 5
  refine Finset.sum_congr rfl fun k _ => ?_
  rw [blkH m c t hr k.isLt]

theorem blkU {r : ℕ} (l : ℕ) (hr : r < 512) :
    uB (iblk m c 0 t) (iblk m c 1 t) (iblk m c 2 t) (iblk m c 3 t) (iblk m c 4 t) (iblk m c 5 t) r l
      = mU m c (t.val / 8) (512 * (t.val % 8) + r) l := by
  unfold uB mU UG uS
  rw [blk5]
  refine Finset.sum_congr rfl fun k _ => ?_
  rw [blkN m c t hr k.isLt]

/-- The rows' columns, padded by what comes before the point. -/
theorem blkP (Z : ℕ → ℕ → EReal) (hZ : ∀ q l, q < 2 → l < 5632 → Z q l = mP m c (t.val / 8) (512 * (t.val % 8) + q) l)
    {q l : ℕ} (hq : q < 514) (hl : l < 5632) :
    pS Z (uB (iblk m c 0 t) (iblk m c 1 t) (iblk m c 2 t) (iblk m c 3 t) (iblk m c 4 t) (iblk m c 5 t)) q l
      = mP m c (t.val / 8) (512 * (t.val % 8) + q) l := by
  by_cases h : q < 2
  · rw [pS, if_pos h]
    exact hZ q l h hl
  · rw [pS, if_neg h, blkU m c t l (by omega : q - 2 < 512), mP, PG, pS, if_neg (by omega)]
    congr 1
    omega

theorem blkC (Z : ℕ → ℕ → EReal) (hZ : ∀ q l, q < 2 → l < 5632 → Z q l = mP m c (t.val / 8) (512 * (t.val % 8) + q) l)
    {r l : ℕ} (hr : r < 512) (hl : l < 5632) :
    cS (pS Z (uB (iblk m c 0 t) (iblk m c 1 t) (iblk m c 2 t) (iblk m c 3 t) (iblk m c 4 t) (iblk m c 5 t)))
        (e2 (A := 3) (B := 5632) (iblk m c 6 t)) (e2 (A := 1) (B := 5632) (iblk m c 7 t) 0) r l
      = cS (mP m c (t.val / 8)) (e2 (aWD m c)) (e1 (aB m c)) (512 * (t.val % 8) + r) l := by
  unfold cS
  rw [blk6, blk7, blkP m c t Z hZ (by omega : r < 514) hl, blkP m c t Z hZ (by omega : r + 1 < 514) hl,
    blkP m c t Z hZ (by omega : r + 2 < 514) hl]
  rfl

/-- A point's block of the first result. -/
theorem blkY (Z : ℕ → ℕ → EReal) (hZ : ∀ q l, q < 2 → l < 5632 → Z q l = mP m c (t.val / 8) (512 * (t.val % 8) + q) l)
    {r d : ℕ} (hr : r < 512) (hd : d < 1024) :
    yS (hB (iblk m c 0 t) (iblk m c 1 t) (iblk m c 2 t) (iblk m c 3 t))
        (aS (pS Z (uB (iblk m c 0 t) (iblk m c 1 t) (iblk m c 2 t) (iblk m c 3 t) (iblk m c 4 t) (iblk m c 5 t)))
          (e2 (A := 3) (B := 5632) (iblk m c 6 t)) (e2 (A := 1) (B := 5632) (iblk m c 7 t) 0))
        (e2 (A := 2816) (B := 1024) (iblk m c 8 t)) r d
      = mY m c (t.val / 8) (512 * (t.val % 8) + r) d := by
  unfold yS mY YG yS
  rw [blkH m c t hr hd, blk8]
  refine congrArg₂ (· + ·) rfl (Finset.sum_congr rfl fun k _ => congrArg (· * _) ?_)
  have hk : k.val < 2816 := k.isLt
  unfold aS
  rw [blkC m c t Z hZ hr (by omega : 2816 + k.val < 5632), blkC m c t Z hZ hr (by omega : k.val < 5632)]

end Cert.Proof.FF

end

end
-- ==== Proof.FF.Chunk.lean ====
/-
  One chunk of the convolved and gated product, at an index.
-/
module

public import proofs.«01_k».proof.Proof.Gen.Kernel2Ideal.Value
public import proofs.«01_k».proof.Proof.FF.Spec
public import Idealize.ShloMosaic.Lib.Pipeline.ReadBack

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe

/-- The gated product of two convolved chunks. -/
def gateV (a g : FVec Ideal S512x256 .f32) : FVec Ideal S512x256 .bf16 :=
  shapeCast S512x256 (truncf .bf16 (mulf (addf (mulf (mulf (broadcast S512x256 (Scalar.ofBits .f32 0x3F000000#32)) g)
    (tanh (mulf (broadcast S512x256 (Scalar.ofBits .f32 0x3F000000#32)) g)))
      (mulf (broadcast S512x256 (Scalar.ofBits .f32 0x3F000000#32)) g)) a) bitsLt_bf16_f32) shapeCasts_S512x256_S512x256

/-- One convolved chunk, at an index. -/
theorem conv_apply (win : Vec Ideal S520x256 .f32) (b w0 w1 w2 : Vec Ideal S1x256 .f32) (x : S512x256.Idx) :
    k0_pay5 (F := Ideal) win b w0 w1 w2 x = (e2 b 0 (x 1).val + e2 w0 0 (x 1).val * e2 win ((x 0).val + 6) (x 1).val
      + e2 w1 0 (x 1).val * e2 win ((x 0).val + 7) (x 1).val) + e2 w2 0 (x 1).val * e2 win ((x 0).val + 8) (x 1).val := by
  have h0 : (x 0).val < 512 := (x 0).isLt
  have h1 : (x 1).val < 256 := (x 1).isLt
  unfold k0_pay5
  pointwise
  refine congrArg₂ (· + ·) (congrArg₂ (· + ·) (congrArg₂ (· + ·) (e2_eq b _ rfl rfl)
    (congrArg₂ (· * ·) (e2_eq w0 _ rfl rfl) (e2_eq win _ ?_ rfl)))
    (congrArg₂ (· * ·) (e2_eq w1 _ rfl rfl) (e2_eq win _ ?_ rfl)))
    (congrArg₂ (· * ·) (e2_eq w2 _ rfl rfl) (e2_eq win _ ?_ rfl))
  · show (8 + (x 0).val + 520 - 2) % 520 = _; omega
  · show (8 + (x 0).val + 520 - 1) % 520 = _; omega
  · show 8 + (x 0).val = _; omega

/-- A load of a matrix through a box, at natural numbers. -/
theorem e2_ld {A B A' B' : ℕ} (X : (⟨2, ![A, B]⟩ : Shape).Idx → EReal) (o0 o1 : ℕ)
    (inb : ∀ a, (![o0, o1] : Fin 2 → ℕ) a + (![A', B'] : Fin 2 → ℕ) a ≤ (⟨2, ![A, B]⟩ : Shape).size a) (a b : ℕ) (ha : a < A') (hb : b < B') :
    e2 (A := A') (B := B') (View.ld (Val := Elt Ideal) (e' := .f32) X (Rect.unit (s := ⟨2, ![A, B]⟩) ![o0, o1] ![A', B'] inb)) a b = e2 X (o0 + a) (o1 + b) := by
  rw [e2, dif_pos ⟨ha, hb⟩]
  refine e2_eq X _ ?_ ?_
  · exact Rect.idx_unit_val _ _ inb _ 0
  · exact Rect.idx_unit_val _ _ inb _ 1

variable (BUF : Vec Ideal S520x5632 .f32) (x6 : Vec Ideal S3x5632 .f32) (x7 : Vec Ideal S1x5632 .f32)

/-- A column of the padded buffer, its first row the sixth. -/
def padP : ℕ → ℕ → EReal := fun q l => e2 BUF (q + 6) l

/-- A convolved chunk of the columns from `c`. -/
def convV (c : ℕ) (h0 : ∀ a, (![0, c] : Fin 2 → ℕ) a + S520x256.size a ≤ S520x5632.size a)
    (h1 : ∀ a, (![0, c] : Fin 2 → ℕ) a + S1x256.size a ≤ S1x5632.size a)
    (h2 : ∀ a, (![0, c] : Fin 2 → ℕ) a + S1x256.size a ≤ S3x5632.size a)
    (h3 : ∀ a, (![1, c] : Fin 2 → ℕ) a + S1x256.size a ≤ S3x5632.size a)
    (h4 : ∀ a, (![2, c] : Fin 2 → ℕ) a + S1x256.size a ≤ S3x5632.size a) : FVec Ideal S512x256 .f32 :=
  k0_pay5 (F := Ideal) (View.ld (Val := Elt Ideal) (e' := .f32) BUF (Rect.unit (s := S520x5632) ![0, c] S520x256.size h0))
    (View.ld (Val := Elt Ideal) (e' := .f32) x7 (Rect.unit (s := S1x5632) ![0, c] S1x256.size h1))
    (View.ld (Val := Elt Ideal) (e' := .f32) x6 (Rect.unit (s := S3x5632) ![0, c] S1x256.size h2))
    (View.ld (Val := Elt Ideal) (e' := .f32) x6 (Rect.unit (s := S3x5632) ![1, c] S1x256.size h3))
    (View.ld (Val := Elt Ideal) (e' := .f32) x6 (Rect.unit (s := S3x5632) ![2, c] S1x256.size h4))

theorem convV_apply (c : ℕ) (h0 h1 h2 h3 h4) (x : S512x256.Idx) :
    convV BUF x6 x7 c h0 h1 h2 h3 h4 x = cS (padP BUF) (e2 x6) (e2 x7 0) (x 0).val (c + (x 1).val) := by
  have hx0 : (x 0).val < 512 := (x 0).isLt
  have hx1 : (x 1).val < 256 := (x 1).isLt
  unfold convV
  rw [conv_apply, e2_ld BUF 0 c h0 _ _ (by omega) hx1, e2_ld BUF 0 c h0 _ _ (by omega) hx1, e2_ld BUF 0 c h0 _ _ (by omega) hx1,
    e2_ld x7 0 c h1 _ _ (by omega) hx1, e2_ld x6 0 c h2 _ _ (by omega) hx1, e2_ld x6 1 c h3 _ _ (by omega) hx1,
    e2_ld x6 2 c h4 _ _ (by omega) hx1]
  unfold cS padP
  rw [show 0 + ((x 0).val + 6) = (x 0).val + 6 by omega, show 0 + ((x 0).val + 7) = (x 0).val + 1 + 6 by omega,
    show 0 + ((x 0).val + 8) = (x 0).val + 2 + 6 by omega]

/-- The gated product of the chunk of columns from `c`, at an index. -/
theorem gate_apply (c g : ℕ) (hg : g = 2816 + c) (h0 h1 h2 h3 h4 k0 k1 k2 k3 k4) (x : S512x256.Idx) :
    gateV (convV BUF x6 x7 c h0 h1 h2 h3 h4) (convV BUF x6 x7 g k0 k1 k2 k3 k4) x
      = aS (padP BUF) (e2 x6) (e2 x7 0) (x 0).val (c + (x 1).val) := by
  subst hg
  unfold gateV
  pointwise
  rw [convV_apply, convV_apply]
  unfold aS
  rw [show 2816 + c + (x 1).val = 2816 + (c + (x 1).val) by omega]

end Cert.Proof.FF

end

end
-- ==== Proof.FF.Act.lean ====
/-
  The product's buffer.
-/
module

public import proofs.«01_k».proof.Proof.FF.Chunk
public import proofs.«01_k».proof.Proof.FF.Head

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe

/-- The product's buffer. -/
def actG (BUF : Vec Ideal S520x5632 .f32) (X6 : Vec Ideal S3x5632 .f32) (X7 : Vec Ideal S1x5632 .f32) : S512x2816.Idx → Elt Ideal .bf16 :=
  fun y => aS (padP BUF) (e2 X6) (e2 X7 0) (y 0).val (y 1).val

/-- The taps and the bias as the chunks load them. -/
abbrev rd6 (arg8 : Memref sig .tc .vmem S3x5632 .f32) (harg8 : arg8.IsWhole) (x6 : Vec Ideal S3x5632 .f32) : Vec Ideal S3x5632 .f32 :=
  arg8.view.read (Elt Ideal) (harg8.unread x6)
abbrev rd7 (arg9 : Memref sig .tc .vmem S1x5632 .f32) (harg9 : arg9.IsWhole) (x7 : Vec Ideal S1x5632 .f32) : Vec Ideal S1x5632 .f32 :=
  arg9.view.read (Elt Ideal) (harg9.unread x7)

end Cert.Proof.FF

end

end
-- ==== Proof.FF.BodyA.lean ====
/-
  A panel's first step: what its blocks hold.
-/
module

public import proofs.«01_k».proof.Proof.FF.Act
public import Idealize.ShloMosaic.Lib.WritesUnit

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe

variable (c : Dev nD)
    (arg2 : Memref sig .tc .vmem S1x512x1024 .f32) (harg2 : arg2.IsWhole)
    (arg3 : Memref sig .tc .vmem S1x512x512 .bf16) (harg3 : arg3.IsWhole)
    (arg4 : Memref sig .tc .vmem S1x512x512 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1024x5632 .bf16) (harg7 : arg7.IsWhole)
    (arg8 : Memref sig .tc .vmem S3x5632 .f32) (harg8 : arg8.IsWhole)
    (arg9 : Memref sig .tc .vmem S1x5632 .f32) (harg9 : arg9.IsWhole)
    (arg10 : Memref sig .tc .vmem S2816x1024 .bf16) (harg10 : arg10.IsWhole)
    (arg11 : Memref sig .tc .vmem S1x8x5632 .f32) (harg11 : arg11.IsWhole)
    (arg12 : Memref sig .tc .vmem S1x512x1024 .f32) (harg12 : arg12.IsWhole)
    (arg13 : Memref sig .tc .vmem S1x8x5632 .f32) (harg13 : arg13.IsWhole)
    (arg14 : Memref sig .tc .vmem S520x5632 .f32) (harg14 : arg14.IsWhole)
    (arg15 : Memref sig .tc .vmem S512x2816 .bf16) (harg15 : arg15.IsWhole)
    (x0 : Vec Ideal S1x512x1024 .f32) (x1 : Vec Ideal S1x512x512 .bf16) (x2 : Vec Ideal S1x512x512 .bf16)
    (x3 : Vec Ideal S1024x1024 .bf16) (x4 : Vec Ideal S1x1024 .f32) (x5 : Vec Ideal S1024x5632 .bf16)
    (x6 : Vec Ideal S3x5632 .f32) (x7 : Vec Ideal S1x5632 .f32) (x8 : Vec Ideal S2816x1024 .bf16) (x9 : Vec Ideal S1x8x5632 .f32)

/-- The padded buffer the chunks read. -/
abbrev bufA : Vec Ideal S520x5632 .f32 :=
  arg14.view.read (Elt Ideal) (arg14.view.writes (Elt Ideal) arg14.view.junk (kernelRun0_A.sl.HS0_2 (F := Ideal) c arg2 harg2 arg3 harg3 arg4 harg4 arg5 harg5 arg6 harg6 arg7 harg7 arg11 harg11 x0 x1 x2 x3 x4 x5 x9))

set_option maxHeartbeats 4000000 in
/-- The product's buffer, at an index. -/
theorem actA_raw (y : S512x2816.Idx) :
    View.canon (kernelRun0_A.sl.HS1_11 (F := Ideal) c arg2 harg2 arg3 harg3 arg4 harg4 arg5 harg5 arg6 harg6 arg7 harg7 arg8 harg8 arg9 harg9 arg11 harg11 arg14 x0 x1 x2 x3 x4 x5 x6 x7 x9) y
      = actG (bufA c arg2 harg2 arg3 harg3 arg4 harg4 arg5 harg5 arg6 harg6 arg7 harg7 arg11 harg11 arg14 x0 x1 x2 x3 x4 x5 x9) (rd6 arg8 harg8 x6) (rd7 arg9 harg9 x7) y := by
  suffices hG : View.PiecesOf (Val := Elt Ideal) (s := S512x2816) (e := .bf16)
      (actG (bufA c arg2 harg2 arg3 harg3 arg4 harg4 arg5 harg5 arg6 harg6 arg7 harg7 arg11 harg11 arg14 x0 x1 x2 x3 x4 x5 x9) (rd6 arg8 harg8 x6) (rd7 arg9 harg9 x7))
      (kernelRun0_A.sl.HS1_11 (F := Ideal) c arg2 harg2 arg3 harg3 arg4 harg4 arg5 harg5 arg6 harg6 arg7 harg7 arg8 harg8 arg9 harg9 arg11 harg11 arg14 x0 x1 x2 x3 x4 x5 x6 x7 x9) by
    exact View.canon_apply_of_pieces (Val := Elt Ideal) (S := S512x2816) (e := .bf16) (actG (bufA c arg2 harg2 arg3 harg3 arg4 harg4 arg5 harg5 arg6 harg6 arg7 harg7 arg11 harg11 arg14 x0 x1 x2 x3 x4 x5 x9) (rd6 arg8 harg8 x6) (rd7 arg9 harg9 x7)) _ hG.mem y
      (View.cover_of_tiledL _ ![512, 256] (by sl_kernel_rfl) y)
  refine ⟨?_, ?_, ?_, ?_, ?_, ?_, ?_, ?_, ?_, ?_, ?_, trivial⟩
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 2560 5376 rfl inb_S520x5632_S520x256_0_2560 inb_S1x5632_S1x256_0_2560 inb_S3x5632_S1x256_0_2560 inb_S3x5632_S1x256_1_2560 inb_S3x5632_S1x256_2_2560 inb_S520x5632_S520x256_0_5376 inb_S1x5632_S1x256_0_5376 inb_S3x5632_S1x256_0_5376 inb_S3x5632_S1x256_1_5376 inb_S3x5632_S1x256_2_5376 x).trans ?_
    refine congrArg₂ (aS _ _ _) ?_ ?_
    · exact ((Rect.idx_unit_val _ _ inb_S512x2816_S512x256_0_2560 x 0).trans (Nat.zero_add _)).symm
    · exact (Rect.idx_unit_val _ _ inb_S512x2816_S512x256_0_2560 x 1).symm
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 2304 5120 rfl inb_S520x5632_S520x256_0_2304 inb_S1x5632_S1x256_0_2304 inb_S3x5632_S1x256_0_2304 inb_S3x5632_S1x256_1_2304 inb_S3x5632_S1x256_2_2304 inb_S520x5632_S520x256_0_5120 inb_S1x5632_S1x256_0_5120 inb_S3x5632_S1x256_0_5120 inb_S3x5632_S1x256_1_5120 inb_S3x5632_S1x256_2_5120 x).trans ?_
    refine congrArg₂ (aS _ _ _) ?_ ?_
    · exact ((Rect.idx_unit_val _ _ inb_S512x2816_S512x256_0_2304 x 0).trans (Nat.zero_add _)).symm
    · exact (Rect.idx_unit_val _ _ inb_S512x2816_S512x256_0_2304 x 1).symm
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 2048 4864 rfl inb_S520x5632_S520x256_0_2048 inb_S1x5632_S1x256_0_2048 inb_S3x5632_S1x256_0_2048 inb_S3x5632_S1x256_1_2048 inb_S3x5632_S1x256_2_2048 inb_S520x5632_S520x256_0_4864 inb_S1x5632_S1x256_0_4864 inb_S3x5632_S1x256_0_4864 inb_S3x5632_S1x256_1_4864 inb_S3x5632_S1x256_2_4864 x).trans ?_
    refine congrArg₂ (aS _ _ _) ?_ ?_
    · exact ((Rect.idx_unit_val _ _ inb_S512x2816_S512x256_0_2048 x 0).trans (Nat.zero_add _)).symm
    · exact (Rect.idx_unit_val _ _ inb_S512x2816_S512x256_0_2048 x 1).symm
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 1792 4608 rfl inb_S520x5632_S520x256_0_1792 inb_S1x5632_S1x256_0_1792 inb_S3x5632_S1x256_0_1792 inb_S3x5632_S1x256_1_1792 inb_S3x5632_S1x256_2_1792 inb_S520x5632_S520x256_0_4608 inb_S1x5632_S1x256_0_4608 inb_S3x5632_S1x256_0_4608 inb_S3x5632_S1x256_1_4608 inb_S3x5632_S1x256_2_4608 x).trans ?_
    refine congrArg₂ (aS _ _ _) ?_ ?_
    · exact ((Rect.idx_unit_val _ _ inb_S512x2816_S512x256_0_1792 x 0).trans (Nat.zero_add _)).symm
    · exact (Rect.idx_unit_val _ _ inb_S512x2816_S512x256_0_1792 x 1).symm
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 1536 4352 rfl inb_S520x5632_S520x256_0_1536 inb_S1x5632_S1x256_0_1536 inb_S3x5632_S1x256_0_1536 inb_S3x5632_S1x256_1_1536 inb_S3x5632_S1x256_2_1536 inb_S520x5632_S520x256_0_4352 inb_S1x5632_S1x256_0_4352 inb_S3x5632_S1x256_0_4352 inb_S3x5632_S1x256_1_4352 inb_S3x5632_S1x256_2_4352 x).trans ?_
    refine congrArg₂ (aS _ _ _) ?_ ?_
    · exact ((Rect.idx_unit_val _ _ inb_S512x2816_S512x256_0_1536 x 0).trans (Nat.zero_add _)).symm
    · exact (Rect.idx_unit_val _ _ inb_S512x2816_S512x256_0_1536 x 1).symm
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 1280 4096 rfl inb_S520x5632_S520x256_0_1280 inb_S1x5632_S1x256_0_1280 inb_S3x5632_S1x256_0_1280 inb_S3x5632_S1x256_1_1280 inb_S3x5632_S1x256_2_1280 inb_S520x5632_S520x256_0_4096 inb_S1x5632_S1x256_0_4096 inb_S3x5632_S1x256_0_4096 inb_S3x5632_S1x256_1_4096 inb_S3x5632_S1x256_2_4096 x).trans ?_
    refine congrArg₂ (aS _ _ _) ?_ ?_
    · exact ((Rect.idx_unit_val _ _ inb_S512x2816_S512x256_0_1280 x 0).trans (Nat.zero_add _)).symm
    · exact (Rect.idx_unit_val _ _ inb_S512x2816_S512x256_0_1280 x 1).symm
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 1024 3840 rfl inb_S520x5632_S520x256_0_1024 inb_S1x5632_S1x256_0_1024 inb_S3x5632_S1x256_0_1024 inb_S3x5632_S1x256_1_1024 inb_S3x5632_S1x256_2_1024 inb_S520x5632_S520x256_0_3840 inb_S1x5632_S1x256_0_3840 inb_S3x5632_S1x256_0_3840 inb_S3x5632_S1x256_1_3840 inb_S3x5632_S1x256_2_3840 x).trans ?_
    refine congrArg₂ (aS _ _ _) ?_ ?_
    · exact ((Rect.idx_unit_val _ _ inb_S512x2816_S512x256_0_1024 x 0).trans (Nat.zero_add _)).symm
    · exact (Rect.idx_unit_val _ _ inb_S512x2816_S512x256_0_1024 x 1).symm
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 768 3584 rfl inb_S520x5632_S520x256_0_768 inb_S1x5632_S1x256_0_768 inb_S3x5632_S1x256_0_768 inb_S3x5632_S1x256_1_768 inb_S3x5632_S1x256_2_768 inb_S520x5632_S520x256_0_3584 inb_S1x5632_S1x256_0_3584 inb_S3x5632_S1x256_0_3584 inb_S3x5632_S1x256_1_3584 inb_S3x5632_S1x256_2_3584 x).trans ?_
    refine congrArg₂ (aS _ _ _) ?_ ?_
    · exact ((Rect.idx_unit_val _ _ inb_S512x2816_S512x256_0_768 x 0).trans (Nat.zero_add _)).symm
    · exact (Rect.idx_unit_val _ _ inb_S512x2816_S512x256_0_768 x 1).symm
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 512 3328 rfl inb_S520x5632_S520x256_0_512 inb_S1x5632_S1x256_0_512 inb_S3x5632_S1x256_0_512 inb_S3x5632_S1x256_1_512 inb_S3x5632_S1x256_2_512 inb_S520x5632_S520x256_0_3328 inb_S1x5632_S1x256_0_3328 inb_S3x5632_S1x256_0_3328 inb_S3x5632_S1x256_1_3328 inb_S3x5632_S1x256_2_3328 x).trans ?_
    refine congrArg₂ (aS _ _ _) ?_ ?_
    · exact ((Rect.idx_unit_val _ _ inb_S512x2816_S512x256_0_512 x 0).trans (Nat.zero_add _)).symm
    · exact (Rect.idx_unit_val _ _ inb_S512x2816_S512x256_0_512 x 1).symm
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 256 3072 rfl inb_S520x5632_S520x256_0_256 inb_S1x5632_S1x256_0_256 inb_S3x5632_S1x256_0_256 inb_S3x5632_S1x256_1_256 inb_S3x5632_S1x256_2_256 inb_S520x5632_S520x256_0_3072 inb_S1x5632_S1x256_0_3072 inb_S3x5632_S1x256_0_3072 inb_S3x5632_S1x256_1_3072 inb_S3x5632_S1x256_2_3072 x).trans ?_
    refine congrArg₂ (aS _ _ _) ?_ ?_
    · exact ((Rect.idx_unit_val _ _ inb_S512x2816_S512x256_0_256 x 0).trans (Nat.zero_add _)).symm
    · exact (Rect.idx_unit_val _ _ inb_S512x2816_S512x256_0_256 x 1).symm
  · intro x
    refine (gate_apply (bufA c arg2 harg2 arg3 harg3 arg4 harg4 arg5 harg5 arg6 harg6 arg7 harg7 arg11 harg11 arg14 x0 x1 x2 x3 x4 x5 x9) (rd6 arg8 harg8 x6) (rd7 arg9 harg9 x7) 0 2816 rfl inb_S520x5632_S520x256_0_0 inb_S1x5632_S1x256_0_0 inb_S3x5632_S1x256_0_0 inb_S3x5632_S1x256_1_0 inb_S3x5632_S1x256_2_0 inb_S520x5632_S520x256_0_2816 inb_S1x5632_S1x256_0_2816 inb_S3x5632_S1x256_0_2816 inb_S3x5632_S1x256_1_2816 inb_S3x5632_S1x256_2_2816 x).trans ?_
    refine congrArg₂ (aS _ _ _) ?_ ?_
    · exact ((Rect.idx_unit_val _ _ inb_S512x2816_S512x256_0_0 x 0).trans (Nat.zero_add _)).symm
    · exact (Rect.idx_unit_val _ _ inb_S512x2816_S512x256_0_0 x 1).symm

theorem rA_eq : kernelRun0_A.sl.r (F := Ideal) c arg2 harg2 arg3 harg3 arg4 harg4 arg5 harg5 x0 x1 x2 x3 = k0_pay2 (F := Ideal) x0 x1 (wTop x3) x2 (wBot x3) := by
  unfold kernelRun0_A.sl.r
  simp (disch := decide) only [View.readAt_eq_ld, Memref.IsWhole.read_unread, View.ld_unit_lit']

theorem r1A_eq : kernelRun0_A.sl.r_1 (F := Ideal) c arg2 harg2 arg3 harg3 arg4 harg4 arg5 harg5 arg6 harg6 x0 x1 x2 x3 x4 = k0_pay3 (F := Ideal) x0 x1 (wTop x3) x2 (wBot x3) x4 := by
  unfold kernelRun0_A.sl.r_1
  simp (disch := decide) only [View.readAt_eq_ld, Memref.IsWhole.read_unread, View.ld_unit_lit']

theorem r2A_eq : kernelRun0_A.sl.r_2 (F := Ideal) c arg7 harg7 x5 = x5 := by
  unfold kernelRun0_A.sl.r_2
  simp (disch := decide) only [View.readAt_eq_ld, Memref.IsWhole.read_unread, View.ld_unit_lit']

/-- A later row of the padded buffer, over any prior contents, is a row of the up-projection. -/
theorem upA (f : arg14.view.ty.Contents (Elt Ideal)) (y : S520x5632.Idx) (hy : 8 ≤ (y 0).val) :
    arg14.view.read (Elt Ideal) (arg14.view.writes (Elt Ideal) f (kernelRun0_A.sl.HS0_2 (F := Ideal) c arg2 harg2 arg3 harg3 arg4 harg4 arg5 harg5 arg6 harg6 arg7 harg7 arg11 harg11 x0 x1 x2 x3 x4 x5 x9)) y
      = uB x0 x1 x2 x3 x4 x5 ((y 0).val - 8) (y 1).val := by
  have h0 : (y 0).val < 520 := (y 0).isLt
  have h1 : (y 1).val < 5632 := (y 1).isLt
  refine (View.read_writes_cons_rows_of_mem arg14.view f (o := 8) inb_S520x5632_S512x5632_8_0 _ _ y
    (ix2 (⟨(y 0).val - 8, by omega⟩ : Fin 512) (⟨(y 1).val, h1⟩ : Fin 5632)) rfl ?_ rfl).trans ?_
  · show (y 0).val = 8 + ((y 0).val - 8); omega
  · rw [r1A_eq, r2A_eq, pay4_apply]

/-- A halo row of the padded buffer. -/
theorem haloA (y : S520x5632.Idx) (hy : (y 0).val < 8) : (bufA c arg2 harg2 arg3 harg3 arg4 harg4 arg5 harg5 arg6 harg6 arg7 harg7 arg11 harg11 arg14 x0 x1 x2 x3 x4 x5 x9) y = e3 x9 0 (y 0).val (y 1).val := by
  have h1 : (y 1).val < 5632 := (y 1).isLt
  refine (View.read_writes_cons_rows_of_not_mem arg14.view _ (o := 8) (W := 512) inb_S520x5632_S512x5632_8_0 _ _ y rfl rfl (Or.inl hy)).trans ?_
  refine (View.read_writes_cons_rows_of_mem arg14.view _ (o := 0) inb_S520x5632_S8x5632_0_0 _ _ y
    (ix2 (⟨(y 0).val, hy⟩ : Fin 8) (⟨(y 1).val, h1⟩ : Fin 5632)) rfl ?_ rfl).trans ?_
  · show (y 0).val = 0 + (y 0).val; omega
  · simp (disch := decide) only [View.readAt_eq_ld, Memref.IsWhole.read_unread, View.ld_unit_lit']
    unfold k0_pay1
    pointwise
    exact e3_eq x9 _ rfl rfl rfl

/-- The padded columns the chunks convolve. -/
theorem padA (q l : ℕ) (hq : q < 514) (hl : l < 5632) :
    padP (bufA c arg2 harg2 arg3 harg3 arg4 harg4 arg5 harg5 arg6 harg6 arg7 harg7 arg11 harg11 arg14 x0 x1 x2 x3 x4 x5 x9) q l = pS (fun q => e3 x9 0 (q + 6)) (uB x0 x1 x2 x3 x4 x5) q l := by
  unfold padP pS
  have e := e2_eq (bufA c arg2 harg2 arg3 harg3 arg4 harg4 arg5 harg5 arg6 harg6 arg7 harg7 arg11 harg11 arg14 x0 x1 x2 x3 x4 x5 x9) (ix2 (⟨q + 6, by omega⟩ : Fin 520) (⟨l, hl⟩ : Fin 5632)) (a := q + 6) (b := l) rfl rfl
  rw [← e]
  split
  · rename_i h
    exact haloA c arg2 harg2 arg3 harg3 arg4 harg4 arg5 harg5 arg6 harg6 arg7 harg7 arg11 harg11 arg14 x0 x1 x2 x3 x4 x5 x9 _ (show q + 6 < 8 by omega)
  · rename_i h
    refine (upA c arg2 harg2 arg3 harg3 arg4 harg4 arg5 harg5 arg6 harg6 arg7 harg7 arg11 harg11 arg14 x0 x1 x2 x3 x4 x5 x9 _ _ (show 8 ≤ q + 6 by omega)).trans ?_
    show uB x0 x1 x2 x3 x4 x5 (q + 6 - 8) l = _
    rw [show q + 6 - 8 = q - 2 by omega]

/-- The product's buffer, read whole, at natural numbers in range. -/
theorem v632A_eq (a b : ℕ) (ha : a < 512) (hb : b < 2816) :
    e2 (kernelRun0_A.sl.v632 (F := Ideal) c arg2 harg2 arg3 harg3 arg4 harg4 arg5 harg5 arg6 harg6 arg7 harg7 arg8 harg8 arg9 harg9 arg11 harg11 arg14 arg15 x0 x1 x2 x3 x4 x5 x6 x7 x9 : Vec Ideal S512x2816 .bf16) a b
      = aS (pS (fun q => e3 x9 0 (q + 6)) (uB x0 x1 x2 x3 x4 x5)) (e2 x6) (e2 x7 0) a b := by
  refine (e2_eq (A := 512) (B := 2816) _ (ix2 (⟨a, ha⟩ : Fin 512) (⟨b, hb⟩ : Fin 2816)) rfl rfl).symm.trans ?_
  unfold kernelRun0_A.sl.v632
  rw [View.readCov_eq_canon']
  refine (actA_raw c arg2 harg2 arg3 harg3 arg4 harg4 arg5 harg5 arg6 harg6 arg7 harg7 arg8 harg8 arg9 harg9 arg11 harg11 arg14 x0 x1 x2 x3 x4 x5 x6 x7 x9 _).trans ?_
  unfold actG rd6 rd7
  rw [harg8.read_unread, harg9.read_unread]
  have q0 : ((Rect.unit (s := S512x2816) ![0, 0] S512x2816.size inb_S512x2816_S512x2816_0_0).idx (ix2 (⟨a, ha⟩ : Fin 512) (⟨b, hb⟩ : Fin 2816)) 0).val = a :=
    (Rect.idx_unit_val _ _ inb_S512x2816_S512x2816_0_0 _ 0).trans (Nat.zero_add _)
  have q1 : ((Rect.unit (s := S512x2816) ![0, 0] S512x2816.size inb_S512x2816_S512x2816_0_0).idx (ix2 (⟨a, ha⟩ : Fin 512) (⟨b, hb⟩ : Fin 2816)) 1).val = b :=
    (Rect.idx_unit_val _ _ inb_S512x2816_S512x2816_0_0 _ 1).trans (Nat.zero_add _)
  refine (congrArg₂ (aS _ _ _) q0 q1).trans ?_
  unfold aS cS
  simp only [padA c arg2 harg2 arg3 harg3 arg4 harg4 arg5 harg5 arg6 harg6 arg7 harg7 arg11 harg11 arg14 x0 x1 x2 x3 x4 x5 x9 a b (by omega) (by omega), padA c arg2 harg2 arg3 harg3 arg4 harg4 arg5 harg5 arg6 harg6 arg7 harg7 arg11 harg11 arg14 x0 x1 x2 x3 x4 x5 x9 (a + 1) b (by omega) (by omega),
    padA c arg2 harg2 arg3 harg3 arg4 harg4 arg5 harg5 arg6 harg6 arg7 harg7 arg11 harg11 arg14 x0 x1 x2 x3 x4 x5 x9 (a + 2) b (by omega) (by omega),
    padA c arg2 harg2 arg3 harg3 arg4 harg4 arg5 harg5 arg6 harg6 arg7 harg7 arg11 harg11 arg14 x0 x1 x2 x3 x4 x5 x9 a (2816 + b) (by omega) (by omega), padA c arg2 harg2 arg3 harg3 arg4 harg4 arg5 harg5 arg6 harg6 arg7 harg7 arg11 harg11 arg14 x0 x1 x2 x3 x4 x5 x9 (a + 1) (2816 + b) (by omega) (by omega),
    padA c arg2 harg2 arg3 harg3 arg4 harg4 arg5 harg5 arg6 harg6 arg7 harg7 arg11 harg11 arg14 x0 x1 x2 x3 x4 x5 x9 (a + 2) (2816 + b) (by omega) (by omega)]

/-- The tail the point leaves, at an index. -/
theorem v640A_eq (y : S8x5632.Idx) : kernelRun0_A.sl.v640 (F := Ideal) c arg2 harg2 arg3 harg3 arg4 harg4 arg5 harg5 arg6 harg6 arg7 harg7 arg11 harg11 arg14 x0 x1 x2 x3 x4 x5 x9 y = uB x0 x1 x2 x3 x4 x5 (504 + (y 0).val) (y 1).val := by
  unfold kernelRun0_A.sl.v640
  have q0 : ((Rect.unit (s := S520x5632) ![512, 0] S8x5632.size inb_S520x5632_S8x5632_512_0).idx y 0).val = 512 + (y 0).val :=
    Rect.idx_unit_val _ _ inb_S520x5632_S8x5632_512_0 _ 0
  have q1 : ((Rect.unit (s := S520x5632) ![512, 0] S8x5632.size inb_S520x5632_S8x5632_512_0).idx y 1).val = (y 1).val :=
    (Rect.idx_unit_val _ _ inb_S520x5632_S8x5632_512_0 _ 1).trans (Nat.zero_add _)
  refine (upA c arg2 harg2 arg3 harg3 arg4 harg4 arg5 harg5 arg6 harg6 arg7 harg7 arg11 harg11 arg14 x0 x1 x2 x3 x4 x5 x9 arg14.view.junk
    ((Rect.unit (s := S520x5632) ![512, 0] S8x5632.size inb_S520x5632_S8x5632_512_0).idx y) ?_).trans ?_
  · rw [q0]; omega
  · rw [q0, q1]
    congr 1
    omega

variable (i : grid0.Coords) (hc0 : cond0_0 i)

set_option maxHeartbeats 4000000 in
/-- The first output's block, at an index. -/
theorem out10A (y : S1x512x1024.Idx) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y
      = yS (hB x0 x1 x2 x3) (aS (pS (fun q => e3 x9 0 (q + 6)) (uB x0 x1 x2 x3 x4 x5)) (e2 x6) (e2 x7 0)) (e2 x8) (y 1).val (y 2).val := by
  have hy1 : (y 1).val < 512 := (y 1).isLt
  unfold out0_A_10
  rw [View.read_writes_junk_eq_canon]
  refine (congrFun (View.canon_cons_unit_zero (S := S1x512x1024) (e := .f32) (Val := Elt Ideal) (off := ![0, 0, 0]) (by decide) inb_S1x512x1024_S1x512x1024_0_0_0
    (k0_pay44 (F := Ideal) (kernelRun0_A.sl.r (F := Ideal) c arg2 harg2 arg3 harg3 arg4 harg4 arg5 harg5 x0 x1 x2 x3)
      (kernelRun0_A.sl.v632 (F := Ideal) c arg2 harg2 arg3 harg3 arg4 harg4 arg5 harg5 arg6 harg6 arg7 harg7 arg8 harg8 arg9 harg9 arg11 harg11 arg14 arg15 x0 x1 x2 x3 x4 x5 x6 x7 x9)
      (View.readAt (Elt Ideal) arg10.view (Rect.unit (s := S2816x1024) ![0, 0] S2816x1024.size inb_S2816x1024_S2816x1024_0_0).toLoadRect (harg10.unread x8))) _) y).trans ?_
  rw [rA_eq]
  simp (disch := decide) only [View.readAt_eq_ld, Memref.IsWhole.read_unread, View.ld_unit_lit']
  refine (pay44_apply x0 x1 x2 x3 x8 _ y).trans ?_
  unfold yS
  refine congrArg₂ (· + ·) rfl (Finset.sum_congr rfl fun k _ => congrArg₂ (· * ·) ?_ rfl)
  exact v632A_eq c arg2 harg2 arg3 harg3 arg4 harg4 arg5 harg5 arg6 harg6 arg7 harg7 arg8 harg8 arg9 harg9 arg11 harg11 arg14 arg15 x0 x1 x2 x3 x4 x5 x6 x7 x9 _ _ hy1 k.isLt

/-- The second output's block, at an index. -/
theorem out11A (y : S1x8x5632.Idx) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y = uB x0 x1 x2 x3 x4 x5 (504 + (y 1).val) (y 2).val := by
  unfold out0_A_11
  rw [View.read_writes_junk_eq_canon]
  refine (congrFun (View.canon_cons_unit_zero (S := S1x8x5632) (e := .f32) (Val := Elt Ideal) (off := ![0, 0, 0]) (by decide) inb_S1x8x5632_S1x8x5632_0_0_0
    (k0_pay45 (F := Ideal) (kernelRun0_A.sl.v640 (F := Ideal) c arg2 harg2 arg3 harg3 arg4 harg4 arg5 harg5 arg6 harg6 arg7 harg7 arg11 harg11 arg14 x0 x1 x2 x3 x4 x5 x9)) _) y).trans ?_
  unfold k0_pay45
  pointwise
  exact v640A_eq c arg2 harg2 arg3 harg3 arg4 harg4 arg5 harg5 arg6 harg6 arg7 harg7 arg11 harg11 arg14 x0 x1 x2 x3 x4 x5 x9 _

end Cert.Proof.FF

end

end
-- ==== Proof.FF.SoutA.lean ====
/-
  The rows a step carries on.
-/
module

public import proofs.«01_k».proof.Proof.FF.BodyA
public import Idealize.ShloMosaic.Lib.WritesUnit

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe

variable (c : Dev nD)
    (arg2 : Memref sig .tc .vmem S1x512x1024 .f32) (harg2 : arg2.IsWhole)
    (arg3 : Memref sig .tc .vmem S1x512x512 .bf16) (harg3 : arg3.IsWhole)
    (arg4 : Memref sig .tc .vmem S1x512x512 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1024x5632 .bf16) (harg7 : arg7.IsWhole)
    (arg8 : Memref sig .tc .vmem S3x5632 .f32) (harg8 : arg8.IsWhole)
    (arg9 : Memref sig .tc .vmem S1x5632 .f32) (harg9 : arg9.IsWhole)
    (arg10 : Memref sig .tc .vmem S2816x1024 .bf16) (harg10 : arg10.IsWhole)
    (arg11 : Memref sig .tc .vmem S1x8x5632 .f32) (harg11 : arg11.IsWhole)
    (arg12 : Memref sig .tc .vmem S1x512x1024 .f32) (harg12 : arg12.IsWhole)
    (arg13 : Memref sig .tc .vmem S1x8x5632 .f32) (harg13 : arg13.IsWhole)
    (arg14 : Memref sig .tc .vmem S520x5632 .f32) (harg14 : arg14.IsWhole)
    (arg15 : Memref sig .tc .vmem S512x2816 .bf16) (harg15 : arg15.IsWhole)
    (x0 : Vec Ideal S1x512x1024 .f32) (x1 : Vec Ideal S1x512x512 .bf16) (x2 : Vec Ideal S1x512x512 .bf16)
    (x3 : Vec Ideal S1024x1024 .bf16) (x4 : Vec Ideal S1x1024 .f32) (x5 : Vec Ideal S1024x5632 .bf16)
    (x6 : Vec Ideal S3x5632 .f32) (x7 : Vec Ideal S1x5632 .f32) (x8 : Vec Ideal S2816x1024 .bf16) (x9 : Vec Ideal S1x8x5632 .f32)

variable (i : grid0.Coords) (hc0 : cond0_0 i)

/-- What the point leaves in the rows it carries. -/
theorem slistA : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.1 = (⟨Rect.unit (s := S520x5632) ![0, 0] S8x5632.size inb_S520x5632_S8x5632_0_0,
      k0_pay46 (F := Ideal) (kernelRun0_A.sl.v640 (F := Ideal) c arg2 harg2 arg3 harg3 arg4 harg4 arg5 harg5 arg6 harg6 arg7 harg7 arg11 harg11 arg14 x0 x1 x2 x3 x4 x5 x9)⟩ : View.Piece (Elt Ideal) S520x5632 .f32) :: kernelRun0_A.sl.HS0_2 (F := Ideal) c arg2 harg2 arg3 harg3 arg4 harg4 arg5 harg5 arg6 harg6 arg7 harg7 arg11 harg11 x0 x1 x2 x3 x4 x5 x9 := rfl

/-- A carried row, over any later writes' list. -/
theorem srowA (L : List (View.Piece (Elt Ideal) S520x5632 .f32)) (w : Vec Ideal S8x5632 .f32) (y : S520x5632.Idx) (x : S8x5632.Idx)
    (h0 : (y 0).val = (x 0).val) (h1 : (y 1).val = (x 1).val) :
    View.canon ((⟨Rect.unit (s := S520x5632) ![0, 0] S8x5632.size inb_S520x5632_S8x5632_0_0, w⟩ : View.Piece (Elt Ideal) S520x5632 .f32) :: L) y = w x := by
  have e : y = (Rect.unit (s := S520x5632) ![0, 0] S8x5632.size inb_S520x5632_S8x5632_0_0).emb x := by
    funext a
    apply Fin.ext
    refine Eq.trans ?_ (Rect.idx_unit_val _ _ inb_S520x5632_S8x5632_0_0 x a).symm
    match a with
    | ⟨0, _⟩ => exact h0.trans (Nat.zero_add _).symm
    | ⟨1, _⟩ => exact h1.trans (Nat.zero_add _).symm
  rw [e, View.canon_cons_emb]

/-- The rows the point carries on, at an index. -/
theorem soutA (y : S520x5632.Idx) (hy : (y 0).val < 8) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y = uB x0 x1 x2 x3 x4 x5 (504 + (y 0).val) (y 1).val := by
  have h1 : (y 1).val < 5632 := (y 1).isLt
  unfold sout0_A_0
  rw [View.read_writes_junk_eq_canon, slistA]
  refine (srowA _ _ y (ix2 (⟨(y 0).val, hy⟩ : Fin 8) (⟨(y 1).val, h1⟩ : Fin 5632)) rfl rfl).trans ?_
  generalize hx : (ix2 (⟨(y 0).val, hy⟩ : Fin 8) (⟨(y 1).val, h1⟩ : Fin 5632) : S8x5632.Idx) = x
  have e0 : (x 0).val = (y 0).val := by rw [← hx]
  have e1 : (x 1).val = (y 1).val := by rw [← hx]
  unfold k0_pay46
  simp only [shapeCast_self]
  rw [v640A_eq, e0, e1]

end Cert.Proof.FF

end

end
-- ==== Proof.FF.BodyB.lean ====
/-
  A panel's later steps: what their blocks hold.
-/
module

public import proofs.«01_k».proof.Proof.FF.Act
public import Idealize.ShloMosaic.Lib.WritesUnit

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe

variable (c : Dev nD)
    (arg2 : Memref sig .tc .vmem S1x512x1024 .f32) (harg2 : arg2.IsWhole)
    (arg3 : Memref sig .tc .vmem S1x512x512 .bf16) (harg3 : arg3.IsWhole)
    (arg4 : Memref sig .tc .vmem S1x512x512 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1024x5632 .bf16) (harg7 : arg7.IsWhole)
    (arg8 : Memref sig .tc .vmem S3x5632 .f32) (harg8 : arg8.IsWhole)
    (arg9 : Memref sig .tc .vmem S1x5632 .f32) (harg9 : arg9.IsWhole)
    (arg10 : Memref sig .tc .vmem S2816x1024 .bf16) (harg10 : arg10.IsWhole)
    (arg11 : Memref sig .tc .vmem S1x8x5632 .f32) (harg11 : arg11.IsWhole)
    (arg12 : Memref sig .tc .vmem S1x512x1024 .f32) (harg12 : arg12.IsWhole)
    (arg13 : Memref sig .tc .vmem S1x8x5632 .f32) (harg13 : arg13.IsWhole)
    (arg14 : Memref sig .tc .vmem S520x5632 .f32) (harg14 : arg14.IsWhole)
    (arg15 : Memref sig .tc .vmem S512x2816 .bf16) (harg15 : arg15.IsWhole)
    (x0 : Vec Ideal S1x512x1024 .f32) (x1 : Vec Ideal S1x512x512 .bf16) (x2 : Vec Ideal S1x512x512 .bf16)
    (x3 : Vec Ideal S1024x1024 .bf16) (x4 : Vec Ideal S1x1024 .f32) (x5 : Vec Ideal S1024x5632 .bf16)
    (x6 : Vec Ideal S3x5632 .f32) (x7 : Vec Ideal S1x5632 .f32) (x8 : Vec Ideal S2816x1024 .bf16) (x9 : Vec Ideal S1x8x5632 .f32)

variable (xs0 : Vec Ideal S520x5632 .f32)

/-- The padded buffer the chunks read. -/
abbrev bufB : Vec Ideal S520x5632 .f32 :=
  arg14.view.read (Elt Ideal) (arg14.view.writes (Elt Ideal) (harg14.unread xs0) (kernelRun0_B.sl.HS0_1 (F := Ideal) c arg2 harg2 arg3 harg3 arg4 harg4 arg5 harg5 arg6 harg6 arg7 harg7 x0 x1 x2 x3 x4 x5))

set_option maxHeartbeats 4000000 in
/-- The product's buffer, at an index. -/
theorem actB_raw (y : S512x2816.Idx) :
    View.canon (kernelRun0_B.sl.HS1_11 (F := Ideal) c arg2 harg2 arg3 harg3 arg4 harg4 arg5 harg5 arg6 harg6 arg7 harg7 arg8 harg8 arg9 harg9 arg14 harg14 x0 x1 x2 x3 x4 x5 x6 x7 xs0) y
      = actG (bufB c arg2 harg2 arg3 harg3 arg4 harg4 arg5 harg5 arg6 harg6 arg7 harg7 arg14 harg14 x0 x1 x2 x3 x4 x5 xs0) (rd6 arg8 harg8 x6) (rd7 arg9 harg9 x7) y := by
  suffices hG : View.PiecesOf (Val := Elt Ideal) (s := S512x2816) (e := .bf16)
      (actG (bufB c arg2 harg2 arg3 harg3 arg4 harg4 arg5 harg5 arg6 harg6 arg7 harg7 arg14 harg14 x0 x1 x2 x3 x4 x5 xs0) (rd6 arg8 harg8 x6) (rd7 arg9 harg9 x7))
      (kernelRun0_B.sl.HS1_11 (F := Ideal) c arg2 harg2 arg3 harg3 arg4 harg4 arg5 harg5 arg6 harg6 arg7 harg7 arg8 harg8 arg9 harg9 arg14 harg14 x0 x1 x2 x3 x4 x5 x6 x7 xs0) by
    exact View.canon_apply_of_pieces (Val := Elt Ideal) (S := S512x2816) (e := .bf16) (actG (bufB c arg2 harg2 arg3 harg3 arg4 harg4 arg5 harg5 arg6 harg6 arg7 harg7 arg14 harg14 x0 x1 x2 x3 x4 x5 xs0) (rd6 arg8 harg8 x6) (rd7 arg9 harg9 x7)) _ hG.mem y
      (View.cover_of_tiledL _ ![512, 256] (by sl_kernel_rfl) y)
  refine ⟨?_, ?_, ?_, ?_, ?_, ?_, ?_, ?_, ?_, ?_, ?_, trivial⟩
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 2560 5376 rfl inb_S520x5632_S520x256_0_2560 inb_S1x5632_S1x256_0_2560 inb_S3x5632_S1x256_0_2560 inb_S3x5632_S1x256_1_2560 inb_S3x5632_S1x256_2_2560 inb_S520x5632_S520x256_0_5376 inb_S1x5632_S1x256_0_5376 inb_S3x5632_S1x256_0_5376 inb_S3x5632_S1x256_1_5376 inb_S3x5632_S1x256_2_5376 x).trans ?_
    refine congrArg₂ (aS _ _ _) ?_ ?_
    · exact ((Rect.idx_unit_val _ _ inb_S512x2816_S512x256_0_2560 x 0).trans (Nat.zero_add _)).symm
    · exact (Rect.idx_unit_val _ _ inb_S512x2816_S512x256_0_2560 x 1).symm
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 2304 5120 rfl inb_S520x5632_S520x256_0_2304 inb_S1x5632_S1x256_0_2304 inb_S3x5632_S1x256_0_2304 inb_S3x5632_S1x256_1_2304 inb_S3x5632_S1x256_2_2304 inb_S520x5632_S520x256_0_5120 inb_S1x5632_S1x256_0_5120 inb_S3x5632_S1x256_0_5120 inb_S3x5632_S1x256_1_5120 inb_S3x5632_S1x256_2_5120 x).trans ?_
    refine congrArg₂ (aS _ _ _) ?_ ?_
    · exact ((Rect.idx_unit_val _ _ inb_S512x2816_S512x256_0_2304 x 0).trans (Nat.zero_add _)).symm
    · exact (Rect.idx_unit_val _ _ inb_S512x2816_S512x256_0_2304 x 1).symm
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 2048 4864 rfl inb_S520x5632_S520x256_0_2048 inb_S1x5632_S1x256_0_2048 inb_S3x5632_S1x256_0_2048 inb_S3x5632_S1x256_1_2048 inb_S3x5632_S1x256_2_2048 inb_S520x5632_S520x256_0_4864 inb_S1x5632_S1x256_0_4864 inb_S3x5632_S1x256_0_4864 inb_S3x5632_S1x256_1_4864 inb_S3x5632_S1x256_2_4864 x).trans ?_
    refine congrArg₂ (aS _ _ _) ?_ ?_
    · exact ((Rect.idx_unit_val _ _ inb_S512x2816_S512x256_0_2048 x 0).trans (Nat.zero_add _)).symm
    · exact (Rect.idx_unit_val _ _ inb_S512x2816_S512x256_0_2048 x 1).symm
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 1792 4608 rfl inb_S520x5632_S520x256_0_1792 inb_S1x5632_S1x256_0_1792 inb_S3x5632_S1x256_0_1792 inb_S3x5632_S1x256_1_1792 inb_S3x5632_S1x256_2_1792 inb_S520x5632_S520x256_0_4608 inb_S1x5632_S1x256_0_4608 inb_S3x5632_S1x256_0_4608 inb_S3x5632_S1x256_1_4608 inb_S3x5632_S1x256_2_4608 x).trans ?_
    refine congrArg₂ (aS _ _ _) ?_ ?_
    · exact ((Rect.idx_unit_val _ _ inb_S512x2816_S512x256_0_1792 x 0).trans (Nat.zero_add _)).symm
    · exact (Rect.idx_unit_val _ _ inb_S512x2816_S512x256_0_1792 x 1).symm
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 1536 4352 rfl inb_S520x5632_S520x256_0_1536 inb_S1x5632_S1x256_0_1536 inb_S3x5632_S1x256_0_1536 inb_S3x5632_S1x256_1_1536 inb_S3x5632_S1x256_2_1536 inb_S520x5632_S520x256_0_4352 inb_S1x5632_S1x256_0_4352 inb_S3x5632_S1x256_0_4352 inb_S3x5632_S1x256_1_4352 inb_S3x5632_S1x256_2_4352 x).trans ?_
    refine congrArg₂ (aS _ _ _) ?_ ?_
    · exact ((Rect.idx_unit_val _ _ inb_S512x2816_S512x256_0_1536 x 0).trans (Nat.zero_add _)).symm
    · exact (Rect.idx_unit_val _ _ inb_S512x2816_S512x256_0_1536 x 1).symm
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 1280 4096 rfl inb_S520x5632_S520x256_0_1280 inb_S1x5632_S1x256_0_1280 inb_S3x5632_S1x256_0_1280 inb_S3x5632_S1x256_1_1280 inb_S3x5632_S1x256_2_1280 inb_S520x5632_S520x256_0_4096 inb_S1x5632_S1x256_0_4096 inb_S3x5632_S1x256_0_4096 inb_S3x5632_S1x256_1_4096 inb_S3x5632_S1x256_2_4096 x).trans ?_
    refine congrArg₂ (aS _ _ _) ?_ ?_
    · exact ((Rect.idx_unit_val _ _ inb_S512x2816_S512x256_0_1280 x 0).trans (Nat.zero_add _)).symm
    · exact (Rect.idx_unit_val _ _ inb_S512x2816_S512x256_0_1280 x 1).symm
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 1024 3840 rfl inb_S520x5632_S520x256_0_1024 inb_S1x5632_S1x256_0_1024 inb_S3x5632_S1x256_0_1024 inb_S3x5632_S1x256_1_1024 inb_S3x5632_S1x256_2_1024 inb_S520x5632_S520x256_0_3840 inb_S1x5632_S1x256_0_3840 inb_S3x5632_S1x256_0_3840 inb_S3x5632_S1x256_1_3840 inb_S3x5632_S1x256_2_3840 x).trans ?_
    refine congrArg₂ (aS _ _ _) ?_ ?_
    · exact ((Rect.idx_unit_val _ _ inb_S512x2816_S512x256_0_1024 x 0).trans (Nat.zero_add _)).symm
    · exact (Rect.idx_unit_val _ _ inb_S512x2816_S512x256_0_1024 x 1).symm
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 768 3584 rfl inb_S520x5632_S520x256_0_768 inb_S1x5632_S1x256_0_768 inb_S3x5632_S1x256_0_768 inb_S3x5632_S1x256_1_768 inb_S3x5632_S1x256_2_768 inb_S520x5632_S520x256_0_3584 inb_S1x5632_S1x256_0_3584 inb_S3x5632_S1x256_0_3584 inb_S3x5632_S1x256_1_3584 inb_S3x5632_S1x256_2_3584 x).trans ?_
    refine congrArg₂ (aS _ _ _) ?_ ?_
    · exact ((Rect.idx_unit_val _ _ inb_S512x2816_S512x256_0_768 x 0).trans (Nat.zero_add _)).symm
    · exact (Rect.idx_unit_val _ _ inb_S512x2816_S512x256_0_768 x 1).symm
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 512 3328 rfl inb_S520x5632_S520x256_0_512 inb_S1x5632_S1x256_0_512 inb_S3x5632_S1x256_0_512 inb_S3x5632_S1x256_1_512 inb_S3x5632_S1x256_2_512 inb_S520x5632_S520x256_0_3328 inb_S1x5632_S1x256_0_3328 inb_S3x5632_S1x256_0_3328 inb_S3x5632_S1x256_1_3328 inb_S3x5632_S1x256_2_3328 x).trans ?_
    refine congrArg₂ (aS _ _ _) ?_ ?_
    · exact ((Rect.idx_unit_val _ _ inb_S512x2816_S512x256_0_512 x 0).trans (Nat.zero_add _)).symm
    · exact (Rect.idx_unit_val _ _ inb_S512x2816_S512x256_0_512 x 1).symm
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 256 3072 rfl inb_S520x5632_S520x256_0_256 inb_S1x5632_S1x256_0_256 inb_S3x5632_S1x256_0_256 inb_S3x5632_S1x256_1_256 inb_S3x5632_S1x256_2_256 inb_S520x5632_S520x256_0_3072 inb_S1x5632_S1x256_0_3072 inb_S3x5632_S1x256_0_3072 inb_S3x5632_S1x256_1_3072 inb_S3x5632_S1x256_2_3072 x).trans ?_
    refine congrArg₂ (aS _ _ _) ?_ ?_
    · exact ((Rect.idx_unit_val _ _ inb_S512x2816_S512x256_0_256 x 0).trans (Nat.zero_add _)).symm
    · exact (Rect.idx_unit_val _ _ inb_S512x2816_S512x256_0_256 x 1).symm
  · intro x
    refine (gate_apply (bufB c arg2 harg2 arg3 harg3 arg4 harg4 arg5 harg5 arg6 harg6 arg7 harg7 arg14 harg14 x0 x1 x2 x3 x4 x5 xs0) (rd6 arg8 harg8 x6) (rd7 arg9 harg9 x7) 0 2816 rfl inb_S520x5632_S520x256_0_0 inb_S1x5632_S1x256_0_0 inb_S3x5632_S1x256_0_0 inb_S3x5632_S1x256_1_0 inb_S3x5632_S1x256_2_0 inb_S520x5632_S520x256_0_2816 inb_S1x5632_S1x256_0_2816 inb_S3x5632_S1x256_0_2816 inb_S3x5632_S1x256_1_2816 inb_S3x5632_S1x256_2_2816 x).trans ?_
    refine congrArg₂ (aS _ _ _) ?_ ?_
    · exact ((Rect.idx_unit_val _ _ inb_S512x2816_S512x256_0_0 x 0).trans (Nat.zero_add _)).symm
    · exact (Rect.idx_unit_val _ _ inb_S512x2816_S512x256_0_0 x 1).symm

theorem rB_eq : kernelRun0_B.sl.r (F := Ideal) c arg2 harg2 arg3 harg3 arg4 harg4 arg5 harg5 x0 x1 x2 x3 = k0_pay2 (F := Ideal) x0 x1 (wTop x3) x2 (wBot x3) := by
  unfold kernelRun0_B.sl.r
  simp (disch := decide) only [View.readAt_eq_ld, Memref.IsWhole.read_unread, View.ld_unit_lit']

theorem r1B_eq : kernelRun0_B.sl.r_1 (F := Ideal) c arg2 harg2 arg3 harg3 arg4 harg4 arg5 harg5 arg6 harg6 x0 x1 x2 x3 x4 = k0_pay3 (F := Ideal) x0 x1 (wTop x3) x2 (wBot x3) x4 := by
  unfold kernelRun0_B.sl.r_1
  simp (disch := decide) only [View.readAt_eq_ld, Memref.IsWhole.read_unread, View.ld_unit_lit']

theorem r2B_eq : kernelRun0_B.sl.r_2 (F := Ideal) c arg7 harg7 x5 = x5 := by
  unfold kernelRun0_B.sl.r_2
  simp (disch := decide) only [View.readAt_eq_ld, Memref.IsWhole.read_unread, View.ld_unit_lit']

/-- A later row of the padded buffer, over any prior contents, is a row of the up-projection. -/
theorem upB (f : arg14.view.ty.Contents (Elt Ideal)) (y : S520x5632.Idx) (hy : 8 ≤ (y 0).val) :
    arg14.view.read (Elt Ideal) (arg14.view.writes (Elt Ideal) f (kernelRun0_B.sl.HS0_1 (F := Ideal) c arg2 harg2 arg3 harg3 arg4 harg4 arg5 harg5 arg6 harg6 arg7 harg7 x0 x1 x2 x3 x4 x5)) y
      = uB x0 x1 x2 x3 x4 x5 ((y 0).val - 8) (y 1).val := by
  have h0 : (y 0).val < 520 := (y 0).isLt
  have h1 : (y 1).val < 5632 := (y 1).isLt
  refine (View.read_writes_cons_rows_of_mem arg14.view f (o := 8) inb_S520x5632_S512x5632_8_0 _ _ y
    (ix2 (⟨(y 0).val - 8, by omega⟩ : Fin 512) (⟨(y 1).val, h1⟩ : Fin 5632)) rfl ?_ rfl).trans ?_
  · show (y 0).val = 8 + ((y 0).val - 8); omega
  · rw [r1B_eq, r2B_eq, pay4_apply]

/-- A halo row of the padded buffer. -/
theorem haloB (y : S520x5632.Idx) (hy : (y 0).val < 8) : (bufB c arg2 harg2 arg3 harg3 arg4 harg4 arg5 harg5 arg6 harg6 arg7 harg7 arg14 harg14 x0 x1 x2 x3 x4 x5 xs0) y = e2 xs0 (y 0).val (y 1).val := by
  refine (View.read_writes_cons_rows_of_not_mem arg14.view _ (o := 8) (W := 512) inb_S520x5632_S512x5632_8_0 _ _ y rfl rfl (Or.inl hy)).trans ?_
  refine (congrFun (harg14.read_unread xs0) y).trans ?_
  exact e2_eq xs0 y rfl rfl

/-- The padded columns the chunks convolve. -/
theorem padB (q l : ℕ) (hq : q < 514) (hl : l < 5632) :
    padP (bufB c arg2 harg2 arg3 harg3 arg4 harg4 arg5 harg5 arg6 harg6 arg7 harg7 arg14 harg14 x0 x1 x2 x3 x4 x5 xs0) q l = pS (fun q => e2 xs0 (q + 6)) (uB x0 x1 x2 x3 x4 x5) q l := by
  unfold padP pS
  have e := e2_eq (bufB c arg2 harg2 arg3 harg3 arg4 harg4 arg5 harg5 arg6 harg6 arg7 harg7 arg14 harg14 x0 x1 x2 x3 x4 x5 xs0) (ix2 (⟨q + 6, by omega⟩ : Fin 520) (⟨l, hl⟩ : Fin 5632)) (a := q + 6) (b := l) rfl rfl
  rw [← e]
  split
  · rename_i h
    exact haloB c arg2 harg2 arg3 harg3 arg4 harg4 arg5 harg5 arg6 harg6 arg7 harg7 arg14 harg14 x0 x1 x2 x3 x4 x5 xs0 _ (show q + 6 < 8 by omega)
  · rename_i h
    refine (upB c arg2 harg2 arg3 harg3 arg4 harg4 arg5 harg5 arg6 harg6 arg7 harg7 arg14 x0 x1 x2 x3 x4 x5 _ _ (show 8 ≤ q + 6 by omega)).trans ?_
    show uB x0 x1 x2 x3 x4 x5 (q + 6 - 8) l = _
    rw [show q + 6 - 8 = q - 2 by omega]

/-- The product's buffer, read whole, at natural numbers in range. -/
theorem v632B_eq (a b : ℕ) (ha : a < 512) (hb : b < 2816) :
    e2 (kernelRun0_B.sl.v632 (F := Ideal) c arg2 harg2 arg3 harg3 arg4 harg4 arg5 harg5 arg6 harg6 arg7 harg7 arg8 harg8 arg9 harg9 arg14 harg14 arg15 x0 x1 x2 x3 x4 x5 x6 x7 xs0 : Vec Ideal S512x2816 .bf16) a b
      = aS (pS (fun q => e2 xs0 (q + 6)) (uB x0 x1 x2 x3 x4 x5)) (e2 x6) (e2 x7 0) a b := by
  refine (e2_eq (A := 512) (B := 2816) _ (ix2 (⟨a, ha⟩ : Fin 512) (⟨b, hb⟩ : Fin 2816)) rfl rfl).symm.trans ?_
  unfold kernelRun0_B.sl.v632
  rw [View.readCov_eq_canon']
  refine (actB_raw c arg2 harg2 arg3 harg3 arg4 harg4 arg5 harg5 arg6 harg6 arg7 harg7 arg8 harg8 arg9 harg9 arg14 harg14 x0 x1 x2 x3 x4 x5 x6 x7 xs0 _).trans ?_
  unfold actG rd6 rd7
  rw [harg8.read_unread, harg9.read_unread]
  have q0 : ((Rect.unit (s := S512x2816) ![0, 0] S512x2816.size inb_S512x2816_S512x2816_0_0).idx (ix2 (⟨a, ha⟩ : Fin 512) (⟨b, hb⟩ : Fin 2816)) 0).val = a :=
    (Rect.idx_unit_val _ _ inb_S512x2816_S512x2816_0_0 _ 0).trans (Nat.zero_add _)
  have q1 : ((Rect.unit (s := S512x2816) ![0, 0] S512x2816.size inb_S512x2816_S512x2816_0_0).idx (ix2 (⟨a, ha⟩ : Fin 512) (⟨b, hb⟩ : Fin 2816)) 1).val = b :=
    (Rect.idx_unit_val _ _ inb_S512x2816_S512x2816_0_0 _ 1).trans (Nat.zero_add _)
  refine (congrArg₂ (aS _ _ _) q0 q1).trans ?_
  unfold aS cS
  simp only [padB c arg2 harg2 arg3 harg3 arg4 harg4 arg5 harg5 arg6 harg6 arg7 harg7 arg14 harg14 x0 x1 x2 x3 x4 x5 xs0 a b (by omega) (by omega), padB c arg2 harg2 arg3 harg3 arg4 harg4 arg5 harg5 arg6 harg6 arg7 harg7 arg14 harg14 x0 x1 x2 x3 x4 x5 xs0 (a + 1) b (by omega) (by omega),
    padB c arg2 harg2 arg3 harg3 arg4 harg4 arg5 harg5 arg6 harg6 arg7 harg7 arg14 harg14 x0 x1 x2 x3 x4 x5 xs0 (a + 2) b (by omega) (by omega),
    padB c arg2 harg2 arg3 harg3 arg4 harg4 arg5 harg5 arg6 harg6 arg7 harg7 arg14 harg14 x0 x1 x2 x3 x4 x5 xs0 a (2816 + b) (by omega) (by omega), padB c arg2 harg2 arg3 harg3 arg4 harg4 arg5 harg5 arg6 harg6 arg7 harg7 arg14 harg14 x0 x1 x2 x3 x4 x5 xs0 (a + 1) (2816 + b) (by omega) (by omega),
    padB c arg2 harg2 arg3 harg3 arg4 harg4 arg5 harg5 arg6 harg6 arg7 harg7 arg14 harg14 x0 x1 x2 x3 x4 x5 xs0 (a + 2) (2816 + b) (by omega) (by omega)]

/-- The tail the point leaves, at an index. -/
theorem v640B_eq (y : S8x5632.Idx) : kernelRun0_B.sl.v640 (F := Ideal) c arg2 harg2 arg3 harg3 arg4 harg4 arg5 harg5 arg6 harg6 arg7 harg7 arg14 x0 x1 x2 x3 x4 x5 y = uB x0 x1 x2 x3 x4 x5 (504 + (y 0).val) (y 1).val := by
  unfold kernelRun0_B.sl.v640
  have q0 : ((Rect.unit (s := S520x5632) ![512, 0] S8x5632.size inb_S520x5632_S8x5632_512_0).idx y 0).val = 512 + (y 0).val :=
    Rect.idx_unit_val _ _ inb_S520x5632_S8x5632_512_0 _ 0
  have q1 : ((Rect.unit (s := S520x5632) ![512, 0] S8x5632.size inb_S520x5632_S8x5632_512_0).idx y 1).val = (y 1).val :=
    (Rect.idx_unit_val _ _ inb_S520x5632_S8x5632_512_0 _ 1).trans (Nat.zero_add _)
  refine (upB c arg2 harg2 arg3 harg3 arg4 harg4 arg5 harg5 arg6 harg6 arg7 harg7 arg14 x0 x1 x2 x3 x4 x5 arg14.view.junk
    ((Rect.unit (s := S520x5632) ![512, 0] S8x5632.size inb_S520x5632_S8x5632_512_0).idx y) ?_).trans ?_
  · rw [q0]; omega
  · rw [q0, q1]
    congr 1
    omega

variable (i : grid0.Coords) (hc0 : ¬cond0_0 i)

set_option maxHeartbeats 4000000 in
/-- The first output's block, at an index. -/
theorem out10B (y : S1x512x1024.Idx) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 y
      = yS (hB x0 x1 x2 x3) (aS (pS (fun q => e2 xs0 (q + 6)) (uB x0 x1 x2 x3 x4 x5)) (e2 x6) (e2 x7 0)) (e2 x8) (y 1).val (y 2).val := by
  have hy1 : (y 1).val < 512 := (y 1).isLt
  unfold out0_B_10
  rw [View.read_writes_junk_eq_canon]
  refine (congrFun (View.canon_cons_unit_zero (S := S1x512x1024) (e := .f32) (Val := Elt Ideal) (off := ![0, 0, 0]) (by decide) inb_S1x512x1024_S1x512x1024_0_0_0
    (k0_pay44 (F := Ideal) (kernelRun0_B.sl.r (F := Ideal) c arg2 harg2 arg3 harg3 arg4 harg4 arg5 harg5 x0 x1 x2 x3)
      (kernelRun0_B.sl.v632 (F := Ideal) c arg2 harg2 arg3 harg3 arg4 harg4 arg5 harg5 arg6 harg6 arg7 harg7 arg8 harg8 arg9 harg9 arg14 harg14 arg15 x0 x1 x2 x3 x4 x5 x6 x7 xs0)
      (View.readAt (Elt Ideal) arg10.view (Rect.unit (s := S2816x1024) ![0, 0] S2816x1024.size inb_S2816x1024_S2816x1024_0_0).toLoadRect (harg10.unread x8))) _) y).trans ?_
  rw [rB_eq]
  simp (disch := decide) only [View.readAt_eq_ld, Memref.IsWhole.read_unread, View.ld_unit_lit']
  refine (pay44_apply x0 x1 x2 x3 x8 _ y).trans ?_
  unfold yS
  refine congrArg₂ (· + ·) rfl (Finset.sum_congr rfl fun k _ => congrArg₂ (· * ·) ?_ rfl)
  exact v632B_eq c arg2 harg2 arg3 harg3 arg4 harg4 arg5 harg5 arg6 harg6 arg7 harg7 arg8 harg8 arg9 harg9 arg14 harg14 arg15 x0 x1 x2 x3 x4 x5 x6 x7 xs0 _ _ hy1 k.isLt

/-- The second output's block, at an index. -/
theorem out11B (y : S1x8x5632.Idx) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 y = uB x0 x1 x2 x3 x4 x5 (504 + (y 1).val) (y 2).val := by
  unfold out0_B_11
  rw [View.read_writes_junk_eq_canon]
  refine (congrFun (View.canon_cons_unit_zero (S := S1x8x5632) (e := .f32) (Val := Elt Ideal) (off := ![0, 0, 0]) (by decide) inb_S1x8x5632_S1x8x5632_0_0_0
    (k0_pay45 (F := Ideal) (kernelRun0_B.sl.v640 (F := Ideal) c arg2 harg2 arg3 harg3 arg4 harg4 arg5 harg5 arg6 harg6 arg7 harg7 arg14 x0 x1 x2 x3 x4 x5)) _) y).trans ?_
  unfold k0_pay45
  pointwise
  exact v640B_eq c arg2 harg2 arg3 harg3 arg4 harg4 arg5 harg5 arg6 harg6 arg7 harg7 arg14 x0 x1 x2 x3 x4 x5 _

end Cert.Proof.FF

end

end
-- ==== Proof.FF.SoutB.lean ====
/-
  The rows a step carries on.
-/
module

public import proofs.«01_k».proof.Proof.FF.BodyB
public import Idealize.ShloMosaic.Lib.WritesUnit

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe

variable (c : Dev nD)
    (arg2 : Memref sig .tc .vmem S1x512x1024 .f32) (harg2 : arg2.IsWhole)
    (arg3 : Memref sig .tc .vmem S1x512x512 .bf16) (harg3 : arg3.IsWhole)
    (arg4 : Memref sig .tc .vmem S1x512x512 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1024x5632 .bf16) (harg7 : arg7.IsWhole)
    (arg8 : Memref sig .tc .vmem S3x5632 .f32) (harg8 : arg8.IsWhole)
    (arg9 : Memref sig .tc .vmem S1x5632 .f32) (harg9 : arg9.IsWhole)
    (arg10 : Memref sig .tc .vmem S2816x1024 .bf16) (harg10 : arg10.IsWhole)
    (arg11 : Memref sig .tc .vmem S1x8x5632 .f32) (harg11 : arg11.IsWhole)
    (arg12 : Memref sig .tc .vmem S1x512x1024 .f32) (harg12 : arg12.IsWhole)
    (arg13 : Memref sig .tc .vmem S1x8x5632 .f32) (harg13 : arg13.IsWhole)
    (arg14 : Memref sig .tc .vmem S520x5632 .f32) (harg14 : arg14.IsWhole)
    (arg15 : Memref sig .tc .vmem S512x2816 .bf16) (harg15 : arg15.IsWhole)
    (x0 : Vec Ideal S1x512x1024 .f32) (x1 : Vec Ideal S1x512x512 .bf16) (x2 : Vec Ideal S1x512x512 .bf16)
    (x3 : Vec Ideal S1024x1024 .bf16) (x4 : Vec Ideal S1x1024 .f32) (x5 : Vec Ideal S1024x5632 .bf16)
    (x6 : Vec Ideal S3x5632 .f32) (x7 : Vec Ideal S1x5632 .f32) (x8 : Vec Ideal S2816x1024 .bf16) (x9 : Vec Ideal S1x8x5632 .f32)

variable (xs0 : Vec Ideal S520x5632 .f32)

variable (i : grid0.Coords) (hc0 : ¬cond0_0 i)

/-- What the point leaves in the rows it carries. -/
theorem slistB : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).2.2.1 = (⟨Rect.unit (s := S520x5632) ![0, 0] S8x5632.size inb_S520x5632_S8x5632_0_0,
      k0_pay46 (F := Ideal) (kernelRun0_B.sl.v640 (F := Ideal) c arg2 harg2 arg3 harg3 arg4 harg4 arg5 harg5 arg6 harg6 arg7 harg7 arg14 x0 x1 x2 x3 x4 x5)⟩ : View.Piece (Elt Ideal) S520x5632 .f32) :: kernelRun0_B.sl.HS0_1 (F := Ideal) c arg2 harg2 arg3 harg3 arg4 harg4 arg5 harg5 arg6 harg6 arg7 harg7 x0 x1 x2 x3 x4 x5 := rfl

/-- A carried row, over any later writes' list. -/
theorem srowB (L : List (View.Piece (Elt Ideal) S520x5632 .f32)) (w : Vec Ideal S8x5632 .f32) (y : S520x5632.Idx) (x : S8x5632.Idx)
    (h0 : (y 0).val = (x 0).val) (h1 : (y 1).val = (x 1).val) :
    View.canon ((⟨Rect.unit (s := S520x5632) ![0, 0] S8x5632.size inb_S520x5632_S8x5632_0_0, w⟩ : View.Piece (Elt Ideal) S520x5632 .f32) :: L) y = w x := by
  have e : y = (Rect.unit (s := S520x5632) ![0, 0] S8x5632.size inb_S520x5632_S8x5632_0_0).emb x := by
    funext a
    apply Fin.ext
    refine Eq.trans ?_ (Rect.idx_unit_val _ _ inb_S520x5632_S8x5632_0_0 x a).symm
    match a with
    | ⟨0, _⟩ => exact h0.trans (Nat.zero_add _).symm
    | ⟨1, _⟩ => exact h1.trans (Nat.zero_add _).symm
  rw [e, View.canon_cons_emb]

/-- The rows the point carries on, at an index. -/
theorem soutB (y : S520x5632.Idx) (hy : (y 0).val < 8) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 y = uB x0 x1 x2 x3 x4 x5 (504 + (y 0).val) (y 1).val := by
  have h1 : (y 1).val < 5632 := (y 1).isLt
  unfold sout0_B_0
  rw [View.read_writes_junk_eq_canon, slistB]
  refine (srowB _ _ y (ix2 (⟨(y 0).val, hy⟩ : Fin 8) (⟨(y 1).val, h1⟩ : Fin 5632)) rfl rfl).trans ?_
  generalize hx : (ix2 (⟨(y 0).val, hy⟩ : Fin 8) (⟨(y 1).val, h1⟩ : Fin 5632) : S8x5632.Idx) = x
  have e0 : (x 0).val = (y 0).val := by rw [← hx]
  have e1 : (x 1).val = (y 1).val := by rw [← hx]
  unfold k0_pay46
  simp only [shapeCast_self]
  rw [v640B_eq, e0, e1]

end Cert.Proof.FF

end

end
-- ==== Proof.FF.Array.lean ====
/-
  What the region leaves in the results' arrays.
-/
module

public import proofs.«01_k».proof.Proof.FF.Blk
public import proofs.«01_k».proof.Proof.FF.SoutA
public import proofs.«01_k».proof.Proof.FF.SoutB

@[expose] public section

set_option maxRecDepth 65536

noncomputable section

namespace Cert.Proof.FF

open Cert.Kernel2Ideal Cert.Kernel2Ideal.Gen

open Idealize.ShloMosaic hiding ix1 ix2 ix3 ix4 eq_ix1 eq_ix2 eq_ix3 eq_ix4
open Idealize.ShloMosaic.ValueIdx
open Idealize.ShloMosaic.TcCoe

variable (m : (ℓ : Loc nD τ sig) → Buf (Elt Ideal) ℓ) (c : Dev nD)

/-- What a point leaves for the next: its last rows' columns. -/
theorem carried (t : Fin cfg0.N) {q l : ℕ} (hq : q < 8) (hl : l < 5632) :
    e2 (A := 520) (B := 5632) (outsAt0 m c t.val t.isLt).2.2 q l = mU m c (t.val / 8) (512 * (t.val % 8) + (504 + q)) l := by
  rw [e2_in _ (by omega : q < 520) hl]
  by_cases h0 : t.val % 8 = 0
  · rw [outsAt0_A m c t h0]
    dsimp only
    rw [soutA (hy := hq)]
    exact blkU m c t l (by omega : 504 + q < 512)
  · rw [outsAt0_B m c t h0]
    dsimp only
    rw [soutB (hy := hq)]
    exact blkU m c t l (by omega : 504 + q < 512)

/-- A point's block of the first result. -/
theorem first_at (t : Fin cfg0.N) (y : S1x512x1024.Idx) :
    (outsAt0 m c t.val t.isLt).1 y = mY m c (t.val / 8) (512 * (t.val % 8) + (y 1).val) (y 2).val := by
  have h1 : (y 1).val < 512 := (y 1).isLt
  have h2 : (y 2).val < 1024 := (y 2).isLt
  by_cases h0 : t.val % 8 = 0
  · rw [outsAt0_A m c t h0]
    dsimp only
    rw [out10A]
    refine blkY m c t _ (fun q l hq hl => ?_) h1 h2
    rw [h0, mP, PG, pS, if_pos (by omega)]
    refine (blk9 m c t hq hl).trans ?_
    congr 1
    omega
  · have hN : t.val < 128 := lt_of_lt_of_eq t.isLt (show cfg0.N = 128 from N_0)
    have hp : t.val - 1 < cfg0.N := lt_of_le_of_lt (Nat.sub_le _ _) t.isLt
    rw [outsAt0_B m c t h0]
    dsimp only
    rw [out10B]
    refine blkY m c t _ (fun q l hq hl => ?_) h1 h2
    rw [mP, PG, pS, if_neg (by omega)]
    refine (carried m c ⟨t.val - 1, hp⟩ (by omega : q + 6 < 8) hl).trans ?_
    show mU m c ((t.val - 1) / 8) (512 * ((t.val - 1) % 8) + (504 + (q + 6))) l = _
    have ea : (t.val - 1) / 8 = t.val / 8 := by omega
    have eb : 512 * ((t.val - 1) % 8) + (504 + (q + 6)) = 512 * (t.val % 8) + q - 2 := by omega
    rw [ea, eb]

/-- A point's block of the second. -/
theorem second_at (t : Fin cfg0.N) (y : S1x8x5632.Idx) :
    (outsAt0 m c t.val t.isLt).2.1 y = mU m c (t.val / 8) (512 * (t.val % 8) + (504 + (y 1).val)) (y 2).val := by
  have h1 : (y 1).val < 8 := (y 1).isLt
  by_cases h0 : t.val % 8 = 0
  · rw [outsAt0_A m c t h0]
    dsimp only
    rw [out11A]
    exact blkU m c t _ (by omega)
  · rw [outsAt0_B m c t h0]
    dsimp only
    rw [out11B]
    exact blkU m c t _ (by omega)

/-- The first result's array, at an index. -/
theorem first_apply (i : S16x4096x1024.Idx) : Value.G10 m c i = mY m c (i 0).val (i 1).val (i 2).val := by
  have h0 : (i 0).val < 16 := (i 0).isLt
  have h1 : (i 1).val < 4096 := (i 1).isLt
  have h2 : (i 2).val < 1024 := (i 2).isLt
  have hp : Value.pt10Of i = 8 * (i 0).val + (i 1).val / 512 := by
    show 8 * ((i 0).val / 1 - 0) + 1 * ((i 1).val / 512 - 0) + 1 * ((i 2).val / 1024 - 0) = _
    omega
  have hlt : Value.pt10Of i < cfg0.N := lt_of_lt_of_eq (by omega) (show cfg0.N = 128 from N_0).symm
  unfold Value.G10
  rw [dif_pos hlt, ← Value.outsAt0_sweep m c _ hlt]
  refine (first_at m c ⟨Value.pt10Of i, hlt⟩ _).trans ?_
  show mY m c (Value.pt10Of i / 8) (512 * (Value.pt10Of i % 8) + (i 1).val % 512) ((i 2).val % 1024) = _
  rw [hp]
  have e0 : (8 * (i 0).val + (i 1).val / 512) / 8 = (i 0).val := by omega
  have e1 : 512 * ((8 * (i 0).val + (i 1).val / 512) % 8) + (i 1).val % 512 = (i 1).val := by omega
  have e2 : (i 2).val % 1024 = (i 2).val := by omega
  rw [e0, e1, e2]

/-- The second result's array, at an index. -/
theorem second_apply (i : S16x8x5632.Idx) : Value.G11 m c i = mU m c (i 0).val (4088 + (i 1).val) (i 2).val := by
  have h0 : (i 0).val < 16 := (i 0).isLt
  have h1 : (i 1).val < 8 := (i 1).isLt
  have h2 : (i 2).val < 5632 := (i 2).isLt
  have hp : Value.pt11Of i = 8 * (i 0).val + 7 := by
    show 8 * (1 * ((i 0).val / 1 - 0) + 1 * ((i 1).val / 8 - 0) + 1 * ((i 2).val / 5632 - 0)) + 7 = _
    omega
  have hlt : Value.pt11Of i < cfg0.N := lt_of_lt_of_eq (by omega) (show cfg0.N = 128 from N_0).symm
  unfold Value.G11
  rw [dif_pos hlt, ← Value.outsAt0_sweep m c _ hlt]
  refine (second_at m c ⟨Value.pt11Of i, hlt⟩ _).trans ?_
  show mU m c (Value.pt11Of i / 8) (512 * (Value.pt11Of i % 8) + (504 + (i 1).val % 8)) ((i 2).val % 5632) = _
  rw [hp]
  have e0 : (8 * (i 0).val + 7) / 8 = (i 0).val := by omega
  have e1 : 512 * ((8 * (i 0).val + 7) % 8) + (504 + (i 1).val % 8) = 4088 + (i 1).val := by omega
  have e2 : (i 2).val % 5632 = (i 2).val := by omega
  rw [e0, e1, e2]

end Cert.Proof.FF

end

end
-- ==== Proof.FF.Swish.lean ====
/-
  The gate's two spellings, and the numbers that are real.
-/
module

public import proofs.«01_k».proof.Proof.FF.Glob

@[expose] public section

set_option maxRecDepth 65536

noncomputable section

namespace Cert.Proof.FF

open Idealize.ShloMosaic hiding ix1 ix2 ix3 ix4 eq_ix1 eq_ix2 eq_ix3 eq_ix4
open Idealize.ShloMosaic.ValueIdx
open Idealize.ShloMosaic.TcCoe

/-- A number that is real. -/
def Re (x : EReal) : Prop := ∃ r : ℝ, x = (r : EReal)

theorem Re.add {x y : EReal} (hx : Re x) (hy : Re y) : Re (x + y) := by
  obtain ⟨a, rfl⟩ := hx
  obtain ⟨b, rfl⟩ := hy
  exact ⟨a + b, (EReal.coe_add a b).symm⟩
theorem Re.mul {x y : EReal} (hx : Re x) (hy : Re y) : Re (x * y) := by
  obtain ⟨a, rfl⟩ := hx
  obtain ⟨b, rfl⟩ := hy
  exact ⟨a * b, (EReal.coe_mul a b).symm⟩
theorem Re.sum {n : ℕ} (f : Fin n → EReal) (h : ∀ k, Re (f k)) : Re (∑ k, f k) := by
  refine Finset.sum_induction f Re (fun _ _ => Re.add) ⟨0, EReal.coe_zero.symm⟩ (fun k _ => h k)

theorem cN_eq : cN = ((1024 : ℝ) : EReal) := by
  simp [Ideal.ofBits, Ideal.ieee, -EReal.coe_mul]
  norm_num
theorem cH_eq : cH = ((1 / 2 : ℝ) : EReal) := by
  simp [Ideal.ofBits, Ideal.ieee, -EReal.coe_mul]
  norm_num
theorem cE_eq : ∃ r : ℝ, 0 < r ∧ cE = (r : EReal) := by
  refine ⟨(8796093 : ℝ) / 2 ^ 43, by positivity, ?_⟩
  simp [Ideal.ofBits, Ideal.ieee, -EReal.coe_mul]
  norm_num

/-- The gate's two spellings agree on a real number. -/
theorem swish {g : EReal} (h : Re g) :
    g * Ideal.div 1 (1 + Ideal.exp (-g)) = cH * g * Ideal.tanh (cH * g) + cH * g := by
  obtain ⟨x, rfl⟩ := h
  have hp : (0 : ℝ) < 1 + Real.exp (-x) := by positivity
  have e1 : (1 : EReal) + Ideal.exp (-(x : EReal)) = ((1 + Real.exp (-x) : ℝ) : EReal) := by
    rw [← EReal.coe_neg, Ideal.exp_coe, ← EReal.coe_one, ← EReal.coe_add]
  rw [e1, Ideal.div_coe hp.ne', cH_eq, ← EReal.coe_mul, Ideal.tanh_coe, one_mul, ← EReal.coe_mul, ← EReal.coe_mul, ← EReal.coe_add]
  congr 1
  have e2 : Real.exp (-x) = Real.exp (-(1 / 2 * x)) * Real.exp (-(1 / 2 * x)) := by
    rw [← Real.exp_add]
    congr 1
    ring
  have hq : Real.exp (1 / 2 * x) * Real.exp (-(1 / 2 * x)) = 1 := by
    rw [← Real.exp_add, add_neg_cancel, Real.exp_zero]
  have ha : 0 < Real.exp (1 / 2 * x) := Real.exp_pos _
  have hb : 0 < Real.exp (-(1 / 2 * x)) := Real.exp_pos _
  rw [Real.tanh_eq_sinh_div_cosh, Real.sinh_eq, Real.cosh_eq, e2]
  generalize Real.exp (1 / 2 * x) = a at *
  generalize Real.exp (-(1 / 2 * x)) = b at *
  have hab : a + b ≠ 0 := (add_pos ha hb).ne'
  have hbb : 1 + b * b ≠ 0 := by positivity
  have e3 : x * (1 / (1 + b * b)) = x * a / (a + b) := by
    rw [mul_one_div, div_eq_div_iff hbb hab]
    have : x * a * (1 + b * b) = x * (a + (a * b) * b) := by ring
    rw [this, hq]
    ring
  rw [e3]
  field_simp
  ring

theorem sq_nonneg' (x : EReal) : 0 ≤ x * x := by
  induction x with
  | bot => simp
  | top => simp
  | coe r => exact_mod_cast mul_self_nonneg r

/-- The norm of a row is real, whatever the row, where its gain is. -/
theorem norm_real (H : ℕ → ℕ → EReal) (G : ℕ → EReal) (t d : ℕ) (hd : d < 1024) (hG : Re (G d)) : Re (nS H G t d) := by
  obtain ⟨ε, hε, eε⟩ := cE_eq
  have hN : (1024 : ℝ) ≠ 0 := by norm_num
  have pos : ∀ k ∈ (Finset.univ : Finset (Fin 1024)), 0 ≤ H t k.val * H t k.val := fun k _ => sq_nonneg' _
  unfold nS
  rw [cN_eq, eε, Ideal.div_coe hN]
  by_cases h : ∀ k : Fin 1024, Re (H t k.val)
  · obtain ⟨s, hs⟩ := Re.sum (fun k : Fin 1024 => H t k.val * H t k.val) fun k => (h k).mul (h k)
    have hs0 : 0 ≤ s := by
      have := Finset.sum_nonneg pos
      rw [hs] at this
      exact_mod_cast this
    rw [hs, ← EReal.coe_mul, ← EReal.coe_add, Ideal.rsqrt_coe]
    have hp : 0 < s * (1 / 1024) + ε := by positivity
    rw [if_neg (not_lt.2 hp.le), if_neg hp.ne']
    exact ((h ⟨d, hd⟩).mul ⟨_, rfl⟩).mul hG
  · rw [not_forall] at h
    obtain ⟨k, hk⟩ := h
    have hk2 : H t k.val * H t k.val = ⊤ := by
      generalize H t k.val = x at hk
      induction x with
      | bot => simp
      | top => simp
      | coe r => exact absurd ⟨r, rfl⟩ hk
    have hs : (∑ k : Fin 1024, H t k.val * H t k.val) = ⊤ := by
      refine top_le_iff.1 ?_
      rw [← hk2]
      exact Finset.single_le_sum (f := fun k : Fin 1024 => H t k.val * H t k.val) pos (Finset.mem_univ k)
    rw [hs, EReal.top_mul_coe_of_pos (by norm_num), EReal.top_add_coe, Ideal.rsqrt_top, mul_zero, zero_mul]
    exact ⟨0, EReal.coe_zero.symm⟩

end Cert.Proof.FF

end

end
-- ==== Proof.FF.RefVal.lean ====
/-
  The reference's results, read at an index.
-/
module

public import proofs.«01_k».proof.Proof.Gen.Reference2Ideal.Run
public import proofs.«01_k».proof.Proof.FF.Swish
public import Idealize.ShloMosaic.Lib.KernelVsHost

@[expose] public section

set_option maxRecDepth 65536

noncomputable section

namespace Cert.Proof.FF

open Cert.Reference2Ideal Cert.Reference2Ideal.Gen

open Idealize.ShloMosaic hiding ix1 ix2 ix3 ix4 eq_ix1 eq_ix2 eq_ix3 eq_ix4
open Idealize.ShloMosaic.ValueIdx
open Idealize.ShloMosaic.TcCoe
open Idealize.ShloMosaic.StableHlo

variable (h n : FVec Ideal S16x4096x1024 .f32) (u c : FVec Ideal S16x4096x5632 .f32) (p : FVec Ideal S16x4098x5632 .f32)
  (a : FVec Ideal S16x4096x2816 .f32)
  (X : FVec Ideal S16x4096x1024 .f32) (O C : FVec Ideal S16x4096x512 .f32) (S : FVec Ideal S16x2x5632 .f32)
  (WO : FVec Ideal S1024x1024 .f32) (G : FVec Ideal S1024 .f32) (WU : FVec Ideal S1024x5632 .f32) (WD : FVec Ideal S3x5632 .f32)
  (B : FVec Ideal S5632 .f32) (WN : FVec Ideal S2816x1024 .f32)

/-- The reference's stages, each of the arrays before it. -/
def rJ : FVec Ideal S16x4096x1024 .f32 :=
  concatenate S16x4096x1024 2 [⟨S16x4096x512, O⟩, ⟨S16x4096x512, C⟩] concatenates_S16x4096x512_S16x4096x512_S16x4096x1024_d2
def rH : FVec Ideal S16x4096x1024 .f32 :=
  addf X (Host.dotGeneral dot_S16x4096x1024_S1024x1024_S16x4096x1024_2_0_01_1_n_n none (rJ O C) WO)
def rN : FVec Ideal S16x4096x1024 .f32 :=
  mulf (mulf h (broadcastInDim S16x4096x1024 ![0, 1, 2] bcast_S16x4096x1_S16x4096x1024_0_1_2 (Host.rsqrt (addf (Host.divf
    (broadcastInDim S16x4096x1 ![0, 1] bcast_S16x4096_S16x4096x1_0_1 (Host.reduceAdd (mulf h h) (constant S_ .f32 0x00000000#32)
      reducesTo_S16x4096x1024_S16x4096_d2 h_S_)) (broadcastInDim S16x4096x1 ![] bcast_S_S16x4096x1 (constant S_ .f32 0x44800000#32)))
    (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 G))
def rU : FVec Ideal S16x4096x5632 .f32 := Host.dotGeneral dot_S16x4096x1024_S1024x5632_S16x4096x5632_2_0_01_1_n_n none n WU
def rP : FVec Ideal S16x4098x5632 .f32 :=
  concatenate S16x4098x5632 1 [⟨S16x2x5632, S⟩, ⟨S16x4096x5632, u⟩] concatenates_S16x2x5632_S16x4096x5632_S16x4098x5632_d1
def rC : FVec Ideal S16x4096x5632 .f32 :=
  addf (addf (addf
    (mulf (extractStridedSlice S16x4096x5632 ![0, 0, 0] p slices_S16x4098x5632_S16x4096x5632_0_0_0)
      (broadcastInDim S16x4096x5632 ![0, 1, 2] bcast_S1x1x5632_S16x4096x5632_0_1_2 (broadcastInDim S1x1x5632 ![2] bcast_S5632_S1x1x5632_2
        (shapeCast S5632 (extractStridedSlice S1x5632 ![0, 0] WD slices_S3x5632_S1x5632_0_0) shapeCasts_S1x5632_S5632))))
    (mulf (extractStridedSlice S16x4096x5632 ![0, 1, 0] p slices_S16x4098x5632_S16x4096x5632_0_1_0)
      (broadcastInDim S16x4096x5632 ![0, 1, 2] bcast_S1x1x5632_S16x4096x5632_0_1_2 (broadcastInDim S1x1x5632 ![2] bcast_S5632_S1x1x5632_2
        (shapeCast S5632 (extractStridedSlice S1x5632 ![1, 0] WD slices_S3x5632_S1x5632_1_0) shapeCasts_S1x5632_S5632)))))
    (mulf (extractStridedSlice S16x4096x5632 ![0, 2, 0] p slices_S16x4098x5632_S16x4096x5632_0_2_0)
      (broadcastInDim S16x4096x5632 ![0, 1, 2] bcast_S1x1x5632_S16x4096x5632_0_1_2 (broadcastInDim S1x1x5632 ![2] bcast_S5632_S1x1x5632_2
        (shapeCast S5632 (extractStridedSlice S1x5632 ![2, 0] WD slices_S3x5632_S1x5632_2_0) shapeCasts_S1x5632_S5632)))))
    (broadcastInDim S16x4096x5632 ![0, 1, 2] bcast_S1x1x5632_S16x4096x5632_0_1_2 (broadcastInDim S1x1x5632 ![2] bcast_S5632_S1x1x5632_2 B))
def rA : FVec Ideal S16x4096x2816 .f32 :=
  mulf (mulf (extractStridedSlice S16x4096x2816 ![0, 0, 2816] c slices_S16x4096x5632_S16x4096x2816_0_0_2816)
    (Host.divf (broadcastInDim S16x4096x2816 ![] bcast_S_S16x4096x2816 (constant S_ .f32 0x3F800000#32))
      (addf (broadcastInDim S16x4096x2816 ![] bcast_S_S16x4096x2816 (constant S_ .f32 0x3F800000#32))
        (Host.exp (Host.negf (extractStridedSlice S16x4096x2816 ![0, 0, 2816] c slices_S16x4096x5632_S16x4096x2816_0_0_2816))))))
    (extractStridedSlice S16x4096x2816 ![0, 0, 0] c slices_S16x4096x5632_S16x4096x2816_0_0_0)
def rY : FVec Ideal S16x4096x1024 .f32 :=
  addf h (Host.dotGeneral dot_S16x4096x2816_S2816x1024_S16x4096x1024_2_0_01_1_n_n none a WN)
def rT : FVec Ideal S16x8x5632 .f32 := extractStridedSlice S16x8x5632 ![0, 4090, 0] p slices_S16x4098x5632_S16x8x5632_0_4090_0

theorem rJ_apply (y : S16x4096x1024.Idx) : rJ O C y
    = if (y 2).val < 512 then e3 (A := 16) (B := 4096) (C := 512) O (y 0).val (y 1).val (y 2).val
      else e3 (A := 16) (B := 4096) (C := 512) C (y 0).val (y 1).val ((y 2).val - 512) := by
  unfold rJ
  pointwise
  split
  · exact e3_eq _ _ rfl rfl rfl
  · exact e3_eq _ _ rfl rfl rfl

theorem rH_apply (y : S16x4096x1024.Idx) : rH X O C WO y = HG X O C WO (y 0).val (y 1).val (y 2).val := by
  unfold rH
  pointwise
  unfold HG hS
  rw [add_assoc]
  refine congrArg₂ (· + ·) (e3_eq X y rfl rfl rfl) ((Fin.sum_univ_add (a := 512) (b := 512) _).trans ?_)
  refine congrArg₂ (· + ·) (Finset.sum_congr rfl fun k _ => ?_) (Finset.sum_congr rfl fun k _ => ?_)
  · refine congrArg₂ (· * ·) ((rJ_apply O C _).trans (if_pos k.isLt)) (e2_eq WO _ rfl rfl)
  · refine congrArg₂ (· * ·) ((rJ_apply O C _).trans ((if_neg ?_).trans ?_)) (e2_eq WO _ rfl rfl)
    · show ¬ (512 + k.val < 512)
      omega
    · show e3 (A := 16) (B := 4096) (C := 512) C (y 0).val (y 1).val (512 + k.val - 512) = _
      rw [Nat.add_sub_cancel_left]

theorem rN_apply (y : S16x4096x1024.Idx) : rN (rH X O C WO) G y = NG X O C WO G (y 0).val (y 1).val (y 2).val := by
  unfold rN
  pointwise
  unfold NG nS
  refine congrArg₂ (· * ·) (congrArg₂ (· * ·) (rH_apply X O C WO y) (congrArg (fun s => Ideal.rsqrt (Ideal.div s cN + cE))
    (Finset.sum_congr rfl fun k _ => ?_))) (e1_eq G _ rfl)
  exact congrArg₂ (· * ·) (rH_apply X O C WO _) (rH_apply X O C WO _)

theorem rU_apply (y : S16x4096x5632.Idx) :
    rU (rN (rH X O C WO) G) WU y = UG X O C WO G WU (y 0).val (y 1).val (y 2).val := by
  unfold rU
  pointwise
  unfold UG uS
  exact Finset.sum_congr rfl fun k _ => congrArg₂ (· * ·) (rN_apply X O C WO G _) (e2_eq WU _ rfl rfl)

theorem rP_apply (y : S16x4098x5632.Idx) :
    rP (rU (rN (rH X O C WO) G) WU) S y = PG X O C S WO G WU (y 0).val (y 1).val (y 2).val := by
  unfold rP
  pointwise
  unfold PG pS
  split
  · exact e3_eq S _ rfl rfl rfl
  · exact rU_apply X O C WO G WU _

theorem rT_apply (y : S16x8x5632.Idx) :
    rT (rP (rU (rN (rH X O C WO) G) WU) S) y = UG X O C WO G WU (y 0).val (4088 + (y 1).val) (y 2).val := by
  unfold rT
  pointwise
  refine (rP_apply X O C S WO G WU _).trans ?_
  show PG X O C S WO G WU (y 0).val (4090 + (y 1).val) (y 2).val = _
  unfold PG pS
  rw [if_neg (by omega)]
  congr 1
  omega

theorem rC_apply (y : S16x4096x5632.Idx) : rC (rP (rU (rN (rH X O C WO) G) WU) S) WD B y
    = cS (PG X O C S WO G WU (y 0).val) (e2 WD) (e1 B) (y 1).val (y 2).val := by
  have h0 : ∀ (t : Fin 4098) (j : ℕ), t.val = j →
      rP (rU (rN (rH X O C WO) G) WU) S (ix3 (y 0) t (y 2)) = PG X O C S WO G WU (y 0).val j (y 2).val := by
    rintro t _ rfl
    exact rP_apply X O C S WO G WU _
  unfold rC
  pointwise
  unfold cS
  refine (congrArg₂ (· + ·) (congrArg₂ (· + ·) (congrArg₂ (· + ·)
    (congrArg₂ (· * ·) (h0 _ (y 1).val rfl) (e2_eq WD _ (a := 0) (b := (y 2).val) rfl rfl))
    (congrArg₂ (· * ·) (h0 _ ((y 1).val + 1) (Nat.add_comm _ _)) (e2_eq WD _ (a := 1) (b := (y 2).val) rfl rfl)))
    (congrArg₂ (· * ·) (h0 _ ((y 1).val + 2) (Nat.add_comm _ _)) (e2_eq WD _ (a := 2) (b := (y 2).val) rfl rfl)))
    (e1_eq B _ (a := (y 2).val) rfl)).trans ?_
  rw [mul_comm (e2 WD 0 _), mul_comm (e2 WD 1 _), mul_comm (e2 WD 2 _)]
  abel

/-- The gate of a row. -/
abbrev gateOf (n t l : ℕ) : EReal := cS (PG X O C S WO G WU n) (e2 WD) (e1 B) t (2816 + l)

theorem rA_apply (y : S16x4096x2816.Idx) (hg : Re (gateOf X O C S WO G WU WD B (y 0).val (y 1).val (y 2).val)) :
    rA (rC (rP (rU (rN (rH X O C WO) G) WU) S) WD B) y
      = aS (PG X O C S WO G WU (y 0).val) (e2 WD) (e1 B) (y 1).val (y 2).val := by
  have h0 : ∀ (l : Fin 5632) (j : ℕ), l.val = j → rC (rP (rU (rN (rH X O C WO) G) WU) S) WD B (ix3 (y 0) (y 1) l)
      = cS (PG X O C S WO G WU (y 0).val) (e2 WD) (e1 B) (y 1).val j := by
    rintro l _ rfl
    exact rC_apply X O C S WO G WU WD B _
  unfold rA
  pointwise
  unfold aS
  rw [← swish hg]
  refine congrArg₂ (· * ·) (congrArg (fun g => g * Ideal.div 1 (1 + Ideal.exp (-g))) (h0 _ _ rfl)) (h0 _ _ rfl)

theorem rY_apply (y : S16x4096x1024.Idx) (hg : ∀ n t l, l < 2816 → Re (gateOf X O C S WO G WU WD B n t l)) :
    rY (rH X O C WO) (rA (rC (rP (rU (rN (rH X O C WO) G) WU) S) WD B)) WN y
      = YG X O C S WO G WU WD B WN (y 0).val (y 1).val (y 2).val := by
  unfold rY
  pointwise
  unfold YG yS
  refine congrArg₂ (· + ·) (rH_apply X O C WO y) (Finset.sum_congr rfl fun k _ => ?_)
  exact congrArg₂ (· * ·) (rA_apply X O C S WO G WU WD B _ (hg _ _ _ k.isLt)) (e2_eq WN _ rfl rfl)

/-- The gate is real where its arrays are. -/
theorem gate_real (hG : ∀ d, d < 1024 → Re (e1 G d)) (hS : ∀ n q l, Re (e3 S n q (2816 + l)))
    (hU : ∀ k l, Re (e2 WU k (2816 + l))) (hD : ∀ w l, Re (e2 WD w (2816 + l))) (hB : ∀ l, Re (e1 B (2816 + l)))
    (n t l : ℕ) : Re (gateOf X O C S WO G WU WD B n t l) := by
  have hP : ∀ q, Re (PG X O C S WO G WU n q (2816 + l)) := fun q => by
    unfold PG pS
    split
    · exact hS _ _ _
    · unfold UG uS
      exact Re.sum _ fun k => (norm_real _ _ _ _ k.isLt (hG _ k.isLt)).mul (hU _ _)
  unfold gateOf cS
  exact (((hB l).add ((hD _ _).mul (hP _))).add ((hD _ _).mul (hP _))).add ((hD _ _).mul (hP _))

section

variable (m : (ℓ : Loc nD τ sig) → Buf (Elt Ideal) ℓ) (c : Dev nD)

theorem res_eq : Value.res_main_v47 (F := Ideal) m c
    = rY (rH (m ((c.tc : Thread nD τ).loc main_arg0)) (m ((c.tc : Thread nD τ).loc main_arg1)) (m ((c.tc : Thread nD τ).loc main_arg2)) (m ((c.tc : Thread nD τ).loc main_arg4)))
        (rA (rC (rP (rU (rN (rH (m ((c.tc : Thread nD τ).loc main_arg0)) (m ((c.tc : Thread nD τ).loc main_arg1)) (m ((c.tc : Thread nD τ).loc main_arg2)) (m ((c.tc : Thread nD τ).loc main_arg4)))
          (m ((c.tc : Thread nD τ).loc main_arg5))) (m ((c.tc : Thread nD τ).loc main_arg6))) (m ((c.tc : Thread nD τ).loc main_arg3)))
          (m ((c.tc : Thread nD τ).loc main_arg7)) (m ((c.tc : Thread nD τ).loc main_arg8)))) (m ((c.tc : Thread nD τ).loc main_arg9)) := rfl

end

end Cert.Proof.FF

end

end
-- ==== Proof.FF.Value.lean ====
/-
  The feed-forward call's frames, and its results beside the reference's.
-/
module

public import proofs.«01_k».proof.Defs
public import proofs.«01_k».proof.Proof.FF.Array
public import proofs.«01_k».proof.Proof.FF.RefVal
public import proofs.«01_k».proof.Proof.Gen.Kernel2.Frame
public import Idealize.ShloMosaic.Lib.ReduceAll

@[expose] public section

set_option maxRecDepth 65536

noncomputable section

namespace Cert.Proof.FF

open Idealize.ShloMosaic hiding ix1 ix2 ix3 ix4 eq_ix1 eq_ix2 eq_ix3 eq_ix4
open Idealize.ShloMosaic.ValueIdx
open Idealize.ShloMosaic.TcCoe
open Idealize.SL.Sem

theorem frame_kernel2 : Cert.quiescent_Kernel2 (hKernel2 := Cert.Kernel2.Gen.facts) := fun m g _ => Cert.Kernel2.Gen.frame m g

theorem frame_ideal2 : Cert.quiescent_Kernel2Ideal (hKernel2Ideal := Cert.Kernel2Ideal.Gen.facts) := fun m g _ =>
  Cert.Kernel2Ideal.Gen.frame m g

theorem frame_reference2 : Cert.quiescent_Reference2Ideal (hReference2Ideal := Cert.Reference2Ideal.Gen.facts) := fun m g _ =>
  (θ_run _ _ _).mono (fun _ h => ⟨fun c => (h c).2.2, sem_eq_zero_of_no_sems rfl _⟩) (Cert.Reference2Ideal.Value.run m g)

/-- The precondition's side conditions. -/
theorem pre_facts2 : Cert.Pre_finite_gates.Facts where
  bcast_S_S1024 := by decide
  reducesTo_S1024_S_d0 := by decide
  h_S_ := by decide
  slices_S16x2x5632_S16x2x2816_0_0_2816 := by decide
  bcast_S_S16x2x2816 := by decide
  reducesTo_S16x2x2816_S_d0_1_2 := by decide
  slices_S1024x5632_S1024x2816_0_2816 := by decide
  bcast_S_S1024x2816 := by decide
  reducesTo_S1024x2816_S_d0_1 := by decide
  slices_S3x5632_S3x2816_0_2816 := by decide
  bcast_S_S3x2816 := by decide
  reducesTo_S3x2816_S_d0_1 := by decide
  slices_S5632_S2816_2816 := by decide
  bcast_S_S2816 := by decide
  reducesTo_S2816_S_d0 := by decide

/-- A number whose magnitude lies below infinity is real. -/
theorem Re.of_abs {x : EReal} (h : max x (-x) < ⊤) : Re x := by
  refine ⟨x.toReal, (EReal.coe_toReal ?_ ?_).symm⟩
  · rintro rfl; simp at h
  · rintro rfl; simp at h

theorem Re.zero : Re 0 := ⟨0, EReal.coe_zero.symm⟩

theorem inf_eq : Ideal.ofBits .f32 0x7F800000#32 = ⊤ := by simp [Ideal.ofBits, Ideal.ieee]

/-- The precondition makes the gates' arrays real. -/
theorem pre_real2 (a0 : FVec Ideal Cert.Pre_finite_gates.S16x4096x1024 .f32) (a1 a2 : FVec Ideal Cert.Pre_finite_gates.S16x4096x512 .f32)
    (a3 : FVec Ideal Cert.Pre_finite_gates.S16x2x5632 .f32) (a4 : FVec Ideal Cert.Pre_finite_gates.S1024x1024 .f32)
    (a5 : FVec Ideal Cert.Pre_finite_gates.S1024 .f32) (a6 : FVec Ideal Cert.Pre_finite_gates.S1024x5632 .f32)
    (a7 : FVec Ideal Cert.Pre_finite_gates.S3x5632 .f32) (a8 : FVec Ideal Cert.Pre_finite_gates.S5632 .f32)
    (a9 : FVec Ideal Cert.Pre_finite_gates.S2816x1024 .f32)
    (h : @Cert.Pre_finite_gates.fn pre_facts2 Ideal _ a0 a1 a2 a3 a4 a5 a6 a7 a8 a9 = fun _ => 1#1) :
    (∀ d, d < 1024 → Re (e1 (A := 1024) a5 d)) ∧ (∀ n q l, Re (e3 (A := 16) (B := 2) (C := 5632) a3 n q (2816 + l)))
      ∧ (∀ k l, Re (e2 (A := 1024) (B := 5632) a6 k (2816 + l))) ∧ (∀ w l, Re (e2 (A := 3) (B := 5632) a7 w (2816 + l)))
      ∧ (∀ l, Re (e1 (A := 5632) a8 (2816 + l))) := by
  have hs : Subsingleton (Cert.Pre_finite_gates.S_).Idx := ⟨fun a b => funext fun t => t.elim0⟩
  have h0 := congrFun h ValueIdx.ix0
  unfold Cert.Pre_finite_gates.fn Cert.Pre_finite_gates.fn_part1 at h0
  have h1 := IntOp.andi_eq_one.1 h0
  have h2 := IntOp.andi_eq_one.1 h1.1
  have h3 := IntOp.andi_eq_one.1 h2.1
  have h4 := IntOp.andi_eq_one.1 h3.1
  refine ⟨fun d hd => ?_, fun n q l => ?_, fun k l => ?_, fun w l => ?_, fun l => ?_⟩
  · have e := Host.reduce_andi_all _ _ _ _ _ h4.1 (ix1 (⟨d, hd⟩ : Fin 1024))
    have e' := lt_of_lt_of_eq ((Ideal.cmp_olt_eq_one _ _).1 e) inf_eq
    unfold e1
    rw [dif_pos hd]
    exact Re.of_abs e'
  · by_cases hh : n < 16 ∧ q < 2 ∧ l < 2816
    · have e := Host.reduce_andi_all _ _ _ _ _ h4.2 (ix3 (⟨n, hh.1⟩ : Fin 16) (⟨q, hh.2.1⟩ : Fin 2) (⟨l, hh.2.2⟩ : Fin 2816))
      have e' := lt_of_lt_of_eq ((Ideal.cmp_olt_eq_one _ _).1 e) inf_eq
      have e'' := Re.of_abs e'
      have ev : extractStridedSlice Cert.Pre_finite_gates.S16x2x2816 ![0, 0, 2816] a3
          pre_facts2.slices_S16x2x5632_S16x2x2816_0_0_2816 (ix3 (⟨n, hh.1⟩ : Fin 16) (⟨q, hh.2.1⟩ : Fin 2) (⟨l, hh.2.2⟩ : Fin 2816))
            = e3 (A := 16) (B := 2) (C := 5632) a3 n q (2816 + l) := by
        pointwise
        exact e3_eq a3 _ rfl rfl rfl
      exact ev ▸ e''
    · unfold e3
      rw [dif_neg (fun hx => hh ⟨hx.1, hx.2.1, by omega⟩)]
      exact Re.zero
  · by_cases hh : k < 1024 ∧ l < 2816
    · have e := Host.reduce_andi_all _ _ _ _ _ h3.2 (ix2 (⟨k, hh.1⟩ : Fin 1024) (⟨l, hh.2⟩ : Fin 2816))
      have e' := lt_of_lt_of_eq ((Ideal.cmp_olt_eq_one _ _).1 e) inf_eq
      have e'' := Re.of_abs e'
      have ev : extractStridedSlice Cert.Pre_finite_gates.S1024x2816 ![0, 2816] a6
          pre_facts2.slices_S1024x5632_S1024x2816_0_2816 (ix2 (⟨k, hh.1⟩ : Fin 1024) (⟨l, hh.2⟩ : Fin 2816))
            = e2 (A := 1024) (B := 5632) a6 k (2816 + l) := by
        pointwise
        exact e2_eq a6 _ rfl rfl
      exact ev ▸ e''
    · unfold e2
      rw [dif_neg (fun hx => hh ⟨hx.1, by omega⟩)]
      exact Re.zero
  · by_cases hh : w < 3 ∧ l < 2816
    · have e := Host.reduce_andi_all _ _ _ _ _ h2.2 (ix2 (⟨w, hh.1⟩ : Fin 3) (⟨l, hh.2⟩ : Fin 2816))
      have e' := lt_of_lt_of_eq ((Ideal.cmp_olt_eq_one _ _).1 e) inf_eq
      have e'' := Re.of_abs e'
      have ev : extractStridedSlice Cert.Pre_finite_gates.S3x2816 ![0, 2816] a7
          pre_facts2.slices_S3x5632_S3x2816_0_2816 (ix2 (⟨w, hh.1⟩ : Fin 3) (⟨l, hh.2⟩ : Fin 2816))
            = e2 (A := 3) (B := 5632) a7 w (2816 + l) := by
        pointwise
        exact e2_eq a7 _ rfl rfl
      exact ev ▸ e''
    · unfold e2
      rw [dif_neg (fun hx => hh ⟨hx.1, by omega⟩)]
      exact Re.zero
  · by_cases hh : l < 2816
    · have e := Host.reduce_andi_all _ _ _ _ _ h1.2 (ix1 (⟨l, hh⟩ : Fin 2816))
      have e' := lt_of_lt_of_eq ((Ideal.cmp_olt_eq_one _ _).1 e) inf_eq
      have e'' := Re.of_abs e'
      have ev : extractStridedSlice Cert.Pre_finite_gates.S2816 ![2816] a8
          pre_facts2.slices_S5632_S2816_2816 (ix1 (⟨l, hh⟩ : Fin 2816))
            = e1 (A := 5632) a8 (2816 + l) := by
        pointwise
        exact e1_eq a8 _ rfl
      exact ev ▸ e''
    · unfold e1
      rw [dif_neg (fun hx => hh (by omega))]
      exact Re.zero

/-- The value claim of the feed-forward call. -/
theorem algebraic2 : Cert.algebraic_Kernel2Ideal_Reference2Ideal_pre_finite_gates (hKernel2Ideal := Cert.Kernel2Ideal.Gen.facts)
    (hReference2Ideal := Cert.Reference2Ideal.Gen.facts) (hPre_finite_gates := pre_facts2) := by
  intro m g m' g' hpre hargs
  refine ⟨fun c => Cert.Kernel2Ideal.Value.G10 m c, fun c => Cert.Kernel2Ideal.Value.G11 m c, ?_, ?_⟩
  · exact Cert.Kernel2Ideal.Value.run m g
  · refine (θ_run _ _ _).mono (fun _ h c => ⟨(h c).1.trans ?_, (h c).2.1.trans ?_, (h c).2.2⟩) (Cert.Reference2Ideal.Value.run m' g')
    · obtain ⟨hG, hS, hU, hD, hB⟩ := pre_real2 _ _ _ _ _ _ _ _ _ _ (hpre c)
      obtain ⟨r0, r1, r2, r3, r4, r5, r6, r7, r8, r9⟩ := hargs c
      rw [res_eq, r0, r1, r2, r3, r4, r5, r6, r7, r8, r9]
      funext y
      refine (rY_apply _ _ _ _ _ _ _ _ _ _ y fun n t l _ => gate_real _ _ _ _ _ _ _ _ _ hG hS hU hD hB n t l).trans ?_
      exact (first_apply m c y).symm
    · obtain ⟨r0, r1, r2, r3, r4, r5, r6, r7, r8, r9⟩ := hargs c
      rw [r0, r1, r2, r3, r4, r5, r6]
      funext y
      exact (rT_apply _ _ _ _ _ _ _ y).trans (second_apply m c y).symm

end Cert.Proof.FF

end

end
-- ==== Proof.IP.Spec.lean ====
/-
  The projections, the heads' norms and the gated product in closed form.
-/
module

public import proofs.«01_k».proof.Proof.FF.Swish

@[expose] public section

noncomputable section

namespace Cert.Proof.IP

open Cert.Proof.FF

open Idealize.ShloMosaic hiding ix1 ix2 ix3 ix4 eq_ix1 eq_ix2 eq_ix3 eq_ix4
open Idealize.ShloMosaic.ValueIdx

/-- A four-axis array at natural numbers, zero off its extents. -/
def e4 {A B C D : ℕ} (x : (⟨4, ![A, B, C, D]⟩ : Shape).Idx → EReal) (a b c d : ℕ) : EReal :=
  if h : a < A ∧ b < B ∧ c < C ∧ d < D then
    x (ix4 (⟨a, h.1⟩ : Fin A) (⟨b, h.2.1⟩ : Fin B) (⟨c, h.2.2.1⟩ : Fin C) (⟨d, h.2.2.2⟩ : Fin D)) else 0

/-- The constants: a head's lanes, and the queries' scale. -/
abbrev cL : EReal := Ideal.ofBits .f32 0x42800000#32
abbrev cS8 : EReal := Ideal.ofBits .f32 0x3E000000#32

theorem cL_eq : cL = ((64 : ℝ) : EReal) := by
  simp [Ideal.ofBits, Ideal.ieee, -EReal.coe_mul]
  norm_num

/-- The projections of a normed row. -/
def pr (X : ℕ → ℕ → EReal) (G : ℕ → EReal) (W : ℕ → ℕ → EReal) : ℕ → ℕ → EReal := uS (nS X G) W

/-- A row's lane over its group's root mean square, the mean a product with the groups' matrix. -/
def hK (P : ℕ → EReal) (R : ℕ → ℕ → EReal) (g : ℕ → EReal) (d : ℕ) : EReal :=
  P d * Ideal.rsqrt ((∑ k : Fin 512, (P k.val * P k.val) * R k.val d) + cE) * g d

/-- The same over the head's lanes. -/
def hR (P : ℕ → EReal) (g : ℕ → EReal) (d : ℕ) : EReal :=
  P d * Ideal.rsqrt (Ideal.div (∑ j : Fin 64, P (64 * (d / 64) + j.val) * P (64 * (d / 64) + j.val)) cL + cE) * g (d % 64)

/-- The gate's sigmoid, and the gated product of a row. -/
def sg (g : EReal) : EReal := cH * Ideal.tanh (cH * g) + cH
def gt (P : ℕ → EReal) (l : ℕ) : EReal := P (1536 + l) * sg (P (2048 + l))

/-- The groups' matrix. -/
def gM (k d : ℕ) : EReal := Ideal.div (if k / 64 = d / 64 then 1 else 0) cL

theorem gM_eq (k d : ℕ) : gM k d = if k / 64 = d / 64 then ((1 / 64 : ℝ) : EReal) else 0 := by
  unfold gM
  rw [cL_eq, Ideal.div_coe (by norm_num)]
  split
  · rw [one_mul]
  · rw [zero_mul]

/-- A sum of nonnegative terms, each times a number. -/
theorem sum_mul_nonneg {n : ℕ} (f : Fin n → EReal) (c : EReal) (h : ∀ k, 0 ≤ f k) : ∑ k, f k * c = (∑ k, f k) * c := by
  have : ∀ s : Finset (Fin n), ∑ k ∈ s, f k * c = (∑ k ∈ s, f k) * c := by
    intro s
    induction s using Finset.induction_on with
    | empty => simp
    | insert a s ha ih =>
      rw [Finset.sum_insert ha, Finset.sum_insert ha, ih,
        EReal.right_distrib_of_nonneg (h a) (Finset.sum_nonneg fun k _ => h k)]
  exact this _

/-- The groups' matrix takes a head's mean. -/
theorem mean_eq (P : ℕ → EReal) (d : ℕ) (hd : d < 512) :
    ∑ k : Fin 512, (P k.val * P k.val) * gM k.val d
      = Ideal.div (∑ j : Fin 64, P (64 * (d / 64) + j.val) * P (64 * (d / 64) + j.val)) cL := by
  rw [cL_eq, Ideal.div_coe (by norm_num), ← sum_mul_nonneg _ _ fun k => sq_nonneg' _]
  simp only [gM_eq]
  have hq : d / 64 < 8 := by omega
  rw [← Equiv.sum_comp (finProdFinEquiv (m := 8) (n := 64)), Fintype.sum_prod_type]
  rw [Finset.sum_eq_single (⟨d / 64, hq⟩ : Fin 8)]
  · refine Finset.sum_congr rfl fun j _ => ?_
    have hj : j.val < 64 := j.isLt
    have e : (finProdFinEquiv ((⟨d / 64, hq⟩ : Fin 8), j)).val = 64 * (d / 64) + j.val := by
      rw [finProdFinEquiv_apply_val]
      show j.val + 64 * (d / 64) = _
      omega
    rw [e, if_pos (by omega)]
  · intro b _ hb
    refine Finset.sum_eq_zero fun j _ => ?_
    have hj : j.val < 64 := j.isLt
    have e : (finProdFinEquiv (b, j)).val = 64 * b.val + j.val := by
      rw [finProdFinEquiv_apply_val]
      show j.val + 64 * b.val = _
      omega
    have hb' : b.val ≠ d / 64 := fun h => hb (Fin.ext h)
    rw [e, if_neg (by omega), mul_zero]
  · intro h
    exact absurd (Finset.mem_univ _) h

theorem hK_eq (P : ℕ → EReal) (g : ℕ → EReal) (g' : ℕ → EReal) (d : ℕ) (hd : d < 512) (hg : g d = g' (d % 64)) :
    hK P gM g d = hR P g' d := by
  unfold hK hR
  rw [mean_eq P d hd, hg]

/-- The sigmoid's two spellings agree everywhere. -/
theorem sg_eq (g : EReal) : Ideal.div 1 (1 + Ideal.exp (-g)) = sg g := by
  unfold sg
  rw [cH_eq]
  induction g with
  | bot =>
    rw [EReal.neg_bot, Ideal.exp_top, EReal.coe_mul_bot_of_pos (by norm_num), Ideal.tanh_bot]
    have e : (1 : EReal) + ⊤ = ⊤ := by rw [← EReal.coe_one]; exact EReal.coe_add_top 1
    rw [e]
    unfold Ideal.div
    rw [if_neg EReal.top_ne_zero, EReal.inv_top, mul_zero, ← EReal.coe_one, ← EReal.coe_neg, ← EReal.coe_mul, ← EReal.coe_add,
      ← EReal.coe_zero]
    congr 1
    norm_num
  | top =>
    rw [EReal.neg_top, Ideal.exp_bot, EReal.coe_mul_top_of_pos (by norm_num), Ideal.tanh_top, add_zero, ← EReal.coe_one,
      Ideal.div_coe one_ne_zero, ← EReal.coe_mul, ← EReal.coe_mul, ← EReal.coe_add]
    congr 1
    norm_num
  | coe x =>
    have hp : (0 : ℝ) < 1 + Real.exp (-x) := by positivity
    have e1 : (1 : EReal) + Ideal.exp (-(x : EReal)) = ((1 + Real.exp (-x) : ℝ) : EReal) := by
      rw [← EReal.coe_neg, Ideal.exp_coe, ← EReal.coe_one, ← EReal.coe_add]
    rw [e1, Ideal.div_coe hp.ne', ← EReal.coe_mul, Ideal.tanh_coe, one_mul, ← EReal.coe_mul, ← EReal.coe_add]
    congr 1
    have e2 : Real.exp (-x) = Real.exp (-(1 / 2 * x)) * Real.exp (-(1 / 2 * x)) := by
      rw [← Real.exp_add]
      congr 1
      ring
    have hq : Real.exp (1 / 2 * x) * Real.exp (-(1 / 2 * x)) = 1 := by
      rw [← Real.exp_add, add_neg_cancel, Real.exp_zero]
    have ha : 0 < Real.exp (1 / 2 * x) := Real.exp_pos _
    have hb : 0 < Real.exp (-(1 / 2 * x)) := Real.exp_pos _
    rw [Real.tanh_eq_sinh_div_cosh, Real.sinh_eq, Real.cosh_eq, e2]
    generalize Real.exp (1 / 2 * x) = a at *
    generalize Real.exp (-(1 / 2 * x)) = b at *
    have hab : a + b ≠ 0 := (add_pos ha hb).ne'
    have hbb : 1 + b * b ≠ 0 := by positivity
    have e3 : 1 / (1 + b * b) = a / (a + b) := by
      rw [div_eq_div_iff hbb hab]
      have : a * (1 + b * b) = a + (a * b) * b := by ring
      rw [this, hq]
      ring
    rw [e3]
    field_simp
    ring

/-- The call's arrays, of its arguments: batch `n`, row `t`, lane `l`. -/
def PRG (X : (⟨3, ![16, 4096, 1024]⟩ : Shape).Idx → EReal) (G : (⟨1, ![1024]⟩ : Shape).Idx → EReal)
    (W : (⟨2, ![1024, 2560]⟩ : Shape).Idx → EReal) (n : ℕ) : ℕ → ℕ → EReal := pr (e3 X n) (e1 G) (e2 W)
def QG (X : (⟨3, ![16, 4096, 1024]⟩ : Shape).Idx → EReal) (G : (⟨1, ![1024]⟩ : Shape).Idx → EReal)
    (W : (⟨2, ![1024, 2560]⟩ : Shape).Idx → EReal) (g : (⟨1, ![64]⟩ : Shape).Idx → EReal) (n t d : ℕ) : EReal :=
  hR (PRG X G W n t) (fun j => e1 g j * cS8) d
def KG (X : (⟨3, ![16, 4096, 1024]⟩ : Shape).Idx → EReal) (G : (⟨1, ![1024]⟩ : Shape).Idx → EReal)
    (W : (⟨2, ![1024, 2560]⟩ : Shape).Idx → EReal) (g : (⟨1, ![64]⟩ : Shape).Idx → EReal) (n t d : ℕ) : EReal :=
  hR (fun l => PRG X G W n t (512 + l)) (e1 g) d

end Cert.Proof.IP

end

end
-- ==== Proof.IP.HostVal.lean ====
/-
  What the host prepares for the projections' region, read at an index.
-/
module

public import proofs.«01_k».proof.Proof.Gen.Kernel3Ideal.Frame
public import proofs.«01_k».proof.Proof.IP.Spec
public import Idealize.ShloMosaic.Lib.KernelVsHost

@[expose] public section

set_option maxRecDepth 65536

noncomputable section

namespace Cert.Proof.IP

open Cert.Proof.FF
open Cert.Kernel3Ideal Cert.Kernel3Ideal.Gen

open Idealize.ShloMosaic hiding ix1 ix2 ix3 ix4 eq_ix1 eq_ix2 eq_ix3 eq_ix4
open Idealize.ShloMosaic.ValueIdx
open Idealize.ShloMosaic.TcCoe
open Idealize.ShloMosaic.StableHlo

variable (m : (ℓ : Loc nD τ sig) → Buf (Elt Ideal) ℓ) (c : Dev nD)

/-- The arguments, as the memory holds them. -/
abbrev bX : (⟨3, ![16, 4096, 1024]⟩ : Shape).Idx → EReal := m (c, Proc.tc.devRef main_arg0)
abbrev bG : (⟨1, ![1024]⟩ : Shape).Idx → EReal := m (c, Proc.tc.devRef main_arg2)
abbrev bW : (⟨2, ![1024, 2560]⟩ : Shape).Idx → EReal := m (c, Proc.tc.devRef main_arg3)
abbrev bGQ : (⟨1, ![64]⟩ : Shape).Idx → EReal := m (c, Proc.tc.devRef main_arg4)
abbrev bGK : (⟨1, ![64]⟩ : Shape).Idx → EReal := m (c, Proc.tc.devRef main_arg5)

theorem arg0_host (y : S16x4096x1024.Idx) : V m c main_arg0 y = e3 (bX m c) (y 0).val (y 1).val (y 2).val := by
  have e : V m c main_arg0 = (bX m c : S16x4096x1024.Idx → EReal) := by
    unfold_abbrev_sides
    simp only [List.flatten_cons, List.flatten_nil, List.cons_append, List.nil_append, List.append_nil]
    after_results
  rw [e]
  exact e3_eq _ y rfl rfl rfl

theorem v2_host (y : S1x1024.Idx) : V m c main_v2 y = e1 (bG m c) (y 1).val := by
  have e : V m c main_v2 = shapeCast S1x1024 (bG m c : S1024.Idx → EReal) shapeCasts_S1024_S1x1024 := by
    unfold_abbrev_sides
    simp only [List.flatten_cons, List.flatten_nil, List.cons_append, List.nil_append, List.append_nil]
    after_results
    rfl
  have h0 : (y 0).val < 1 := (y 0).isLt
  rw [e]
  refine (shapeCast_apply _ shapeCasts_S1024_S1x1024 y (ix1 (y 1)) ?_).trans (e1_eq _ _ rfl)
  rw [Shape.rowMajor_val_one, Shape.rowMajor_val_two]
  show (y 1).val = (y 0).val * 1024 + (y 1).val
  omega

theorem v3_host (y : S1024x2560.Idx) : V m c main_v3 y = e2 (bW m c) (y 0).val (y 1).val := by
  have e : V m c main_v3 = (bW m c : S1024x2560.Idx → EReal) := by
    unfold_abbrev_sides
    simp only [List.flatten_cons, List.flatten_nil, List.cons_append, List.nil_append, List.append_nil]
    after_results
    rfl
  rw [e]
  exact e2_eq _ y rfl rfl

/-- A head's gain, repeated over the heads. -/
abbrev rep (g : S64.Idx → EReal) : FVec Ideal S1x512 .f32 :=
  shapeCast S1x512 (shapeCast S512 (broadcastInDim S8x64 ![0, 1] bcast_S1x64_S8x64_0_1 (shapeCast S1x64 g shapeCasts_S64_S1x64))
    shapeCasts_S8x64_S512) shapeCasts_S512_S1x512

theorem rep_apply (g : S64.Idx → EReal) (y : S1x512.Idx) : rep g y = e1 (A := 64) g ((y 1).val % 64) := by
  have h0 : (y 0).val < 1 := (y 0).isLt
  have h1 : (y 1).val < 512 := (y 1).isLt
  refine (shapeCast_apply _ shapeCasts_S512_S1x512 y (ix1 (y 1)) ?_).trans ?_
  · rw [Shape.rowMajor_val_one, Shape.rowMajor_val_two]
    show (y 1).val = (y 0).val * 512 + (y 1).val
    omega
  refine (shapeCast_apply _ shapeCasts_S8x64_S512 _ (ix2 (⟨(y 1).val / 64, by omega⟩ : Fin 8) (⟨(y 1).val % 64, by omega⟩ : Fin 64)) ?_).trans ?_
  · rw [Shape.rowMajor_val_one, Shape.rowMajor_val_two]
    show (y 1).val / 64 * 64 + (y 1).val % 64 = (y 1).val
    omega
  pointwise
  exact e1_eq g _ rfl

theorem v13_host (y : S1x512.Idx) : V m c main_v13 y = e1 (bGK m c) ((y 1).val % 64) := by
  have e : V m c main_v13 = rep (bGK m c) := by
    unfold_abbrev_sides
    simp only [List.flatten_cons, List.flatten_nil, List.cons_append, List.nil_append, List.append_nil]
    after_results
    rfl
  rw [e, rep_apply]

theorem v9_host (y : S1x512.Idx) : V m c main_v9 y = e1 (bGQ m c) ((y 1).val % 64) * cS8 := by
  have e : V m c main_v9 = mulf (F := Ideal) (rep (bGQ m c)) (broadcastInDim S1x512 ![] bcast_S_S1x512 (constant S_ .f32 0x3E000000#32)) := by
    unfold_abbrev_sides
    simp only [List.flatten_cons, List.flatten_nil, List.cons_append, List.nil_append, List.append_nil]
    after_results
    rfl
  rw [e, ← rep_apply]
  rfl

/-- The lanes' heads. -/
def gI : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem gI_apply : ∀ i : Fin 512, gI (ix1 i) = BitVec.ofNat 32 (i.val / 64) := by
  decide +kernel

theorem v22_host (y : S512x512.Idx) : V m c main_v22 y = gM (y 0).val (y 1).val := by
  have e : V m c main_v22 = truncf (F := Ideal) .bf16 (Host.divf (uitofp (F := Ideal) .f32 (cmpi .eq
      (broadcastInDim S512x512 ![0, 1] bcast_S512x1_S512x512_0_1 (broadcastInDim S512x1 ![0] bcast_S512_S512x1_0 gI))
      (broadcastInDim S512x512 ![0, 1] bcast_S1x512_S512x512_0_1 (broadcastInDim S1x512 ![1] bcast_S512_S1x512_1 gI))))
      (broadcastInDim S512x512 ![] bcast_S_S512x512 (constant S_ .f32 0x42800000#32))) bitsLt_bf16_f32 := by
    unfold_abbrev_sides
    simp only [List.flatten_cons, List.flatten_nil, List.cons_append, List.nil_append, List.append_nil]
    after_results
    rfl
  have h0 : (y 0).val < 512 := (y 0).isLt
  have h1 : (y 1).val < 512 := (y 1).isLt
  rw [e]
  pointwise
  unfold gM
  refine congrArg (fun s => Ideal.div s cL) ?_
  have a0 : gI (ix1 (y 0)) = BitVec.ofNat 32 ((y 0).val / 64) := gI_apply (y 0)
  have a1 : gI (ix1 (y 1)) = BitVec.ofNat 32 ((y 1).val / 64) := gI_apply (y 1)
  refine (congrArg₂ (fun a b => ((((IntOp.cmpi .eq a b).toNat : ℝ)) : EReal)) a0 a1).trans ?_
  unfold IntOp.cmpi
  by_cases h : (y 0).val / 64 = (y 1).val / 64
  · rw [if_pos h, h]
    simp
  · have hn : ¬ BitVec.ofNat 32 ((y 0).val / 64) = BitVec.ofNat 32 ((y 1).val / 64) := by
      intro hh
      have := congrArg BitVec.toNat hh
      rw [BitVec.toNat_ofNat, BitVec.toNat_ofNat] at this
      omega
    rw [if_neg h]
    simp [beq_eq_false_iff_ne.mpr hn]

end Cert.Proof.IP

end

end
-- ==== Proof.IP.Cut.lean ====
/-
  The blocks the points read, at an index of the arguments.
-/
module

public import proofs.«01_k».proof.Proof.IP.HostVal
public import Idealize.ShloMosaic.Lib.Pipeline.ValueKit

@[expose] public section

set_option maxRecDepth 65536

noncomputable section

namespace Cert.Proof.IP

open Cert.Proof.FF
open Cert.Kernel3Ideal Cert.Kernel3Ideal.Gen

open Idealize.ShloMosaic hiding ix1 ix2 ix3 ix4 eq_ix1 eq_ix2 eq_ix3 eq_ix4
open Idealize.ShloMosaic.ValueIdx
open Idealize.ShloMosaic.TcCoe

variable (m : (ℓ : Loc nD τ sig) → Buf (Elt Ideal) ℓ) (c : Dev nD)

theorem at0 : ∀ t : Fin 128, win0_0.index t 0 = t.val / 8 ∧ win0_0.index t 1 = t.val % 8 ∧ win0_0.index t 2 = 0 := by
  decide +kernel

theorem at1 : ∀ t : Fin 128, win0_1.index t 0 = 0 ∧ win0_1.index t 1 = 0 := by
  decide +kernel

theorem at2 : ∀ t : Fin 128, win0_2.index t 0 = 0 ∧ win0_2.index t 1 = 0 := by
  decide +kernel

theorem at3 : ∀ t : Fin 128, win0_3.index t 0 = 0 ∧ win0_3.index t 1 = 0 := by
  decide +kernel

theorem at4 : ∀ t : Fin 128, win0_4.index t 0 = 0 ∧ win0_4.index t 1 = 0 := by
  decide +kernel

theorem at5 : ∀ t : Fin 128, win0_5.index t 0 = 0 ∧ win0_5.index t 1 = 0 := by
  decide +kernel

theorem cut0 (t : Fin cfg0.N) (y : S1x512x1024.Idx) :
    iblk m c 0 t y = e3 (bX m c) (t.val / 8) (512 * (t.val % 8) + (y 1).val) (y 2).val := by
  refine (arg0_host m c _).trans ?_
  have h0 : (y 0).val = 0 := by have : (y 0).val < 1 := (y 0).isLt; omega
  obtain ⟨e0, e1, e2⟩ := at0 t
  congr 1
  all_goals blk_simp [e0, e1, e2]
  all_goals omega

theorem cut1 (t : Fin cfg0.N) (y : S1x1024.Idx) : iblk m c 1 t y = e1 (bG m c) (y 1).val := by
  refine (v2_host m c _).trans ?_
  obtain ⟨e0, e1⟩ := at1 t
  congr 1
  all_goals blk_simp [e0, e1]
  all_goals omega

theorem cut2 (t : Fin cfg0.N) (y : S1024x2560.Idx) : iblk m c 2 t y = e2 (bW m c) (y 0).val (y 1).val := by
  refine (v3_host m c _).trans ?_
  obtain ⟨e0, e1⟩ := at2 t
  congr 1
  all_goals blk_simp [e0, e1]
  all_goals omega

theorem cut3 (t : Fin cfg0.N) (y : S1x512.Idx) : iblk m c 3 t y = e1 (bGQ m c) ((y 1).val % 64) * cS8 := by
  refine (v9_host m c _).trans ?_
  obtain ⟨e0, e1⟩ := at3 t
  congr 3
  all_goals blk_simp [e0, e1]
  all_goals omega

theorem cut4 (t : Fin cfg0.N) (y : S1x512.Idx) : iblk m c 4 t y = e1 (bGK m c) ((y 1).val % 64) := by
  refine (v13_host m c _).trans ?_
  obtain ⟨e0, e1⟩ := at4 t
  congr 2
  all_goals blk_simp [e0, e1]
  all_goals omega

theorem cut5 (t : Fin cfg0.N) (y : S512x512.Idx) : iblk m c 5 t y = gM (y 0).val (y 1).val := by
  refine (v22_host m c _).trans ?_
  obtain ⟨e0, e1⟩ := at5 t
  congr 1
  all_goals blk_simp [e0, e1]
  all_goals omega

end Cert.Proof.IP

end

end
-- ==== Proof.IP.Head.lean ====
/-
  The projections, norms and gates of a group of rows, at an index.
-/
module

public import proofs.«01_k».proof.Proof.Gen.Kernel3Ideal.Skeleton
public import proofs.«01_k».proof.Proof.IP.Spec
public import Idealize.ShloMosaic.Lib.Pipeline.ReadBack

@[expose] public section

set_option maxRecDepth 65536

noncomputable section

namespace Cert.Proof.IP

open Cert.Proof.FF
open Cert.Kernel3Ideal Cert.Kernel3Ideal.Gen

open Idealize.ShloMosaic hiding ix1 ix2 ix3 ix4 eq_ix1 eq_ix2 eq_ix3 eq_ix4
open Idealize.ShloMosaic.ValueIdx
open Idealize.ShloMosaic.TcCoe

variable (w : Vec Ideal S1x128x1024 .f32) (x0 : Vec Ideal S1x512x1024 .f32) (x1 : Vec Ideal S1x1024 .f32)
  (x2 : Vec Ideal S1024x2560 .bf16) (x3 x4 : Vec Ideal S1x512 .f32) (x5 : Vec Ideal S512x512 .bf16)
  (p : Vec Ideal S128x2560 .f32)

/-- The projections of a group of rows. -/
theorem pay3_apply (y : S128x2560.Idx) :
    k0_pay3 (F := Ideal) w x1 x2 y
      = pr (e3 (A := 1) (B := 128) (C := 1024) w 0) (e2 (A := 1) (B := 1024) x1 0) (e2 (A := 1024) (B := 2560) x2) (y 0).val (y 1).val := by
  unfold k0_pay3
  pointwise
  unfold pr uS nS
  refine Finset.sum_congr rfl fun k _ => congrArg₂ (· * ·) (congrArg₂ (· * ·) (congrArg₂ (· * ·) (e3_eq w _ rfl rfl rfl)
    (congrArg (fun s => Ideal.rsqrt (Ideal.div s cN + cE)) (Finset.sum_congr rfl fun j _ => ?_))) (e2_eq x1 _ rfl rfl)) (e2_eq x2 _ rfl rfl)
  exact congrArg₂ (· * ·) (e3_eq w _ rfl rfl rfl) (e3_eq w _ rfl rfl rfl)

theorem pay5_eq : k0_pay5 (F := Ideal) (k0_pay4 w) x1 x2 = k0_pay3 (F := Ideal) w x1 x2 := rfl
theorem pay107_eq : k0_pay107 (F := Ideal) w x1 x2 = k0_pay3 (F := Ideal) w x1 x2 := rfl
theorem pay215_eq : k0_pay215 (F := Ideal) w x1 x2 = k0_pay3 (F := Ideal) w x1 x2 := rfl

/-- The projections of a point's rows. -/
def pB : ℕ → ℕ → EReal :=
  pr (e3 (A := 1) (B := 512) (C := 1024) x0 0) (e2 (A := 1) (B := 1024) x1 0) (e2 (A := 1024) (B := 2560) x2)

theorem rows_apply (o : ℕ) (inb) (a l : ℕ) (ha : a < 128) (ho : o + a < 512) :
    e2 (A := 128) (B := 2560) (k0_pay3 (F := Ideal)
        (View.ld (Val := Elt Ideal) (e' := .f32) x0 (Rect.unit (s := S1x512x1024) ![0, o, 0] S1x128x1024.size inb)) x1 x2) a l
      = if l < 2560 then pB x0 x1 x2 (o + a) l else 0 := by
  have hw : ∀ b d, b < 128 → d < 1024 → e3 (A := 1) (B := 128) (C := 1024)
      (View.ld (Val := Elt Ideal) (e' := .f32) x0 (Rect.unit (s := S1x512x1024) ![0, o, 0] S1x128x1024.size inb)) 0 b d
        = e3 (A := 1) (B := 512) (C := 1024) x0 0 (o + b) d := by
    intro b d hb hd
    rw [e3_in _ Nat.zero_lt_one hb hd]
    refine e3_eq x0 _ ?_ ?_ ?_
    · exact Rect.idx_unit_val _ _ inb _ 0
    · exact Rect.idx_unit_val _ _ inb _ 1
    · exact (Rect.idx_unit_val _ _ inb _ 2).trans (Nat.zero_add _)
  split
  · rename_i hl
    rw [e2_in _ ha hl, pay3_apply]
    unfold pB pr uS nS
    refine Finset.sum_congr rfl fun k _ => ?_
    show e3 _ 0 a k.val * Ideal.rsqrt (Ideal.div (∑ j : Fin 1024, e3 _ 0 a j.val * e3 _ 0 a j.val) cN + cE) * _ * _ = _
    rw [hw a k.val ha k.isLt]
    refine congrArg (fun s => _ * Ideal.rsqrt (Ideal.div s cN + cE) * _ * _) (Finset.sum_congr rfl fun j _ => ?_)
    rw [hw a j.val ha j.isLt]
  · rename_i hl
    exact dif_neg fun h => hl h.2

/-- A group's queries. -/
theorem pay8_apply (y : S1x128x512.Idx) :
    k0_pay8 (F := Ideal) p x3 x5 y
      = hK (e2 (A := 128) (B := 2560) p (y 1).val) (e2 (A := 512) (B := 512) x5) (e2 (A := 1) (B := 512) x3 0) (y 2).val := by
  unfold k0_pay8
  pointwise
  unfold hK
  refine congrArg₂ (· * ·) (congrArg₂ (· * ·) (e2_eq p _ rfl rfl) (congrArg (fun s => Ideal.rsqrt (s + cE))
    (Finset.sum_congr rfl fun k _ => congrArg₂ (· * ·) (congrArg₂ (· * ·) (e2_eq p _ rfl rfl) (e2_eq p _ rfl rfl)) (e2_eq x5 _ rfl rfl))))
    (e2_eq x3 _ rfl rfl)

/-- A group's keys. -/
theorem pay6_apply (y : S128x512.Idx) :
    k0_pay6 (F := Ideal) p x4 x5 y
      = hK (fun l => e2 (A := 128) (B := 2560) p (y 0).val (512 + l)) (e2 (A := 512) (B := 512) x5) (e2 (A := 1) (B := 512) x4 0) (y 1).val := by
  unfold k0_pay6
  pointwise
  unfold hK
  exact congrArg₂ (· * ·) (congrArg₂ (· * ·) (e2_eq p _ rfl rfl) (congrArg (fun s => Ideal.rsqrt (s + cE))
    (Finset.sum_congr rfl fun k _ => congrArg₂ (· * ·) (congrArg₂ (· * ·) (e2_eq p _ rfl rfl) (e2_eq p _ rfl rfl)) (e2_eq x5 _ rfl rfl))))
    (e2_eq x4 _ rfl rfl)

theorem pay11_apply (y : S1x128x512.Idx) :
    k0_pay11 (F := Ideal) (k0_pay6 (F := Ideal) p x4 x5) y
      = hK (fun l => e2 (A := 128) (B := 2560) p (y 1).val (512 + l)) (e2 (A := 512) (B := 512) x5) (e2 (A := 1) (B := 512) x4 0) (y 2).val := by
  unfold k0_pay11
  pointwise
  exact pay6_apply x4 x5 p _

theorem pay10_apply (y : S1x128x512.Idx) :
    k0_pay10 (F := Ideal) (k0_pay9 (F := Ideal) p x4 x5) y
      = hK (fun l => e2 (A := 128) (B := 2560) p (y 1).val (512 + l)) (e2 (A := 512) (B := 512) x5) (e2 (A := 1) (B := 512) x4 0) (y 2).val := by
  unfold k0_pay10 k0_pay9
  pointwise
  exact pay6_apply x4 x5 p _

/-- A group's values, and the same transposed. -/
theorem pay12_apply (y : S1x128x512.Idx) :
    k0_pay12 (F := Ideal) (k0_pay7 (F := Ideal) p) y = e2 (A := 128) (B := 2560) p (y 1).val (1024 + (y 2).val) := by
  unfold k0_pay12 k0_pay7
  pointwise
  exact e2_eq p _ rfl rfl

theorem pay13_apply (y : S1x1x512x128.Idx) :
    k0_pay13 (F := Ideal) (k0_pay7 (F := Ideal) p) y = e2 (A := 128) (B := 2560) p (y 3).val (1024 + (y 2).val) := by
  unfold k0_pay13 k0_pay7
  pointwise
  exact e2_eq p _ rfl rfl

/-- A group's gated product. -/
theorem pay14_apply (y : S128x512.Idx) :
    k0_pay14 (F := Ideal) p y = gt (e2 (A := 128) (B := 2560) p (y 0).val) (y 1).val := by
  unfold k0_pay14
  pointwise
  unfold gt sg
  exact congrArg₂ (· * ·) (e2_eq p _ rfl rfl) (congrArg (fun s => cH * Ideal.tanh (cH * s) + cH) (e2_eq p _ rfl rfl))

/-- The later groups' values are the first's, of their own rows. -/
theorem q1_eq : k0_pay111 (F := Ideal) (k0_pay108 p) x3 x5 = k0_pay8 (F := Ideal) p x3 x5 := rfl
theorem q2_eq : k0_pay222 (F := Ideal) (k0_pay216 p) (k0_pay217 x3) (k0_pay218 p) (k0_pay219 x5) (constant S128x512 .f32 0x00000000#32)
    = k0_pay8 (F := Ideal) p x3 x5 := rfl
theorem q3_eq : k0_pay318 (F := Ideal) p x3 x5 = k0_pay8 (F := Ideal) p x3 x5 := rfl
theorem kb1_eq : k0_pay112 (F := Ideal) p x4 x5 = k0_pay10 (F := Ideal) (k0_pay9 (F := Ideal) p x4 x5) := rfl
theorem kb2_eq : k0_pay223 (F := Ideal) p x4 x5 = k0_pay10 (F := Ideal) (k0_pay9 (F := Ideal) p x4 x5) := rfl
theorem kb3_eq : k0_pay320 (F := Ideal) (k0_pay319 p x4 x5) = k0_pay10 (F := Ideal) (k0_pay9 (F := Ideal) p x4 x5) := rfl
theorem k1_eq : k0_pay113 (F := Ideal) (k0_pay109 p x4 x5) = k0_pay11 (F := Ideal) (k0_pay6 (F := Ideal) p x4 x5) := rfl
theorem k2_eq : k0_pay224 (F := Ideal) p x4 x5 = k0_pay11 (F := Ideal) (k0_pay6 (F := Ideal) p x4 x5) := rfl
theorem k3_eq : k0_pay321 (F := Ideal) (k0_pay316 p x4 x5) = k0_pay11 (F := Ideal) (k0_pay6 (F := Ideal) p x4 x5) := rfl
theorem v1_eq : k0_pay114 (F := Ideal) (k0_pay110 p) = k0_pay12 (F := Ideal) (k0_pay7 (F := Ideal) p) := rfl
theorem v2_eq : k0_pay225 (F := Ideal) p = k0_pay12 (F := Ideal) (k0_pay7 (F := Ideal) p) := rfl
theorem v3_eq : k0_pay322 (F := Ideal) (k0_pay317 p) = k0_pay12 (F := Ideal) (k0_pay7 (F := Ideal) p) := rfl
theorem vt1_eq : k0_pay115 (F := Ideal) (k0_pay110 p) = k0_pay13 (F := Ideal) (k0_pay7 (F := Ideal) p) := rfl
theorem vt2_eq : k0_pay227 (F := Ideal) (k0_pay226 p) = k0_pay13 (F := Ideal) (k0_pay7 (F := Ideal) p) := rfl
theorem vt3_eq : k0_pay323 (F := Ideal) (k0_pay317 p) = k0_pay13 (F := Ideal) (k0_pay7 (F := Ideal) p) := rfl
theorem c3_eq : k0_pay324 (F := Ideal) p = k0_pay14 (F := Ideal) p := rfl

end Cert.Proof.IP

end

end
-- ==== Proof.IP.Piece.lean ====
/-
  A group's payloads as the point's arrays.
-/
module

public import proofs.«01_k».proof.Proof.IP.Head
public import Idealize.ShloMosaic.Lib.WritesUnit

@[expose] public section

set_option maxRecDepth 65536

noncomputable section

namespace Cert.Proof.IP

open Cert.Proof.FF
open Cert.Kernel3Ideal Cert.Kernel3Ideal.Gen

open Idealize.ShloMosaic hiding ix1 ix2 ix3 ix4 eq_ix1 eq_ix2 eq_ix3 eq_ix4
open Idealize.ShloMosaic.ValueIdx
open Idealize.ShloMosaic.TcCoe

theorem hK_congr {P Q : ℕ → EReal} (R : ℕ → ℕ → EReal) (g : ℕ → EReal) {d : ℕ} (hd : d < 512) (h : ∀ l, l < 512 → P l = Q l) :
    hK P R g d = hK Q R g d := by
  unfold hK
  rw [h d hd, Finset.sum_congr rfl fun k _ => by rw [h k.val k.isLt]]

theorem gt_congr {P Q : ℕ → EReal} {l : ℕ} (hl : l < 512) (h : ∀ l, l < 2560 → P l = Q l) : gt P l = gt Q l := by
  unfold gt
  rw [h _ (by omega), h _ (by omega)]

variable (x0 : Vec Ideal S1x512x1024 .f32) (x1 : Vec Ideal S1x1024 .f32)
  (x2 : Vec Ideal S1024x2560 .bf16) (x3 x4 : Vec Ideal S1x512 .f32) (x5 : Vec Ideal S512x512 .bf16)

/-- A point's blocks. -/
def gQ (y : S1x512x512.Idx) : EReal :=
  hK (pB x0 x1 x2 (y 1).val) (e2 (A := 512) (B := 512) x5) (e2 (A := 1) (B := 512) x3 0) (y 2).val
def gK (y : S1x512x512.Idx) : EReal :=
  hK (fun l => pB x0 x1 x2 (y 1).val (512 + l)) (e2 (A := 512) (B := 512) x5) (e2 (A := 1) (B := 512) x4 0) (y 2).val
def gV (y : S1x512x512.Idx) : EReal := pB x0 x1 x2 (y 1).val (1024 + (y 2).val)
def gT (y : S1x2x512x256.Idx) : EReal := pB x0 x1 x2 (256 * (y 1).val + (y 3).val) (1024 + (y 2).val)

/-- A group's projections. -/
abbrev rw3 (o : ℕ) (inb : ∀ i, (![0, o, 0] : Fin S1x512x1024.rank → ℕ) i + S1x128x1024.size i ≤ S1x512x1024.size i) : Vec Ideal S128x2560 .f32 :=
  k0_pay3 (F := Ideal) (View.ld (Val := Elt Ideal) (e' := .f32) x0 (Rect.unit (s := S1x512x1024) ![0, o, 0] S1x128x1024.size inb)) x1 x2

theorem q_piece (o : ℕ) (ho : o + 128 ≤ 512) (inb) (inb') (x : S1x128x512.Idx) :
    k0_pay8 (F := Ideal) (rw3 x0 x1 x2 o inb) x3 x5 x
      = gQ x0 x1 x2 x3 x5 ((Rect.unit (s := S1x512x512) ![0, o, 0] S1x128x512.size inb').idx x) := by
  have h1 : (x 1).val < 128 := (x 1).isLt
  have h2 : (x 2).val < 512 := (x 2).isLt
  have q1 : ((Rect.unit (s := S1x512x512) ![0, o, 0] S1x128x512.size inb').idx x 1).val = o + (x 1).val := Rect.idx_unit_val _ _ inb' x 1
  have q2 : ((Rect.unit (s := S1x512x512) ![0, o, 0] S1x128x512.size inb').idx x 2).val = (x 2).val :=
    (Rect.idx_unit_val _ _ inb' x 2).trans (Nat.zero_add _)
  rw [pay8_apply]
  unfold gQ
  rw [q1, q2]
  refine hK_congr _ _ h2 fun l hl => ?_
  rw [rows_apply x0 x1 x2 o inb _ _ h1 (by omega), if_pos (by omega)]

theorem k_piece (o : ℕ) (ho : o + 128 ≤ 512) (inb) (inb') (x : S1x128x512.Idx) :
    k0_pay11 (F := Ideal) (k0_pay6 (F := Ideal) (rw3 x0 x1 x2 o inb) x4 x5) x
      = gK x0 x1 x2 x4 x5 ((Rect.unit (s := S1x512x512) ![0, o, 0] S1x128x512.size inb').idx x) := by
  have h1 : (x 1).val < 128 := (x 1).isLt
  have h2 : (x 2).val < 512 := (x 2).isLt
  have q1 : ((Rect.unit (s := S1x512x512) ![0, o, 0] S1x128x512.size inb').idx x 1).val = o + (x 1).val := Rect.idx_unit_val _ _ inb' x 1
  have q2 : ((Rect.unit (s := S1x512x512) ![0, o, 0] S1x128x512.size inb').idx x 2).val = (x 2).val :=
    (Rect.idx_unit_val _ _ inb' x 2).trans (Nat.zero_add _)
  rw [pay11_apply]
  unfold gK
  rw [q1, q2]
  refine hK_congr _ _ h2 fun l hl => ?_
  rw [rows_apply x0 x1 x2 o inb _ _ h1 (by omega), if_pos (by omega)]

theorem kb_piece (o : ℕ) (ho : o + 128 ≤ 512) (inb) (inb') (x : S1x128x512.Idx) :
    k0_pay10 (F := Ideal) (k0_pay9 (F := Ideal) (rw3 x0 x1 x2 o inb) x4 x5) x
      = gK x0 x1 x2 x4 x5 ((Rect.unit (s := S1x512x512) ![0, o, 0] S1x128x512.size inb').idx x) :=
  ((pay10_apply x4 x5 _ x).trans (pay11_apply x4 x5 _ x).symm).trans (k_piece x0 x1 x2 x4 x5 o ho inb inb' x)

theorem v_piece (o : ℕ) (ho : o + 128 ≤ 512) (inb) (inb') (x : S1x128x512.Idx) :
    k0_pay12 (F := Ideal) (k0_pay7 (F := Ideal) (rw3 x0 x1 x2 o inb)) x
      = gV x0 x1 x2 ((Rect.unit (s := S1x512x512) ![0, o, 0] S1x128x512.size inb').idx x) := by
  have h1 : (x 1).val < 128 := (x 1).isLt
  have h2 : (x 2).val < 512 := (x 2).isLt
  have q1 : ((Rect.unit (s := S1x512x512) ![0, o, 0] S1x128x512.size inb').idx x 1).val = o + (x 1).val := Rect.idx_unit_val _ _ inb' x 1
  have q2 : ((Rect.unit (s := S1x512x512) ![0, o, 0] S1x128x512.size inb').idx x 2).val = (x 2).val :=
    (Rect.idx_unit_val _ _ inb' x 2).trans (Nat.zero_add _)
  rw [pay12_apply]
  unfold gV
  rw [q1, q2, rows_apply x0 x1 x2 o inb _ _ h1 (by omega), if_pos (by omega)]

theorem vt_piece (o b r : ℕ) (ho : o + 128 ≤ 512) (hb : o = 256 * b + r) (inb) (inb') (x : S1x1x512x128.Idx) :
    k0_pay13 (F := Ideal) (k0_pay7 (F := Ideal) (rw3 x0 x1 x2 o inb)) x
      = gT x0 x1 x2 ((Rect.unit (s := S1x2x512x256) ![0, b, 0, r] S1x1x512x128.size inb').idx x) := by
  have h1 : (x 1).val < 1 := (x 1).isLt
  have h2 : (x 2).val < 512 := (x 2).isLt
  have h3 : (x 3).val < 128 := (x 3).isLt
  have q1 : ((Rect.unit (s := S1x2x512x256) ![0, b, 0, r] S1x1x512x128.size inb').idx x 1).val = b + (x 1).val := Rect.idx_unit_val _ _ inb' x 1
  have q2 : ((Rect.unit (s := S1x2x512x256) ![0, b, 0, r] S1x1x512x128.size inb').idx x 2).val = (x 2).val :=
    (Rect.idx_unit_val _ _ inb' x 2).trans (Nat.zero_add _)
  have q3 : ((Rect.unit (s := S1x2x512x256) ![0, b, 0, r] S1x1x512x128.size inb').idx x 3).val = r + (x 3).val := Rect.idx_unit_val _ _ inb' x 3
  rw [pay13_apply]
  unfold gT
  rw [q1, q2, q3, rows_apply x0 x1 x2 o inb _ _ h3 (by omega), if_pos (by omega),
    show 256 * (b + (x 1).val) + (r + (x 3).val) = o + (x 3).val by omega]

theorem c_piece (inb) (x : S128x512.Idx) :
    k0_pay324 (F := Ideal) (rw3 x0 x1 x2 384 inb) x = gt (pB x0 x1 x2 (384 + (x 0).val)) (x 1).val := by
  have h0 : (x 0).val < 128 := (x 0).isLt
  have h1 : (x 1).val < 512 := (x 1).isLt
  rw [c3_eq, pay14_apply]
  refine gt_congr h1 fun l hl => ?_
  rw [rows_apply x0 x1 x2 384 inb _ _ h0 (by omega), if_pos hl]

theorem tail_apply (v : Vec Ideal S32x512 .f32) (y : S1x32x512.Idx) :
    k0_pay420 (F := Ideal) v y = e2 (A := 32) (B := 512) v (y 1).val (y 2).val := by
  unfold k0_pay420
  pointwise
  exact e2_eq v _ rfl rfl

end Cert.Proof.IP

end

end
-- ==== Proof.IP.Blk.lean ====
/-
  The points' blocks as the call's arrays.
-/
module

public import proofs.«01_k».proof.Proof.IP.Cut
public import proofs.«01_k».proof.Proof.IP.Piece
public import proofs.«01_k».proof.Proof.FF.Glob

@[expose] public section

set_option maxRecDepth 65536

noncomputable section

namespace Cert.Proof.IP

open Cert.Proof.FF
open Cert.Kernel3Ideal Cert.Kernel3Ideal.Gen

open Idealize.ShloMosaic hiding ix1 ix2 ix3 ix4 eq_ix1 eq_ix2 eq_ix3 eq_ix4
open Idealize.ShloMosaic.ValueIdx
open Idealize.ShloMosaic.TcCoe

variable (m : (ℓ : Loc nD τ sig) → Buf (Elt Ideal) ℓ) (c : Dev nD)

abbrev mPR : ℕ → ℕ → ℕ → EReal := PRG (bX m c) (bG m c) (bW m c)
abbrev mQ : ℕ → ℕ → ℕ → EReal := QG (bX m c) (bG m c) (bW m c) (bGQ m c)
abbrev mK : ℕ → ℕ → ℕ → EReal := KG (bX m c) (bG m c) (bW m c) (bGK m c)

variable (t : Fin cfg0.N)

theorem blk2 : e2 (A := 1024) (B := 2560) (iblk m c 2 t) = e2 (bW m c) :=
  congrArg (e2 (A := 1024) (B := 2560)) (funext fun y => (cut2 m c t y).trans (e2_eq _ y rfl rfl).symm)
theorem blk1 : e2 (A := 1) (B := 1024) (iblk m c 1 t) 0 = e1 (bG m c) := by
  funext l
  by_cases h : l < 1024
  · rw [e2_in _ Nat.zero_lt_one h]
    exact cut1 m c t _
  · unfold e2 e1
    rw [dif_neg (fun hh => h hh.2), dif_neg h]
theorem blk0 {r d : ℕ} (hr : r < 512) (hd : d < 1024) :
    e3 (A := 1) (B := 512) (C := 1024) (iblk m c 0 t) 0 r d = e3 (bX m c) (t.val / 8) (512 * (t.val % 8) + r) d := by
  rw [e3_in _ Nat.zero_lt_one hr hd]
  exact cut0 m c t _
theorem blk3 {d : ℕ} (hd : d < 512) : e2 (A := 1) (B := 512) (iblk m c 3 t) 0 d = e1 (bGQ m c) (d % 64) * cS8 := by
  rw [e2_in _ Nat.zero_lt_one hd]
  exact cut3 m c t _
theorem blk4 {d : ℕ} (hd : d < 512) : e2 (A := 1) (B := 512) (iblk m c 4 t) 0 d = e1 (bGK m c) (d % 64) := by
  rw [e2_in _ Nat.zero_lt_one hd]
  exact cut4 m c t _
theorem blk5 {k d : ℕ} (hk : k < 512) (hd : d < 512) : e2 (A := 512) (B := 512) (iblk m c 5 t) k d = gM k d := by
  rw [e2_in _ hk hd]
  exact cut5 m c t _

/-- A point's projections. -/
theorem blkP {r : ℕ} (l : ℕ) (hr : r < 512) :
    pB (iblk m c 0 t) (iblk m c 1 t) (iblk m c 2 t) r l = mPR m c (t.val / 8) (512 * (t.val % 8) + r) l := by
  unfold pB mPR PRG pr uS nS
  rw [blk2, blk1]
  refine Finset.sum_congr rfl fun k _ => ?_
  rw [blk0 m c t hr k.isLt]
  refine congrArg (fun s => _ * Ideal.rsqrt (Ideal.div s cN + cE) * _ * _) (Finset.sum_congr rfl fun j _ => ?_)
  rw [blk0 m c t hr j.isLt]

theorem hK_mat {P : ℕ → EReal} {R R' : ℕ → ℕ → EReal} (g : ℕ → EReal) {d : ℕ} (h : ∀ k, k < 512 → R k d = R' k d) :
    hK P R g d = hK P R' g d := by
  unfold hK
  rw [Finset.sum_congr rfl fun k _ => by rw [h k.val k.isLt]]

theorem blkQ (y : S1x512x512.Idx) : gQ (iblk m c 0 t) (iblk m c 1 t) (iblk m c 2 t) (iblk m c 3 t) (iblk m c 5 t) y
    = mQ m c (t.val / 8) (512 * (t.val % 8) + (y 1).val) (y 2).val := by
  have h1 : (y 1).val < 512 := (y 1).isLt
  have h2 : (y 2).val < 512 := (y 2).isLt
  unfold gQ mQ QG
  refine (hK_mat _ fun k hk => blk5 m c t hk h2).trans ?_
  refine (hK_congr _ _ h2 fun l _ => blkP m c t l h1).trans ?_
  exact hK_eq _ _ _ _ h2 (blk3 m c t h2)

theorem blkK (y : S1x512x512.Idx) : gK (iblk m c 0 t) (iblk m c 1 t) (iblk m c 2 t) (iblk m c 4 t) (iblk m c 5 t) y
    = mK m c (t.val / 8) (512 * (t.val % 8) + (y 1).val) (y 2).val := by
  have h1 : (y 1).val < 512 := (y 1).isLt
  have h2 : (y 2).val < 512 := (y 2).isLt
  unfold gK mK KG
  refine (hK_mat _ fun k hk => blk5 m c t hk h2).trans ?_
  refine (hK_congr _ _ h2 fun l _ => blkP m c t (512 + l) h1).trans ?_
  exact hK_eq _ _ _ _ h2 (blk4 m c t h2)

theorem blkV (y : S1x512x512.Idx) : gV (iblk m c 0 t) (iblk m c 1 t) (iblk m c 2 t) y
    = mPR m c (t.val / 8) (512 * (t.val % 8) + (y 1).val) (1024 + (y 2).val) :=
  blkP m c t _ (y 1).isLt

theorem blkT (y : S1x2x512x256.Idx) : gT (iblk m c 0 t) (iblk m c 1 t) (iblk m c 2 t) y
    = mPR m c (t.val / 8) (512 * (t.val % 8) + (256 * (y 1).val + (y 3).val)) (1024 + (y 2).val) := by
  have h1 : (y 1).val < 2 := (y 1).isLt
  have h3 : (y 3).val < 256 := (y 3).isLt
  exact blkP m c t _ (by omega)

theorem blkC {r d : ℕ} (hr : r < 512) (hd : d < 512) : gt (pB (iblk m c 0 t) (iblk m c 1 t) (iblk m c 2 t) r) d
    = gt (mPR m c (t.val / 8) (512 * (t.val % 8) + r)) d :=
  gt_congr hd fun l _ => blkP m c t l hr

end Cert.Proof.IP

end

end
-- ==== Proof.IP.BodyA.lean ====
/-
  A batch's first point: what its blocks hold.
-/
module

public import proofs.«01_k».proof.Proof.Gen.Kernel3Ideal.Frame
public import proofs.«01_k».proof.Proof.IP.Piece

@[expose] public section

set_option maxRecDepth 65536

noncomputable section

namespace Cert.Proof.IP

open Cert.Proof.FF
open Cert.Kernel3Ideal Cert.Kernel3Ideal.Gen

open Idealize.ShloMosaic hiding ix1 ix2 ix3 ix4 eq_ix1 eq_ix2 eq_ix3 eq_ix4
open Idealize.ShloMosaic.ValueIdx
open Idealize.ShloMosaic.TcCoe

variable (c : Dev nD) (i : grid0.Coords)
    (arg2 : Memref sig .tc .vmem S1x512x1024 .f32) (harg2 : arg2.IsWhole)
    (arg3 : Memref sig .tc .vmem S1x1024 .f32) (harg3 : arg3.IsWhole)
    (arg4 : Memref sig .tc .vmem S1024x2560 .bf16) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S512x512 .bf16) (harg7 : arg7.IsWhole)
    (arg8 : Memref sig .tc .vmem S31x512 .f32) (harg8 : arg8.IsWhole)
    (arg9 : Memref sig .tc .vmem S1x512 .f32) (harg9 : arg9.IsWhole)
    (arg10 : Memref sig .tc .vmem S1x512 .f32) (harg10 : arg10.IsWhole)
    (arg11 : Memref sig .tc .vmem S1x512 .f32) (harg11 : arg11.IsWhole)
    (arg12 : Memref sig .tc .vmem S1x32x512 .f32) (harg12 : arg12.IsWhole)
    (arg13 : Memref sig .tc .vmem S1x512x512 .bf16) (harg13 : arg13.IsWhole)
    (arg14 : Memref sig .tc .vmem S1x512x512 .bf16) (harg14 : arg14.IsWhole)
    (arg15 : Memref sig .tc .vmem S1x512x512 .f32) (harg15 : arg15.IsWhole)
    (arg16 : Memref sig .tc .vmem S1x512x512 .f32) (harg16 : arg16.IsWhole)
    (arg17 : Memref sig .tc .vmem S1x2x512x256 .bf16) (harg17 : arg17.IsWhole)
    (arg18 : Memref sig .tc .vmem S1x512x512 .bf16) (harg18 : arg18.IsWhole)
    (arg19 : Memref sig .tc .vmem S1x32x512 .f32) (harg19 : arg19.IsWhole)
    (arg20 : Memref sig .tc .vmem S544x512 .f32) (harg20 : arg20.IsWhole)
    (arg21 : Memref sig .tc .vmem S512x512 .f32) (harg21 : arg21.IsWhole)
    (hc0 : cond0_0 i)
    (x0 : Vec Ideal S1x512x1024 .f32) (x1 : Vec Ideal S1x1024 .f32) (x2 : Vec Ideal S1024x2560 .bf16) (x3 : Vec Ideal S1x512 .f32) (x4 : Vec Ideal S1x512 .f32) (x5 : Vec Ideal S512x512 .bf16) (x6 : Vec Ideal S31x512 .f32) (x7 : Vec Ideal S1x512 .f32) (x8 : Vec Ideal S1x512 .f32) (x9 : Vec Ideal S1x512 .f32) (x10 : Vec Ideal S1x32x512 .f32)

/-- The queries' block, at an index. -/
theorem out11A (y : S1x512x512.Idx) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 y = gQ x0 x1 x2 x3 x5 y := by
  unfold out0_A_11
  rw [View.read_writes_junk_eq_canon]
  suffices hG : View.PiecesOf (Val := Elt Ideal) (s := S1x512x512) (e := .bf16) (gQ x0 x1 x2 x3 x5) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).1 by
    exact View.canon_apply_of_pieces (Val := Elt Ideal) (S := S1x512x512) (e := .bf16) (gQ x0 x1 x2 x3 x5) _ hG.mem y
      (View.cover_of_tiledL _ ![1, 128, 512] (by sl_kernel_rfl) y)
  refine ⟨?_, ?_, ?_, ?_, trivial⟩
  · intro x
    refine Eq.trans ?_ (q_piece x0 x1 x2 x3 x5 384 (by omega) inb_S1x512x1024_S1x128x1024_0_384_0 inb_S1x512x512_S1x128x512_0_384_0 x)
    refine congrFun ?_ x
    dsimp only
    unfold kernelRun0_A.sl.r_178
    simp (disch := decide) only [View.readAt_eq_ld, Memref.IsWhole.read_unread, View.ld_unit_lit']
    all_goals rfl
  · intro x
    refine Eq.trans ?_ (q_piece x0 x1 x2 x3 x5 256 (by omega) inb_S1x512x1024_S1x128x1024_0_256_0 inb_S1x512x512_S1x128x512_0_256_0 x)
    refine congrFun ?_ x
    dsimp only
    unfold kernelRun0_A.sl.r_179 kernelRun0_A.sl.r_180 kernelRun0_A.sl.r_181 kernelRun0_A.sl.r_182 kernelRun0_A.sl.r_84 kernelRun0_A.sl.cst_1299
    simp (disch := decide) only [View.readAt_eq_ld, Memref.IsWhole.read_unread, View.ld_unit_lit']
    all_goals rfl
  · intro x
    refine Eq.trans ?_ (q_piece x0 x1 x2 x3 x5 128 (by omega) inb_S1x512x1024_S1x128x1024_0_128_0 inb_S1x512x512_S1x128x512_0_128_0 x)
    refine congrFun ?_ x
    dsimp only
    unfold kernelRun0_A.sl.r_85 kernelRun0_A.sl.r_3 kernelRun0_A.sl.r_1 kernelRun0_A.sl.r_2
    simp (disch := decide) only [View.readAt_eq_ld, Memref.IsWhole.read_unread, View.ld_unit_lit']
    all_goals rfl
  · intro x
    refine Eq.trans ?_ (q_piece x0 x1 x2 x3 x5 0 (by omega) inb_S1x512x1024_S1x128x1024_0_0_0 inb_S1x512x512_S1x128x512_0_0_0 x)
    refine congrFun ?_ x
    dsimp only
    unfold kernelRun0_A.sl.r
    simp (disch := decide) only [View.readAt_eq_ld, Memref.IsWhole.read_unread, View.ld_unit_lit']
    all_goals rfl

/-- The keys' block. -/
theorem out12A (y : S1x512x512.Idx) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 y = gK x0 x1 x2 x4 x5 y := by
  unfold out0_A_12
  rw [View.read_writes_junk_eq_canon]
  suffices hG : View.PiecesOf (Val := Elt Ideal) (s := S1x512x512) (e := .bf16) (gK x0 x1 x2 x4 x5) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.1 by
    exact View.canon_apply_of_pieces (Val := Elt Ideal) (S := S1x512x512) (e := .bf16) (gK x0 x1 x2 x4 x5) _ hG.mem y
      (View.cover_of_tiledL _ ![1, 128, 512] (by sl_kernel_rfl) y)
  refine ⟨?_, ?_, ?_, ?_, trivial⟩
  · intro x
    refine Eq.trans ?_ (kb_piece x0 x1 x2 x4 x5 384 (by omega) inb_S1x512x1024_S1x128x1024_0_384_0 inb_S1x512x512_S1x128x512_0_384_0 x)
    refine congrFun ?_ x
    dsimp only
    unfold kernelRun0_A.sl.r_280 kernelRun0_A.sl.r_178
    simp (disch := decide) only [View.readAt_eq_ld, Memref.IsWhole.read_unread, View.ld_unit_lit']
    all_goals rfl
  · intro x
    refine Eq.trans ?_ (kb_piece x0 x1 x2 x4 x5 256 (by omega) inb_S1x512x1024_S1x128x1024_0_256_0 inb_S1x512x512_S1x128x512_0_256_0 x)
    refine congrFun ?_ x
    dsimp only
    unfold kernelRun0_A.sl.r_84
    simp (disch := decide) only [View.readAt_eq_ld, Memref.IsWhole.read_unread, View.ld_unit_lit']
    all_goals rfl
  · intro x
    refine Eq.trans ?_ (kb_piece x0 x1 x2 x4 x5 128 (by omega) inb_S1x512x1024_S1x128x1024_0_128_0 inb_S1x512x512_S1x128x512_0_128_0 x)
    refine congrFun ?_ x
    dsimp only
    unfold kernelRun0_A.sl.r_3 kernelRun0_A.sl.r_1 kernelRun0_A.sl.r_2
    simp (disch := decide) only [View.readAt_eq_ld, Memref.IsWhole.read_unread, View.ld_unit_lit']
    all_goals rfl
  · intro x
    refine Eq.trans ?_ (kb_piece x0 x1 x2 x4 x5 0 (by omega) inb_S1x512x1024_S1x128x1024_0_0_0 inb_S1x512x512_S1x128x512_0_0_0 x)
    refine congrFun ?_ x
    dsimp only
    unfold kernelRun0_A.sl.r_6 kernelRun0_A.sl.r
    simp (disch := decide) only [View.readAt_eq_ld, Memref.IsWhole.read_unread, View.ld_unit_lit']
    all_goals rfl

/-- The keys' block, wide. -/
theorem out13A (y : S1x512x512.Idx) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 y = gK x0 x1 x2 x4 x5 y := by
  unfold out0_A_13
  rw [View.read_writes_junk_eq_canon]
  suffices hG : View.PiecesOf (Val := Elt Ideal) (s := S1x512x512) (e := .f32) (gK x0 x1 x2 x4 x5) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.1 by
    exact View.canon_apply_of_pieces (Val := Elt Ideal) (S := S1x512x512) (e := .f32) (gK x0 x1 x2 x4 x5) _ hG.mem y
      (View.cover_of_tiledL _ ![1, 128, 512] (by sl_kernel_rfl) y)
  refine ⟨?_, ?_, ?_, ?_, trivial⟩
  · intro x
    refine Eq.trans ?_ (k_piece x0 x1 x2 x4 x5 384 (by omega) inb_S1x512x1024_S1x128x1024_0_384_0 inb_S1x512x512_S1x128x512_0_384_0 x)
    refine congrFun ?_ x
    dsimp only
    unfold kernelRun0_A.sl.r_278 kernelRun0_A.sl.r_178
    simp (disch := decide) only [View.readAt_eq_ld, Memref.IsWhole.read_unread, View.ld_unit_lit']
    all_goals rfl
  · intro x
    refine Eq.trans ?_ (k_piece x0 x1 x2 x4 x5 256 (by omega) inb_S1x512x1024_S1x128x1024_0_256_0 inb_S1x512x512_S1x128x512_0_256_0 x)
    refine congrFun ?_ x
    dsimp only
    unfold kernelRun0_A.sl.r_84
    simp (disch := decide) only [View.readAt_eq_ld, Memref.IsWhole.read_unread, View.ld_unit_lit']
    all_goals rfl
  · intro x
    refine Eq.trans ?_ (k_piece x0 x1 x2 x4 x5 128 (by omega) inb_S1x512x1024_S1x128x1024_0_128_0 inb_S1x512x512_S1x128x512_0_128_0 x)
    refine congrFun ?_ x
    dsimp only
    unfold kernelRun0_A.sl.r_86 kernelRun0_A.sl.r_3 kernelRun0_A.sl.r_1 kernelRun0_A.sl.r_2
    simp (disch := decide) only [View.readAt_eq_ld, Memref.IsWhole.read_unread, View.ld_unit_lit']
    all_goals rfl
  · intro x
    refine Eq.trans ?_ (k_piece x0 x1 x2 x4 x5 0 (by omega) inb_S1x512x1024_S1x128x1024_0_0_0 inb_S1x512x512_S1x128x512_0_0_0 x)
    refine congrFun ?_ x
    dsimp only
    unfold kernelRun0_A.sl.r_4 kernelRun0_A.sl.r
    simp (disch := decide) only [View.readAt_eq_ld, Memref.IsWhole.read_unread, View.ld_unit_lit']
    all_goals rfl

/-- The values' block. -/
theorem out14A (y : S1x512x512.Idx) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 y = gV x0 x1 x2 y := by
  unfold out0_A_14
  rw [View.read_writes_junk_eq_canon]
  suffices hG : View.PiecesOf (Val := Elt Ideal) (s := S1x512x512) (e := .f32) (gV x0 x1 x2) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.1 by
    exact View.canon_apply_of_pieces (Val := Elt Ideal) (S := S1x512x512) (e := .f32) (gV x0 x1 x2) _ hG.mem y
      (View.cover_of_tiledL _ ![1, 128, 512] (by sl_kernel_rfl) y)
  refine ⟨?_, ?_, ?_, ?_, trivial⟩
  · intro x
    refine Eq.trans ?_ (v_piece x0 x1 x2 384 (by omega) inb_S1x512x1024_S1x128x1024_0_384_0 inb_S1x512x512_S1x128x512_0_384_0 x)
    refine congrFun ?_ x
    dsimp only
    unfold kernelRun0_A.sl.r_279 kernelRun0_A.sl.r_178
    simp (disch := decide) only [View.readAt_eq_ld, Memref.IsWhole.read_unread, View.ld_unit_lit']
    all_goals rfl
  · intro x
    refine Eq.trans ?_ (v_piece x0 x1 x2 256 (by omega) inb_S1x512x1024_S1x128x1024_0_256_0 inb_S1x512x512_S1x128x512_0_256_0 x)
    refine congrFun ?_ x
    dsimp only
    unfold kernelRun0_A.sl.r_84
    simp (disch := decide) only [View.readAt_eq_ld, Memref.IsWhole.read_unread, View.ld_unit_lit']
    all_goals rfl
  · intro x
    refine Eq.trans ?_ (v_piece x0 x1 x2 128 (by omega) inb_S1x512x1024_S1x128x1024_0_128_0 inb_S1x512x512_S1x128x512_0_128_0 x)
    refine congrFun ?_ x
    dsimp only
    unfold kernelRun0_A.sl.r_87 kernelRun0_A.sl.r_3 kernelRun0_A.sl.r_1 kernelRun0_A.sl.r_2
    simp (disch := decide) only [View.readAt_eq_ld, Memref.IsWhole.read_unread, View.ld_unit_lit']
    all_goals rfl
  · intro x
    refine Eq.trans ?_ (v_piece x0 x1 x2 0 (by omega) inb_S1x512x1024_S1x128x1024_0_0_0 inb_S1x512x512_S1x128x512_0_0_0 x)
    refine congrFun ?_ x
    dsimp only
    unfold kernelRun0_A.sl.r_5 kernelRun0_A.sl.r
    simp (disch := decide) only [View.readAt_eq_ld, Memref.IsWhole.read_unread, View.ld_unit_lit']
    all_goals rfl

/-- The transposed values' block. -/
theorem out15A (y : S1x2x512x256.Idx) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 y = gT x0 x1 x2 y := by
  unfold out0_A_15
  rw [View.read_writes_junk_eq_canon]
  suffices hG : View.PiecesOf (Val := Elt Ideal) (s := S1x2x512x256) (e := .bf16) (gT x0 x1 x2) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.1 by
    exact View.canon_apply_of_pieces (Val := Elt Ideal) (S := S1x2x512x256) (e := .bf16) (gT x0 x1 x2) _ hG.mem y
      (View.cover_of_tiledL _ ![1, 1, 512, 128] (by sl_kernel_rfl) y)
  refine ⟨?_, ?_, ?_, ?_, trivial⟩
  · intro x
    refine Eq.trans ?_ (vt_piece x0 x1 x2 384 1 128 (by omega) (by omega) inb_S1x512x1024_S1x128x1024_0_384_0 inb_S1x2x512x256_S1x1x512x128_0_1_0_128 x)
    refine congrFun ?_ x
    dsimp only
    unfold kernelRun0_A.sl.r_279 kernelRun0_A.sl.r_178
    simp (disch := decide) only [View.readAt_eq_ld, Memref.IsWhole.read_unread, View.ld_unit_lit']
    all_goals rfl
  · intro x
    refine Eq.trans ?_ (vt_piece x0 x1 x2 256 1 0 (by omega) (by omega) inb_S1x512x1024_S1x128x1024_0_256_0 inb_S1x2x512x256_S1x1x512x128_0_1_0_0 x)
    refine congrFun ?_ x
    dsimp only
    unfold kernelRun0_A.sl.r_183 kernelRun0_A.sl.r_84
    simp (disch := decide) only [View.readAt_eq_ld, Memref.IsWhole.read_unread, View.ld_unit_lit']
    all_goals rfl
  · intro x
    refine Eq.trans ?_ (vt_piece x0 x1 x2 128 0 128 (by omega) (by omega) inb_S1x512x1024_S1x128x1024_0_128_0 inb_S1x2x512x256_S1x1x512x128_0_0_0_128 x)
    refine congrFun ?_ x
    dsimp only
    unfold kernelRun0_A.sl.r_87 kernelRun0_A.sl.r_3 kernelRun0_A.sl.r_1 kernelRun0_A.sl.r_2
    simp (disch := decide) only [View.readAt_eq_ld, Memref.IsWhole.read_unread, View.ld_unit_lit']
    all_goals rfl
  · intro x
    refine Eq.trans ?_ (vt_piece x0 x1 x2 0 0 0 (by omega) (by omega) inb_S1x512x1024_S1x128x1024_0_0_0 inb_S1x2x512x256_S1x1x512x128_0_0_0_0 x)
    refine congrFun ?_ x
    dsimp only
    unfold kernelRun0_A.sl.r_5 kernelRun0_A.sl.r
    simp (disch := decide) only [View.readAt_eq_ld, Memref.IsWhole.read_unread, View.ld_unit_lit']
    all_goals rfl

/-- A late row of the gated products' buffer. -/
theorem bufA (f : arg20.view.ty.Contents (Elt Ideal)) (y : S544x512.Idx) (hy : 416 ≤ (y 0).val) :
    arg20.view.read (Elt Ideal) (arg20.view.writes (Elt Ideal) f (kernelRun0_A.sl.HS0_5 (F := Ideal) c arg2 harg2 arg3 harg3 arg4 harg4 arg12 harg12 x0 x1 x2 x10)) y
      = gt (pB x0 x1 x2 ((y 0).val - 32)) (y 1).val := by
  have h0 : (y 0).val < 544 := (y 0).isLt
  have h1 : (y 1).val < 512 := (y 1).isLt
  refine (View.read_writes_cons_rows_of_mem arg20.view f (o := 416) inb_S544x512_S128x512_416_0 _ _ y
    (ix2 (⟨(y 0).val - 416, by omega⟩ : Fin 128) (⟨(y 1).val, h1⟩ : Fin 512)) rfl ?_ rfl).trans ?_
  · show (y 0).val = 416 + ((y 0).val - 416); omega
  · unfold kernelRun0_A.sl.r_178
    simp (disch := decide) only [View.readAt_eq_ld, Memref.IsWhole.read_unread, View.ld_unit_lit']
    refine (c_piece x0 x1 x2 inb_S1x512x1024_S1x128x1024_0_384_0 _).trans ?_
    show gt (pB x0 x1 x2 (384 + ((y 0).val - 416))) (y 1).val = _
    rw [show 384 + ((y 0).val - 416) = (y 0).val - 32 by omega]

/-- The last rows of the gated products. -/
theorem lastA (y : S32x512.Idx) : kernelRun0_A.sl.v5903 (F := Ideal) c arg2 harg2 arg3 harg3 arg4 harg4 arg12 harg12 arg20 x0 x1 x2 x10 y = gt (pB x0 x1 x2 (480 + (y 0).val)) (y 1).val := by
  unfold kernelRun0_A.sl.v5903
  have q0 : ((Rect.unit (s := S544x512) ![512, 0] S32x512.size inb_S544x512_S32x512_512_0).idx y 0).val = 512 + (y 0).val :=
    Rect.idx_unit_val _ _ inb_S544x512_S32x512_512_0 _ 0
  have q1 : ((Rect.unit (s := S544x512) ![512, 0] S32x512.size inb_S544x512_S32x512_512_0).idx y 1).val = (y 1).val :=
    (Rect.idx_unit_val _ _ inb_S544x512_S32x512_512_0 _ 1).trans (Nat.zero_add _)
  refine (bufA c arg2 harg2 arg3 harg3 arg4 harg4 arg12 harg12 arg20 x0 x1 x2 x10 arg20.view.junk
    ((Rect.unit (s := S544x512) ![512, 0] S32x512.size inb_S544x512_S32x512_512_0).idx y) ?_).trans ?_
  · rw [q0]; omega
  · rw [q0, q1, show 512 + (y 0).val - 32 = 480 + (y 0).val by omega]

/-- The carried state's block. -/
theorem out17A (y : S1x32x512.Idx) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 y = gt (pB x0 x1 x2 (480 + (y 1).val)) (y 2).val := by
  have h1 : (y 1).val < 32 := (y 1).isLt
  have h2 : (y 2).val < 512 := (y 2).isLt
  unfold out0_A_17
  rw [View.read_writes_junk_eq_canon]
  refine (congrFun (View.canon_cons_unit_zero (S := S1x32x512) (e := .f32) (Val := Elt Ideal) (off := ![0, 0, 0]) (by decide) inb_S1x32x512_S1x32x512_0_0_0
    (k0_pay420 (F := Ideal) (kernelRun0_A.sl.v5903 (F := Ideal) c arg2 harg2 arg3 harg3 arg4 harg4 arg12 harg12 arg20 x0 x1 x2 x10)) _) y).trans ?_
  rw [tail_apply, e2_in _ h1 h2]
  exact lastA c arg2 harg2 arg3 harg3 arg4 harg4 arg12 harg12 arg20 x0 x1 x2 x10 _

end Cert.Proof.IP

end

end
-- ==== Proof.IP.BodyB.lean ====
/-
  A later point: what its blocks hold.
-/
module

public import proofs.«01_k».proof.Proof.Gen.Kernel3Ideal.Frame
public import proofs.«01_k».proof.Proof.IP.Piece

@[expose] public section

set_option maxRecDepth 65536

noncomputable section

namespace Cert.Proof.IP

open Cert.Proof.FF
open Cert.Kernel3Ideal Cert.Kernel3Ideal.Gen

open Idealize.ShloMosaic hiding ix1 ix2 ix3 ix4 eq_ix1 eq_ix2 eq_ix3 eq_ix4
open Idealize.ShloMosaic.ValueIdx
open Idealize.ShloMosaic.TcCoe

variable (c : Dev nD) (i : grid0.Coords)
    (arg2 : Memref sig .tc .vmem S1x512x1024 .f32) (harg2 : arg2.IsWhole)
    (arg3 : Memref sig .tc .vmem S1x1024 .f32) (harg3 : arg3.IsWhole)
    (arg4 : Memref sig .tc .vmem S1024x2560 .bf16) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S512x512 .bf16) (harg7 : arg7.IsWhole)
    (arg8 : Memref sig .tc .vmem S31x512 .f32) (harg8 : arg8.IsWhole)
    (arg9 : Memref sig .tc .vmem S1x512 .f32) (harg9 : arg9.IsWhole)
    (arg10 : Memref sig .tc .vmem S1x512 .f32) (harg10 : arg10.IsWhole)
    (arg11 : Memref sig .tc .vmem S1x512 .f32) (harg11 : arg11.IsWhole)
    (arg12 : Memref sig .tc .vmem S1x32x512 .f32) (harg12 : arg12.IsWhole)
    (arg13 : Memref sig .tc .vmem S1x512x512 .bf16) (harg13 : arg13.IsWhole)
    (arg14 : Memref sig .tc .vmem S1x512x512 .bf16) (harg14 : arg14.IsWhole)
    (arg15 : Memref sig .tc .vmem S1x512x512 .f32) (harg15 : arg15.IsWhole)
    (arg16 : Memref sig .tc .vmem S1x512x512 .f32) (harg16 : arg16.IsWhole)
    (arg17 : Memref sig .tc .vmem S1x2x512x256 .bf16) (harg17 : arg17.IsWhole)
    (arg18 : Memref sig .tc .vmem S1x512x512 .bf16) (harg18 : arg18.IsWhole)
    (arg19 : Memref sig .tc .vmem S1x32x512 .f32) (harg19 : arg19.IsWhole)
    (arg20 : Memref sig .tc .vmem S544x512 .f32) (harg20 : arg20.IsWhole)
    (arg21 : Memref sig .tc .vmem S512x512 .f32) (harg21 : arg21.IsWhole)
    (hc0 : ¬cond0_0 i)
    (x0 : Vec Ideal S1x512x1024 .f32) (x1 : Vec Ideal S1x1024 .f32) (x2 : Vec Ideal S1024x2560 .bf16) (x3 : Vec Ideal S1x512 .f32) (x4 : Vec Ideal S1x512 .f32) (x5 : Vec Ideal S512x512 .bf16) (x6 : Vec Ideal S31x512 .f32) (x7 : Vec Ideal S1x512 .f32) (x8 : Vec Ideal S1x512 .f32) (x9 : Vec Ideal S1x512 .f32) (x10 : Vec Ideal S1x32x512 .f32) (xs0 : Vec Ideal S544x512 .f32)

/-- The queries' block, at an index. -/
theorem out11B (y : S1x512x512.Idx) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 y = gQ x0 x1 x2 x3 x5 y := by
  unfold out0_B_11
  rw [View.read_writes_junk_eq_canon]
  suffices hG : View.PiecesOf (Val := Elt Ideal) (s := S1x512x512) (e := .bf16) (gQ x0 x1 x2 x3 x5) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0).1 by
    exact View.canon_apply_of_pieces (Val := Elt Ideal) (S := S1x512x512) (e := .bf16) (gQ x0 x1 x2 x3 x5) _ hG.mem y
      (View.cover_of_tiledL _ ![1, 128, 512] (by sl_kernel_rfl) y)
  refine ⟨?_, ?_, ?_, ?_, trivial⟩
  · intro x
    refine Eq.trans ?_ (q_piece x0 x1 x2 x3 x5 384 (by omega) inb_S1x512x1024_S1x128x1024_0_384_0 inb_S1x512x512_S1x128x512_0_384_0 x)
    refine congrFun ?_ x
    dsimp only
    unfold kernelRun0_B.sl.r_182
    simp (disch := decide) only [View.readAt_eq_ld, Memref.IsWhole.read_unread, View.ld_unit_lit']
    all_goals rfl
  · intro x
    refine Eq.trans ?_ (q_piece x0 x1 x2 x3 x5 256 (by omega) inb_S1x512x1024_S1x128x1024_0_256_0 inb_S1x512x512_S1x128x512_0_256_0 x)
    refine congrFun ?_ x
    dsimp only
    unfold kernelRun0_B.sl.r_183 kernelRun0_B.sl.r_184 kernelRun0_B.sl.r_185 kernelRun0_B.sl.r_186 kernelRun0_B.sl.r_88 kernelRun0_B.sl.cst_1299
    simp (disch := decide) only [View.readAt_eq_ld, Memref.IsWhole.read_unread, View.ld_unit_lit']
    all_goals rfl
  · intro x
    refine Eq.trans ?_ (q_piece x0 x1 x2 x3 x5 128 (by omega) inb_S1x512x1024_S1x128x1024_0_128_0 inb_S1x512x512_S1x128x512_0_128_0 x)
    refine congrFun ?_ x
    dsimp only
    unfold kernelRun0_B.sl.r_89 kernelRun0_B.sl.r_3 kernelRun0_B.sl.r_1 kernelRun0_B.sl.r_2
    simp (disch := decide) only [View.readAt_eq_ld, Memref.IsWhole.read_unread, View.ld_unit_lit']
    all_goals rfl
  · intro x
    refine Eq.trans ?_ (q_piece x0 x1 x2 x3 x5 0 (by omega) inb_S1x512x1024_S1x128x1024_0_0_0 inb_S1x512x512_S1x128x512_0_0_0 x)
    refine congrFun ?_ x
    dsimp only
    unfold kernelRun0_B.sl.r
    simp (disch := decide) only [View.readAt_eq_ld, Memref.IsWhole.read_unread, View.ld_unit_lit']
    all_goals rfl

/-- The keys' block. -/
theorem out12B (y : S1x512x512.Idx) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 y = gK x0 x1 x2 x4 x5 y := by
  unfold out0_B_12
  rw [View.read_writes_junk_eq_canon]
  suffices hG : View.PiecesOf (Val := Elt Ideal) (s := S1x512x512) (e := .bf16) (gK x0 x1 x2 x4 x5) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0).2.1 by
    exact View.canon_apply_of_pieces (Val := Elt Ideal) (S := S1x512x512) (e := .bf16) (gK x0 x1 x2 x4 x5) _ hG.mem y
      (View.cover_of_tiledL _ ![1, 128, 512] (by sl_kernel_rfl) y)
  refine ⟨?_, ?_, ?_, ?_, trivial⟩
  · intro x
    refine Eq.trans ?_ (kb_piece x0 x1 x2 x4 x5 384 (by omega) inb_S1x512x1024_S1x128x1024_0_384_0 inb_S1x512x512_S1x128x512_0_384_0 x)
    refine congrFun ?_ x
    dsimp only
    unfold kernelRun0_B.sl.r_284 kernelRun0_B.sl.r_182
    simp (disch := decide) only [View.readAt_eq_ld, Memref.IsWhole.read_unread, View.ld_unit_lit']
    all_goals rfl
  · intro x
    refine Eq.trans ?_ (kb_piece x0 x1 x2 x4 x5 256 (by omega) inb_S1x512x1024_S1x128x1024_0_256_0 inb_S1x512x512_S1x128x512_0_256_0 x)
    refine congrFun ?_ x
    dsimp only
    unfold kernelRun0_B.sl.r_88
    simp (disch := decide) only [View.readAt_eq_ld, Memref.IsWhole.read_unread, View.ld_unit_lit']
    all_goals rfl
  · intro x
    refine Eq.trans ?_ (kb_piece x0 x1 x2 x4 x5 128 (by omega) inb_S1x512x1024_S1x128x1024_0_128_0 inb_S1x512x512_S1x128x512_0_128_0 x)
    refine congrFun ?_ x
    dsimp only
    unfold kernelRun0_B.sl.r_3 kernelRun0_B.sl.r_1 kernelRun0_B.sl.r_2
    simp (disch := decide) only [View.readAt_eq_ld, Memref.IsWhole.read_unread, View.ld_unit_lit']
    all_goals rfl
  · intro x
    refine Eq.trans ?_ (kb_piece x0 x1 x2 x4 x5 0 (by omega) inb_S1x512x1024_S1x128x1024_0_0_0 inb_S1x512x512_S1x128x512_0_0_0 x)
    refine congrFun ?_ x
    dsimp only
    unfold kernelRun0_B.sl.r_6 kernelRun0_B.sl.r
    simp (disch := decide) only [View.readAt_eq_ld, Memref.IsWhole.read_unread, View.ld_unit_lit']
    all_goals rfl

/-- The keys' block, wide. -/
theorem out13B (y : S1x512x512.Idx) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 y = gK x0 x1 x2 x4 x5 y := by
  unfold out0_B_13
  rw [View.read_writes_junk_eq_canon]
  suffices hG : View.PiecesOf (Val := Elt Ideal) (s := S1x512x512) (e := .f32) (gK x0 x1 x2 x4 x5) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0).2.2.1 by
    exact View.canon_apply_of_pieces (Val := Elt Ideal) (S := S1x512x512) (e := .f32) (gK x0 x1 x2 x4 x5) _ hG.mem y
      (View.cover_of_tiledL _ ![1, 128, 512] (by sl_kernel_rfl) y)
  refine ⟨?_, ?_, ?_, ?_, trivial⟩
  · intro x
    refine Eq.trans ?_ (k_piece x0 x1 x2 x4 x5 384 (by omega) inb_S1x512x1024_S1x128x1024_0_384_0 inb_S1x512x512_S1x128x512_0_384_0 x)
    refine congrFun ?_ x
    dsimp only
    unfold kernelRun0_B.sl.r_282 kernelRun0_B.sl.r_182
    simp (disch := decide) only [View.readAt_eq_ld, Memref.IsWhole.read_unread, View.ld_unit_lit']
    all_goals rfl
  · intro x
    refine Eq.trans ?_ (k_piece x0 x1 x2 x4 x5 256 (by omega) inb_S1x512x1024_S1x128x1024_0_256_0 inb_S1x512x512_S1x128x512_0_256_0 x)
    refine congrFun ?_ x
    dsimp only
    unfold kernelRun0_B.sl.r_88
    simp (disch := decide) only [View.readAt_eq_ld, Memref.IsWhole.read_unread, View.ld_unit_lit']
    all_goals rfl
  · intro x
    refine Eq.trans ?_ (k_piece x0 x1 x2 x4 x5 128 (by omega) inb_S1x512x1024_S1x128x1024_0_128_0 inb_S1x512x512_S1x128x512_0_128_0 x)
    refine congrFun ?_ x
    dsimp only
    unfold kernelRun0_B.sl.r_90 kernelRun0_B.sl.r_3 kernelRun0_B.sl.r_1 kernelRun0_B.sl.r_2
    simp (disch := decide) only [View.readAt_eq_ld, Memref.IsWhole.read_unread, View.ld_unit_lit']
    all_goals rfl
  · intro x
    refine Eq.trans ?_ (k_piece x0 x1 x2 x4 x5 0 (by omega) inb_S1x512x1024_S1x128x1024_0_0_0 inb_S1x512x512_S1x128x512_0_0_0 x)
    refine congrFun ?_ x
    dsimp only
    unfold kernelRun0_B.sl.r_4 kernelRun0_B.sl.r
    simp (disch := decide) only [View.readAt_eq_ld, Memref.IsWhole.read_unread, View.ld_unit_lit']
    all_goals rfl

/-- The values' block. -/
theorem out14B (y : S1x512x512.Idx) : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 y = gV x0 x1 x2 y := by
  unfold out0_B_14
  rw [View.read_writes_junk_eq_canon]
  suffices hG : View.PiecesOf (Val := Elt Ideal) (s := S1x512x512) (e := .f32) (gV x0 x1 x2) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0).2.2.2.1 by
    exact View.canon_apply_of_pieces (Val := Elt Ideal) (S := S1x512x512) (e := .f32) (gV x0 x1 x2) _ hG.mem y
      (View.cover_of_tiledL _ ![1, 128, 512] (by sl_kernel_rfl) y)
  refine ⟨?_, ?_, ?_, ?_, trivial⟩
  · intro x
    refine Eq.trans ?_ (v_piece x0 x1 x2 384 (by omega) inb_S1x512x1024_S1x128x1024_0_384_0 inb_S1x512x512_S1x128x512_0_384_0 x)
    refine congrFun ?_ x
    dsimp only
    unfold kernelRun0_B.sl.r_283 kernelRun0_B.sl.r_182
    simp (disch := decide) only [View.readAt_eq_ld, Memref.IsWhole.read_unread, View.ld_unit_lit']
    all_goals rfl
  · intro x
    refine Eq.trans ?_ (v_piece x0 x1 x2 256 (by omega) inb_S1x512x1024_S1x128x1024_0_256_0 inb_S1x512x512_S1x128x512_0_256_0 x)
    refine congrFun ?_ x
    dsimp only
    unfold kernelRun0_B.sl.r_88
    simp (disch := decide) only [View.readAt_eq_ld, Memref.IsWhole.read_unread, View.ld_unit_lit']
    all_goals rfl
  · intro x
    refine Eq.trans ?_ (v_piece x0 x1 x2 128 (by omega) inb_S1x512x1024_S1x128x1024_0_128_0 inb_S1x512x512_S1x128x512_0_128_0 x)
    refine congrFun ?_ x
    dsimp only
    unfold kernelRun0_B.sl.r_91 kernelRun0_B.sl.r_3 kernelRun0_B.sl.r_1 kernelRun0_B.sl.r_2
    simp (disch := decide) only [View.readAt_eq_ld, Memref.IsWhole.read_unread, View.ld_unit_lit']
    all_goals rfl
  · intro x
    refine Eq.trans ?_ (v_piece x0 x1 x2 0 (by omega) inb_S1x512x1024_S1x128x1024_0_0_0 inb_S1x512x512_S1x128x512_0_0_0 x)
    refine congrFun ?_ x
    dsimp only
    unfold kernelRun0_B.sl.r_5 kernelRun0_B.sl.r
    simp (disch := decide) only [View.readAt_eq_ld, Memref.IsWhole.read_unread, View.ld_unit_lit']
    all_goals rfl

/-- The transposed values' block. -/
theorem out15B (y : S1x2x512x256.Idx) : out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 y = gT x0 x1 x2 y := by
  unfold out0_B_15
  rw [View.read_writes_junk_eq_canon]
  suffices hG : View.PiecesOf (Val := Elt Ideal) (s := S1x2x512x256) (e := .bf16) (gT x0 x1 x2) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0).2.2.2.2.1 by
    exact View.canon_apply_of_pieces (Val := Elt Ideal) (S := S1x2x512x256) (e := .bf16) (gT x0 x1 x2) _ hG.mem y
      (View.cover_of_tiledL _ ![1, 1, 512, 128] (by sl_kernel_rfl) y)
  refine ⟨?_, ?_, ?_, ?_, trivial⟩
  · intro x
    refine Eq.trans ?_ (vt_piece x0 x1 x2 384 1 128 (by omega) (by omega) inb_S1x512x1024_S1x128x1024_0_384_0 inb_S1x2x512x256_S1x1x512x128_0_1_0_128 x)
    refine congrFun ?_ x
    dsimp only
    unfold kernelRun0_B.sl.r_283 kernelRun0_B.sl.r_182
    simp (disch := decide) only [View.readAt_eq_ld, Memref.IsWhole.read_unread, View.ld_unit_lit']
    all_goals rfl
  · intro x
    refine Eq.trans ?_ (vt_piece x0 x1 x2 256 1 0 (by omega) (by omega) inb_S1x512x1024_S1x128x1024_0_256_0 inb_S1x2x512x256_S1x1x512x128_0_1_0_0 x)
    refine congrFun ?_ x
    dsimp only
    unfold kernelRun0_B.sl.r_187 kernelRun0_B.sl.r_88
    simp (disch := decide) only [View.readAt_eq_ld, Memref.IsWhole.read_unread, View.ld_unit_lit']
    all_goals rfl
  · intro x
    refine Eq.trans ?_ (vt_piece x0 x1 x2 128 0 128 (by omega) (by omega) inb_S1x512x1024_S1x128x1024_0_128_0 inb_S1x2x512x256_S1x1x512x128_0_0_0_128 x)
    refine congrFun ?_ x
    dsimp only
    unfold kernelRun0_B.sl.r_91 kernelRun0_B.sl.r_3 kernelRun0_B.sl.r_1 kernelRun0_B.sl.r_2
    simp (disch := decide) only [View.readAt_eq_ld, Memref.IsWhole.read_unread, View.ld_unit_lit']
    all_goals rfl
  · intro x
    refine Eq.trans ?_ (vt_piece x0 x1 x2 0 0 0 (by omega) (by omega) inb_S1x512x1024_S1x128x1024_0_0_0 inb_S1x2x512x256_S1x1x512x128_0_0_0_0 x)
    refine congrFun ?_ x
    dsimp only
    unfold kernelRun0_B.sl.r_5 kernelRun0_B.sl.r
    simp (disch := decide) only [View.readAt_eq_ld, Memref.IsWhole.read_unread, View.ld_unit_lit']
    all_goals rfl

/-- A late row of the gated products' buffer. -/
theorem bufB (f : arg20.view.ty.Contents (Elt Ideal)) (y : S544x512.Idx) (hy : 416 ≤ (y 0).val) :
    arg20.view.read (Elt Ideal) (arg20.view.writes (Elt Ideal) f (kernelRun0_B.sl.HS0_4 (F := Ideal) c arg2 harg2 arg3 harg3 arg4 harg4 x0 x1 x2)) y
      = gt (pB x0 x1 x2 ((y 0).val - 32)) (y 1).val := by
  have h0 : (y 0).val < 544 := (y 0).isLt
  have h1 : (y 1).val < 512 := (y 1).isLt
  refine (View.read_writes_cons_rows_of_mem arg20.view f (o := 416) inb_S544x512_S128x512_416_0 _ _ y
    (ix2 (⟨(y 0).val - 416, by omega⟩ : Fin 128) (⟨(y 1).val, h1⟩ : Fin 512)) rfl ?_ rfl).trans ?_
  · show (y 0).val = 416 + ((y 0).val - 416); omega
  · unfold kernelRun0_B.sl.r_182
    simp (disch := decide) only [View.readAt_eq_ld, Memref.IsWhole.read_unread, View.ld_unit_lit']
    refine (c_piece x0 x1 x2 inb_S1x512x1024_S1x128x1024_0_384_0 _).trans ?_
    show gt (pB x0 x1 x2 (384 + ((y 0).val - 416))) (y 1).val = _
    rw [show 384 + ((y 0).val - 416) = (y 0).val - 32 by omega]

/-- The last rows of the gated products. -/
theorem lastB (y : S32x512.Idx) : kernelRun0_B.sl.v5903 (F := Ideal) c arg2 harg2 arg3 harg3 arg4 harg4 arg20 x0 x1 x2 y = gt (pB x0 x1 x2 (480 + (y 0).val)) (y 1).val := by
  unfold kernelRun0_B.sl.v5903
  have q0 : ((Rect.unit (s := S544x512) ![512, 0] S32x512.size inb_S544x512_S32x512_512_0).idx y 0).val = 512 + (y 0).val :=
    Rect.idx_unit_val _ _ inb_S544x512_S32x512_512_0 _ 0
  have q1 : ((Rect.unit (s := S544x512) ![512, 0] S32x512.size inb_S544x512_S32x512_512_0).idx y 1).val = (y 1).val :=
    (Rect.idx_unit_val _ _ inb_S544x512_S32x512_512_0 _ 1).trans (Nat.zero_add _)
  refine (bufB c arg2 harg2 arg3 harg3 arg4 harg4 arg20 x0 x1 x2 arg20.view.junk
    ((Rect.unit (s := S544x512) ![512, 0] S32x512.size inb_S544x512_S32x512_512_0).idx y) ?_).trans ?_
  · rw [q0]; omega
  · rw [q0, q1, show 512 + (y 0).val - 32 = 480 + (y 0).val by omega]

/-- The carried state's block. -/
theorem out17B (y : S1x32x512.Idx) : out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 y = gt (pB x0 x1 x2 (480 + (y 1).val)) (y 2).val := by
  have h1 : (y 1).val < 32 := (y 1).isLt
  have h2 : (y 2).val < 512 := (y 2).isLt
  unfold out0_B_17
  rw [View.read_writes_junk_eq_canon]
  refine (congrFun (View.canon_cons_unit_zero (S := S1x32x512) (e := .f32) (Val := Elt Ideal) (off := ![0, 0, 0]) (by decide) inb_S1x32x512_S1x32x512_0_0_0
    (k0_pay420 (F := Ideal) (kernelRun0_B.sl.v5903 (F := Ideal) c arg2 harg2 arg3 harg3 arg4 harg4 arg20 x0 x1 x2)) _) y).trans ?_
  rw [tail_apply, e2_in _ h1 h2]
  exact lastB c arg2 harg2 arg3 harg3 arg4 harg4 arg20 x0 x1 x2 _

end Cert.Proof.IP

end

end
-- ==== Proof.IP.Array.lean ====
/-
  What the projections' region leaves in the results' arrays.
-/
module

public import proofs.«01_k».proof.Proof.Gen.Kernel3Ideal.Value
public import proofs.«01_k».proof.Proof.IP.Blk
public import proofs.«01_k».proof.Proof.IP.BodyA
public import proofs.«01_k».proof.Proof.IP.BodyB

@[expose] public section

set_option maxRecDepth 65536

noncomputable section

namespace Cert.Proof.IP

open Cert.Proof.FF
open Cert.Kernel3Ideal Cert.Kernel3Ideal.Gen

open Idealize.ShloMosaic hiding ix1 ix2 ix3 ix4 eq_ix1 eq_ix2 eq_ix3 eq_ix4
open Idealize.ShloMosaic.ValueIdx
open Idealize.ShloMosaic.TcCoe

variable (m : (ℓ : Loc nD τ sig) → Buf (Elt Ideal) ℓ) (c : Dev nD)

theorem pt11 (t : Fin cfg0.N) (y : S1x512x512.Idx) : (outsAt0 m c t.val t.isLt).1 y = mQ m c (t.val / 8) (512 * (t.val % 8) + (y 1).val) (y 2).val := by
  by_cases h0 : t.val % 8 = 0
  · rw [outsAt0_A m c t h0]
    dsimp only
    rw [out11A]
    exact blkQ m c t y
  · rw [outsAt0_B m c t h0]
    dsimp only
    rw [out11B]
    exact blkQ m c t y

theorem pt12 (t : Fin cfg0.N) (y : S1x512x512.Idx) : (outsAt0 m c t.val t.isLt).2.1 y = mK m c (t.val / 8) (512 * (t.val % 8) + (y 1).val) (y 2).val := by
  by_cases h0 : t.val % 8 = 0
  · rw [outsAt0_A m c t h0]
    dsimp only
    rw [out12A]
    exact blkK m c t y
  · rw [outsAt0_B m c t h0]
    dsimp only
    rw [out12B]
    exact blkK m c t y

theorem pt13 (t : Fin cfg0.N) (y : S1x512x512.Idx) : (outsAt0 m c t.val t.isLt).2.2.1 y = mK m c (t.val / 8) (512 * (t.val % 8) + (y 1).val) (y 2).val := by
  by_cases h0 : t.val % 8 = 0
  · rw [outsAt0_A m c t h0]
    dsimp only
    rw [out13A]
    exact blkK m c t y
  · rw [outsAt0_B m c t h0]
    dsimp only
    rw [out13B]
    exact blkK m c t y

theorem pt14 (t : Fin cfg0.N) (y : S1x512x512.Idx) : (outsAt0 m c t.val t.isLt).2.2.2.1 y = mPR m c (t.val / 8) (512 * (t.val % 8) + (y 1).val) (1024 + (y 2).val) := by
  by_cases h0 : t.val % 8 = 0
  · rw [outsAt0_A m c t h0]
    dsimp only
    rw [out14A]
    exact blkV m c t y
  · rw [outsAt0_B m c t h0]
    dsimp only
    rw [out14B]
    exact blkV m c t y

theorem pt15 (t : Fin cfg0.N) (y : S1x2x512x256.Idx) : (outsAt0 m c t.val t.isLt).2.2.2.2.1 y = mPR m c (t.val / 8) (512 * (t.val % 8) + (256 * (y 1).val + (y 3).val)) (1024 + (y 2).val) := by
  by_cases h0 : t.val % 8 = 0
  · rw [outsAt0_A m c t h0]
    dsimp only
    rw [out15A]
    exact blkT m c t y
  · rw [outsAt0_B m c t h0]
    dsimp only
    rw [out15B]
    exact blkT m c t y

theorem pt17 (t : Fin cfg0.N) (y : S1x32x512.Idx) : (outsAt0 m c t.val t.isLt).2.2.2.2.2.2.1 y = gt (mPR m c (t.val / 8) (512 * (t.val % 8) + (480 + (y 1).val))) (y 2).val := by
  have h1 : (y 1).val < 32 := (y 1).isLt
  have h2 : (y 2).val < 512 := (y 2).isLt
  by_cases h0 : t.val % 8 = 0
  · rw [outsAt0_A m c t h0]
    dsimp only
    rw [out17A]
    exact blkC m c t (by omega) h2
  · rw [outsAt0_B m c t h0]
    dsimp only
    rw [out17B]
    exact blkC m c t (by omega) h2

theorem G11_apply (i : S16x4096x512.Idx) : Value.G11 m c i = mQ m c (i 0).val (i 1).val (i 2).val := by
  have h0 : (i 0).val < 16 := (i 0).isLt
  have h1 : (i 1).val < 4096 := (i 1).isLt
  have h2 : (i 2).val < 512 := (i 2).isLt
  have hp : Value.pt11Of i = 8 * (i 0).val + (i 1).val / 512 := by
    show 8 * ((i 0).val / 1 - 0) + 1 * ((i 1).val / 512 - 0) + 1 * ((i 2).val / 512 - 0) = _
    omega
  have hlt : Value.pt11Of i < cfg0.N := lt_of_lt_of_eq (by omega) (show cfg0.N = 128 from N_0).symm
  unfold Value.G11
  rw [dif_pos hlt, ← Value.outsAt0_sweep m c _ hlt]
  refine (pt11 m c ⟨Value.pt11Of i, hlt⟩ _).trans ?_
  show mQ m c (Value.pt11Of i / 8) (512 * (Value.pt11Of i % 8) + (i 1).val % 512) ((i 2).val % 512) = _
  rw [hp]
  have e0 : (8 * (i 0).val + (i 1).val / 512) / 8 = (i 0).val := by omega
  have e1 : 512 * ((8 * (i 0).val + (i 1).val / 512) % 8) + (i 1).val % 512 = (i 1).val := by omega
  have e2 : (i 2).val % 512 = (i 2).val := by omega
  rw [e0, e1, e2]

theorem G12_apply (i : S16x4096x512.Idx) : Value.G12 m c i = mK m c (i 0).val (i 1).val (i 2).val := by
  have h0 : (i 0).val < 16 := (i 0).isLt
  have h1 : (i 1).val < 4096 := (i 1).isLt
  have h2 : (i 2).val < 512 := (i 2).isLt
  have hp : Value.pt12Of i = 8 * (i 0).val + (i 1).val / 512 := by
    show 8 * ((i 0).val / 1 - 0) + 1 * ((i 1).val / 512 - 0) + 1 * ((i 2).val / 512 - 0) = _
    omega
  have hlt : Value.pt12Of i < cfg0.N := lt_of_lt_of_eq (by omega) (show cfg0.N = 128 from N_0).symm
  unfold Value.G12
  rw [dif_pos hlt, ← Value.outsAt0_sweep m c _ hlt]
  refine (pt12 m c ⟨Value.pt12Of i, hlt⟩ _).trans ?_
  show mK m c (Value.pt12Of i / 8) (512 * (Value.pt12Of i % 8) + (i 1).val % 512) ((i 2).val % 512) = _
  rw [hp]
  have e0 : (8 * (i 0).val + (i 1).val / 512) / 8 = (i 0).val := by omega
  have e1 : 512 * ((8 * (i 0).val + (i 1).val / 512) % 8) + (i 1).val % 512 = (i 1).val := by omega
  have e2 : (i 2).val % 512 = (i 2).val := by omega
  rw [e0, e1, e2]

theorem G13_apply (i : S16x4096x512.Idx) : Value.G13 m c i = mK m c (i 0).val (i 1).val (i 2).val := by
  have h0 : (i 0).val < 16 := (i 0).isLt
  have h1 : (i 1).val < 4096 := (i 1).isLt
  have h2 : (i 2).val < 512 := (i 2).isLt
  have hp : Value.pt13Of i = 8 * (i 0).val + (i 1).val / 512 := by
    show 8 * ((i 0).val / 1 - 0) + 1 * ((i 1).val / 512 - 0) + 1 * ((i 2).val / 512 - 0) = _
    omega
  have hlt : Value.pt13Of i < cfg0.N := lt_of_lt_of_eq (by omega) (show cfg0.N = 128 from N_0).symm
  unfold Value.G13
  rw [dif_pos hlt, ← Value.outsAt0_sweep m c _ hlt]
  refine (pt13 m c ⟨Value.pt13Of i, hlt⟩ _).trans ?_
  show mK m c (Value.pt13Of i / 8) (512 * (Value.pt13Of i % 8) + (i 1).val % 512) ((i 2).val % 512) = _
  rw [hp]
  have e0 : (8 * (i 0).val + (i 1).val / 512) / 8 = (i 0).val := by omega
  have e1 : 512 * ((8 * (i 0).val + (i 1).val / 512) % 8) + (i 1).val % 512 = (i 1).val := by omega
  have e2 : (i 2).val % 512 = (i 2).val := by omega
  rw [e0, e1, e2]

theorem G14_apply (i : S16x4096x512.Idx) : Value.G14 m c i = mPR m c (i 0).val (i 1).val (1024 + (i 2).val) := by
  have h0 : (i 0).val < 16 := (i 0).isLt
  have h1 : (i 1).val < 4096 := (i 1).isLt
  have h2 : (i 2).val < 512 := (i 2).isLt
  have hp : Value.pt14Of i = 8 * (i 0).val + (i 1).val / 512 := by
    show 8 * ((i 0).val / 1 - 0) + 1 * ((i 1).val / 512 - 0) + 1 * ((i 2).val / 512 - 0) = _
    omega
  have hlt : Value.pt14Of i < cfg0.N := lt_of_lt_of_eq (by omega) (show cfg0.N = 128 from N_0).symm
  unfold Value.G14
  rw [dif_pos hlt, ← Value.outsAt0_sweep m c _ hlt]
  refine (pt14 m c ⟨Value.pt14Of i, hlt⟩ _).trans ?_
  show mPR m c (Value.pt14Of i / 8) (512 * (Value.pt14Of i % 8) + (i 1).val % 512) (1024 + ((i 2).val % 512)) = _
  rw [hp]
  have e0 : (8 * (i 0).val + (i 1).val / 512) / 8 = (i 0).val := by omega
  have e1 : 512 * ((8 * (i 0).val + (i 1).val / 512) % 8) + (i 1).val % 512 = (i 1).val := by omega
  have e2 : (i 2).val % 512 = (i 2).val := by omega
  rw [e0, e1, e2]

theorem G15_apply (i : S16x16x512x256.Idx) :
    Value.G15 m c i = mPR m c (i 0).val (256 * (i 1).val + (i 3).val) (1024 + (i 2).val) := by
  have h0 : (i 0).val < 16 := (i 0).isLt
  have h1 : (i 1).val < 16 := (i 1).isLt
  have h2 : (i 2).val < 512 := (i 2).isLt
  have h3 : (i 3).val < 256 := (i 3).isLt
  have hp : Value.pt15Of i = 8 * (i 0).val + (i 1).val / 2 := by
    show 8 * ((i 0).val / 1 - 0) + 1 * ((i 1).val / 2 - 0) + 1 * ((i 2).val / 512 - 0) + 1 * ((i 3).val / 256 - 0) = _
    omega
  have hlt : Value.pt15Of i < cfg0.N := lt_of_lt_of_eq (by omega) (show cfg0.N = 128 from N_0).symm
  unfold Value.G15
  rw [dif_pos hlt, ← Value.outsAt0_sweep m c _ hlt]
  refine (pt15 m c ⟨Value.pt15Of i, hlt⟩ _).trans ?_
  show mPR m c (Value.pt15Of i / 8) (512 * (Value.pt15Of i % 8) + (256 * ((i 1).val % 2) + (i 3).val % 256)) (1024 + (i 2).val % 512) = _
  rw [hp]
  have e0 : (8 * (i 0).val + (i 1).val / 2) / 8 = (i 0).val := by omega
  have e1 : 512 * ((8 * (i 0).val + (i 1).val / 2) % 8) + (256 * ((i 1).val % 2) + (i 3).val % 256) = 256 * (i 1).val + (i 3).val := by omega
  have e2 : (i 2).val % 512 = (i 2).val := by omega
  rw [e0, e1, e2]

theorem G17_apply (i : S16x32x512.Idx) : Value.G17 m c i = gt (mPR m c (i 0).val (4064 + (i 1).val)) (i 2).val := by
  have h0 : (i 0).val < 16 := (i 0).isLt
  have h1 : (i 1).val < 32 := (i 1).isLt
  have h2 : (i 2).val < 512 := (i 2).isLt
  have hp : Value.pt17Of i = 8 * (i 0).val + 7 := by
    show 8 * (1 * ((i 0).val / 1 - 0) + 1 * ((i 1).val / 32 - 0) + 1 * ((i 2).val / 512 - 0)) + 7 = _
    omega
  have hlt : Value.pt17Of i < cfg0.N := lt_of_lt_of_eq (by omega) (show cfg0.N = 128 from N_0).symm
  unfold Value.G17
  rw [dif_pos hlt, ← Value.outsAt0_sweep m c _ hlt]
  refine (pt17 m c ⟨Value.pt17Of i, hlt⟩ _).trans ?_
  show gt (mPR m c (Value.pt17Of i / 8) (512 * (Value.pt17Of i % 8) + (480 + (i 1).val % 32))) ((i 2).val % 512) = _
  rw [hp]
  have e0 : (8 * (i 0).val + 7) / 8 = (i 0).val := by omega
  have e1 : 512 * ((8 * (i 0).val + 7) % 8) + (480 + (i 1).val % 32) = 4064 + (i 1).val := by omega
  have e2 : (i 2).val % 512 = (i 2).val := by omega
  rw [e0, e1, e2]

end Cert.Proof.IP

end

end
-- ==== Proof.IP.RefVal.lean ====
/-
  The reference's results of the projections, read at an index.
-/
module

public import proofs.«01_k».proof.Proof.Gen.Reference3Ideal.Run
public import proofs.«01_k».proof.Proof.IP.Spec
public import Idealize.ShloMosaic.Lib.KernelVsHost

@[expose] public section

set_option maxRecDepth 65536

noncomputable section

namespace Cert.Proof.IP

open Cert.Proof.FF
open Cert.Reference3Ideal Cert.Reference3Ideal.Gen

open Idealize.ShloMosaic hiding ix1 ix2 ix3 ix4 eq_ix1 eq_ix2 eq_ix3 eq_ix4
open Idealize.ShloMosaic.ValueIdx
open Idealize.ShloMosaic.TcCoe
open Idealize.ShloMosaic.StableHlo

variable (n : FVec Ideal S16x4096x1024 .f32) (p : FVec Ideal S16x4096x2560 .f32) (q : FVec Ideal S16x4096x8x64 .f32)
  (x : FVec Ideal S16x4096x512 .f32)
  (X : FVec Ideal S16x4096x1024 .f32) (S : FVec Ideal S16x30x512 .f32) (G : FVec Ideal S1024 .f32)
  (W : FVec Ideal S1024x2560 .f32) (GQ GK : FVec Ideal S64 .f32)

/-- The reference's stages, each of the arrays before it. -/
def rN : FVec Ideal S16x4096x1024 .f32 :=
  mulf (mulf X (broadcastInDim S16x4096x1024 ![0, 1, 2] bcast_S16x4096x1_S16x4096x1024_0_1_2 (Host.rsqrt (addf (Host.divf
    (broadcastInDim S16x4096x1 ![0, 1] bcast_S16x4096_S16x4096x1_0_1 (Host.reduceAdd (mulf X X) (constant S_ .f32 0x00000000#32)
      reducesTo_S16x4096x1024_S16x4096_d2 h_S_)) (broadcastInDim S16x4096x1 ![] bcast_S_S16x4096x1 (constant S_ .f32 0x44800000#32)))
    (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 G))
def rP : FVec Ideal S16x4096x2560 .f32 := Host.dotGeneral dot_S16x4096x1024_S1024x2560_S16x4096x2560_2_0_01_1_n_n none n W
def rQ : FVec Ideal S16x4096x512 .f32 := extractStridedSlice S16x4096x512 ![0, 0, 0] p slices_S16x4096x2560_S16x4096x512_0_0_0
def rK : FVec Ideal S16x4096x512 .f32 := extractStridedSlice S16x4096x512 ![0, 0, 512] p slices_S16x4096x2560_S16x4096x512_0_0_512
def rV : FVec Ideal S16x4096x512 .f32 := extractStridedSlice S16x4096x512 ![0, 0, 1024] p slices_S16x4096x2560_S16x4096x512_0_0_1024
def rH : FVec Ideal S16x4096x8x64 .f32 := shapeCast S16x4096x8x64 x shapeCasts_S16x4096x512_S16x4096x8x64
def rM : FVec Ideal S16x4096x8x64 .f32 :=
  mulf (mulf q (broadcastInDim S16x4096x8x64 ![0, 1, 2, 3] bcast_S16x4096x8x1_S16x4096x8x64_0_1_2_3 (Host.rsqrt (addf (Host.divf
    (broadcastInDim S16x4096x8x1 ![0, 1, 2] bcast_S16x4096x8_S16x4096x8x1_0_1_2 (Host.reduceAdd (mulf q q) (constant S_ .f32 0x00000000#32)
      reducesTo_S16x4096x8x64_S16x4096x8_d3 h_S_)) (broadcastInDim S16x4096x8x1 ![] bcast_S_S16x4096x8x1 (constant S_ .f32 0x42800000#32)))
    (broadcastInDim S16x4096x8x1 ![] bcast_S_S16x4096x8x1 (constant S_ .f32 0x358637BD#32))))))
    (broadcastInDim S16x4096x8x64 ![0, 1, 2, 3] bcast_S1x1x1x64_S16x4096x8x64_0_1_2_3 (broadcastInDim S1x1x1x64 ![3] bcast_S64_S1x1x1x64_3 GQ))
def rS : FVec Ideal S16x4096x8x64 .f32 :=
  mulf q (broadcastInDim S16x4096x8x64 ![] bcast_S_S16x4096x8x64 (constant S_ .f32 0x3E000000#32))
def rF : FVec Ideal S16x4096x512 .f32 := shapeCast S16x4096x512 q shapeCasts_S16x4096x8x64_S16x4096x512
def rT : FVec Ideal S16x16x512x256 .f32 :=
  transpose S16x16x512x256 [0, 1, 3, 2] (shapeCast S16x16x256x512 x shapeCasts_S16x4096x512_S16x16x256x512) transposes_S16x16x256x512_S16x16x512x256_0_1_3_2
def rC : FVec Ideal S16x4096x512 .f32 :=
  mulf (extractStridedSlice S16x4096x512 ![0, 0, 1536] p slices_S16x4096x2560_S16x4096x512_0_0_1536)
    (Host.divf (broadcastInDim S16x4096x512 ![] bcast_S_S16x4096x512 (constant S_ .f32 0x3F800000#32))
      (addf (broadcastInDim S16x4096x512 ![] bcast_S_S16x4096x512 (constant S_ .f32 0x3F800000#32))
        (Host.exp (Host.negf (extractStridedSlice S16x4096x512 ![0, 0, 2048] p slices_S16x4096x2560_S16x4096x512_0_0_2048)))))
def rO : FVec Ideal S16x32x512 .f32 :=
  extractStridedSlice S16x32x512 ![0, 4094, 0] (concatenate S16x4126x512 1 [⟨S16x30x512, S⟩, ⟨S16x4096x512, x⟩]
    concatenates_S16x30x512_S16x4096x512_S16x4126x512_d1) slices_S16x4126x512_S16x32x512_0_4094_0

theorem rN_apply (y : S16x4096x1024.Idx) : rN X G y = nS (e3 (A := 16) (B := 4096) (C := 1024) X (y 0).val) (e1 (A := 1024) G) (y 1).val (y 2).val := by
  unfold rN
  pointwise
  unfold nS
  refine congrArg₂ (· * ·) (congrArg₂ (· * ·) (e3_eq X y rfl rfl rfl) (congrArg (fun s => Ideal.rsqrt (Ideal.div s cN + cE))
    (Finset.sum_congr rfl fun k _ => ?_))) (e1_eq G _ rfl)
  exact congrArg₂ (· * ·) (e3_eq X _ rfl rfl rfl) (e3_eq X _ rfl rfl rfl)

theorem rP_apply (y : S16x4096x2560.Idx) : rP (rN X G) W y = PRG X G W (y 0).val (y 1).val (y 2).val := by
  unfold rP
  pointwise
  unfold PRG pr uS
  exact Finset.sum_congr rfl fun k _ => congrArg₂ (· * ·) (rN_apply X G _) (e2_eq W _ rfl rfl)

theorem rQ_apply (y : S16x4096x512.Idx) : rQ (rP (rN X G) W) y = PRG X G W (y 0).val (y 1).val (y 2).val := by
  unfold rQ
  pointwise
  exact rP_apply X G W _

theorem rK_apply (y : S16x4096x512.Idx) : rK (rP (rN X G) W) y = PRG X G W (y 0).val (y 1).val (512 + (y 2).val) := by
  unfold rK
  pointwise
  exact rP_apply X G W _

theorem rV_apply (y : S16x4096x512.Idx) : rV (rP (rN X G) W) y = PRG X G W (y 0).val (y 1).val (1024 + (y 2).val) := by
  unfold rV
  pointwise
  exact rP_apply X G W _

theorem rC_apply (y : S16x4096x512.Idx) : rC (rP (rN X G) W) y = gt (PRG X G W (y 0).val (y 1).val) (y 2).val := by
  unfold rC
  pointwise
  unfold gt
  rw [← sg_eq]
  exact congrArg₂ (· * ·) (rP_apply X G W _) (congrArg (fun g => Ideal.div 1 (1 + Ideal.exp (-g))) (rP_apply X G W _))

theorem rO_apply (y : S16x32x512.Idx) :
    rO (rC (rP (rN X G) W)) S y = gt (PRG X G W (y 0).val (4064 + (y 1).val)) (y 2).val := by
  have h1 : (y 1).val < 32 := (y 1).isLt
  unfold rO
  pointwise
  split
  · rename_i h
    have h' : 4094 + (y 1).val < 30 := h
    omega
  · refine (rC_apply X G W _).trans ?_
    show gt (PRG X G W (y 0).val (4094 + (y 1).val - 30)) (y 2).val = _
    have e : 4094 + (y 1).val - 30 = 4064 + (y 1).val := by omega
    rw [e]

theorem rH_apply (y : S16x4096x8x64.Idx) :
    rH x y = e3 (A := 16) (B := 4096) (C := 512) x (y 0).val (y 1).val (64 * (y 2).val + (y 3).val) := by
  have h2 : (y 2).val < 8 := (y 2).isLt
  have h3 : (y 3).val < 64 := (y 3).isLt
  unfold rH
  refine (shapeCast_apply x shapeCasts_S16x4096x512_S16x4096x8x64 y
    (ix3 (y 0) (y 1) (⟨64 * (y 2).val + (y 3).val, by omega⟩ : Fin 512)) ?_).trans (e3_eq _ _ rfl rfl rfl)
  rw [Shape.rowMajor_val_three, Shape.rowMajor_val_four]
  show ((y 0).val * 4096 + (y 1).val) * 512 + (64 * (y 2).val + (y 3).val)
    = (((y 0).val * 4096 + (y 1).val) * 8 + (y 2).val) * 64 + (y 3).val
  omega

theorem rF_apply (y : S16x4096x512.Idx) :
    rF q y = q (ix4 (y 0) (y 1) (⟨(y 2).val / 64, by have : (y 2).val < 512 := (y 2).isLt; omega⟩ : Fin 8) (⟨(y 2).val % 64, by omega⟩ : Fin 64)) := by
  unfold rF
  refine shapeCast_apply q shapeCasts_S16x4096x8x64_S16x4096x512 y _ ?_
  rw [Shape.rowMajor_val_three, Shape.rowMajor_val_four]
  show (((y 0).val * 4096 + (y 1).val) * 8 + (y 2).val / 64) * 64 + (y 2).val % 64
    = ((y 0).val * 4096 + (y 1).val) * 512 + (y 2).val
  omega

theorem rT_apply (y : S16x16x512x256.Idx) :
    rT x y = e3 (A := 16) (B := 4096) (C := 512) x (y 0).val (256 * (y 1).val + (y 3).val) (y 2).val := by
  have h1 : (y 1).val < 16 := (y 1).isLt
  have h3 : (y 3).val < 256 := (y 3).isLt
  unfold rT
  pointwise
  refine e3_eq x _ rfl ?_ rfl
  show (y 1).val * 256 + (y 3).val = _
  omega

/-- A head's norm, at an index. -/
theorem rM_apply (P : ℕ → ℕ → ℕ → EReal) (hP : ∀ y : S16x4096x512.Idx, x y = P (y 0).val (y 1).val (y 2).val)
    (y : S16x4096x8x64.Idx) : rM (rH x) GQ y = hR (P (y 0).val (y 1).val) (e1 (A := 64) GQ) (64 * (y 2).val + (y 3).val) := by
  have h2 : (y 2).val < 8 := (y 2).isLt
  have h3 : (y 3).val < 64 := (y 3).isLt
  have hH : ∀ y : S16x4096x8x64.Idx, rH x y = P (y 0).val (y 1).val (64 * (y 2).val + (y 3).val) := by
    intro y
    have h2 : (y 2).val < 8 := (y 2).isLt
    have h3 : (y 3).val < 64 := (y 3).isLt
    rw [rH_apply, e3_in _ (show (y 0).val < 16 from (y 0).isLt) (show (y 1).val < 4096 from (y 1).isLt) (by omega : 64 * (y 2).val + (y 3).val < 512)]
    exact hP _
  have ea : (64 * (y 2).val + (y 3).val) / 64 = (y 2).val := by omega
  have eb : (64 * (y 2).val + (y 3).val) % 64 = (y 3).val := by omega
  unfold rM
  pointwise
  unfold hR
  rw [ea, eb]
  refine congrArg₂ (· * ·) (congrArg₂ (· * ·) (hH _) (congrArg (fun s => Ideal.rsqrt (Ideal.div s cL + cE))
    (Finset.sum_congr rfl fun k _ => ?_))) (e1_eq GQ _ rfl)
  exact congrArg₂ (· * ·) (hH _) (hH _)

theorem resK_apply (y : S16x4096x512.Idx) :
    rF (rM (rH (rK (rP (rN X G) W))) GK) y = KG X G W GK (y 0).val (y 1).val (y 2).val := by
  rw [rF_apply, rM_apply _ GK (fun n t l => PRG X G W n t (512 + l)) (rK_apply X G W)]
  unfold KG
  show hR _ _ (64 * ((y 2).val / 64) + (y 2).val % 64) = _
  rw [Nat.div_add_mod]

theorem resQ_apply (y : S16x4096x512.Idx) :
    rF (rS (rM (rH (rQ (rP (rN X G) W))) GQ)) y = QG X G W GQ (y 0).val (y 1).val (y 2).val := by
  rw [rF_apply]
  unfold rS
  pointwise
  rw [rM_apply _ GQ (fun n t l => PRG X G W n t l) (rQ_apply X G W)]
  unfold QG
  show hR _ _ (64 * ((y 2).val / 64) + (y 2).val % 64) * cS8 = _
  rw [Nat.div_add_mod]
  unfold hR
  exact mul_assoc _ _ _

theorem resT_apply (y : S16x16x512x256.Idx) :
    rT (rV (rP (rN X G) W)) y = PRG X G W (y 0).val (256 * (y 1).val + (y 3).val) (1024 + (y 2).val) := by
  have h1 : (y 1).val < 16 := (y 1).isLt
  have h3 : (y 3).val < 256 := (y 3).isLt
  rw [rT_apply, e3_in _ (show (y 0).val < 16 from (y 0).isLt) (by omega : 256 * (y 1).val + (y 3).val < 4096) (show (y 2).val < 512 from (y 2).isLt)]
  exact rV_apply X G W _

end Cert.Proof.IP

end

end
-- ==== Proof.IP.Value.lean ====
/-
  The projections' frames, and their results beside the reference's.
-/
module

public import proofs.«01_k».proof.Defs
public import proofs.«01_k».proof.Proof.IP.Array
public import proofs.«01_k».proof.Proof.IP.RefVal
public import proofs.«01_k».proof.Proof.Gen.Kernel3.Frame

@[expose] public section

set_option maxRecDepth 65536

noncomputable section

namespace Cert.Proof.IP

open Cert.Proof.FF
open Idealize.ShloMosaic hiding ix1 ix2 ix3 ix4 eq_ix1 eq_ix2 eq_ix3 eq_ix4
open Idealize.ShloMosaic.ValueIdx
open Idealize.ShloMosaic.TcCoe
open Idealize.SL.Sem

theorem frame_kernel3 : Cert.quiescent_Kernel3 (hKernel3 := Cert.Kernel3.Gen.facts) := fun m g _ => Cert.Kernel3.Gen.frame m g

theorem frame_ideal3 : Cert.quiescent_Kernel3Ideal (hKernel3Ideal := Cert.Kernel3Ideal.Gen.facts) := fun m g _ =>
  Cert.Kernel3Ideal.Gen.frame m g

theorem frame_reference3 : Cert.quiescent_Reference3Ideal (hReference3Ideal := Cert.Reference3Ideal.Gen.facts) := fun m g _ =>
  (θ_run _ _ _).mono (fun _ h => ⟨fun c => (h c).2.2.2.2.2.2, sem_eq_zero_of_no_sems rfl _⟩) (Cert.Reference3Ideal.Value.run m g)

/-- The value claim of the projections. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.G11 m c, fun c => Cert.Kernel3Ideal.Value.G12 m c, fun c => Cert.Kernel3Ideal.Value.G13 m c,
    fun c => Cert.Kernel3Ideal.Value.G14 m c, fun c => Cert.Kernel3Ideal.Value.G15 m c, fun c => Cert.Kernel3Ideal.Value.G17 m c, ?_, ?_⟩
  · exact (θ_run _ _ _).mono (fun _ h c => ⟨(h c).1, (h c).2.1, (h c).2.2.1, (h c).2.2.2.1, (h c).2.2.2.2.1, (h c).2.2.2.2.2.2⟩)
      (Cert.Kernel3Ideal.Value.run m g)
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Reference3Ideal.Value.run m' g')
    · obtain ⟨r0, r1, r2, r3, r4, r5, r6, r7, r8, r9⟩ := hargs c
      change rF (rS (rM (rH (rQ (rP (rN (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2))) (m' ((c.tc : Thread Cert.Reference3Ideal.nD Cert.Reference3Ideal.τ).loc Cert.Reference3Ideal.main_arg3))))) (m' ((c.tc : Thread Cert.Reference3Ideal.nD Cert.Reference3Ideal.τ).loc Cert.Reference3Ideal.main_arg4)))) = _
      rw [r0, r2, r3, r4]
      funext y
      exact (resQ_apply _ _ _ _ y).trans (G11_apply m c y).symm
    · obtain ⟨r0, r1, r2, r3, r4, r5, r6, r7, r8, r9⟩ := hargs c
      change rF (rM (rH (rK (rP (rN (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2))) (m' ((c.tc : Thread Cert.Reference3Ideal.nD Cert.Reference3Ideal.τ).loc Cert.Reference3Ideal.main_arg3))))) (m' ((c.tc : Thread Cert.Reference3Ideal.nD Cert.Reference3Ideal.τ).loc Cert.Reference3Ideal.main_arg5))) = _
      rw [r0, r2, r3, r5]
      funext y
      exact (resK_apply _ _ _ _ y).trans (G12_apply m c y).symm
    · obtain ⟨r0, r1, r2, r3, r4, r5, r6, r7, r8, r9⟩ := hargs c
      change rF (rM (rH (rK (rP (rN (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2))) (m' ((c.tc : Thread Cert.Reference3Ideal.nD Cert.Reference3Ideal.τ).loc Cert.Reference3Ideal.main_arg3))))) (m' ((c.tc : Thread Cert.Reference3Ideal.nD Cert.Reference3Ideal.τ).loc Cert.Reference3Ideal.main_arg5))) = _
      rw [r0, r2, r3, r5]
      funext y
      exact (resK_apply _ _ _ _ y).trans (G13_apply m c y).symm
    · obtain ⟨r0, r1, r2, r3, r4, r5, r6, r7, r8, r9⟩ := hargs c
      change rV (rP (rN (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2))) (m' ((c.tc : Thread Cert.Reference3Ideal.nD Cert.Reference3Ideal.τ).loc Cert.Reference3Ideal.main_arg3))) = _
      rw [r0, r2, r3]
      funext y
      exact (rV_apply _ _ _ y).trans (G14_apply m c y).symm
    · obtain ⟨r0, r1, r2, r3, r4, r5, r6, r7, r8, r9⟩ := hargs c
      change rT (rV (rP (rN (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2))) (m' ((c.tc : Thread Cert.Reference3Ideal.nD Cert.Reference3Ideal.τ).loc Cert.Reference3Ideal.main_arg3)))) = _
      rw [r0, r2, r3]
      funext y
      exact (resT_apply _ _ _ y).trans (G15_apply m c y).symm
    · obtain ⟨r0, r1, r2, r3, r4, r5, r6, r7, r8, r9⟩ := hargs c
      change rO (rC (rP (rN (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2))) (m' ((c.tc : Thread Cert.Reference3Ideal.nD Cert.Reference3Ideal.τ).loc Cert.Reference3Ideal.main_arg3)))) (m' ((c.tc : Thread Cert.Reference3Ideal.nD Cert.Reference3Ideal.τ).loc Cert.Reference3Ideal.main_arg1)) = _
      rw [r0, r1, r2, r3]
      funext y
      exact (rO_apply _ _ _ _ y).trans (G17_apply m c y).symm

end Cert.Proof.IP

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Value
public import proofs.«01_k».proof.Proof.Gen.Reference3Ideal
public import proofs.«01_k».proof.Proof.Gen.Reference3Ideal.Run
public import proofs.«01_k».proof.Proof.Frames
public import proofs.«01_k».proof.Proof.Value
public import proofs.«01_k».proof.Proof.FF.Value
public import proofs.«01_k».proof.Proof.IP.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, pre_facts, FF.pre_facts2,
  frame_kernel, frame_ideal, fun m g _ => frame_ideal m g trivial, frame_reference, fun m g _ => frame_reference m g trivial,
  FF.frame_kernel2, FF.frame_ideal2, fun m g _ => FF.frame_ideal2 m g trivial, FF.frame_reference2,
  fun m g _ => FF.frame_reference2 m g trivial,
  IP.frame_kernel3, IP.frame_ideal3, IP.frame_reference3, preserved, algebraic, trivial, FF.algebraic2, trivial, IP.algebraic3⟩

end Cert.Proof

end
